-- ==== Defs.lean ====
def Pre_Kernel [hPre_blocks_in_range : Cert.Pre_blocks_in_range.Facts] (m : (ℓ : Loc Cert.Kernel.nD Cert.Kernel.τ Cert.Kernel.sig) → Buf (Elt Bits) ℓ) : Prop :=
  ∀ c : Dev Cert.Kernel.nD,
    (Cert.Pre_blocks_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_blocks_in_range : Cert.Pre_blocks_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_blocks_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_KernelIdeal_sampled [hPre_sampled : Cert.Pre_sampled.Facts] (m : (ℓ : Loc Cert.KernelIdeal.nD Cert.KernelIdeal.τ Cert.KernelIdeal.sig) → Buf (Elt Ideal) ℓ) : Prop :=
  ∀ c : Dev Cert.KernelIdeal.nD,
    (Cert.Pre_sampled.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sampled [hPre_sampled : Cert.Pre_sampled.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sampled.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] [hPre_blocks_in_range : Cert.Pre_blocks_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_blocks_in_range : Cert.Pre_blocks_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_sampled [hKernelIdeal : Cert.KernelIdeal.Facts] [hPre_sampled : Cert.Pre_sampled.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_sampled m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_sampled [hReferenceIdeal : Cert.ReferenceIdeal.Facts] [hPre_sampled : Cert.Pre_sampled.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sampled m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xF149F2CA#32 ⊥
  ∧ IdealRules.bf16_pair.Statement Cert.KernelIdeal.S1x16x128 Cert.KernelIdeal.S1x8x128
  ∧ IdealRules.bf16_pair.Statement Cert.KernelIdeal.S16x128 Cert.KernelIdeal.S8x128
  ∧ IdealRules.named_const.Statement Cert.KernelIdeal.κ "exp2_scale" .f32 0x3E0293EE#32 (((Real.sqrt 128)⁻¹ * (Real.log 2)⁻¹ : ℝ) : EReal)

def algebraic_KernelIdeal_ReferenceIdeal_pre_sampled [hKernelIdeal : Cert.KernelIdeal.Facts] [hReferenceIdeal : Cert.ReferenceIdeal.Facts] [hPre_sampled : Cert.Pre_sampled.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_sampled m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v128) = v0 c
          ∧ r.2.mem ((c.tc : Thread Cert.ReferenceIdeal.nD Cert.ReferenceIdeal.τ).loc Cert.ReferenceIdeal.main_v130) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_blocks_in_range : Cert.Pre_blocks_in_range.Facts) (hPre_sampled : Cert.Pre_sampled.Facts),
    quiescent_Kernel (hKernel := hKernel) (hPre_blocks_in_range := hPre_blocks_in_range)
    ∧ quiescent_KernelIdeal (hKernelIdeal := hKernelIdeal) (hPre_blocks_in_range := hPre_blocks_in_range)
    ∧ quiescent_KernelIdeal_pre_sampled (hKernelIdeal := hKernelIdeal) (hPre_sampled := hPre_sampled)
    ∧ quiescent_ReferenceIdeal (hReferenceIdeal := hReferenceIdeal)
    ∧ quiescent_ReferenceIdeal_pre_sampled (hReferenceIdeal := hReferenceIdeal) (hPre_sampled := hPre_sampled)
    ∧ preserves_Kernel_KernelIdeal
    ∧ algebraic_KernelIdeal_ReferenceIdeal_pre_sampled (hKernelIdeal := hKernelIdeal) (hReferenceIdeal := hReferenceIdeal) (hPre_sampled := hPre_sampled)
-- ==== Pre_blocks_in_range.lean ====
abbrev S3x512x5120 : Shape := ⟨3, ![3, 512, 5120]⟩
abbrev S3x512x1280 : Shape := ⟨3, ![3, 512, 1280]⟩
abbrev S3x10x8x6 : Shape := ⟨4, ![3, 10, 8, 6]⟩
abbrev S3x10x8 : Shape := ⟨3, ![3, 10, 8]⟩
abbrev S6 : Shape := ⟨1, ![6]⟩
abbrev S8 : Shape := ⟨1, ![8]⟩
abbrev S8x1 : Shape := ⟨2, ![8, 1]⟩
abbrev S1x6 : Shape := ⟨2, ![1, 6]⟩
abbrev S8x6 : Shape := ⟨2, ![8, 6]⟩
abbrev S_ : Shape := ⟨0, ![]⟩
abbrev S1x1x8x6 : Shape := ⟨4, ![1, 1, 8, 6]⟩

class Facts : Prop where
  bcast_S8_S8x1_0 : S8.BroadcastsInDim S8x1 (![0] : Fin 1 → Fin S8x1.rank)
  bcast_S6_S1x6_1 : S6.BroadcastsInDim S1x6 (![1] : Fin 1 → Fin S1x6.rank)
  bcast_S1x6_S8x6_0_1 : S1x6.BroadcastsInDim S8x6 (![0, 1] : Fin 2 → Fin S8x6.rank)
  bcast_S8x1_S8x6_0_1 : S8x1.BroadcastsInDim S8x6 (![0, 1] : Fin 2 → Fin S8x6.rank)
  bcast_S_S3x10x8x6 : S_.BroadcastsInDim S3x10x8x6 (![] : Fin 0 → Fin S3x10x8x6.rank)
  bcast_S8x6_S1x1x8x6_2_3 : S8x6.BroadcastsInDim S1x1x8x6 (![2, 3] : Fin 2 → Fin S1x1x8x6.rank)
  bcast_S1x1x8x6_S3x10x8x6_0_1_2_3 : S1x1x8x6.BroadcastsInDim S3x10x8x6 (![0, 1, 2, 3] : Fin 4 → Fin S3x10x8x6.rank)
  reducesTo_S3x10x8x6_S_d0_1_2_3 : S3x10x8x6.ReducesTo [0, 1, 2, 3] S_
  h_S_ : 0 < S_.numel

variable [Facts]

def fn {F : FTy → Type} [FloatOps F] (main_arg0 : FVec F S3x512x5120 .bf16) (main_arg1 : FVec F S3x512x1280 .bf16) (main_arg2 : FVec F S3x512x1280 .bf16) (main_arg3 : IVec S3x10x8x6 32) (main_arg4 : IVec S3x10x8 32) : IVec S_ 1 :=
  let main_v0 : IVec S6 32 := iotaInDim S6 32 0
  let main_v1 : IVec S8 32 := iotaInDim S8 32 0
  let main_v2 : IVec S8x1 32 := broadcastInDim S8x1 ![0] bcast_S8_S8x1_0 main_v1
  let main_v3 : IVec S1x6 32 := broadcastInDim S1x6 ![1] bcast_S6_S1x6_1 main_v0
  let main_v4 : IVec S8x6 32 := broadcastInDim S8x6 ![0, 1] bcast_S1x6_S8x6_0_1 main_v3
  let main_v5 : IVec S8x6 32 := broadcastInDim S8x6 ![0, 1] bcast_S8x1_S8x6_0_1 main_v2
  let main_v6 : IVec S8x6 1 := cmpi .sle main_v4 main_v5
  let main_v7 : IVec S8x6 1 := noti main_v6
  let main_c : IVec S_ 32 := constantI S_ 32 0#32
  let main_v8 : IVec S3x10x8x6 32 := broadcastInDim S3x10x8x6 ![] bcast_S_S3x10x8x6 main_c
  let main_v9 : IVec S3x10x8x6 1 := cmpi .sge main_arg3 main_v8
  let main_c_0 : IVec S_ 32 := constantI S_ 32 8#32
  let main_v10 : IVec S3x10x8x6 32 := broadcastInDim S3x10x8x6 ![] bcast_S_S3x10x8x6 main_c_0
  let main_v11 : IVec S3x10x8x6 1 := cmpi .slt main_arg3 main_v10
  let main_v12 : IVec S3x10x8x6 1 := andi main_v9 main_v11
  let main_v13 : IVec S1x1x8x6 1 := broadcastInDim S1x1x8x6 ![2, 3] bcast_S8x6_S1x1x8x6_2_3 main_v7
  let main_v14 : IVec S3x10x8x6 1 := broadcastInDim S3x10x8x6 ![0, 1, 2, 3] bcast_S1x1x8x6_S3x10x8x6_0_1_2_3 main_v13
  let main_v15 : IVec S3x10x8x6 1 := ori main_v14 main_v12
  let main_c_1 : IVec S_ 1 := constantI S_ 1 1#1
  let main_v16 : IVec S_ 1 := (fun x v => Host.reduce IntOp.andi x v reducesTo_S3x10x8x6_S_d0_1_2_3 h_S_) main_v15 main_c_1
  main_v16
-- ==== Pre_sampled.lean ====
abbrev S3x512x5120 : Shape := ⟨3, ![3, 512, 5120]⟩
abbrev S3x512x1280 : Shape := ⟨3, ![3, 512, 1280]⟩
abbrev S3x10x8x6 : Shape := ⟨4, ![3, 10, 8, 6]⟩
abbrev S3x10x8 : Shape := ⟨3, ![3, 10, 8]⟩
abbrev S6 : Shape := ⟨1, ![6]⟩
abbrev S8 : Shape := ⟨1, ![8]⟩
abbrev S8x1 : Shape := ⟨2, ![8, 1]⟩
abbrev S1x6 : Shape := ⟨2, ![1, 6]⟩
abbrev S8x6 : Shape := ⟨2, ![8, 6]⟩
abbrev S_ : Shape := ⟨0, ![]⟩
abbrev S1x1x8x6 : Shape := ⟨4, ![1, 1, 8, 6]⟩
abbrev S1x1x8 : Shape := ⟨3, ![1, 1, 8]⟩

class Facts : Prop where
  bcast_S8_S8x1_0 : S8.BroadcastsInDim S8x1 (![0] : Fin 1 → Fin S8x1.rank)
  bcast_S6_S1x6_1 : S6.BroadcastsInDim S1x6 (![1] : Fin 1 → Fin S1x6.rank)
  bcast_S1x6_S8x6_0_1 : S1x6.BroadcastsInDim S8x6 (![0, 1] : Fin 2 → Fin S8x6.rank)
  bcast_S8x1_S8x6_0_1 : S8x1.BroadcastsInDim S8x6 (![0, 1] : Fin 2 → Fin S8x6.rank)
  bcast_S_S3x10x8x6 : S_.BroadcastsInDim S3x10x8x6 (![] : Fin 0 → Fin S3x10x8x6.rank)
  bcast_S8x6_S1x1x8x6_2_3 : S8x6.BroadcastsInDim S1x1x8x6 (![2, 3] : Fin 2 → Fin S1x1x8x6.rank)
  bcast_S1x1x8x6_S3x10x8x6_0_1_2_3 : S1x1x8x6.BroadcastsInDim S3x10x8x6 (![0, 1, 2, 3] : Fin 4 → Fin S3x10x8x6.rank)
  reducesTo_S3x10x8x6_S_d0_1_2_3 : S3x10x8x6.ReducesTo [0, 1, 2, 3] S_
  h_S_ : 0 < S_.numel
  bcast_S_S3x10x8 : S_.BroadcastsInDim S3x10x8 (![] : Fin 0 → Fin S3x10x8.rank)
  bcast_S_S8 : S_.BroadcastsInDim S8 (![] : Fin 0 → Fin S8.rank)
  bcast_S8_S1x1x8_2 : S8.BroadcastsInDim S1x1x8 (![2] : Fin 1 → Fin S1x1x8.rank)
  bcast_S1x1x8_S3x10x8_0_1_2 : S1x1x8.BroadcastsInDim S3x10x8 (![0, 1, 2] : Fin 3 → Fin S3x10x8.rank)
  reducesTo_S3x10x8_S_d0_1_2 : S3x10x8.ReducesTo [0, 1, 2] S_
  bcast_S_S3x512x1280 : S_.BroadcastsInDim S3x512x1280 (![] : Fin 0 → Fin S3x512x1280.rank)
  reducesTo_S3x512x1280_S_d0_1_2 : S3x512x1280.ReducesTo [0, 1, 2] S_

variable [Facts]

def fn_part1 {F : FTy → Type} [FloatOps F] (main_arg2 : FVec F S3x512x1280 .bf16) (main_v16 : IVec S_ 1) (main_v18 : IVec S3x10x8 32) (main_v19 : IVec S8 32) : IVec S_ 1 :=
  let main_c_3 : IVec S_ 32 := constantI S_ 32 1#32
  let main_v20 : IVec S8 32 := broadcastInDim S8 ![] bcast_S_S8 main_c_3
  let main_v21 : IVec S8 32 := addi main_v19 main_v20
  let main_v22 : IVec S1x1x8 32 := broadcastInDim S1x1x8 ![2] bcast_S8_S1x1x8_2 main_v21
  let main_v23 : IVec S3x10x8 32 := broadcastInDim S3x10x8 ![0, 1, 2] bcast_S1x1x8_S3x10x8_0_1_2 main_v22
  let main_v24 : IVec S3x10x8 1 := cmpi .sle main_v18 main_v23
  let main_c_4 : IVec S_ 1 := constantI S_ 1 1#1
  let main_v25 : IVec S_ 1 := (fun x v => Host.reduce IntOp.andi x v reducesTo_S3x10x8_S_d0_1_2 h_S_) main_v24 main_c_4
  let main_v26 : IVec S_ 1 := andi main_v16 main_v25
  let main_v27 : FVec F S3x512x1280 .bf16 := Host.absf main_arg2
  let main_cst : FVec F S_ .bf16 := constant S_ .bf16 0x7F7F#16
  let main_v28 : FVec F S3x512x1280 .bf16 := broadcastInDim S3x512x1280 ![] bcast_S_S3x512x1280 main_cst
  let main_v29 : IVec S3x512x1280 1 := cmpf .ole main_v27 main_v28
  let main_c_5 : IVec S_ 1 := constantI S_ 1 1#1
  let main_v30 : IVec S_ 1 := (fun x v => Host.reduce IntOp.andi x v reducesTo_S3x512x1280_S_d0_1_2 h_S_) main_v29 main_c_5
  let main_v31 : IVec S_ 1 := andi main_v26 main_v30
  main_v31

def fn {F : FTy → Type} [FloatOps F] (main_arg0 : FVec F S3x512x5120 .bf16) (main_arg1 : FVec F S3x512x1280 .bf16) (main_arg2 : FVec F S3x512x1280 .bf16) (main_arg3 : IVec S3x10x8x6 32) (main_arg4 : IVec S3x10x8 32) : IVec S_ 1 :=
  let main_v0 : IVec S6 32 := iotaInDim S6 32 0
  let main_v1 : IVec S8 32 := iotaInDim S8 32 0
  let main_v2 : IVec S8x1 32 := broadcastInDim S8x1 ![0] bcast_S8_S8x1_0 main_v1
  let main_v3 : IVec S1x6 32 := broadcastInDim S1x6 ![1] bcast_S6_S1x6_1 main_v0
  let main_v4 : IVec S8x6 32 := broadcastInDim S8x6 ![0, 1] bcast_S1x6_S8x6_0_1 main_v3
  let main_v5 : IVec S8x6 32 := broadcastInDim S8x6 ![0, 1] bcast_S8x1_S8x6_0_1 main_v2
  let main_v6 : IVec S8x6 1 := cmpi .sle main_v4 main_v5
  let main_v7 : IVec S8x6 1 := noti main_v6
  let main_c : IVec S_ 32 := constantI S_ 32 0#32
  let main_v8 : IVec S3x10x8x6 32 := broadcastInDim S3x10x8x6 ![] bcast_S_S3x10x8x6 main_c
  let main_v9 : IVec S3x10x8x6 1 := cmpi .sge main_arg3 main_v8
  let main_c_0 : IVec S_ 32 := constantI S_ 32 8#32
  let main_v10 : IVec S3x10x8x6 32 := broadcastInDim S3x10x8x6 ![] bcast_S_S3x10x8x6 main_c_0
  let main_v11 : IVec S3x10x8x6 1 := cmpi .slt main_arg3 main_v10
  let main_v12 : IVec S3x10x8x6 1 := andi main_v9 main_v11
  let main_v13 : IVec S1x1x8x6 1 := broadcastInDim S1x1x8x6 ![2, 3] bcast_S8x6_S1x1x8x6_2_3 main_v7
  let main_v14 : IVec S3x10x8x6 1 := broadcastInDim S3x10x8x6 ![0, 1, 2, 3] bcast_S1x1x8x6_S3x10x8x6_0_1_2_3 main_v13
  let main_v15 : IVec S3x10x8x6 1 := ori main_v14 main_v12
  let main_c_1 : IVec S_ 1 := constantI S_ 1 1#1
  let main_v16 : IVec S_ 1 := (fun x v => Host.reduce IntOp.andi x v reducesTo_S3x10x8x6_S_d0_1_2_3 h_S_) main_v15 main_c_1
  let main_c_2 : IVec S_ 32 := constantI S_ 32 6#32
  let main_v17 : IVec S3x10x8 32 := broadcastInDim S3x10x8 ![] bcast_S_S3x10x8 main_c_2
  let main_v18 : IVec S3x10x8 32 := minsi main_arg4 main_v17
  let main_v19 : IVec S8 32 := iotaInDim S8 32 0
  fn_part1 (F := F) main_arg2 main_v16 main_v18 main_v19
-- ==== Kernel.lean ====
abbrev S3x512x5120 : Shape := ⟨3, ![3, 512, 5120]⟩
abbrev S3x512x1280 : Shape := ⟨3, ![3, 512, 1280]⟩
abbrev S3x10x8x6 : Shape := ⟨4, ![3, 10, 8, 6]⟩
abbrev S3x10x8 : Shape := ⟨3, ![3, 10, 8]⟩
abbrev S3x6x8x10 : Shape := ⟨4, ![3, 6, 8, 10]⟩
abbrev S3x8x10 : Shape := ⟨3, ![3, 8, 10]⟩
abbrev S3x10x512x128 : Shape := ⟨4, ![3, 10, 512, 128]⟩
abbrev S10x3x128 : Shape := ⟨3, ![10, 3, 128]⟩
abbrev S1x512x128 : Shape := ⟨3, ![1, 512, 128]⟩
abbrev S1x512x512 : Shape := ⟨3, ![1, 512, 512]⟩
abbrev S1x1x512x128 : Shape := ⟨4, ![1, 1, 512, 128]⟩
abbrev S4x512x128 : Shape := ⟨3, ![4, 512, 128]⟩
abbrev S512x128 : Shape := ⟨2, ![512, 128]⟩
abbrev S8x128x128 : Shape := ⟨3, ![8, 128, 128]⟩
abbrev S3x64x128 : Shape := ⟨3, ![3, 64, 128]⟩
abbrev S256x128 : Shape := ⟨2, ![256, 128]⟩
abbrev S64x128 : Shape := ⟨2, ![64, 128]⟩
abbrev S1x64x128 : Shape := ⟨3, ![1, 64, 128]⟩
abbrev S1x256x128 : Shape := ⟨3, ![1, 256, 128]⟩
abbrev S1x8x128 : Shape := ⟨3, ![1, 8, 128]⟩
abbrev S1x16x128 : Shape := ⟨3, ![1, 16, 128]⟩
abbrev S8x128 : Shape := ⟨2, ![8, 128]⟩
abbrev S16x128 : Shape := ⟨2, ![16, 128]⟩
abbrev S128 : Shape := ⟨1, ![128]⟩
abbrev S1x128 : Shape := ⟨2, ![1, 128]⟩
abbrev S1x1x128 : Shape := ⟨3, ![1, 1, 128]⟩
abbrev S32x128 : Shape := ⟨2, ![32, 128]⟩
abbrev S128x128 : Shape := ⟨2, ![128, 128]⟩
abbrev S1x1x128x128 : Shape := ⟨4, ![1, 1, 128, 128]⟩
abbrev S1x32x128 : Shape := ⟨3, ![1, 32, 128]⟩
abbrev S1x1x1 : Shape := ⟨3, ![1, 1, 1]⟩
abbrev S256x256 : Shape := ⟨2, ![256, 256]⟩
abbrev S1x1x1x1 : Shape := ⟨4, ![1, 1, 1, 1]⟩
abbrev S64x256 : Shape := ⟨2, ![64, 256]⟩
abbrev S1x128x128 : Shape := ⟨3, ![1, 128, 128]⟩
abbrev S256 : Shape := ⟨1, ![256]⟩
abbrev S1x256 : Shape := ⟨2, ![1, 256]⟩
abbrev S128x256 : Shape := ⟨2, ![128, 256]⟩
abbrev S192x256 : Shape := ⟨2, ![192, 256]⟩
abbrev S320x256 : Shape := ⟨2, ![320, 256]⟩
abbrev S384x256 : Shape := ⟨2, ![384, 256]⟩
abbrev S128x384 : Shape := ⟨2, ![128, 384]⟩

abbrev nBuf : Space → Nat
  | .hbm => 8
  | .vmem => 23
  | .smem => 2
  | _ => 0

abbrev bufTy : (tb : Table) → Fin (tcTables nBuf tb) → BufTy
  | .hbm, ⟨0, _⟩ => ⟨S3x512x5120, .bf16⟩
  | .hbm, ⟨1, _⟩ => ⟨S3x512x1280, .bf16⟩
  | .hbm, ⟨2, _⟩ => ⟨S3x512x1280, .bf16⟩
  | .hbm, ⟨3, _⟩ => ⟨S3x10x8x6, .i32⟩
  | .hbm, ⟨4, _⟩ => ⟨S3x10x8, .i32⟩
  | .hbm, ⟨5, _⟩ => ⟨S3x512x5120, .bf16⟩
  | .hbm, ⟨6, _⟩ => ⟨S3x10x512x128, .fp8e4m3⟩
  | .hbm, ⟨7, _⟩ => ⟨S10x3x128, .f32⟩
  | .local _ .vmem, ⟨0, _⟩ => ⟨S1x512x128, .bf16⟩
  | .local _ .vmem, ⟨1, _⟩ => ⟨S1x512x128, .bf16⟩
  | .local _ .vmem, ⟨2, _⟩ => ⟨S1x512x128, .bf16⟩
  | .local _ .vmem, ⟨3, _⟩ => ⟨S1x512x128, .bf16⟩
  | .local _ .vmem, ⟨4, _⟩ => ⟨S1x512x128, .bf16⟩
  | .local _ .vmem, ⟨5, _⟩ => ⟨S1x512x128, .bf16⟩
  | .local _ .vmem, ⟨6, _⟩ => ⟨S1x512x128, .bf16⟩
  | .local _ .vmem, ⟨7, _⟩ => ⟨S1x512x128, .bf16⟩
  | .local _ .vmem, ⟨8, _⟩ => ⟨S1x512x128, .bf16⟩
  | .local _ .vmem, ⟨9, _⟩ => ⟨S1x512x128, .bf16⟩
  | .local _ .vmem, ⟨10, _⟩ => ⟨S1x512x128, .bf16⟩
  | .local _ .vmem, ⟨11, _⟩ => ⟨S1x512x128, .bf16⟩
  | .local _ .vmem, ⟨12, _⟩ => ⟨S1x512x512, .bf16⟩
  | .local _ .vmem, ⟨13, _⟩ => ⟨S1x512x512, .bf16⟩
  | .local _ .vmem, ⟨14, _⟩ => ⟨S1x1x512x128, .fp8e4m3⟩
  | .local _ .vmem, ⟨15, _⟩ => ⟨S1x1x512x128, .fp8e4m3⟩
  | .local _ .vmem, ⟨16, _⟩ => ⟨S10x3x128, .f32⟩
  | .local _ .vmem, ⟨17, _⟩ => ⟨S4x512x128, .bf16⟩
  | .local _ .vmem, ⟨18, _⟩ => ⟨S512x128, .bf16⟩
  | .local _ .vmem, ⟨19, _⟩ => ⟨S8x128x128, .fp8e4m3⟩
  | .local _ .vmem, ⟨20, _⟩ => ⟨S8x128x128, .fp8e4m3⟩
  | .local _ .vmem, ⟨21, _⟩ => ⟨S3x64x128, .bf16⟩
  | .local _ .vmem, ⟨22, _⟩ => ⟨S256x128, .bf16⟩
  | .local _ .smem, ⟨0, _⟩ => ⟨S3x6x8x10, .i32⟩
  | .local _ .smem, ⟨1, _⟩ => ⟨S3x8x10, .i32⟩
  | _, _ => ⟨S3x512x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v0 : Ref sig .tc := ⟨.smem, 0, rfl⟩
abbrev main_v1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_scratch4 : Ref sig .tc := ⟨.vmem, 21, rfl⟩
abbrev cc0_scratch5 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16

abbrev nD : Nat := 1
abbrev τ : Topo := Topo.v7x

variable {F : FTy → Type} [BitOps F]

abbrev grid0 : Pipeline.Grid := ⟨2, ![3, 10], ![false, false]⟩

abbrev pre0 : Pipeline.Prefetch sig := ⟨2, ![main_v0.idx, main_v1.idx], fun | 0 => main_v0.names | 1 => main_v1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 3 → Nat :=
  let arg1 : BitVec 32 := BitVec.ofNat 32 (i 1).val
  let v301 : Index := Scalar.indexCast arg1
  let arg0 : BitVec 32 := BitVec.ofNat 32 (i 0).val
  let v302 : Index := Scalar.indexCast arg0
  let c0_92 : Index := 0#32
  ![v301.toNat, v302.toNat, 0]
def k0_off2 (i : grid0.Coords) : Fin 3 → Nat :=
  let arg0 : BitVec 32 := BitVec.ofNat 32 (i 0).val
  let v1011 : Index := Scalar.indexCast arg0
  let c0_497 : Index := 0#32
  let arg1 : BitVec 32 := BitVec.ofNat 32 (i 1).val
  let v1012 : Index := Scalar.indexCast arg1
  ![v1011.toNat, 0, v1012.toNat]
def k0_off3 (i : grid0.Coords) : Fin 4 → Nat :=
  let arg0 : BitVec 32 := BitVec.ofNat 32 (i 0).val
  let v1025 : Index := Scalar.indexCast arg0
  let c0_512 : Index := 0#32
  let c0_513 : Index := 0#32
  let arg1 : BitVec 32 := BitVec.ofNat 32 (i 1).val
  let v1026 : Index := Scalar.indexCast arg1
  ![v1025.toNat, 0, 0, v1026.toNat]
def k0_mult1 (v1027 : BitVec 32) : BitVec 32 :=
  let c64_i32_520 : BitVec 32 := 64#32
  let v1034 : BitVec 32 := Scalar.muli v1027 c64_i32_520
  v1034

def k0_off4 (v1027 : BitVec 32) : Fin 2 → Nat :=
  let c64_i32_520 : BitVec 32 := 64#32
  let v1034 : BitVec 32 := Scalar.muli v1027 c64_i32_520
  let v1035 : BitVec 32 := v1034
  let v1036 : Index := Scalar.indexCast v1035
  let c0_521 : Index := 0#32
  ![v1036.toNat, 0]
def k0_off5 (v1013 : BitVec 32) (v1027 : BitVec 32) : Fin 3 → Nat :=
  let c0_i32_514 : BitVec 32 := 0#32
  let v1028 : BitVec 1 := Scalar.cmpi .sle v1013 c0_i32_514
  let c0_i32_515 : BitVec 32 := 0#32
  let v1029 : BitVec 1 := Scalar.cmpi .sgt v1027 c0_i32_515
  let v1030 : BitVec 1 := Scalar.ori v1028 v1029
  let c2_i32_519 : BitVec 32 := 2#32
  let c0_i32_516 : BitVec 32 := 0#32
  let v1031 : BitVec 1 := Scalar.cmpi .eq v1027 c0_i32_516
  let c1_i32_517 : BitVec 32 := 1#32
  let c0_i32_518 : BitVec 32 := 0#32
  let v1032 : BitVec 32 := Scalar.select v1031 c1_i32_517 c0_i32_518
  let v1033 : BitVec 32 := Scalar.select v1030 c2_i32_519 v1032
  let v1038 : Index := Scalar.indexCast v1033
  let c0_522 : Index := 0#32
  let c0_523 : Index := 0#32
  ![v1038.toNat, 0, 0]
def k0_off6 (v1027 : BitVec 32) : Fin 3 → Nat :=
  let v1042 : Index := Scalar.indexCast v1027
  let c0_524 : Index := 0#32
  let c0_525 : Index := 0#32
  ![v1042.toNat, 0, 0]

def k0_chk1 (v1013 : BitVec 32) (v1027 : BitVec 32) : Prop :=
  (64 ∣ (k0_mult1 v1027).toNat) ∧
  (∀ a, (k0_off4 v1027) a + S64x128.size a ≤ S512x128.size a) ∧
  (∀ a, (k0_off5 v1013 v1027) a + S1x64x128.size a ≤ S3x64x128.size a) ∧
  (∀ a, (k0_off6 v1027) a + S1x128x128.size a ≤ S8x128x128.size a)
theorem k0_mult1_dvd : ∀ (v1013 : BitVec 32) (v1027 : BitVec 32) (k0_hw1 : k0_chk1 v1013 v1027), 64 ∣ (k0_mult1 v1027).toNat := fun v1013 v1027 k0_hw1 => k0_hw1.1
theorem k0_off4_inb : ∀ (v1013 : BitVec 32) (v1027 : BitVec 32) (k0_hw1 : k0_chk1 v1013 v1027), ∀ a, (k0_off4 v1027) a + S64x128.size a ≤ S512x128.size a := fun v1013 v1027 k0_hw1 => k0_hw1.2.1
theorem k0_off5_inb : ∀ (v1013 : BitVec 32) (v1027 : BitVec 32) (k0_hw1 : k0_chk1 v1013 v1027), ∀ a, (k0_off5 v1013 v1027) a + S1x64x128.size a ≤ S3x64x128.size a := fun v1013 v1027 k0_hw1 => k0_hw1.2.2.1
theorem k0_off6_inb : ∀ (v1013 : BitVec 32) (v1027 : BitVec 32) (k0_hw1 : k0_chk1 v1013 v1027), ∀ a, (k0_off6 v1027) a + S1x128x128.size a ≤ S8x128x128.size a := fun v1013 v1027 k0_hw1 => k0_hw1.2.2.2

def k0_off7 (i : grid0.Coords) : Fin 3 → Nat :=
  let arg0 : BitVec 32 := BitVec.ofNat 32 (i 0).val
  let v1184 : Index := Scalar.indexCast arg0
  let c1_581 : Index := 1#32
  let arg1 : BitVec 32 := BitVec.ofNat 32 (i 1).val
  let v1185 : Index := Scalar.indexCast arg1
  ![v1184.toNat, 1, v1185.toNat]
def k0_off8 (i : grid0.Coords) : Fin 4 → Nat :=
  let arg0 : BitVec 32 := BitVec.ofNat 32 (i 0).val
  let v1198 : Index := Scalar.indexCast arg0
  let c0_596 : Index := 0#32
  let c1_597 : Index := 1#32
  let arg1 : BitVec 32 := BitVec.ofNat 32 (i 1).val
  let v1199 : Index := Scalar.indexCast arg1
  ![v1198.toNat, 0, 1, v1199.toNat]
def k0_mult2 (v1200 : BitVec 32) : BitVec 32 :=
  let c64_i32_604 : BitVec 32 := 64#32
  let v1207 : BitVec 32 := Scalar.muli v1200 c64_i32_604
  v1207

def k0_off9 (v1200 : BitVec 32) : Fin 2 → Nat :=
  let c64_i32_604 : BitVec 32 := 64#32
  let v1207 : BitVec 32 := Scalar.muli v1200 c64_i32_604
  let v1208 : BitVec 32 := v1207
  let v1209 : Index := Scalar.indexCast v1208
  let c0_605 : Index := 0#32
  ![v1209.toNat, 0]
def k0_off10 (v1186 : BitVec 32) (v1200 : BitVec 32) : Fin 3 → Nat :=
  let c0_i32_598 : BitVec 32 := 0#32
  let v1201 : BitVec 1 := Scalar.cmpi .sle v1186 c0_i32_598
  let c1_i32_599 : BitVec 32 := 1#32
  let v1202 : BitVec 1 := Scalar.cmpi .sgt v1200 c1_i32_599
  let v1203 : BitVec 1 := Scalar.ori v1201 v1202
  let c2_i32_603 : BitVec 32 := 2#32
  let c1_i32_600 : BitVec 32 := 1#32
  let v1204 : BitVec 1 := Scalar.cmpi .eq v1200 c1_i32_600
  let c1_i32_601 : BitVec 32 := 1#32
  let c0_i32_602 : BitVec 32 := 0#32
  let v1205 : BitVec 32 := Scalar.select v1204 c1_i32_601 c0_i32_602
  let v1206 : BitVec 32 := Scalar.select v1203 c2_i32_603 v1205
  let v1211 : Index := Scalar.indexCast v1206
  let c0_606 : Index := 0#32
  let c0_607 : Index := 0#32
  ![v1211.toNat, 0, 0]
def k0_off11 (v1200 : BitVec 32) : Fin 3 → Nat :=
  let v1215 : Index := Scalar.indexCast v1200
  let c0_608 : Index := 0#32
  let c0_609 : Index := 0#32
  ![v1215.toNat, 0, 0]

def k0_chk2 (v1186 : BitVec 32) (v1200 : BitVec 32) : Prop :=
  (64 ∣ (k0_mult2 v1200).toNat) ∧
  (∀ a, (k0_off9 v1200) a + S64x128.size a ≤ S512x128.size a) ∧
  (∀ a, (k0_off10 v1186 v1200) a + S1x64x128.size a ≤ S3x64x128.size a) ∧
  (∀ a, (k0_off11 v1200) a + S1x128x128.size a ≤ S8x128x128.size a)
theorem k0_mult2_dvd : ∀ (v1186 : BitVec 32) (v1200 : BitVec 32) (k0_hw2 : k0_chk2 v1186 v1200), 64 ∣ (k0_mult2 v1200).toNat := fun v1186 v1200 k0_hw2 => k0_hw2.1
theorem k0_off9_inb : ∀ (v1186 : BitVec 32) (v1200 : BitVec 32) (k0_hw2 : k0_chk2 v1186 v1200), ∀ a, (k0_off9 v1200) a + S64x128.size a ≤ S512x128.size a := fun v1186 v1200 k0_hw2 => k0_hw2.2.1
theorem k0_off10_inb : ∀ (v1186 : BitVec 32) (v1200 : BitVec 32) (k0_hw2 : k0_chk2 v1186 v1200), ∀ a, (k0_off10 v1186 v1200) a + S1x64x128.size a ≤ S3x64x128.size a := fun v1186 v1200 k0_hw2 => k0_hw2.2.2.1
theorem k0_off11_inb : ∀ (v1186 : BitVec 32) (v1200 : BitVec 32) (k0_hw2 : k0_chk2 v1186 v1200), ∀ a, (k0_off11 v1200) a + S1x128x128.size a ≤ S8x128x128.size a := fun v1186 v1200 k0_hw2 => k0_hw2.2.2.2

def k0_off12 (i : grid0.Coords) : Fin 4 → Nat :=
  let arg0 : BitVec 32 := BitVec.ofNat 32 (i 0).val
  let v1218 : Index := Scalar.indexCast arg0
  let c1_610 : Index := 1#32
  let c1_611 : Index := 1#32
  let arg1 : BitVec 32 := BitVec.ofNat 32 (i 1).val
  let v1219 : Index := Scalar.indexCast arg1
  ![v1218.toNat, 1, 1, v1219.toNat]
def k0_mult3 (v1220 : BitVec 32) : BitVec 32 :=
  let c64_i32_618 : BitVec 32 := 64#32
  let v1227 : BitVec 32 := Scalar.muli v1220 c64_i32_618
  v1227

def k0_off13 (v1220 : BitVec 32) : Fin 2 → Nat :=
  let c64_i32_618 : BitVec 32 := 64#32
  let v1227 : BitVec 32 := Scalar.muli v1220 c64_i32_618
  let v1228 : BitVec 32 := v1227
  let v1229 : Index := Scalar.indexCast v1228
  let c0_619 : Index := 0#32
  ![v1229.toNat, 0]
def k0_off14 (v1186 : BitVec 32) (v1220 : BitVec 32) : Fin 3 → Nat :=
  let c1_i32_612 : BitVec 32 := 1#32
  let v1221 : BitVec 1 := Scalar.cmpi .sle v1186 c1_i32_612
  let c1_i32_613 : BitVec 32 := 1#32
  let v1222 : BitVec 1 := Scalar.cmpi .sgt v1220 c1_i32_613
  let v1223 : BitVec 1 := Scalar.ori v1221 v1222
  let c2_i32_617 : BitVec 32 := 2#32
  let c1_i32_614 : BitVec 32 := 1#32
  let v1224 : BitVec 1 := Scalar.cmpi .eq v1220 c1_i32_614
  let c1_i32_615 : BitVec 32 := 1#32
  let c0_i32_616 : BitVec 32 := 0#32
  let v1225 : BitVec 32 := Scalar.select v1224 c1_i32_615 c0_i32_616
  let v1226 : BitVec 32 := Scalar.select v1223 c2_i32_617 v1225
  let v1231 : Index := Scalar.indexCast v1226
  let c0_620 : Index := 0#32
  let c0_621 : Index := 0#32
  ![v1231.toNat, 0, 0]
def k0_off15 (v1220 : BitVec 32) : Fin 3 → Nat :=
  let v1235 : Index := Scalar.indexCast v1220
  let c0_622 : Index := 0#32
  let c0_623 : Index := 0#32
  ![v1235.toNat, 0, 0]

def k0_chk3 (v1186 : BitVec 32) (v1220 : BitVec 32) : Prop :=
  (64 ∣ (k0_mult3 v1220).toNat) ∧
  (∀ a, (k0_off13 v1220) a + S64x128.size a ≤ S512x128.size a) ∧
  (∀ a, (k0_off14 v1186 v1220) a + S1x64x128.size a ≤ S3x64x128.size a) ∧
  (∀ a, (k0_off15 v1220) a + S1x128x128.size a ≤ S8x128x128.size a)
theorem k0_mult3_dvd : ∀ (v1186 : BitVec 32) (v1220 : BitVec 32) (k0_hw3 : k0_chk3 v1186 v1220), 64 ∣ (k0_mult3 v1220).toNat := fun v1186 v1220 k0_hw3 => k0_hw3.1
theorem k0_off13_inb : ∀ (v1186 : BitVec 32) (v1220 : BitVec 32) (k0_hw3 : k0_chk3 v1186 v1220), ∀ a, (k0_off13 v1220) a + S64x128.size a ≤ S512x128.size a := fun v1186 v1220 k0_hw3 => k0_hw3.2.1
theorem k0_off14_inb : ∀ (v1186 : BitVec 32) (v1220 : BitVec 32) (k0_hw3 : k0_chk3 v1186 v1220), ∀ a, (k0_off14 v1186 v1220) a + S1x64x128.size a ≤ S3x64x128.size a := fun v1186 v1220 k0_hw3 => k0_hw3.2.2.1
theorem k0_off15_inb : ∀ (v1186 : BitVec 32) (v1220 : BitVec 32) (k0_hw3 : k0_chk3 v1186 v1220), ∀ a, (k0_off15 v1220) a + S1x128x128.size a ≤ S8x128x128.size a := fun v1186 v1220 k0_hw3 => k0_hw3.2.2.2

def k0_off16 (i : grid0.Coords) : Fin 3 → Nat :=
  let arg0 : BitVec 32 := BitVec.ofNat 32 (i 0).val
  let v1377 : Index := Scalar.indexCast arg0
  let c2_678 : Index := 2#32
  let arg1 : BitVec 32 := BitVec.ofNat 32 (i 1).val
  let v1378 : Index := Scalar.indexCast arg1
  ![v1377.toNat, 2, v1378.toNat]
def k0_off17 (i : grid0.Coords) : Fin 4 → Nat :=
  let arg0 : BitVec 32 := BitVec.ofNat 32 (i 0).val
  let v1391 : Index := Scalar.indexCast arg0
  let c0_693 : Index := 0#32
  let c2_694 : Index := 2#32
  let arg1 : BitVec 32 := BitVec.ofNat 32 (i 1).val
  let v1392 : Index := Scalar.indexCast arg1
  ![v1391.toNat, 0, 2, v1392.toNat]
def k0_mult4 (v1393 : BitVec 32) : BitVec 32 :=
  let c64_i32_701 : BitVec 32 := 64#32
  let v1400 : BitVec 32 := Scalar.muli v1393 c64_i32_701
  v1400

def k0_off18 (v1393 : BitVec 32) : Fin 2 → Nat :=
  let c64_i32_701 : BitVec 32 := 64#32
  let v1400 : BitVec 32 := Scalar.muli v1393 c64_i32_701
  let v1401 : BitVec 32 := v1400
  let v1402 : Index := Scalar.indexCast v1401
  let c0_702 : Index := 0#32
  ![v1402.toNat, 0]
def k0_off19 (v1379 : BitVec 32) (v1393 : BitVec 32) : Fin 3 → Nat :=
  let c0_i32_695 : BitVec 32 := 0#32
  let v1394 : BitVec 1 := Scalar.cmpi .sle v1379 c0_i32_695
  let c2_i32_696 : BitVec 32 := 2#32
  let v1395 : BitVec 1 := Scalar.cmpi .sgt v1393 c2_i32_696
  let v1396 : BitVec 1 := Scalar.ori v1394 v1395
  let c2_i32_700 : BitVec 32 := 2#32
  let c2_i32_697 : BitVec 32 := 2#32
  let v1397 : BitVec 1 := Scalar.cmpi .eq v1393 c2_i32_697
  let c1_i32_698 : BitVec 32 := 1#32
  let c0_i32_699 : BitVec 32 := 0#32
  let v1398 : BitVec 32 := Scalar.select v1397 c1_i32_698 c0_i32_699
  let v1399 : BitVec 32 := Scalar.select v1396 c2_i32_700 v1398
  let v1404 : Index := Scalar.indexCast v1399
  let c0_703 : Index := 0#32
  let c0_704 : Index := 0#32
  ![v1404.toNat, 0, 0]
def k0_off20 (v1393 : BitVec 32) : Fin 3 → Nat :=
  let v1408 : Index := Scalar.indexCast v1393
  let c0_705 : Index := 0#32
  let c0_706 : Index := 0#32
  ![v1408.toNat, 0, 0]

def k0_chk4 (v1379 : BitVec 32) (v1393 : BitVec 32) : Prop :=
  (64 ∣ (k0_mult4 v1393).toNat) ∧
  (∀ a, (k0_off18 v1393) a + S64x128.size a ≤ S512x128.size a) ∧
  (∀ a, (k0_off19 v1379 v1393) a + S1x64x128.size a ≤ S3x64x128.size a) ∧
  (∀ a, (k0_off20 v1393) a + S1x128x128.size a ≤ S8x128x128.size a)
theorem k0_mult4_dvd : ∀ (v1379 : BitVec 32) (v1393 : BitVec 32) (k0_hw4 : k0_chk4 v1379 v1393), 64 ∣ (k0_mult4 v1393).toNat := fun v1379 v1393 k0_hw4 => k0_hw4.1
theorem k0_off18_inb : ∀ (v1379 : BitVec 32) (v1393 : BitVec 32) (k0_hw4 : k0_chk4 v1379 v1393), ∀ a, (k0_off18 v1393) a + S64x128.size a ≤ S512x128.size a := fun v1379 v1393 k0_hw4 => k0_hw4.2.1
theorem k0_off19_inb : ∀ (v1379 : BitVec 32) (v1393 : BitVec 32) (k0_hw4 : k0_chk4 v1379 v1393), ∀ a, (k0_off19 v1379 v1393) a + S1x64x128.size a ≤ S3x64x128.size a := fun v1379 v1393 k0_hw4 => k0_hw4.2.2.1
theorem k0_off20_inb : ∀ (v1379 : BitVec 32) (v1393 : BitVec 32) (k0_hw4 : k0_chk4 v1379 v1393), ∀ a, (k0_off20 v1393) a + S1x128x128.size a ≤ S8x128x128.size a := fun v1379 v1393 k0_hw4 => k0_hw4.2.2.2

def k0_off21 (i : grid0.Coords) : Fin 4 → Nat :=
  let arg0 : BitVec 32 := BitVec.ofNat 32 (i 0).val
  let v1411 : Index := Scalar.indexCast arg0
  let c1_707 : Index := 1#32
  let c2_708 : Index := 2#32
  let arg1 : BitVec 32 := BitVec.ofNat 32 (i 1).val
  let v1412 : Index := Scalar.indexCast arg1
  ![v1411.toNat, 1, 2, v1412.toNat]
def k0_mult5 (v1413 : BitVec 32) : BitVec 32 :=
  let c64_i32_715 : BitVec 32 := 64#32
  let v1420 : BitVec 32 := Scalar.muli v1413 c64_i32_715
  v1420

def k0_off22 (v1413 : BitVec 32) : Fin 2 → Nat :=
  let c64_i32_715 : BitVec 32 := 64#32
  let v1420 : BitVec 32 := Scalar.muli v1413 c64_i32_715
  let v1421 : BitVec 32 := v1420
  let v1422 : Index := Scalar.indexCast v1421
  let c0_716 : Index := 0#32
  ![v1422.toNat, 0]
def k0_off23 (v1379 : BitVec 32) (v1413 : BitVec 32) : Fin 3 → Nat :=
  let c1_i32_709 : BitVec 32 := 1#32
  let v1414 : BitVec 1 := Scalar.cmpi .sle v1379 c1_i32_709
  let c2_i32_710 : BitVec 32 := 2#32
  let v1415 : BitVec 1 := Scalar.cmpi .sgt v1413 c2_i32_710
  let v1416 : BitVec 1 := Scalar.ori v1414 v1415
  let c2_i32_714 : BitVec 32 := 2#32
  let c2_i32_711 : BitVec 32 := 2#32
  let v1417 : BitVec 1 := Scalar.cmpi .eq v1413 c2_i32_711
  let c1_i32_712 : BitVec 32 := 1#32
  let c0_i32_713 : BitVec 32 := 0#32
  let v1418 : BitVec 32 := Scalar.select v1417 c1_i32_712 c0_i32_713
  let v1419 : BitVec 32 := Scalar.select v1416 c2_i32_714 v1418
  let v1424 : Index := Scalar.indexCast v1419
  let c0_717 : Index := 0#32
  let c0_718 : Index := 0#32
  ![v1424.toNat, 0, 0]
def k0_off24 (v1413 : BitVec 32) : Fin 3 → Nat :=
  let v1428 : Index := Scalar.indexCast v1413
  let c0_719 : Index := 0#32
  let c0_720 : Index := 0#32
  ![v1428.toNat, 0, 0]

def k0_chk5 (v1379 : BitVec 32) (v1413 : BitVec 32) : Prop :=
  (64 ∣ (k0_mult5 v1413).toNat) ∧
  (∀ a, (k0_off22 v1413) a + S64x128.size a ≤ S512x128.size a) ∧
  (∀ a, (k0_off23 v1379 v1413) a + S1x64x128.size a ≤ S3x64x128.size a) ∧
  (∀ a, (k0_off24 v1413) a + S1x128x128.size a ≤ S8x128x128.size a)
theorem k0_mult5_dvd : ∀ (v1379 : BitVec 32) (v1413 : BitVec 32) (k0_hw5 : k0_chk5 v1379 v1413), 64 ∣ (k0_mult5 v1413).toNat := fun v1379 v1413 k0_hw5 => k0_hw5.1
theorem k0_off22_inb : ∀ (v1379 : BitVec 32) (v1413 : BitVec 32) (k0_hw5 : k0_chk5 v1379 v1413), ∀ a, (k0_off22 v1413) a + S64x128.size a ≤ S512x128.size a := fun v1379 v1413 k0_hw5 => k0_hw5.2.1
theorem k0_off23_inb : ∀ (v1379 : BitVec 32) (v1413 : BitVec 32) (k0_hw5 : k0_chk5 v1379 v1413), ∀ a, (k0_off23 v1379 v1413) a + S1x64x128.size a ≤ S3x64x128.size a := fun v1379 v1413 k0_hw5 => k0_hw5.2.2.1
theorem k0_off24_inb : ∀ (v1379 : BitVec 32) (v1413 : BitVec 32) (k0_hw5 : k0_chk5 v1379 v1413), ∀ a, (k0_off24 v1413) a + S1x128x128.size a ≤ S8x128x128.size a := fun v1379 v1413 k0_hw5 => k0_hw5.2.2.2

def k0_off25 (i : grid0.Coords) : Fin 4 → Nat :=
  let arg0 : BitVec 32 := BitVec.ofNat 32 (i 0).val
  let v1431 : Index := Scalar.indexCast arg0
  let c2_721 : Index := 2#32
  let c2_722 : Index := 2#32
  let arg1 : BitVec 32 := BitVec.ofNat 32 (i 1).val
  let v1432 : Index := Scalar.indexCast arg1
  ![v1431.toNat, 2, 2, v1432.toNat]
def k0_mult6 (v1433 : BitVec 32) : BitVec 32 :=
  let c64_i32_729 : BitVec 32 := 64#32
  let v1440 : BitVec 32 := Scalar.muli v1433 c64_i32_729
  v1440

def k0_off26 (v1433 : BitVec 32) : Fin 2 → Nat :=
  let c64_i32_729 : BitVec 32 := 64#32
  let v1440 : BitVec 32 := Scalar.muli v1433 c64_i32_729
  let v1441 : BitVec 32 := v1440
  let v1442 : Index := Scalar.indexCast v1441
  let c0_730 : Index := 0#32
  ![v1442.toNat, 0]
def k0_off27 (v1379 : BitVec 32) (v1433 : BitVec 32) : Fin 3 → Nat :=
  let c2_i32_723 : BitVec 32 := 2#32
  let v1434 : BitVec 1 := Scalar.cmpi .sle v1379 c2_i32_723
  let c2_i32_724 : BitVec 32 := 2#32
  let v1435 : BitVec 1 := Scalar.cmpi .sgt v1433 c2_i32_724
  let v1436 : BitVec 1 := Scalar.ori v1434 v1435
  let c2_i32_728 : BitVec 32 := 2#32
  let c2_i32_725 : BitVec 32 := 2#32
  let v1437 : BitVec 1 := Scalar.cmpi .eq v1433 c2_i32_725
  let c1_i32_726 : BitVec 32 := 1#32
  let c0_i32_727 : BitVec 32 := 0#32
  let v1438 : BitVec 32 := Scalar.select v1437 c1_i32_726 c0_i32_727
  let v1439 : BitVec 32 := Scalar.select v1436 c2_i32_728 v1438
  let v1444 : Index := Scalar.indexCast v1439
  let c0_731 : Index := 0#32
  let c0_732 : Index := 0#32
  ![v1444.toNat, 0, 0]
def k0_off28 (v1433 : BitVec 32) : Fin 3 → Nat :=
  let v1448 : Index := Scalar.indexCast v1433
  let c0_733 : Index := 0#32
  let c0_734 : Index := 0#32
  ![v1448.toNat, 0, 0]

def k0_chk6 (v1379 : BitVec 32) (v1433 : BitVec 32) : Prop :=
  (64 ∣ (k0_mult6 v1433).toNat) ∧
  (∀ a, (k0_off26 v1433) a + S64x128.size a ≤ S512x128.size a) ∧
  (∀ a, (k0_off27 v1379 v1433) a + S1x64x128.size a ≤ S3x64x128.size a) ∧
  (∀ a, (k0_off28 v1433) a + S1x128x128.size a ≤ S8x128x128.size a)
theorem k0_mult6_dvd : ∀ (v1379 : BitVec 32) (v1433 : BitVec 32) (k0_hw6 : k0_chk6 v1379 v1433), 64 ∣ (k0_mult6 v1433).toNat := fun v1379 v1433 k0_hw6 => k0_hw6.1
theorem k0_off26_inb : ∀ (v1379 : BitVec 32) (v1433 : BitVec 32) (k0_hw6 : k0_chk6 v1379 v1433), ∀ a, (k0_off26 v1433) a + S64x128.size a ≤ S512x128.size a := fun v1379 v1433 k0_hw6 => k0_hw6.2.1
theorem k0_off27_inb : ∀ (v1379 : BitVec 32) (v1433 : BitVec 32) (k0_hw6 : k0_chk6 v1379 v1433), ∀ a, (k0_off27 v1379 v1433) a + S1x64x128.size a ≤ S3x64x128.size a := fun v1379 v1433 k0_hw6 => k0_hw6.2.2.1
theorem k0_off28_inb : ∀ (v1379 : BitVec 32) (v1433 : BitVec 32) (k0_hw6 : k0_chk6 v1379 v1433), ∀ a, (k0_off28 v1433) a + S1x128x128.size a ≤ S8x128x128.size a := fun v1379 v1433 k0_hw6 => k0_hw6.2.2.2

def k0_off29 (i : grid0.Coords) : Fin 3 → Nat :=
  let arg0 : BitVec 32 := BitVec.ofNat 32 (i 0).val
  let v1593 : Index := Scalar.indexCast arg0
  let c3_790 : Index := 3#32
  let arg1 : BitVec 32 := BitVec.ofNat 32 (i 1).val
  let v1594 : Index := Scalar.indexCast arg1
  ![v1593.toNat, 3, v1594.toNat]
def k0_off30 (i : grid0.Coords) : Fin 4 → Nat :=
  let arg0 : BitVec 32 := BitVec.ofNat 32 (i 0).val
  let v1607 : Index := Scalar.indexCast arg0
  let c0_805 : Index := 0#32
  let c3_806 : Index := 3#32
  let arg1 : BitVec 32 := BitVec.ofNat 32 (i 1).val
  let v1608 : Index := Scalar.indexCast arg1
  ![v1607.toNat, 0, 3, v1608.toNat]
def k0_mult7 (v1609 : BitVec 32) : BitVec 32 :=
  let c64_i32_812 : BitVec 32 := 64#32
  let v1616 : BitVec 32 := Scalar.muli v1609 c64_i32_812
  v1616

def k0_off31 (v1609 : BitVec 32) : Fin 2 → Nat :=
  let c64_i32_812 : BitVec 32 := 64#32
  let v1616 : BitVec 32 := Scalar.muli v1609 c64_i32_812
  let v1617 : BitVec 32 := v1616
  let v1618 : Index := Scalar.indexCast v1617
  let c0_813 : Index := 0#32
  ![v1618.toNat, 0]
def k0_off32 (v1595 : BitVec 32) (v1609 : BitVec 32) : Fin 3 → Nat :=
  let c0_i32_807 : BitVec 32 := 0#32
  let v1610 : BitVec 1 := Scalar.cmpi .sle v1595 c0_i32_807
  let c3_i32 : BitVec 32 := 3#32
  let v1611 : BitVec 1 := Scalar.cmpi .sgt v1609 c3_i32
  let v1612 : BitVec 1 := Scalar.ori v1610 v1611
  let c2_i32_811 : BitVec 32 := 2#32
  let c3_i32_808 : BitVec 32 := 3#32
  let v1613 : BitVec 1 := Scalar.cmpi .eq v1609 c3_i32_808
  let c1_i32_809 : BitVec 32 := 1#32
  let c0_i32_810 : BitVec 32 := 0#32
  let v1614 : BitVec 32 := Scalar.select v1613 c1_i32_809 c0_i32_810
  let v1615 : BitVec 32 := Scalar.select v1612 c2_i32_811 v1614
  let v1620 : Index := Scalar.indexCast v1615
  let c0_814 : Index := 0#32
  let c0_815 : Index := 0#32
  ![v1620.toNat, 0, 0]
def k0_off33 (v1609 : BitVec 32) : Fin 3 → Nat :=
  let v1624 : Index := Scalar.indexCast v1609
  let c0_816 : Index := 0#32
  let c0_817 : Index := 0#32
  ![v1624.toNat, 0, 0]

def k0_chk7 (v1595 : BitVec 32) (v1609 : BitVec 32) : Prop :=
  (64 ∣ (k0_mult7 v1609).toNat) ∧
  (∀ a, (k0_off31 v1609) a + S64x128.size a ≤ S512x128.size a) ∧
  (∀ a, (k0_off32 v1595 v1609) a + S1x64x128.size a ≤ S3x64x128.size a) ∧
  (∀ a, (k0_off33 v1609) a + S1x128x128.size a ≤ S8x128x128.size a)
theorem k0_mult7_dvd : ∀ (v1595 : BitVec 32) (v1609 : BitVec 32) (k0_hw7 : k0_chk7 v1595 v1609), 64 ∣ (k0_mult7 v1609).toNat := fun v1595 v1609 k0_hw7 => k0_hw7.1
theorem k0_off31_inb : ∀ (v1595 : BitVec 32) (v1609 : BitVec 32) (k0_hw7 : k0_chk7 v1595 v1609), ∀ a, (k0_off31 v1609) a + S64x128.size a ≤ S512x128.size a := fun v1595 v1609 k0_hw7 => k0_hw7.2.1
theorem k0_off32_inb : ∀ (v1595 : BitVec 32) (v1609 : BitVec 32) (k0_hw7 : k0_chk7 v1595 v1609), ∀ a, (k0_off32 v1595 v1609) a + S1x64x128.size a ≤ S3x64x128.size a := fun v1595 v1609 k0_hw7 => k0_hw7.2.2.1
theorem k0_off33_inb : ∀ (v1595 : BitVec 32) (v1609 : BitVec 32) (k0_hw7 : k0_chk7 v1595 v1609), ∀ a, (k0_off33 v1609) a + S1x128x128.size a ≤ S8x128x128.size a := fun v1595 v1609 k0_hw7 => k0_hw7.2.2.2

def k0_off34 (i : grid0.Coords) : Fin 4 → Nat :=
  let arg0 : BitVec 32 := BitVec.ofNat 32 (i 0).val
  let v1627 : Index := Scalar.indexCast arg0
  let c1_818 : Index := 1#32
  let c3_819 : Index := 3#32
  let arg1 : BitVec 32 := BitVec.ofNat 32 (i 1).val
  let v1628 : Index := Scalar.indexCast arg1
  ![v1627.toNat, 1, 3, v1628.toNat]
def k0_mult8 (v1629 : BitVec 32) : BitVec 32 :=
  let c64_i32_826 : BitVec 32 := 64#32
  let v1636 : BitVec 32 := Scalar.muli v1629 c64_i32_826
  v1636

def k0_off35 (v1629 : BitVec 32) : Fin 2 → Nat :=
  let c64_i32_826 : BitVec 32 := 64#32
  let v1636 : BitVec 32 := Scalar.muli v1629 c64_i32_826
  let v1637 : BitVec 32 := v1636
  let v1638 : Index := Scalar.indexCast v1637
  let c0_827 : Index := 0#32
  ![v1638.toNat, 0]
def k0_off36 (v1595 : BitVec 32) (v1629 : BitVec 32) : Fin 3 → Nat :=
  let c1_i32_820 : BitVec 32 := 1#32
  let v1630 : BitVec 1 := Scalar.cmpi .sle v1595 c1_i32_820
  let c3_i32_821 : BitVec 32 := 3#32
  let v1631 : BitVec 1 := Scalar.cmpi .sgt v1629 c3_i32_821
  let v1632 : BitVec 1 := Scalar.ori v1630 v1631
  let c2_i32_825 : BitVec 32 := 2#32
  let c3_i32_822 : BitVec 32 := 3#32
  let v1633 : BitVec 1 := Scalar.cmpi .eq v1629 c3_i32_822
  let c1_i32_823 : BitVec 32 := 1#32
  let c0_i32_824 : BitVec 32 := 0#32
  let v1634 : BitVec 32 := Scalar.select v1633 c1_i32_823 c0_i32_824
  let v1635 : BitVec 32 := Scalar.select v1632 c2_i32_825 v1634
  let v1640 : Index := Scalar.indexCast v1635
  let c0_828 : Index := 0#32
  let c0_829 : Index := 0#32
  ![v1640.toNat, 0, 0]
def k0_off37 (v1629 : BitVec 32) : Fin 3 → Nat :=
  let v1644 : Index := Scalar.indexCast v1629
  let c0_830 : Index := 0#32
  let c0_831 : Index := 0#32
  ![v1644.toNat, 0, 0]

def k0_chk8 (v1595 : BitVec 32) (v1629 : BitVec 32) : Prop :=
  (64 ∣ (k0_mult8 v1629).toNat) ∧
  (∀ a, (k0_off35 v1629) a + S64x128.size a ≤ S512x128.size a) ∧
  (∀ a, (k0_off36 v1595 v1629) a + S1x64x128.size a ≤ S3x64x128.size a) ∧
  (∀ a, (k0_off37 v1629) a + S1x128x128.size a ≤ S8x128x128.size a)
theorem k0_mult8_dvd : ∀ (v1595 : BitVec 32) (v1629 : BitVec 32) (k0_hw8 : k0_chk8 v1595 v1629), 64 ∣ (k0_mult8 v1629).toNat := fun v1595 v1629 k0_hw8 => k0_hw8.1
theorem k0_off35_inb : ∀ (v1595 : BitVec 32) (v1629 : BitVec 32) (k0_hw8 : k0_chk8 v1595 v1629), ∀ a, (k0_off35 v1629) a + S64x128.size a ≤ S512x128.size a := fun v1595 v1629 k0_hw8 => k0_hw8.2.1
theorem k0_off36_inb : ∀ (v1595 : BitVec 32) (v1629 : BitVec 32) (k0_hw8 : k0_chk8 v1595 v1629), ∀ a, (k0_off36 v1595 v1629) a + S1x64x128.size a ≤ S3x64x128.size a := fun v1595 v1629 k0_hw8 => k0_hw8.2.2.1
theorem k0_off37_inb : ∀ (v1595 : BitVec 32) (v1629 : BitVec 32) (k0_hw8 : k0_chk8 v1595 v1629), ∀ a, (k0_off37 v1629) a + S1x128x128.size a ≤ S8x128x128.size a := fun v1595 v1629 k0_hw8 => k0_hw8.2.2.2

def k0_off38 (i : grid0.Coords) : Fin 4 → Nat :=
  let arg0 : BitVec 32 := BitVec.ofNat 32 (i 0).val
  let v1647 : Index := Scalar.indexCast arg0
  let c2_832 : Index := 2#32
  let c3_833 : Index := 3#32
  let arg1 : BitVec 32 := BitVec.ofNat 32 (i 1).val
  let v1648 : Index := Scalar.indexCast arg1
  ![v1647.toNat, 2, 3, v1648.toNat]
def k0_mult9 (v1649 : BitVec 32) : BitVec 32 :=
  let c64_i32_840 : BitVec 32 := 64#32
  let v1656 : BitVec 32 := Scalar.muli v1649 c64_i32_840
  v1656

def k0_off39 (v1649 : BitVec 32) : Fin 2 → Nat :=
  let c64_i32_840 : BitVec 32 := 64#32
  let v1656 : BitVec 32 := Scalar.muli v1649 c64_i32_840
  let v1657 : BitVec 32 := v1656
  let v1658 : Index := Scalar.indexCast v1657
  let c0_841 : Index := 0#32
  ![v1658.toNat, 0]
def k0_off40 (v1595 : BitVec 32) (v1649 : BitVec 32) : Fin 3 → Nat :=
  let c2_i32_834 : BitVec 32 := 2#32
  let v1650 : BitVec 1 := Scalar.cmpi .sle v1595 c2_i32_834
  let c3_i32_835 : BitVec 32 := 3#32
  let v1651 : BitVec 1 := Scalar.cmpi .sgt v1649 c3_i32_835
  let v1652 : BitVec 1 := Scalar.ori v1650 v1651
  let c2_i32_839 : BitVec 32 := 2#32
  let c3_i32_836 : BitVec 32 := 3#32
  let v1653 : BitVec 1 := Scalar.cmpi .eq v1649 c3_i32_836
  let c1_i32_837 : BitVec 32 := 1#32
  let c0_i32_838 : BitVec 32 := 0#32
  let v1654 : BitVec 32 := Scalar.select v1653 c1_i32_837 c0_i32_838
  let v1655 : BitVec 32 := Scalar.select v1652 c2_i32_839 v1654
  let v1660 : Index := Scalar.indexCast v1655
  let c0_842 : Index := 0#32
  let c0_843 : Index := 0#32
  ![v1660.toNat, 0, 0]
def k0_off41 (v1649 : BitVec 32) : Fin 3 → Nat :=
  let v1664 : Index := Scalar.indexCast v1649
  let c0_844 : Index := 0#32
  let c0_845 : Index := 0#32
  ![v1664.toNat, 0, 0]

def k0_chk9 (v1595 : BitVec 32) (v1649 : BitVec 32) : Prop :=
  (64 ∣ (k0_mult9 v1649).toNat) ∧
  (∀ a, (k0_off39 v1649) a + S64x128.size a ≤ S512x128.size a) ∧
  (∀ a, (k0_off40 v1595 v1649) a + S1x64x128.size a ≤ S3x64x128.size a) ∧
  (∀ a, (k0_off41 v1649) a + S1x128x128.size a ≤ S8x128x128.size a)
theorem k0_mult9_dvd : ∀ (v1595 : BitVec 32) (v1649 : BitVec 32) (k0_hw9 : k0_chk9 v1595 v1649), 64 ∣ (k0_mult9 v1649).toNat := fun v1595 v1649 k0_hw9 => k0_hw9.1
theorem k0_off39_inb : ∀ (v1595 : BitVec 32) (v1649 : BitVec 32) (k0_hw9 : k0_chk9 v1595 v1649), ∀ a, (k0_off39 v1649) a + S64x128.size a ≤ S512x128.size a := fun v1595 v1649 k0_hw9 => k0_hw9.2.1
theorem k0_off40_inb : ∀ (v1595 : BitVec 32) (v1649 : BitVec 32) (k0_hw9 : k0_chk9 v1595 v1649), ∀ a, (k0_off40 v1595 v1649) a + S1x64x128.size a ≤ S3x64x128.size a := fun v1595 v1649 k0_hw9 => k0_hw9.2.2.1
theorem k0_off41_inb : ∀ (v1595 : BitVec 32) (v1649 : BitVec 32) (k0_hw9 : k0_chk9 v1595 v1649), ∀ a, (k0_off41 v1649) a + S1x128x128.size a ≤ S8x128x128.size a := fun v1595 v1649 k0_hw9 => k0_hw9.2.2.2

def k0_off42 (i : grid0.Coords) : Fin 4 → Nat :=
  let arg0 : BitVec 32 := BitVec.ofNat 32 (i 0).val
  let v1667 : Index := Scalar.indexCast arg0
  let c3_846 : Index := 3#32
  let c3_847 : Index := 3#32
  let arg1 : BitVec 32 := BitVec.ofNat 32 (i 1).val
  let v1668 : Index := Scalar.indexCast arg1
  ![v1667.toNat, 3, 3, v1668.toNat]
def k0_mult10 (v1669 : BitVec 32) : BitVec 32 :=
  let c64_i32_854 : BitVec 32 := 64#32
  let v1676 : BitVec 32 := Scalar.muli v1669 c64_i32_854
  v1676

def k0_off43 (v1669 : BitVec 32) : Fin 2 → Nat :=
  let c64_i32_854 : BitVec 32 := 64#32
  let v1676 : BitVec 32 := Scalar.muli v1669 c64_i32_854
  let v1677 : BitVec 32 := v1676
  let v1678 : Index := Scalar.indexCast v1677
  let c0_855 : Index := 0#32
  ![v1678.toNat, 0]
def k0_off44 (v1595 : BitVec 32) (v1669 : BitVec 32) : Fin 3 → Nat :=
  let c3_i32_848 : BitVec 32 := 3#32
  let v1670 : BitVec 1 := Scalar.cmpi .sle v1595 c3_i32_848
  let c3_i32_849 : BitVec 32 := 3#32
  let v1671 : BitVec 1 := Scalar.cmpi .sgt v1669 c3_i32_849
  let v1672 : BitVec 1 := Scalar.ori v1670 v1671
  let c2_i32_853 : BitVec 32 := 2#32
  let c3_i32_850 : BitVec 32 := 3#32
  let v1673 : BitVec 1 := Scalar.cmpi .eq v1669 c3_i32_850
  let c1_i32_851 : BitVec 32 := 1#32
  let c0_i32_852 : BitVec 32 := 0#32
  let v1674 : BitVec 32 := Scalar.select v1673 c1_i32_851 c0_i32_852
  let v1675 : BitVec 32 := Scalar.select v1672 c2_i32_853 v1674
  let v1680 : Index := Scalar.indexCast v1675
  let c0_856 : Index := 0#32
  let c0_857 : Index := 0#32
  ![v1680.toNat, 0, 0]
def k0_off45 (v1669 : BitVec 32) : Fin 3 → Nat :=
  let v1684 : Index := Scalar.indexCast v1669
  let c0_858 : Index := 0#32
  let c0_859 : Index := 0#32
  ![v1684.toNat, 0, 0]

def k0_chk10 (v1595 : BitVec 32) (v1669 : BitVec 32) : Prop :=
  (64 ∣ (k0_mult10 v1669).toNat) ∧
  (∀ a, (k0_off43 v1669) a + S64x128.size a ≤ S512x128.size a) ∧
  (∀ a, (k0_off44 v1595 v1669) a + S1x64x128.size a ≤ S3x64x128.size a) ∧
  (∀ a, (k0_off45 v1669) a + S1x128x128.size a ≤ S8x128x128.size a)
theorem k0_mult10_dvd : ∀ (v1595 : BitVec 32) (v1669 : BitVec 32) (k0_hw10 : k0_chk10 v1595 v1669), 64 ∣ (k0_mult10 v1669).toNat := fun v1595 v1669 k0_hw10 => k0_hw10.1
theorem k0_off43_inb : ∀ (v1595 : BitVec 32) (v1669 : BitVec 32) (k0_hw10 : k0_chk10 v1595 v1669), ∀ a, (k0_off43 v1669) a + S64x128.size a ≤ S512x128.size a := fun v1595 v1669 k0_hw10 => k0_hw10.2.1
theorem k0_off44_inb : ∀ (v1595 : BitVec 32) (v1669 : BitVec 32) (k0_hw10 : k0_chk10 v1595 v1669), ∀ a, (k0_off44 v1595 v1669) a + S1x64x128.size a ≤ S3x64x128.size a := fun v1595 v1669 k0_hw10 => k0_hw10.2.2.1
theorem k0_off45_inb : ∀ (v1595 : BitVec 32) (v1669 : BitVec 32) (k0_hw10 : k0_chk10 v1595 v1669), ∀ a, (k0_off45 v1669) a + S1x128x128.size a ≤ S8x128x128.size a := fun v1595 v1669 k0_hw10 => k0_hw10.2.2.2

def k0_off46 (i : grid0.Coords) : Fin 3 → Nat :=
  let arg0 : BitVec 32 := BitVec.ofNat 32 (i 0).val
  let v1828 : Index := Scalar.indexCast arg0
  let c4_914 : Index := 4#32
  let arg1 : BitVec 32 := BitVec.ofNat 32 (i 1).val
  let v1829 : Index := Scalar.indexCast arg1
  ![v1828.toNat, 4, v1829.toNat]
def k0_off47 (i : grid0.Coords) : Fin 4 → Nat :=
  let arg0 : BitVec 32 := BitVec.ofNat 32 (i 0).val
  let v1842 : Index := Scalar.indexCast arg0
  let c0_929 : Index := 0#32
  let c4_930 : Index := 4#32
  let arg1 : BitVec 32 := BitVec.ofNat 32 (i 1).val
  let v1843 : Index := Scalar.indexCast arg1
  ![v1842.toNat, 0, 4, v1843.toNat]
def k0_mult11 (v1844 : BitVec 32) : BitVec 32 :=
  let c64_i32_937 : BitVec 32 := 64#32
  let v1851 : BitVec 32 := Scalar.muli v1844 c64_i32_937
  v1851

def k0_off48 (v1844 : BitVec 32) : Fin 2 → Nat :=
  let c64_i32_937 : BitVec 32 := 64#32
  let v1851 : BitVec 32 := Scalar.muli v1844 c64_i32_937
  let v1852 : BitVec 32 := v1851
  let v1853 : Index := Scalar.indexCast v1852
  let c0_938 : Index := 0#32
  ![v1853.toNat, 0]
def k0_off49 (v1830 : BitVec 32) (v1844 : BitVec 32) : Fin 3 → Nat :=
  let c0_i32_931 : BitVec 32 := 0#32
  let v1845 : BitVec 1 := Scalar.cmpi .sle v1830 c0_i32_931
  let c4_i32_932 : BitVec 32 := 4#32
  let v1846 : BitVec 1 := Scalar.cmpi .sgt v1844 c4_i32_932
  let v1847 : BitVec 1 := Scalar.ori v1845 v1846
  let c2_i32_936 : BitVec 32 := 2#32
  let c4_i32_933 : BitVec 32 := 4#32
  let v1848 : BitVec 1 := Scalar.cmpi .eq v1844 c4_i32_933
  let c1_i32_934 : BitVec 32 := 1#32
  let c0_i32_935 : BitVec 32 := 0#32
  let v1849 : BitVec 32 := Scalar.select v1848 c1_i32_934 c0_i32_935
  let v1850 : BitVec 32 := Scalar.select v1847 c2_i32_936 v1849
  let v1855 : Index := Scalar.indexCast v1850
  let c0_939 : Index := 0#32
  let c0_940 : Index := 0#32
  ![v1855.toNat, 0, 0]
def k0_off50 (v1844 : BitVec 32) : Fin 3 → Nat :=
  let v1859 : Index := Scalar.indexCast v1844
  let c0_941 : Index := 0#32
  let c0_942 : Index := 0#32
  ![v1859.toNat, 0, 0]

def k0_chk11 (v1830 : BitVec 32) (v1844 : BitVec 32) : Prop :=
  (64 ∣ (k0_mult11 v1844).toNat) ∧
  (∀ a, (k0_off48 v1844) a + S64x128.size a ≤ S512x128.size a) ∧
  (∀ a, (k0_off49 v1830 v1844) a + S1x64x128.size a ≤ S3x64x128.size a) ∧
  (∀ a, (k0_off50 v1844) a + S1x128x128.size a ≤ S8x128x128.size a)
theorem k0_mult11_dvd : ∀ (v1830 : BitVec 32) (v1844 : BitVec 32) (k0_hw11 : k0_chk11 v1830 v1844), 64 ∣ (k0_mult11 v1844).toNat := fun v1830 v1844 k0_hw11 => k0_hw11.1
theorem k0_off48_inb : ∀ (v1830 : BitVec 32) (v1844 : BitVec 32) (k0_hw11 : k0_chk11 v1830 v1844), ∀ a, (k0_off48 v1844) a + S64x128.size a ≤ S512x128.size a := fun v1830 v1844 k0_hw11 => k0_hw11.2.1
theorem k0_off49_inb : ∀ (v1830 : BitVec 32) (v1844 : BitVec 32) (k0_hw11 : k0_chk11 v1830 v1844), ∀ a, (k0_off49 v1830 v1844) a + S1x64x128.size a ≤ S3x64x128.size a := fun v1830 v1844 k0_hw11 => k0_hw11.2.2.1
theorem k0_off50_inb : ∀ (v1830 : BitVec 32) (v1844 : BitVec 32) (k0_hw11 : k0_chk11 v1830 v1844), ∀ a, (k0_off50 v1844) a + S1x128x128.size a ≤ S8x128x128.size a := fun v1830 v1844 k0_hw11 => k0_hw11.2.2.2

def k0_off51 (i : grid0.Coords) : Fin 4 → Nat :=
  let arg0 : BitVec 32 := BitVec.ofNat 32 (i 0).val
  let v1862 : Index := Scalar.indexCast arg0
  let c1_943 : Index := 1#32
  let c4_944 : Index := 4#32
  let arg1 : BitVec 32 := BitVec.ofNat 32 (i 1).val
  let v1863 : Index := Scalar.indexCast arg1
  ![v1862.toNat, 1, 4, v1863.toNat]
def k0_mult12 (v1864 : BitVec 32) : BitVec 32 :=
  let c64_i32_951 : BitVec 32 := 64#32
  let v1871 : BitVec 32 := Scalar.muli v1864 c64_i32_951
  v1871

def k0_off52 (v1864 : BitVec 32) : Fin 2 → Nat :=
  let c64_i32_951 : BitVec 32 := 64#32
  let v1871 : BitVec 32 := Scalar.muli v1864 c64_i32_951
  let v1872 : BitVec 32 := v1871
  let v1873 : Index := Scalar.indexCast v1872
  let c0_952 : Index := 0#32
  ![v1873.toNat, 0]
def k0_off53 (v1830 : BitVec 32) (v1864 : BitVec 32) : Fin 3 → Nat :=
  let c1_i32_945 : BitVec 32 := 1#32
  let v1865 : BitVec 1 := Scalar.cmpi .sle v1830 c1_i32_945
  let c4_i32_946 : BitVec 32 := 4#32
  let v1866 : BitVec 1 := Scalar.cmpi .sgt v1864 c4_i32_946
  let v1867 : BitVec 1 := Scalar.ori v1865 v1866
  let c2_i32_950 : BitVec 32 := 2#32
  let c4_i32_947 : BitVec 32 := 4#32
  let v1868 : BitVec 1 := Scalar.cmpi .eq v1864 c4_i32_947
  let c1_i32_948 : BitVec 32 := 1#32
  let c0_i32_949 : BitVec 32 := 0#32
  let v1869 : BitVec 32 := Scalar.select v1868 c1_i32_948 c0_i32_949
  let v1870 : BitVec 32 := Scalar.select v1867 c2_i32_950 v1869
  let v1875 : Index := Scalar.indexCast v1870
  let c0_953 : Index := 0#32
  let c0_954 : Index := 0#32
  ![v1875.toNat, 0, 0]
def k0_off54 (v1864 : BitVec 32) : Fin 3 → Nat :=
  let v1879 : Index := Scalar.indexCast v1864
  let c0_955 : Index := 0#32
  let c0_956 : Index := 0#32
  ![v1879.toNat, 0, 0]

def k0_chk12 (v1830 : BitVec 32) (v1864 : BitVec 32) : Prop :=
  (64 ∣ (k0_mult12 v1864).toNat) ∧
  (∀ a, (k0_off52 v1864) a + S64x128.size a ≤ S512x128.size a) ∧
  (∀ a, (k0_off53 v1830 v1864) a + S1x64x128.size a ≤ S3x64x128.size a) ∧
  (∀ a, (k0_off54 v1864) a + S1x128x128.size a ≤ S8x128x128.size a)
theorem k0_mult12_dvd : ∀ (v1830 : BitVec 32) (v1864 : BitVec 32) (k0_hw12 : k0_chk12 v1830 v1864), 64 ∣ (k0_mult12 v1864).toNat := fun v1830 v1864 k0_hw12 => k0_hw12.1
theorem k0_off52_inb : ∀ (v1830 : BitVec 32) (v1864 : BitVec 32) (k0_hw12 : k0_chk12 v1830 v1864), ∀ a, (k0_off52 v1864) a + S64x128.size a ≤ S512x128.size a := fun v1830 v1864 k0_hw12 => k0_hw12.2.1
theorem k0_off53_inb : ∀ (v1830 : BitVec 32) (v1864 : BitVec 32) (k0_hw12 : k0_chk12 v1830 v1864), ∀ a, (k0_off53 v1830 v1864) a + S1x64x128.size a ≤ S3x64x128.size a := fun v1830 v1864 k0_hw12 => k0_hw12.2.2.1
theorem k0_off54_inb : ∀ (v1830 : BitVec 32) (v1864 : BitVec 32) (k0_hw12 : k0_chk12 v1830 v1864), ∀ a, (k0_off54 v1864) a + S1x128x128.size a ≤ S8x128x128.size a := fun v1830 v1864 k0_hw12 => k0_hw12.2.2.2

def k0_off55 (i : grid0.Coords) : Fin 4 → Nat :=
  let arg0 : BitVec 32 := BitVec.ofNat 32 (i 0).val
  let v1882 : Index := Scalar.indexCast arg0
  let c2_957 : Index := 2#32
  let c4_958 : Index := 4#32
  let arg1 : BitVec 32 := BitVec.ofNat 32 (i 1).val
  let v1883 : Index := Scalar.indexCast arg1
  ![v1882.toNat, 2, 4, v1883.toNat]
def k0_mult13 (v1884 : BitVec 32) : BitVec 32 :=
  let c64_i32_965 : BitVec 32 := 64#32
  let v1891 : BitVec 32 := Scalar.muli v1884 c64_i32_965
  v1891

def k0_off56 (v1884 : BitVec 32) : Fin 2 → Nat :=
  let c64_i32_965 : BitVec 32 := 64#32
  let v1891 : BitVec 32 := Scalar.muli v1884 c64_i32_965
  let v1892 : BitVec 32 := v1891
  let v1893 : Index := Scalar.indexCast v1892
  let c0_966 : Index := 0#32
  ![v1893.toNat, 0]
def k0_off57 (v1830 : BitVec 32) (v1884 : BitVec 32) : Fin 3 → Nat :=
  let c2_i32_959 : BitVec 32 := 2#32
  let v1885 : BitVec 1 := Scalar.cmpi .sle v1830 c2_i32_959
  let c4_i32_960 : BitVec 32 := 4#32
  let v1886 : BitVec 1 := Scalar.cmpi .sgt v1884 c4_i32_960
  let v1887 : BitVec 1 := Scalar.ori v1885 v1886
  let c2_i32_964 : BitVec 32 := 2#32
  let c4_i32_961 : BitVec 32 := 4#32
  let v1888 : BitVec 1 := Scalar.cmpi .eq v1884 c4_i32_961
  let c1_i32_962 : BitVec 32 := 1#32
  let c0_i32_963 : BitVec 32 := 0#32
  let v1889 : BitVec 32 := Scalar.select v1888 c1_i32_962 c0_i32_963
  let v1890 : BitVec 32 := Scalar.select v1887 c2_i32_964 v1889
  let v1895 : Index := Scalar.indexCast v1890
  let c0_967 : Index := 0#32
  let c0_968 : Index := 0#32
  ![v1895.toNat, 0, 0]
def k0_off58 (v1884 : BitVec 32) : Fin 3 → Nat :=
  let v1899 : Index := Scalar.indexCast v1884
  let c0_969 : Index := 0#32
  let c0_970 : Index := 0#32
  ![v1899.toNat, 0, 0]

def k0_chk13 (v1830 : BitVec 32) (v1884 : BitVec 32) : Prop :=
  (64 ∣ (k0_mult13 v1884).toNat) ∧
  (∀ a, (k0_off56 v1884) a + S64x128.size a ≤ S512x128.size a) ∧
  (∀ a, (k0_off57 v1830 v1884) a + S1x64x128.size a ≤ S3x64x128.size a) ∧
  (∀ a, (k0_off58 v1884) a + S1x128x128.size a ≤ S8x128x128.size a)
theorem k0_mult13_dvd : ∀ (v1830 : BitVec 32) (v1884 : BitVec 32) (k0_hw13 : k0_chk13 v1830 v1884), 64 ∣ (k0_mult13 v1884).toNat := fun v1830 v1884 k0_hw13 => k0_hw13.1
theorem k0_off56_inb : ∀ (v1830 : BitVec 32) (v1884 : BitVec 32) (k0_hw13 : k0_chk13 v1830 v1884), ∀ a, (k0_off56 v1884) a + S64x128.size a ≤ S512x128.size a := fun v1830 v1884 k0_hw13 => k0_hw13.2.1
theorem k0_off57_inb : ∀ (v1830 : BitVec 32) (v1884 : BitVec 32) (k0_hw13 : k0_chk13 v1830 v1884), ∀ a, (k0_off57 v1830 v1884) a + S1x64x128.size a ≤ S3x64x128.size a := fun v1830 v1884 k0_hw13 => k0_hw13.2.2.1
theorem k0_off58_inb : ∀ (v1830 : BitVec 32) (v1884 : BitVec 32) (k0_hw13 : k0_chk13 v1830 v1884), ∀ a, (k0_off58 v1884) a + S1x128x128.size a ≤ S8x128x128.size a := fun v1830 v1884 k0_hw13 => k0_hw13.2.2.2

def k0_off59 (i : grid0.Coords) : Fin 4 → Nat :=
  let arg0 : BitVec 32 := BitVec.ofNat 32 (i 0).val
  let v1902 : Index := Scalar.indexCast arg0
  let c3_971 : Index := 3#32
  let c4_972 : Index := 4#32
  let arg1 : BitVec 32 := BitVec.ofNat 32 (i 1).val
  let v1903 : Index := Scalar.indexCast arg1
  ![v1902.toNat, 3, 4, v1903.toNat]
def k0_mult14 (v1904 : BitVec 32) : BitVec 32 :=
  let c64_i32_979 : BitVec 32 := 64#32
  let v1911 : BitVec 32 := Scalar.muli v1904 c64_i32_979
  v1911

def k0_off60 (v1904 : BitVec 32) : Fin 2 → Nat :=
  let c64_i32_979 : BitVec 32 := 64#32
  let v1911 : BitVec 32 := Scalar.muli v1904 c64_i32_979
  let v1912 : BitVec 32 := v1911
  let v1913 : Index := Scalar.indexCast v1912
  let c0_980 : Index := 0#32
  ![v1913.toNat, 0]
def k0_off61 (v1830 : BitVec 32) (v1904 : BitVec 32) : Fin 3 → Nat :=
  let c3_i32_973 : BitVec 32 := 3#32
  let v1905 : BitVec 1 := Scalar.cmpi .sle v1830 c3_i32_973
  let c4_i32_974 : BitVec 32 := 4#32
  let v1906 : BitVec 1 := Scalar.cmpi .sgt v1904 c4_i32_974
  let v1907 : BitVec 1 := Scalar.ori v1905 v1906
  let c2_i32_978 : BitVec 32 := 2#32
  let c4_i32_975 : BitVec 32 := 4#32
  let v1908 : BitVec 1 := Scalar.cmpi .eq v1904 c4_i32_975
  let c1_i32_976 : BitVec 32 := 1#32
  let c0_i32_977 : BitVec 32 := 0#32
  let v1909 : BitVec 32 := Scalar.select v1908 c1_i32_976 c0_i32_977
  let v1910 : BitVec 32 := Scalar.select v1907 c2_i32_978 v1909
  let v1915 : Index := Scalar.indexCast v1910
  let c0_981 : Index := 0#32
  let c0_982 : Index := 0#32
  ![v1915.toNat, 0, 0]
def k0_off62 (v1904 : BitVec 32) : Fin 3 → Nat :=
  let v1919 : Index := Scalar.indexCast v1904
  let c0_983 : Index := 0#32
  let c0_984 : Index := 0#32
  ![v1919.toNat, 0, 0]

def k0_chk14 (v1830 : BitVec 32) (v1904 : BitVec 32) : Prop :=
  (64 ∣ (k0_mult14 v1904).toNat) ∧
  (∀ a, (k0_off60 v1904) a + S64x128.size a ≤ S512x128.size a) ∧
  (∀ a, (k0_off61 v1830 v1904) a + S1x64x128.size a ≤ S3x64x128.size a) ∧
  (∀ a, (k0_off62 v1904) a + S1x128x128.size a ≤ S8x128x128.size a)
theorem k0_mult14_dvd : ∀ (v1830 : BitVec 32) (v1904 : BitVec 32) (k0_hw14 : k0_chk14 v1830 v1904), 64 ∣ (k0_mult14 v1904).toNat := fun v1830 v1904 k0_hw14 => k0_hw14.1
theorem k0_off60_inb : ∀ (v1830 : BitVec 32) (v1904 : BitVec 32) (k0_hw14 : k0_chk14 v1830 v1904), ∀ a, (k0_off60 v1904) a + S64x128.size a ≤ S512x128.size a := fun v1830 v1904 k0_hw14 => k0_hw14.2.1
theorem k0_off61_inb : ∀ (v1830 : BitVec 32) (v1904 : BitVec 32) (k0_hw14 : k0_chk14 v1830 v1904), ∀ a, (k0_off61 v1830 v1904) a + S1x64x128.size a ≤ S3x64x128.size a := fun v1830 v1904 k0_hw14 => k0_hw14.2.2.1
theorem k0_off62_inb : ∀ (v1830 : BitVec 32) (v1904 : BitVec 32) (k0_hw14 : k0_chk14 v1830 v1904), ∀ a, (k0_off62 v1904) a + S1x128x128.size a ≤ S8x128x128.size a := fun v1830 v1904 k0_hw14 => k0_hw14.2.2.2

def k0_off63 (i : grid0.Coords) : Fin 4 → Nat :=
  let arg0 : BitVec 32 := BitVec.ofNat 32 (i 0).val
  let v1922 : Index := Scalar.indexCast arg0
  let c4_985 : Index := 4#32
  let c4_986 : Index := 4#32
  let arg1 : BitVec 32 := BitVec.ofNat 32 (i 1).val
  let v1923 : Index := Scalar.indexCast arg1
  ![v1922.toNat, 4, 4, v1923.toNat]
def k0_mult15 (v1924 : BitVec 32) : BitVec 32 :=
  let c64_i32_993 : BitVec 32 := 64#32
  let v1931 : BitVec 32 := Scalar.muli v1924 c64_i32_993
  v1931

def k0_off64 (v1924 : BitVec 32) : Fin 2 → Nat :=
  let c64_i32_993 : BitVec 32 := 64#32
  let v1931 : BitVec 32 := Scalar.muli v1924 c64_i32_993
  let v1932 : BitVec 32 := v1931
  let v1933 : Index := Scalar.indexCast v1932
  let c0_994 : Index := 0#32
  ![v1933.toNat, 0]
def k0_off65 (v1830 : BitVec 32) (v1924 : BitVec 32) : Fin 3 → Nat :=
  let c4_i32_987 : BitVec 32 := 4#32
  let v1925 : BitVec 1 := Scalar.cmpi .sle v1830 c4_i32_987
  let c4_i32_988 : BitVec 32 := 4#32
  let v1926 : BitVec 1 := Scalar.cmpi .sgt v1924 c4_i32_988
  let v1927 : BitVec 1 := Scalar.ori v1925 v1926
  let c2_i32_992 : BitVec 32 := 2#32
  let c4_i32_989 : BitVec 32 := 4#32
  let v1928 : BitVec 1 := Scalar.cmpi .eq v1924 c4_i32_989
  let c1_i32_990 : BitVec 32 := 1#32
  let c0_i32_991 : BitVec 32 := 0#32
  let v1929 : BitVec 32 := Scalar.select v1928 c1_i32_990 c0_i32_991
  let v1930 : BitVec 32 := Scalar.select v1927 c2_i32_992 v1929
  let v1935 : Index := Scalar.indexCast v1930
  let c0_995 : Index := 0#32
  let c0_996 : Index := 0#32
  ![v1935.toNat, 0, 0]
def k0_off66 (v1924 : BitVec 32) : Fin 3 → Nat :=
  let v1939 : Index := Scalar.indexCast v1924
  let c0_997 : Index := 0#32
  let c0_998 : Index := 0#32
  ![v1939.toNat, 0, 0]

def k0_chk15 (v1830 : BitVec 32) (v1924 : BitVec 32) : Prop :=
  (64 ∣ (k0_mult15 v1924).toNat) ∧
  (∀ a, (k0_off64 v1924) a + S64x128.size a ≤ S512x128.size a) ∧
  (∀ a, (k0_off65 v1830 v1924) a + S1x64x128.size a ≤ S3x64x128.size a) ∧
  (∀ a, (k0_off66 v1924) a + S1x128x128.size a ≤ S8x128x128.size a)
theorem k0_mult15_dvd : ∀ (v1830 : BitVec 32) (v1924 : BitVec 32) (k0_hw15 : k0_chk15 v1830 v1924), 64 ∣ (k0_mult15 v1924).toNat := fun v1830 v1924 k0_hw15 => k0_hw15.1
theorem k0_off64_inb : ∀ (v1830 : BitVec 32) (v1924 : BitVec 32) (k0_hw15 : k0_chk15 v1830 v1924), ∀ a, (k0_off64 v1924) a + S64x128.size a ≤ S512x128.size a := fun v1830 v1924 k0_hw15 => k0_hw15.2.1
theorem k0_off65_inb : ∀ (v1830 : BitVec 32) (v1924 : BitVec 32) (k0_hw15 : k0_chk15 v1830 v1924), ∀ a, (k0_off65 v1830 v1924) a + S1x64x128.size a ≤ S3x64x128.size a := fun v1830 v1924 k0_hw15 => k0_hw15.2.2.1
theorem k0_off66_inb : ∀ (v1830 : BitVec 32) (v1924 : BitVec 32) (k0_hw15 : k0_chk15 v1830 v1924), ∀ a, (k0_off66 v1924) a + S1x128x128.size a ≤ S8x128x128.size a := fun v1830 v1924 k0_hw15 => k0_hw15.2.2.2

def k0_off67 (i : grid0.Coords) : Fin 3 → Nat :=
  let arg0 : BitVec 32 := BitVec.ofNat 32 (i 0).val
  let v2085 : Index := Scalar.indexCast arg0
  let c5_1054 : Index := 5#32
  let arg1 : BitVec 32 := BitVec.ofNat 32 (i 1).val
  let v2086 : Index := Scalar.indexCast arg1
  ![v2085.toNat, 5, v2086.toNat]
def k0_off68 (i : grid0.Coords) : Fin 4 → Nat :=
  let arg0 : BitVec 32 := BitVec.ofNat 32 (i 0).val
  let v2099 : Index := Scalar.indexCast arg0
  let c0_1068 : Index := 0#32
  let c5_1069 : Index := 5#32
  let arg1 : BitVec 32 := BitVec.ofNat 32 (i 1).val
  let v2100 : Index := Scalar.indexCast arg1
  ![v2099.toNat, 0, 5, v2100.toNat]
def k0_mult16 (v2101 : BitVec 32) : BitVec 32 :=
  let c64_i32_1075 : BitVec 32 := 64#32
  let v2108 : BitVec 32 := Scalar.muli v2101 c64_i32_1075
  v2108

def k0_off69 (v2101 : BitVec 32) : Fin 2 → Nat :=
  let c64_i32_1075 : BitVec 32 := 64#32
  let v2108 : BitVec 32 := Scalar.muli v2101 c64_i32_1075
  let v2109 : BitVec 32 := v2108
  let v2110 : Index := Scalar.indexCast v2109
  let c0_1076 : Index := 0#32
  ![v2110.toNat, 0]
def k0_off70 (v2087 : BitVec 32) (v2101 : BitVec 32) : Fin 3 → Nat :=
  let c0_i32_1070 : BitVec 32 := 0#32
  let v2102 : BitVec 1 := Scalar.cmpi .sle v2087 c0_i32_1070
  let c5_i32 : BitVec 32 := 5#32
  let v2103 : BitVec 1 := Scalar.cmpi .sgt v2101 c5_i32
  let v2104 : BitVec 1 := Scalar.ori v2102 v2103
  let c2_i32_1074 : BitVec 32 := 2#32
  let c5_i32_1071 : BitVec 32 := 5#32
  let v2105 : BitVec 1 := Scalar.cmpi .eq v2101 c5_i32_1071
  let c1_i32_1072 : BitVec 32 := 1#32
  let c0_i32_1073 : BitVec 32 := 0#32
  let v2106 : BitVec 32 := Scalar.select v2105 c1_i32_1072 c0_i32_1073
  let v2107 : BitVec 32 := Scalar.select v2104 c2_i32_1074 v2106
  let v2112 : Index := Scalar.indexCast v2107
  let c0_1077 : Index := 0#32
  let c0_1078 : Index := 0#32
  ![v2112.toNat, 0, 0]
def k0_off71 (v2101 : BitVec 32) : Fin 3 → Nat :=
  let v2116 : Index := Scalar.indexCast v2101
  let c0_1079 : Index := 0#32
  let c0_1080 : Index := 0#32
  ![v2116.toNat, 0, 0]

def k0_chk16 (v2087 : BitVec 32) (v2101 : BitVec 32) : Prop :=
  (64 ∣ (k0_mult16 v2101).toNat) ∧
  (∀ a, (k0_off69 v2101) a + S64x128.size a ≤ S512x128.size a) ∧
  (∀ a, (k0_off70 v2087 v2101) a + S1x64x128.size a ≤ S3x64x128.size a) ∧
  (∀ a, (k0_off71 v2101) a + S1x128x128.size a ≤ S8x128x128.size a)
theorem k0_mult16_dvd : ∀ (v2087 : BitVec 32) (v2101 : BitVec 32) (k0_hw16 : k0_chk16 v2087 v2101), 64 ∣ (k0_mult16 v2101).toNat := fun v2087 v2101 k0_hw16 => k0_hw16.1
theorem k0_off69_inb : ∀ (v2087 : BitVec 32) (v2101 : BitVec 32) (k0_hw16 : k0_chk16 v2087 v2101), ∀ a, (k0_off69 v2101) a + S64x128.size a ≤ S512x128.size a := fun v2087 v2101 k0_hw16 => k0_hw16.2.1
theorem k0_off70_inb : ∀ (v2087 : BitVec 32) (v2101 : BitVec 32) (k0_hw16 : k0_chk16 v2087 v2101), ∀ a, (k0_off70 v2087 v2101) a + S1x64x128.size a ≤ S3x64x128.size a := fun v2087 v2101 k0_hw16 => k0_hw16.2.2.1
theorem k0_off71_inb : ∀ (v2087 : BitVec 32) (v2101 : BitVec 32) (k0_hw16 : k0_chk16 v2087 v2101), ∀ a, (k0_off71 v2101) a + S1x128x128.size a ≤ S8x128x128.size a := fun v2087 v2101 k0_hw16 => k0_hw16.2.2.2

def k0_off72 (i : grid0.Coords) : Fin 4 → Nat :=
  let arg0 : BitVec 32 := BitVec.ofNat 32 (i 0).val
  let v2119 : Index := Scalar.indexCast arg0
  let c1_1081 : Index := 1#32
  let c5_1082 : Index := 5#32
  let arg1 : BitVec 32 := BitVec.ofNat 32 (i 1).val
  let v2120 : Index := Scalar.indexCast arg1
  ![v2119.toNat, 1, 5, v2120.toNat]
def k0_mult17 (v2121 : BitVec 32) : BitVec 32 :=
  let c64_i32_1089 : BitVec 32 := 64#32
  let v2128 : BitVec 32 := Scalar.muli v2121 c64_i32_1089
  v2128

def k0_off73 (v2121 : BitVec 32) : Fin 2 → Nat :=
  let c64_i32_1089 : BitVec 32 := 64#32
  let v2128 : BitVec 32 := Scalar.muli v2121 c64_i32_1089
  let v2129 : BitVec 32 := v2128
  let v2130 : Index := Scalar.indexCast v2129
  let c0_1090 : Index := 0#32
  ![v2130.toNat, 0]
def k0_off74 (v2087 : BitVec 32) (v2121 : BitVec 32) : Fin 3 → Nat :=
  let c1_i32_1083 : BitVec 32 := 1#32
  let v2122 : BitVec 1 := Scalar.cmpi .sle v2087 c1_i32_1083
  let c5_i32_1084 : BitVec 32 := 5#32
  let v2123 : BitVec 1 := Scalar.cmpi .sgt v2121 c5_i32_1084
  let v2124 : BitVec 1 := Scalar.ori v2122 v2123
  let c2_i32_1088 : BitVec 32 := 2#32
  let c5_i32_1085 : BitVec 32 := 5#32
  let v2125 : BitVec 1 := Scalar.cmpi .eq v2121 c5_i32_1085
  let c1_i32_1086 : BitVec 32 := 1#32
  let c0_i32_1087 : BitVec 32 := 0#32
  let v2126 : BitVec 32 := Scalar.select v2125 c1_i32_1086 c0_i32_1087
  let v2127 : BitVec 32 := Scalar.select v2124 c2_i32_1088 v2126
  let v2132 : Index := Scalar.indexCast v2127
  let c0_1091 : Index := 0#32
  let c0_1092 : Index := 0#32
  ![v2132.toNat, 0, 0]
def k0_off75 (v2121 : BitVec 32) : Fin 3 → Nat :=
  let v2136 : Index := Scalar.indexCast v2121
  let c0_1093 : Index := 0#32
  let c0_1094 : Index := 0#32
  ![v2136.toNat, 0, 0]

def k0_chk17 (v2087 : BitVec 32) (v2121 : BitVec 32) : Prop :=
  (64 ∣ (k0_mult17 v2121).toNat) ∧
  (∀ a, (k0_off73 v2121) a + S64x128.size a ≤ S512x128.size a) ∧
  (∀ a, (k0_off74 v2087 v2121) a + S1x64x128.size a ≤ S3x64x128.size a) ∧
  (∀ a, (k0_off75 v2121) a + S1x128x128.size a ≤ S8x128x128.size a)
theorem k0_mult17_dvd : ∀ (v2087 : BitVec 32) (v2121 : BitVec 32) (k0_hw17 : k0_chk17 v2087 v2121), 64 ∣ (k0_mult17 v2121).toNat := fun v2087 v2121 k0_hw17 => k0_hw17.1
theorem k0_off73_inb : ∀ (v2087 : BitVec 32) (v2121 : BitVec 32) (k0_hw17 : k0_chk17 v2087 v2121), ∀ a, (k0_off73 v2121) a + S64x128.size a ≤ S512x128.size a := fun v2087 v2121 k0_hw17 => k0_hw17.2.1
theorem k0_off74_inb : ∀ (v2087 : BitVec 32) (v2121 : BitVec 32) (k0_hw17 : k0_chk17 v2087 v2121), ∀ a, (k0_off74 v2087 v2121) a + S1x64x128.size a ≤ S3x64x128.size a := fun v2087 v2121 k0_hw17 => k0_hw17.2.2.1
theorem k0_off75_inb : ∀ (v2087 : BitVec 32) (v2121 : BitVec 32) (k0_hw17 : k0_chk17 v2087 v2121), ∀ a, (k0_off75 v2121) a + S1x128x128.size a ≤ S8x128x128.size a := fun v2087 v2121 k0_hw17 => k0_hw17.2.2.2

def k0_off76 (i : grid0.Coords) : Fin 4 → Nat :=
  let arg0 : BitVec 32 := BitVec.ofNat 32 (i 0).val
  let v2139 : Index := Scalar.indexCast arg0
  let c2_1095 : Index := 2#32
  let c5_1096 : Index := 5#32
  let arg1 : BitVec 32 := BitVec.ofNat 32 (i 1).val
  let v2140 : Index := Scalar.indexCast arg1
  ![v2139.toNat, 2, 5, v2140.toNat]
def k0_mult18 (v2141 : BitVec 32) : BitVec 32 :=
  let c64_i32_1103 : BitVec 32 := 64#32
  let v2148 : BitVec 32 := Scalar.muli v2141 c64_i32_1103
  v2148

def k0_off77 (v2141 : BitVec 32) : Fin 2 → Nat :=
  let c64_i32_1103 : BitVec 32 := 64#32
  let v2148 : BitVec 32 := Scalar.muli v2141 c64_i32_1103
  let v2149 : BitVec 32 := v2148
  let v2150 : Index := Scalar.indexCast v2149
  let c0_1104 : Index := 0#32
  ![v2150.toNat, 0]
def k0_off78 (v2087 : BitVec 32) (v2141 : BitVec 32) : Fin 3 → Nat :=
  let c2_i32_1097 : BitVec 32 := 2#32
  let v2142 : BitVec 1 := Scalar.cmpi .sle v2087 c2_i32_1097
  let c5_i32_1098 : BitVec 32 := 5#32
  let v2143 : BitVec 1 := Scalar.cmpi .sgt v2141 c5_i32_1098
  let v2144 : BitVec 1 := Scalar.ori v2142 v2143
  let c2_i32_1102 : BitVec 32 := 2#32
  let c5_i32_1099 : BitVec 32 := 5#32
  let v2145 : BitVec 1 := Scalar.cmpi .eq v2141 c5_i32_1099
  let c1_i32_1100 : BitVec 32 := 1#32
  let c0_i32_1101 : BitVec 32 := 0#32
  let v2146 : BitVec 32 := Scalar.select v2145 c1_i32_1100 c0_i32_1101
  let v2147 : BitVec 32 := Scalar.select v2144 c2_i32_1102 v2146
  let v2152 : Index := Scalar.indexCast v2147
  let c0_1105 : Index := 0#32
  let c0_1106 : Index := 0#32
  ![v2152.toNat, 0, 0]
def k0_off79 (v2141 : BitVec 32) : Fin 3 → Nat :=
  let v2156 : Index := Scalar.indexCast v2141
  let c0_1107 : Index := 0#32
  let c0_1108 : Index := 0#32
  ![v2156.toNat, 0, 0]

def k0_chk18 (v2087 : BitVec 32) (v2141 : BitVec 32) : Prop :=
  (64 ∣ (k0_mult18 v2141).toNat) ∧
  (∀ a, (k0_off77 v2141) a + S64x128.size a ≤ S512x128.size a) ∧
  (∀ a, (k0_off78 v2087 v2141) a + S1x64x128.size a ≤ S3x64x128.size a) ∧
  (∀ a, (k0_off79 v2141) a + S1x128x128.size a ≤ S8x128x128.size a)
theorem k0_mult18_dvd : ∀ (v2087 : BitVec 32) (v2141 : BitVec 32) (k0_hw18 : k0_chk18 v2087 v2141), 64 ∣ (k0_mult18 v2141).toNat := fun v2087 v2141 k0_hw18 => k0_hw18.1
theorem k0_off77_inb : ∀ (v2087 : BitVec 32) (v2141 : BitVec 32) (k0_hw18 : k0_chk18 v2087 v2141), ∀ a, (k0_off77 v2141) a + S64x128.size a ≤ S512x128.size a := fun v2087 v2141 k0_hw18 => k0_hw18.2.1
theorem k0_off78_inb : ∀ (v2087 : BitVec 32) (v2141 : BitVec 32) (k0_hw18 : k0_chk18 v2087 v2141), ∀ a, (k0_off78 v2087 v2141) a + S1x64x128.size a ≤ S3x64x128.size a := fun v2087 v2141 k0_hw18 => k0_hw18.2.2.1
theorem k0_off79_inb : ∀ (v2087 : BitVec 32) (v2141 : BitVec 32) (k0_hw18 : k0_chk18 v2087 v2141), ∀ a, (k0_off79 v2141) a + S1x128x128.size a ≤ S8x128x128.size a := fun v2087 v2141 k0_hw18 => k0_hw18.2.2.2

def k0_off80 (i : grid0.Coords) : Fin 4 → Nat :=
  let arg0 : BitVec 32 := BitVec.ofNat 32 (i 0).val
  let v2159 : Index := Scalar.indexCast arg0
  let c3_1109 : Index := 3#32
  let c5_1110 : Index := 5#32
  let arg1 : BitVec 32 := BitVec.ofNat 32 (i 1).val
  let v2160 : Index := Scalar.indexCast arg1
  ![v2159.toNat, 3, 5, v2160.toNat]
def k0_mult19 (v2161 : BitVec 32) : BitVec 32 :=
  let c64_i32_1117 : BitVec 32 := 64#32
  let v2168 : BitVec 32 := Scalar.muli v2161 c64_i32_1117
  v2168

def k0_off81 (v2161 : BitVec 32) : Fin 2 → Nat :=
  let c64_i32_1117 : BitVec 32 := 64#32
  let v2168 : BitVec 32 := Scalar.muli v2161 c64_i32_1117
  let v2169 : BitVec 32 := v2168
  let v2170 : Index := Scalar.indexCast v2169
  let c0_1118 : Index := 0#32
  ![v2170.toNat, 0]
def k0_off82 (v2087 : BitVec 32) (v2161 : BitVec 32) : Fin 3 → Nat :=
  let c3_i32_1111 : BitVec 32 := 3#32
  let v2162 : BitVec 1 := Scalar.cmpi .sle v2087 c3_i32_1111
  let c5_i32_1112 : BitVec 32 := 5#32
  let v2163 : BitVec 1 := Scalar.cmpi .sgt v2161 c5_i32_1112
  let v2164 : BitVec 1 := Scalar.ori v2162 v2163
  let c2_i32_1116 : BitVec 32 := 2#32
  let c5_i32_1113 : BitVec 32 := 5#32
  let v2165 : BitVec 1 := Scalar.cmpi .eq v2161 c5_i32_1113
  let c1_i32_1114 : BitVec 32 := 1#32
  let c0_i32_1115 : BitVec 32 := 0#32
  let v2166 : BitVec 32 := Scalar.select v2165 c1_i32_1114 c0_i32_1115
  let v2167 : BitVec 32 := Scalar.select v2164 c2_i32_1116 v2166
  let v2172 : Index := Scalar.indexCast v2167
  let c0_1119 : Index := 0#32
  let c0_1120 : Index := 0#32
  ![v2172.toNat, 0, 0]
def k0_off83 (v2161 : BitVec 32) : Fin 3 → Nat :=
  let v2176 : Index := Scalar.indexCast v2161
  let c0_1121 : Index := 0#32
  let c0_1122 : Index := 0#32
  ![v2176.toNat, 0, 0]

def k0_chk19 (v2087 : BitVec 32) (v2161 : BitVec 32) : Prop :=
  (64 ∣ (k0_mult19 v2161).toNat) ∧
  (∀ a, (k0_off81 v2161) a + S64x128.size a ≤ S512x128.size a) ∧
  (∀ a, (k0_off82 v2087 v2161) a + S1x64x128.size a ≤ S3x64x128.size a) ∧
  (∀ a, (k0_off83 v2161) a + S1x128x128.size a ≤ S8x128x128.size a)
theorem k0_mult19_dvd : ∀ (v2087 : BitVec 32) (v2161 : BitVec 32) (k0_hw19 : k0_chk19 v2087 v2161), 64 ∣ (k0_mult19 v2161).toNat := fun v2087 v2161 k0_hw19 => k0_hw19.1
theorem k0_off81_inb : ∀ (v2087 : BitVec 32) (v2161 : BitVec 32) (k0_hw19 : k0_chk19 v2087 v2161), ∀ a, (k0_off81 v2161) a + S64x128.size a ≤ S512x128.size a := fun v2087 v2161 k0_hw19 => k0_hw19.2.1
theorem k0_off82_inb : ∀ (v2087 : BitVec 32) (v2161 : BitVec 32) (k0_hw19 : k0_chk19 v2087 v2161), ∀ a, (k0_off82 v2087 v2161) a + S1x64x128.size a ≤ S3x64x128.size a := fun v2087 v2161 k0_hw19 => k0_hw19.2.2.1
theorem k0_off83_inb : ∀ (v2087 : BitVec 32) (v2161 : BitVec 32) (k0_hw19 : k0_chk19 v2087 v2161), ∀ a, (k0_off83 v2161) a + S1x128x128.size a ≤ S8x128x128.size a := fun v2087 v2161 k0_hw19 => k0_hw19.2.2.2

def k0_off84 (i : grid0.Coords) : Fin 4 → Nat :=
  let arg0 : BitVec 32 := BitVec.ofNat 32 (i 0).val
  let v2179 : Index := Scalar.indexCast arg0
  let c4_1123 : Index := 4#32
  let c5_1124 : Index := 5#32
  let arg1 : BitVec 32 := BitVec.ofNat 32 (i 1).val
  let v2180 : Index := Scalar.indexCast arg1
  ![v2179.toNat, 4, 5, v2180.toNat]
def k0_mult20 (v2181 : BitVec 32) : BitVec 32 :=
  let c64_i32_1131 : BitVec 32 := 64#32
  let v2188 : BitVec 32 := Scalar.muli v2181 c64_i32_1131
  v2188

def k0_off85 (v2181 : BitVec 32) : Fin 2 → Nat :=
  let c64_i32_1131 : BitVec 32 := 64#32
  let v2188 : BitVec 32 := Scalar.muli v2181 c64_i32_1131
  let v2189 : BitVec 32 := v2188
  let v2190 : Index := Scalar.indexCast v2189
  let c0_1132 : Index := 0#32
  ![v2190.toNat, 0]
def k0_off86 (v2087 : BitVec 32) (v2181 : BitVec 32) : Fin 3 → Nat :=
  let c4_i32_1125 : BitVec 32 := 4#32
  let v2182 : BitVec 1 := Scalar.cmpi .sle v2087 c4_i32_1125
  let c5_i32_1126 : BitVec 32 := 5#32
  let v2183 : BitVec 1 := Scalar.cmpi .sgt v2181 c5_i32_1126
  let v2184 : BitVec 1 := Scalar.ori v2182 v2183
  let c2_i32_1130 : BitVec 32 := 2#32
  let c5_i32_1127 : BitVec 32 := 5#32
  let v2185 : BitVec 1 := Scalar.cmpi .eq v2181 c5_i32_1127
  let c1_i32_1128 : BitVec 32 := 1#32
  let c0_i32_1129 : BitVec 32 := 0#32
  let v2186 : BitVec 32 := Scalar.select v2185 c1_i32_1128 c0_i32_1129
  let v2187 : BitVec 32 := Scalar.select v2184 c2_i32_1130 v2186
  let v2192 : Index := Scalar.indexCast v2187
  let c0_1133 : Index := 0#32
  let c0_1134 : Index := 0#32
  ![v2192.toNat, 0, 0]
def k0_off87 (v2181 : BitVec 32) : Fin 3 → Nat :=
  let v2196 : Index := Scalar.indexCast v2181
  let c0_1135 : Index := 0#32
  let c0_1136 : Index := 0#32
  ![v2196.toNat, 0, 0]

def k0_chk20 (v2087 : BitVec 32) (v2181 : BitVec 32) : Prop :=
  (64 ∣ (k0_mult20 v2181).toNat) ∧
  (∀ a, (k0_off85 v2181) a + S64x128.size a ≤ S512x128.size a) ∧
  (∀ a, (k0_off86 v2087 v2181) a + S1x64x128.size a ≤ S3x64x128.size a) ∧
  (∀ a, (k0_off87 v2181) a + S1x128x128.size a ≤ S8x128x128.size a)
theorem k0_mult20_dvd : ∀ (v2087 : BitVec 32) (v2181 : BitVec 32) (k0_hw20 : k0_chk20 v2087 v2181), 64 ∣ (k0_mult20 v2181).toNat := fun v2087 v2181 k0_hw20 => k0_hw20.1
theorem k0_off85_inb : ∀ (v2087 : BitVec 32) (v2181 : BitVec 32) (k0_hw20 : k0_chk20 v2087 v2181), ∀ a, (k0_off85 v2181) a + S64x128.size a ≤ S512x128.size a := fun v2087 v2181 k0_hw20 => k0_hw20.2.1
theorem k0_off86_inb : ∀ (v2087 : BitVec 32) (v2181 : BitVec 32) (k0_hw20 : k0_chk20 v2087 v2181), ∀ a, (k0_off86 v2087 v2181) a + S1x64x128.size a ≤ S3x64x128.size a := fun v2087 v2181 k0_hw20 => k0_hw20.2.2.1
theorem k0_off87_inb : ∀ (v2087 : BitVec 32) (v2181 : BitVec 32) (k0_hw20 : k0_chk20 v2087 v2181), ∀ a, (k0_off87 v2181) a + S1x128x128.size a ≤ S8x128x128.size a := fun v2087 v2181 k0_hw20 => k0_hw20.2.2.2

def k0_off88 (i : grid0.Coords) : Fin 4 → Nat :=
  let arg0 : BitVec 32 := BitVec.ofNat 32 (i 0).val
  let v2199 : Index := Scalar.indexCast arg0
  let c5_1137 : Index := 5#32
  let c5_1138 : Index := 5#32
  let arg1 : BitVec 32 := BitVec.ofNat 32 (i 1).val
  let v2200 : Index := Scalar.indexCast arg1
  ![v2199.toNat, 5, 5, v2200.toNat]
def k0_mult21 (v2201 : BitVec 32) : BitVec 32 :=
  let c64_i32_1145 : BitVec 32 := 64#32
  let v2208 : BitVec 32 := Scalar.muli v2201 c64_i32_1145
  v2208

def k0_off89 (v2201 : BitVec 32) : Fin 2 → Nat :=
  let c64_i32_1145 : BitVec 32 := 64#32
  let v2208 : BitVec 32 := Scalar.muli v2201 c64_i32_1145
  let v2209 : BitVec 32 := v2208
  let v2210 : Index := Scalar.indexCast v2209
  let c0_1146 : Index := 0#32
  ![v2210.toNat, 0]
def k0_off90 (v2087 : BitVec 32) (v2201 : BitVec 32) : Fin 3 → Nat :=
  let c5_i32_1139 : BitVec 32 := 5#32
  let v2202 : BitVec 1 := Scalar.cmpi .sle v2087 c5_i32_1139
  let c5_i32_1140 : BitVec 32 := 5#32
  let v2203 : BitVec 1 := Scalar.cmpi .sgt v2201 c5_i32_1140
  let v2204 : BitVec 1 := Scalar.ori v2202 v2203
  let c2_i32_1144 : BitVec 32 := 2#32
  let c5_i32_1141 : BitVec 32 := 5#32
  let v2205 : BitVec 1 := Scalar.cmpi .eq v2201 c5_i32_1141
  let c1_i32_1142 : BitVec 32 := 1#32
  let c0_i32_1143 : BitVec 32 := 0#32
  let v2206 : BitVec 32 := Scalar.select v2205 c1_i32_1142 c0_i32_1143
  let v2207 : BitVec 32 := Scalar.select v2204 c2_i32_1144 v2206
  let v2212 : Index := Scalar.indexCast v2207
  let c0_1147 : Index := 0#32
  let c0_1148 : Index := 0#32
  ![v2212.toNat, 0, 0]
def k0_off91 (v2201 : BitVec 32) : Fin 3 → Nat :=
  let v2216 : Index := Scalar.indexCast v2201
  let c0_1149 : Index := 0#32
  let c0_1150 : Index := 0#32
  ![v2216.toNat, 0, 0]

def k0_chk21 (v2087 : BitVec 32) (v2201 : BitVec 32) : Prop :=
  (64 ∣ (k0_mult21 v2201).toNat) ∧
  (∀ a, (k0_off89 v2201) a + S64x128.size a ≤ S512x128.size a) ∧
  (∀ a, (k0_off90 v2087 v2201) a + S1x64x128.size a ≤ S3x64x128.size a) ∧
  (∀ a, (k0_off91 v2201) a + S1x128x128.size a ≤ S8x128x128.size a)
theorem k0_mult21_dvd : ∀ (v2087 : BitVec 32) (v2201 : BitVec 32) (k0_hw21 : k0_chk21 v2087 v2201), 64 ∣ (k0_mult21 v2201).toNat := fun v2087 v2201 k0_hw21 => k0_hw21.1
theorem k0_off89_inb : ∀ (v2087 : BitVec 32) (v2201 : BitVec 32) (k0_hw21 : k0_chk21 v2087 v2201), ∀ a, (k0_off89 v2201) a + S64x128.size a ≤ S512x128.size a := fun v2087 v2201 k0_hw21 => k0_hw21.2.1
theorem k0_off90_inb : ∀ (v2087 : BitVec 32) (v2201 : BitVec 32) (k0_hw21 : k0_chk21 v2087 v2201), ∀ a, (k0_off90 v2087 v2201) a + S1x64x128.size a ≤ S3x64x128.size a := fun v2087 v2201 k0_hw21 => k0_hw21.2.2.1
theorem k0_off91_inb : ∀ (v2087 : BitVec 32) (v2201 : BitVec 32) (k0_hw21 : k0_chk21 v2087 v2201), ∀ a, (k0_off91 v2201) a + S1x128x128.size a ≤ S8x128x128.size a := fun v2087 v2201 k0_hw21 => k0_hw21.2.2.2

def k0_off92 (i : grid0.Coords) : Fin 3 → Nat :=
  let arg0 : BitVec 32 := BitVec.ofNat 32 (i 0).val
  let v2361 : Index := Scalar.indexCast arg0
  let c6_1205 : Index := 6#32
  let arg1 : BitVec 32 := BitVec.ofNat 32 (i 1).val
  let v2362 : Index := Scalar.indexCast arg1
  ![v2361.toNat, 6, v2362.toNat]
def k0_off93 (i : grid0.Coords) : Fin 4 → Nat :=
  let arg0 : BitVec 32 := BitVec.ofNat 32 (i 0).val
  let v2375 : Index := Scalar.indexCast arg0
  let c0_1220 : Index := 0#32
  let c6_1221 : Index := 6#32
  let arg1 : BitVec 32 := BitVec.ofNat 32 (i 1).val
  let v2376 : Index := Scalar.indexCast arg1
  ![v2375.toNat, 0, 6, v2376.toNat]
def k0_mult22 (v2377 : BitVec 32) : BitVec 32 :=
  let c64_i32_1227 : BitVec 32 := 64#32
  let v2384 : BitVec 32 := Scalar.muli v2377 c64_i32_1227
  v2384

def k0_off94 (v2377 : BitVec 32) : Fin 2 → Nat :=
  let c64_i32_1227 : BitVec 32 := 64#32
  let v2384 : BitVec 32 := Scalar.muli v2377 c64_i32_1227
  let v2385 : BitVec 32 := v2384
  let v2386 : Index := Scalar.indexCast v2385
  let c0_1228 : Index := 0#32
  ![v2386.toNat, 0]
def k0_off95 (v2363 : BitVec 32) (v2377 : BitVec 32) : Fin 3 → Nat :=
  let c0_i32_1222 : BitVec 32 := 0#32
  let v2378 : BitVec 1 := Scalar.cmpi .sle v2363 c0_i32_1222
  let c6_i32 : BitVec 32 := 6#32
  let v2379 : BitVec 1 := Scalar.cmpi .sgt v2377 c6_i32
  let v2380 : BitVec 1 := Scalar.ori v2378 v2379
  let c2_i32_1226 : BitVec 32 := 2#32
  let c6_i32_1223 : BitVec 32 := 6#32
  let v2381 : BitVec 1 := Scalar.cmpi .eq v2377 c6_i32_1223
  let c1_i32_1224 : BitVec 32 := 1#32
  let c0_i32_1225 : BitVec 32 := 0#32
  let v2382 : BitVec 32 := Scalar.select v2381 c1_i32_1224 c0_i32_1225
  let v2383 : BitVec 32 := Scalar.select v2380 c2_i32_1226 v2382
  let v2388 : Index := Scalar.indexCast v2383
  let c0_1229 : Index := 0#32
  let c0_1230 : Index := 0#32
  ![v2388.toNat, 0, 0]
def k0_off96 (v2377 : BitVec 32) : Fin 3 → Nat :=
  let v2392 : Index := Scalar.indexCast v2377
  let c0_1231 : Index := 0#32
  let c0_1232 : Index := 0#32
  ![v2392.toNat, 0, 0]

def k0_chk22 (v2363 : BitVec 32) (v2377 : BitVec 32) : Prop :=
  (64 ∣ (k0_mult22 v2377).toNat) ∧
  (∀ a, (k0_off94 v2377) a + S64x128.size a ≤ S512x128.size a) ∧
  (∀ a, (k0_off95 v2363 v2377) a + S1x64x128.size a ≤ S3x64x128.size a) ∧
  (∀ a, (k0_off96 v2377) a + S1x128x128.size a ≤ S8x128x128.size a)
theorem k0_mult22_dvd : ∀ (v2363 : BitVec 32) (v2377 : BitVec 32) (k0_hw22 : k0_chk22 v2363 v2377), 64 ∣ (k0_mult22 v2377).toNat := fun v2363 v2377 k0_hw22 => k0_hw22.1
theorem k0_off94_inb : ∀ (v2363 : BitVec 32) (v2377 : BitVec 32) (k0_hw22 : k0_chk22 v2363 v2377), ∀ a, (k0_off94 v2377) a + S64x128.size a ≤ S512x128.size a := fun v2363 v2377 k0_hw22 => k0_hw22.2.1
theorem k0_off95_inb : ∀ (v2363 : BitVec 32) (v2377 : BitVec 32) (k0_hw22 : k0_chk22 v2363 v2377), ∀ a, (k0_off95 v2363 v2377) a + S1x64x128.size a ≤ S3x64x128.size a := fun v2363 v2377 k0_hw22 => k0_hw22.2.2.1
theorem k0_off96_inb : ∀ (v2363 : BitVec 32) (v2377 : BitVec 32) (k0_hw22 : k0_chk22 v2363 v2377), ∀ a, (k0_off96 v2377) a + S1x128x128.size a ≤ S8x128x128.size a := fun v2363 v2377 k0_hw22 => k0_hw22.2.2.2

def k0_off97 (i : grid0.Coords) : Fin 4 → Nat :=
  let arg0 : BitVec 32 := BitVec.ofNat 32 (i 0).val
  let v2395 : Index := Scalar.indexCast arg0
  let c1_1233 : Index := 1#32
  let c6_1234 : Index := 6#32
  let arg1 : BitVec 32 := BitVec.ofNat 32 (i 1).val
  let v2396 : Index := Scalar.indexCast arg1
  ![v2395.toNat, 1, 6, v2396.toNat]
def k0_mult23 (v2397 : BitVec 32) : BitVec 32 :=
  let c64_i32_1241 : BitVec 32 := 64#32
  let v2404 : BitVec 32 := Scalar.muli v2397 c64_i32_1241
  v2404

def k0_off98 (v2397 : BitVec 32) : Fin 2 → Nat :=
  let c64_i32_1241 : BitVec 32 := 64#32
  let v2404 : BitVec 32 := Scalar.muli v2397 c64_i32_1241
  let v2405 : BitVec 32 := v2404
  let v2406 : Index := Scalar.indexCast v2405
  let c0_1242 : Index := 0#32
  ![v2406.toNat, 0]
def k0_off99 (v2363 : BitVec 32) (v2397 : BitVec 32) : Fin 3 → Nat :=
  let c1_i32_1235 : BitVec 32 := 1#32
  let v2398 : BitVec 1 := Scalar.cmpi .sle v2363 c1_i32_1235
  let c6_i32_1236 : BitVec 32 := 6#32
  let v2399 : BitVec 1 := Scalar.cmpi .sgt v2397 c6_i32_1236
  let v2400 : BitVec 1 := Scalar.ori v2398 v2399
  let c2_i32_1240 : BitVec 32 := 2#32
  let c6_i32_1237 : BitVec 32 := 6#32
  let v2401 : BitVec 1 := Scalar.cmpi .eq v2397 c6_i32_1237
  let c1_i32_1238 : BitVec 32 := 1#32
  let c0_i32_1239 : BitVec 32 := 0#32
  let v2402 : BitVec 32 := Scalar.select v2401 c1_i32_1238 c0_i32_1239
  let v2403 : BitVec 32 := Scalar.select v2400 c2_i32_1240 v2402
  let v2408 : Index := Scalar.indexCast v2403
  let c0_1243 : Index := 0#32
  let c0_1244 : Index := 0#32
  ![v2408.toNat, 0, 0]
def k0_off100 (v2397 : BitVec 32) : Fin 3 → Nat :=
  let v2412 : Index := Scalar.indexCast v2397
  let c0_1245 : Index := 0#32
  let c0_1246 : Index := 0#32
  ![v2412.toNat, 0, 0]

def k0_chk23 (v2363 : BitVec 32) (v2397 : BitVec 32) : Prop :=
  (64 ∣ (k0_mult23 v2397).toNat) ∧
  (∀ a, (k0_off98 v2397) a + S64x128.size a ≤ S512x128.size a) ∧
  (∀ a, (k0_off99 v2363 v2397) a + S1x64x128.size a ≤ S3x64x128.size a) ∧
  (∀ a, (k0_off100 v2397) a + S1x128x128.size a ≤ S8x128x128.size a)
theorem k0_mult23_dvd : ∀ (v2363 : BitVec 32) (v2397 : BitVec 32) (k0_hw23 : k0_chk23 v2363 v2397), 64 ∣ (k0_mult23 v2397).toNat := fun v2363 v2397 k0_hw23 => k0_hw23.1
theorem k0_off98_inb : ∀ (v2363 : BitVec 32) (v2397 : BitVec 32) (k0_hw23 : k0_chk23 v2363 v2397), ∀ a, (k0_off98 v2397) a + S64x128.size a ≤ S512x128.size a := fun v2363 v2397 k0_hw23 => k0_hw23.2.1
theorem k0_off99_inb : ∀ (v2363 : BitVec 32) (v2397 : BitVec 32) (k0_hw23 : k0_chk23 v2363 v2397), ∀ a, (k0_off99 v2363 v2397) a + S1x64x128.size a ≤ S3x64x128.size a := fun v2363 v2397 k0_hw23 => k0_hw23.2.2.1
theorem k0_off100_inb : ∀ (v2363 : BitVec 32) (v2397 : BitVec 32) (k0_hw23 : k0_chk23 v2363 v2397), ∀ a, (k0_off100 v2397) a + S1x128x128.size a ≤ S8x128x128.size a := fun v2363 v2397 k0_hw23 => k0_hw23.2.2.2

def k0_off101 (i : grid0.Coords) : Fin 4 → Nat :=
  let arg0 : BitVec 32 := BitVec.ofNat 32 (i 0).val
  let v2415 : Index := Scalar.indexCast arg0
  let c2_1247 : Index := 2#32
  let c6_1248 : Index := 6#32
  let arg1 : BitVec 32 := BitVec.ofNat 32 (i 1).val
  let v2416 : Index := Scalar.indexCast arg1
  ![v2415.toNat, 2, 6, v2416.toNat]
def k0_mult24 (v2417 : BitVec 32) : BitVec 32 :=
  let c64_i32_1255 : BitVec 32 := 64#32
  let v2424 : BitVec 32 := Scalar.muli v2417 c64_i32_1255
  v2424

def k0_off102 (v2417 : BitVec 32) : Fin 2 → Nat :=
  let c64_i32_1255 : BitVec 32 := 64#32
  let v2424 : BitVec 32 := Scalar.muli v2417 c64_i32_1255
  let v2425 : BitVec 32 := v2424
  let v2426 : Index := Scalar.indexCast v2425
  let c0_1256 : Index := 0#32
  ![v2426.toNat, 0]
def k0_off103 (v2363 : BitVec 32) (v2417 : BitVec 32) : Fin 3 → Nat :=
  let c2_i32_1249 : BitVec 32 := 2#32
  let v2418 : BitVec 1 := Scalar.cmpi .sle v2363 c2_i32_1249
  let c6_i32_1250 : BitVec 32 := 6#32
  let v2419 : BitVec 1 := Scalar.cmpi .sgt v2417 c6_i32_1250
  let v2420 : BitVec 1 := Scalar.ori v2418 v2419
  let c2_i32_1254 : BitVec 32 := 2#32
  let c6_i32_1251 : BitVec 32 := 6#32
  let v2421 : BitVec 1 := Scalar.cmpi .eq v2417 c6_i32_1251
  let c1_i32_1252 : BitVec 32 := 1#32
  let c0_i32_1253 : BitVec 32 := 0#32
  let v2422 : BitVec 32 := Scalar.select v2421 c1_i32_1252 c0_i32_1253
  let v2423 : BitVec 32 := Scalar.select v2420 c2_i32_1254 v2422
  let v2428 : Index := Scalar.indexCast v2423
  let c0_1257 : Index := 0#32
  let c0_1258 : Index := 0#32
  ![v2428.toNat, 0, 0]
def k0_off104 (v2417 : BitVec 32) : Fin 3 → Nat :=
  let v2432 : Index := Scalar.indexCast v2417
  let c0_1259 : Index := 0#32
  let c0_1260 : Index := 0#32
  ![v2432.toNat, 0, 0]

def k0_chk24 (v2363 : BitVec 32) (v2417 : BitVec 32) : Prop :=
  (64 ∣ (k0_mult24 v2417).toNat) ∧
  (∀ a, (k0_off102 v2417) a + S64x128.size a ≤ S512x128.size a) ∧
  (∀ a, (k0_off103 v2363 v2417) a + S1x64x128.size a ≤ S3x64x128.size a) ∧
  (∀ a, (k0_off104 v2417) a + S1x128x128.size a ≤ S8x128x128.size a)
theorem k0_mult24_dvd : ∀ (v2363 : BitVec 32) (v2417 : BitVec 32) (k0_hw24 : k0_chk24 v2363 v2417), 64 ∣ (k0_mult24 v2417).toNat := fun v2363 v2417 k0_hw24 => k0_hw24.1
theorem k0_off102_inb : ∀ (v2363 : BitVec 32) (v2417 : BitVec 32) (k0_hw24 : k0_chk24 v2363 v2417), ∀ a, (k0_off102 v2417) a + S64x128.size a ≤ S512x128.size a := fun v2363 v2417 k0_hw24 => k0_hw24.2.1
theorem k0_off103_inb : ∀ (v2363 : BitVec 32) (v2417 : BitVec 32) (k0_hw24 : k0_chk24 v2363 v2417), ∀ a, (k0_off103 v2363 v2417) a + S1x64x128.size a ≤ S3x64x128.size a := fun v2363 v2417 k0_hw24 => k0_hw24.2.2.1
theorem k0_off104_inb : ∀ (v2363 : BitVec 32) (v2417 : BitVec 32) (k0_hw24 : k0_chk24 v2363 v2417), ∀ a, (k0_off104 v2417) a + S1x128x128.size a ≤ S8x128x128.size a := fun v2363 v2417 k0_hw24 => k0_hw24.2.2.2

def k0_off105 (i : grid0.Coords) : Fin 4 → Nat :=
  let arg0 : BitVec 32 := BitVec.ofNat 32 (i 0).val
  let v2435 : Index := Scalar.indexCast arg0
  let c3_1261 : Index := 3#32
  let c6_1262 : Index := 6#32
  let arg1 : BitVec 32 := BitVec.ofNat 32 (i 1).val
  let v2436 : Index := Scalar.indexCast arg1
  ![v2435.toNat, 3, 6, v2436.toNat]
def k0_mult25 (v2437 : BitVec 32) : BitVec 32 :=
  let c64_i32_1269 : BitVec 32 := 64#32
  let v2444 : BitVec 32 := Scalar.muli v2437 c64_i32_1269
  v2444

def k0_off106 (v2437 : BitVec 32) : Fin 2 → Nat :=
  let c64_i32_1269 : BitVec 32 := 64#32
  let v2444 : BitVec 32 := Scalar.muli v2437 c64_i32_1269
  let v2445 : BitVec 32 := v2444
  let v2446 : Index := Scalar.indexCast v2445
  let c0_1270 : Index := 0#32
  ![v2446.toNat, 0]
def k0_off107 (v2363 : BitVec 32) (v2437 : BitVec 32) : Fin 3 → Nat :=
  let c3_i32_1263 : BitVec 32 := 3#32
  let v2438 : BitVec 1 := Scalar.cmpi .sle v2363 c3_i32_1263
  let c6_i32_1264 : BitVec 32 := 6#32
  let v2439 : BitVec 1 := Scalar.cmpi .sgt v2437 c6_i32_1264
  let v2440 : BitVec 1 := Scalar.ori v2438 v2439
  let c2_i32_1268 : BitVec 32 := 2#32
  let c6_i32_1265 : BitVec 32 := 6#32
  let v2441 : BitVec 1 := Scalar.cmpi .eq v2437 c6_i32_1265
  let c1_i32_1266 : BitVec 32 := 1#32
  let c0_i32_1267 : BitVec 32 := 0#32
  let v2442 : BitVec 32 := Scalar.select v2441 c1_i32_1266 c0_i32_1267
  let v2443 : BitVec 32 := Scalar.select v2440 c2_i32_1268 v2442
  let v2448 : Index := Scalar.indexCast v2443
  let c0_1271 : Index := 0#32
  let c0_1272 : Index := 0#32
  ![v2448.toNat, 0, 0]
def k0_off108 (v2437 : BitVec 32) : Fin 3 → Nat :=
  let v2452 : Index := Scalar.indexCast v2437
  let c0_1273 : Index := 0#32
  let c0_1274 : Index := 0#32
  ![v2452.toNat, 0, 0]

def k0_chk25 (v2363 : BitVec 32) (v2437 : BitVec 32) : Prop :=
  (64 ∣ (k0_mult25 v2437).toNat) ∧
  (∀ a, (k0_off106 v2437) a + S64x128.size a ≤ S512x128.size a) ∧
  (∀ a, (k0_off107 v2363 v2437) a + S1x64x128.size a ≤ S3x64x128.size a) ∧
  (∀ a, (k0_off108 v2437) a + S1x128x128.size a ≤ S8x128x128.size a)
theorem k0_mult25_dvd : ∀ (v2363 : BitVec 32) (v2437 : BitVec 32) (k0_hw25 : k0_chk25 v2363 v2437), 64 ∣ (k0_mult25 v2437).toNat := fun v2363 v2437 k0_hw25 => k0_hw25.1
theorem k0_off106_inb : ∀ (v2363 : BitVec 32) (v2437 : BitVec 32) (k0_hw25 : k0_chk25 v2363 v2437), ∀ a, (k0_off106 v2437) a + S64x128.size a ≤ S512x128.size a := fun v2363 v2437 k0_hw25 => k0_hw25.2.1
theorem k0_off107_inb : ∀ (v2363 : BitVec 32) (v2437 : BitVec 32) (k0_hw25 : k0_chk25 v2363 v2437), ∀ a, (k0_off107 v2363 v2437) a + S1x64x128.size a ≤ S3x64x128.size a := fun v2363 v2437 k0_hw25 => k0_hw25.2.2.1
theorem k0_off108_inb : ∀ (v2363 : BitVec 32) (v2437 : BitVec 32) (k0_hw25 : k0_chk25 v2363 v2437), ∀ a, (k0_off108 v2437) a + S1x128x128.size a ≤ S8x128x128.size a := fun v2363 v2437 k0_hw25 => k0_hw25.2.2.2

def k0_off109 (i : grid0.Coords) : Fin 4 → Nat :=
  let arg0 : BitVec 32 := BitVec.ofNat 32 (i 0).val
  let v2455 : Index := Scalar.indexCast arg0
  let c4_1275 : Index := 4#32
  let c6_1276 : Index := 6#32
  let arg1 : BitVec 32 := BitVec.ofNat 32 (i 1).val
  let v2456 : Index := Scalar.indexCast arg1
  ![v2455.toNat, 4, 6, v2456.toNat]
def k0_mult26 (v2457 : BitVec 32) : BitVec 32 :=
  let c64_i32_1283 : BitVec 32 := 64#32
  let v2464 : BitVec 32 := Scalar.muli v2457 c64_i32_1283
  v2464

def k0_off110 (v2457 : BitVec 32) : Fin 2 → Nat :=
  let c64_i32_1283 : BitVec 32 := 64#32
  let v2464 : BitVec 32 := Scalar.muli v2457 c64_i32_1283
  let v2465 : BitVec 32 := v2464
  let v2466 : Index := Scalar.indexCast v2465
  let c0_1284 : Index := 0#32
  ![v2466.toNat, 0]
def k0_off111 (v2363 : BitVec 32) (v2457 : BitVec 32) : Fin 3 → Nat :=
  let c4_i32_1277 : BitVec 32 := 4#32
  let v2458 : BitVec 1 := Scalar.cmpi .sle v2363 c4_i32_1277
  let c6_i32_1278 : BitVec 32 := 6#32
  let v2459 : BitVec 1 := Scalar.cmpi .sgt v2457 c6_i32_1278
  let v2460 : BitVec 1 := Scalar.ori v2458 v2459
  let c2_i32_1282 : BitVec 32 := 2#32
  let c6_i32_1279 : BitVec 32 := 6#32
  let v2461 : BitVec 1 := Scalar.cmpi .eq v2457 c6_i32_1279
  let c1_i32_1280 : BitVec 32 := 1#32
  let c0_i32_1281 : BitVec 32 := 0#32
  let v2462 : BitVec 32 := Scalar.select v2461 c1_i32_1280 c0_i32_1281
  let v2463 : BitVec 32 := Scalar.select v2460 c2_i32_1282 v2462
  let v2468 : Index := Scalar.indexCast v2463
  let c0_1285 : Index := 0#32
  let c0_1286 : Index := 0#32
  ![v2468.toNat, 0, 0]
def k0_off112 (v2457 : BitVec 32) : Fin 3 → Nat :=
  let v2472 : Index := Scalar.indexCast v2457
  let c0_1287 : Index := 0#32
  let c0_1288 : Index := 0#32
  ![v2472.toNat, 0, 0]

def k0_chk26 (v2363 : BitVec 32) (v2457 : BitVec 32) : Prop :=
  (64 ∣ (k0_mult26 v2457).toNat) ∧
  (∀ a, (k0_off110 v2457) a + S64x128.size a ≤ S512x128.size a) ∧
  (∀ a, (k0_off111 v2363 v2457) a + S1x64x128.size a ≤ S3x64x128.size a) ∧
  (∀ a, (k0_off112 v2457) a + S1x128x128.size a ≤ S8x128x128.size a)
theorem k0_mult26_dvd : ∀ (v2363 : BitVec 32) (v2457 : BitVec 32) (k0_hw26 : k0_chk26 v2363 v2457), 64 ∣ (k0_mult26 v2457).toNat := fun v2363 v2457 k0_hw26 => k0_hw26.1
theorem k0_off110_inb : ∀ (v2363 : BitVec 32) (v2457 : BitVec 32) (k0_hw26 : k0_chk26 v2363 v2457), ∀ a, (k0_off110 v2457) a + S64x128.size a ≤ S512x128.size a := fun v2363 v2457 k0_hw26 => k0_hw26.2.1
theorem k0_off111_inb : ∀ (v2363 : BitVec 32) (v2457 : BitVec 32) (k0_hw26 : k0_chk26 v2363 v2457), ∀ a, (k0_off111 v2363 v2457) a + S1x64x128.size a ≤ S3x64x128.size a := fun v2363 v2457 k0_hw26 => k0_hw26.2.2.1
theorem k0_off112_inb : ∀ (v2363 : BitVec 32) (v2457 : BitVec 32) (k0_hw26 : k0_chk26 v2363 v2457), ∀ a, (k0_off112 v2457) a + S1x128x128.size a ≤ S8x128x128.size a := fun v2363 v2457 k0_hw26 => k0_hw26.2.2.2

def k0_off113 (i : grid0.Coords) : Fin 4 → Nat :=
  let arg0 : BitVec 32 := BitVec.ofNat 32 (i 0).val
  let v2475 : Index := Scalar.indexCast arg0
  let c5_1289 : Index := 5#32
  let c6_1290 : Index := 6#32
  let arg1 : BitVec 32 := BitVec.ofNat 32 (i 1).val
  let v2476 : Index := Scalar.indexCast arg1
  ![v2475.toNat, 5, 6, v2476.toNat]
def k0_mult27 (v2477 : BitVec 32) : BitVec 32 :=
  let c64_i32_1297 : BitVec 32 := 64#32
  let v2484 : BitVec 32 := Scalar.muli v2477 c64_i32_1297
  v2484

def k0_off114 (v2477 : BitVec 32) : Fin 2 → Nat :=
  let c64_i32_1297 : BitVec 32 := 64#32
  let v2484 : BitVec 32 := Scalar.muli v2477 c64_i32_1297
  let v2485 : BitVec 32 := v2484
  let v2486 : Index := Scalar.indexCast v2485
  let c0_1298 : Index := 0#32
  ![v2486.toNat, 0]
def k0_off115 (v2363 : BitVec 32) (v2477 : BitVec 32) : Fin 3 → Nat :=
  let c5_i32_1291 : BitVec 32 := 5#32
  let v2478 : BitVec 1 := Scalar.cmpi .sle v2363 c5_i32_1291
  let c6_i32_1292 : BitVec 32 := 6#32
  let v2479 : BitVec 1 := Scalar.cmpi .sgt v2477 c6_i32_1292
  let v2480 : BitVec 1 := Scalar.ori v2478 v2479
  let c2_i32_1296 : BitVec 32 := 2#32
  let c6_i32_1293 : BitVec 32 := 6#32
  let v2481 : BitVec 1 := Scalar.cmpi .eq v2477 c6_i32_1293
  let c1_i32_1294 : BitVec 32 := 1#32
  let c0_i32_1295 : BitVec 32 := 0#32
  let v2482 : BitVec 32 := Scalar.select v2481 c1_i32_1294 c0_i32_1295
  let v2483 : BitVec 32 := Scalar.select v2480 c2_i32_1296 v2482
  let v2488 : Index := Scalar.indexCast v2483
  let c0_1299 : Index := 0#32
  let c0_1300 : Index := 0#32
  ![v2488.toNat, 0, 0]
def k0_off116 (v2477 : BitVec 32) : Fin 3 → Nat :=
  let v2492 : Index := Scalar.indexCast v2477
  let c0_1301 : Index := 0#32
  let c0_1302 : Index := 0#32
  ![v2492.toNat, 0, 0]

def k0_chk27 (v2363 : BitVec 32) (v2477 : BitVec 32) : Prop :=
  (64 ∣ (k0_mult27 v2477).toNat) ∧
  (∀ a, (k0_off114 v2477) a + S64x128.size a ≤ S512x128.size a) ∧
  (∀ a, (k0_off115 v2363 v2477) a + S1x64x128.size a ≤ S3x64x128.size a) ∧
  (∀ a, (k0_off116 v2477) a + S1x128x128.size a ≤ S8x128x128.size a)
theorem k0_mult27_dvd : ∀ (v2363 : BitVec 32) (v2477 : BitVec 32) (k0_hw27 : k0_chk27 v2363 v2477), 64 ∣ (k0_mult27 v2477).toNat := fun v2363 v2477 k0_hw27 => k0_hw27.1
theorem k0_off114_inb : ∀ (v2363 : BitVec 32) (v2477 : BitVec 32) (k0_hw27 : k0_chk27 v2363 v2477), ∀ a, (k0_off114 v2477) a + S64x128.size a ≤ S512x128.size a := fun v2363 v2477 k0_hw27 => k0_hw27.2.1
theorem k0_off115_inb : ∀ (v2363 : BitVec 32) (v2477 : BitVec 32) (k0_hw27 : k0_chk27 v2363 v2477), ∀ a, (k0_off115 v2363 v2477) a + S1x64x128.size a ≤ S3x64x128.size a := fun v2363 v2477 k0_hw27 => k0_hw27.2.2.1
theorem k0_off116_inb : ∀ (v2363 : BitVec 32) (v2477 : BitVec 32) (k0_hw27 : k0_chk27 v2363 v2477), ∀ a, (k0_off116 v2477) a + S1x128x128.size a ≤ S8x128x128.size a := fun v2363 v2477 k0_hw27 => k0_hw27.2.2.2

def k0_off117 (i : grid0.Coords) : Fin 3 → Nat :=
  let arg0 : BitVec 32 := BitVec.ofNat 32 (i 0).val
  let v2637 : Index := Scalar.indexCast arg0
  let c7_1357 : Index := 7#32
  let arg1 : BitVec 32 := BitVec.ofNat 32 (i 1).val
  let v2638 : Index := Scalar.indexCast arg1
  ![v2637.toNat, 7, v2638.toNat]
def k0_off118 (i : grid0.Coords) : Fin 4 → Nat :=
  let arg0 : BitVec 32 := BitVec.ofNat 32 (i 0).val
  let v2651 : Index := Scalar.indexCast arg0
  let c0_1371 : Index := 0#32
  let c7_1372 : Index := 7#32
  let arg1 : BitVec 32 := BitVec.ofNat 32 (i 1).val
  let v2652 : Index := Scalar.indexCast arg1
  ![v2651.toNat, 0, 7, v2652.toNat]
def k0_mult28 (v2653 : BitVec 32) : BitVec 32 :=
  let c64_i32_1379 : BitVec 32 := 64#32
  let v2660 : BitVec 32 := Scalar.muli v2653 c64_i32_1379
  v2660

def k0_off119 (v2653 : BitVec 32) : Fin 2 → Nat :=
  let c64_i32_1379 : BitVec 32 := 64#32
  let v2660 : BitVec 32 := Scalar.muli v2653 c64_i32_1379
  let v2661 : BitVec 32 := v2660
  let v2662 : Index := Scalar.indexCast v2661
  let c0_1380 : Index := 0#32
  ![v2662.toNat, 0]
def k0_off120 (v2639 : BitVec 32) (v2653 : BitVec 32) : Fin 3 → Nat :=
  let c0_i32_1373 : BitVec 32 := 0#32
  let v2654 : BitVec 1 := Scalar.cmpi .sle v2639 c0_i32_1373
  let c7_i32_1374 : BitVec 32 := 7#32
  let v2655 : BitVec 1 := Scalar.cmpi .sgt v2653 c7_i32_1374
  let v2656 : BitVec 1 := Scalar.ori v2654 v2655
  let c2_i32_1378 : BitVec 32 := 2#32
  let c7_i32_1375 : BitVec 32 := 7#32
  let v2657 : BitVec 1 := Scalar.cmpi .eq v2653 c7_i32_1375
  let c1_i32_1376 : BitVec 32 := 1#32
  let c0_i32_1377 : BitVec 32 := 0#32
  let v2658 : BitVec 32 := Scalar.select v2657 c1_i32_1376 c0_i32_1377
  let v2659 : BitVec 32 := Scalar.select v2656 c2_i32_1378 v2658
  let v2664 : Index := Scalar.indexCast v2659
  let c0_1381 : Index := 0#32
  let c0_1382 : Index := 0#32
  ![v2664.toNat, 0, 0]
def k0_off121 (v2653 : BitVec 32) : Fin 3 → Nat :=
  let v2668 : Index := Scalar.indexCast v2653
  let c0_1383 : Index := 0#32
  let c0_1384 : Index := 0#32
  ![v2668.toNat, 0, 0]

def k0_chk28 (v2639 : BitVec 32) (v2653 : BitVec 32) : Prop :=
  (64 ∣ (k0_mult28 v2653).toNat) ∧
  (∀ a, (k0_off119 v2653) a + S64x128.size a ≤ S512x128.size a) ∧
  (∀ a, (k0_off120 v2639 v2653) a + S1x64x128.size a ≤ S3x64x128.size a) ∧
  (∀ a, (k0_off121 v2653) a + S1x128x128.size a ≤ S8x128x128.size a)
theorem k0_mult28_dvd : ∀ (v2639 : BitVec 32) (v2653 : BitVec 32) (k0_hw28 : k0_chk28 v2639 v2653), 64 ∣ (k0_mult28 v2653).toNat := fun v2639 v2653 k0_hw28 => k0_hw28.1
theorem k0_off119_inb : ∀ (v2639 : BitVec 32) (v2653 : BitVec 32) (k0_hw28 : k0_chk28 v2639 v2653), ∀ a, (k0_off119 v2653) a + S64x128.size a ≤ S512x128.size a := fun v2639 v2653 k0_hw28 => k0_hw28.2.1
theorem k0_off120_inb : ∀ (v2639 : BitVec 32) (v2653 : BitVec 32) (k0_hw28 : k0_chk28 v2639 v2653), ∀ a, (k0_off120 v2639 v2653) a + S1x64x128.size a ≤ S3x64x128.size a := fun v2639 v2653 k0_hw28 => k0_hw28.2.2.1
theorem k0_off121_inb : ∀ (v2639 : BitVec 32) (v2653 : BitVec 32) (k0_hw28 : k0_chk28 v2639 v2653), ∀ a, (k0_off121 v2653) a + S1x128x128.size a ≤ S8x128x128.size a := fun v2639 v2653 k0_hw28 => k0_hw28.2.2.2

def k0_off122 (i : grid0.Coords) : Fin 4 → Nat :=
  let arg0 : BitVec 32 := BitVec.ofNat 32 (i 0).val
  let v2671 : Index := Scalar.indexCast arg0
  let c1_1385 : Index := 1#32
  let c7_1386 : Index := 7#32
  let arg1 : BitVec 32 := BitVec.ofNat 32 (i 1).val
  let v2672 : Index := Scalar.indexCast arg1
  ![v2671.toNat, 1, 7, v2672.toNat]
def k0_mult29 (v2673 : BitVec 32) : BitVec 32 :=
  let c64_i32_1393 : BitVec 32 := 64#32
  let v2680 : BitVec 32 := Scalar.muli v2673 c64_i32_1393
  v2680

def k0_off123 (v2673 : BitVec 32) : Fin 2 → Nat :=
  let c64_i32_1393 : BitVec 32 := 64#32
  let v2680 : BitVec 32 := Scalar.muli v2673 c64_i32_1393
  let v2681 : BitVec 32 := v2680
  let v2682 : Index := Scalar.indexCast v2681
  let c0_1394 : Index := 0#32
  ![v2682.toNat, 0]
def k0_off124 (v2639 : BitVec 32) (v2673 : BitVec 32) : Fin 3 → Nat :=
  let c1_i32_1387 : BitVec 32 := 1#32
  let v2674 : BitVec 1 := Scalar.cmpi .sle v2639 c1_i32_1387
  let c7_i32_1388 : BitVec 32 := 7#32
  let v2675 : BitVec 1 := Scalar.cmpi .sgt v2673 c7_i32_1388
  let v2676 : BitVec 1 := Scalar.ori v2674 v2675
  let c2_i32_1392 : BitVec 32 := 2#32
  let c7_i32_1389 : BitVec 32 := 7#32
  let v2677 : BitVec 1 := Scalar.cmpi .eq v2673 c7_i32_1389
  let c1_i32_1390 : BitVec 32 := 1#32
  let c0_i32_1391 : BitVec 32 := 0#32
  let v2678 : BitVec 32 := Scalar.select v2677 c1_i32_1390 c0_i32_1391
  let v2679 : BitVec 32 := Scalar.select v2676 c2_i32_1392 v2678
  let v2684 : Index := Scalar.indexCast v2679
  let c0_1395 : Index := 0#32
  let c0_1396 : Index := 0#32
  ![v2684.toNat, 0, 0]
def k0_off125 (v2673 : BitVec 32) : Fin 3 → Nat :=
  let v2688 : Index := Scalar.indexCast v2673
  let c0_1397 : Index := 0#32
  let c0_1398 : Index := 0#32
  ![v2688.toNat, 0, 0]

def k0_chk29 (v2639 : BitVec 32) (v2673 : BitVec 32) : Prop :=
  (64 ∣ (k0_mult29 v2673).toNat) ∧
  (∀ a, (k0_off123 v2673) a + S64x128.size a ≤ S512x128.size a) ∧
  (∀ a, (k0_off124 v2639 v2673) a + S1x64x128.size a ≤ S3x64x128.size a) ∧
  (∀ a, (k0_off125 v2673) a + S1x128x128.size a ≤ S8x128x128.size a)
theorem k0_mult29_dvd : ∀ (v2639 : BitVec 32) (v2673 : BitVec 32) (k0_hw29 : k0_chk29 v2639 v2673), 64 ∣ (k0_mult29 v2673).toNat := fun v2639 v2673 k0_hw29 => k0_hw29.1
theorem k0_off123_inb : ∀ (v2639 : BitVec 32) (v2673 : BitVec 32) (k0_hw29 : k0_chk29 v2639 v2673), ∀ a, (k0_off123 v2673) a + S64x128.size a ≤ S512x128.size a := fun v2639 v2673 k0_hw29 => k0_hw29.2.1
theorem k0_off124_inb : ∀ (v2639 : BitVec 32) (v2673 : BitVec 32) (k0_hw29 : k0_chk29 v2639 v2673), ∀ a, (k0_off124 v2639 v2673) a + S1x64x128.size a ≤ S3x64x128.size a := fun v2639 v2673 k0_hw29 => k0_hw29.2.2.1
theorem k0_off125_inb : ∀ (v2639 : BitVec 32) (v2673 : BitVec 32) (k0_hw29 : k0_chk29 v2639 v2673), ∀ a, (k0_off125 v2673) a + S1x128x128.size a ≤ S8x128x128.size a := fun v2639 v2673 k0_hw29 => k0_hw29.2.2.2

def k0_off126 (i : grid0.Coords) : Fin 4 → Nat :=
  let arg0 : BitVec 32 := BitVec.ofNat 32 (i 0).val
  let v2691 : Index := Scalar.indexCast arg0
  let c2_1399 : Index := 2#32
  let c7_1400 : Index := 7#32
  let arg1 : BitVec 32 := BitVec.ofNat 32 (i 1).val
  let v2692 : Index := Scalar.indexCast arg1
  ![v2691.toNat, 2, 7, v2692.toNat]
def k0_mult30 (v2693 : BitVec 32) : BitVec 32 :=
  let c64_i32_1407 : BitVec 32 := 64#32
  let v2700 : BitVec 32 := Scalar.muli v2693 c64_i32_1407
  v2700

def k0_off127 (v2693 : BitVec 32) : Fin 2 → Nat :=
  let c64_i32_1407 : BitVec 32 := 64#32
  let v2700 : BitVec 32 := Scalar.muli v2693 c64_i32_1407
  let v2701 : BitVec 32 := v2700
  let v2702 : Index := Scalar.indexCast v2701
  let c0_1408 : Index := 0#32
  ![v2702.toNat, 0]
def k0_off128 (v2639 : BitVec 32) (v2693 : BitVec 32) : Fin 3 → Nat :=
  let c2_i32_1401 : BitVec 32 := 2#32
  let v2694 : BitVec 1 := Scalar.cmpi .sle v2639 c2_i32_1401
  let c7_i32_1402 : BitVec 32 := 7#32
  let v2695 : BitVec 1 := Scalar.cmpi .sgt v2693 c7_i32_1402
  let v2696 : BitVec 1 := Scalar.ori v2694 v2695
  let c2_i32_1406 : BitVec 32 := 2#32
  let c7_i32_1403 : BitVec 32 := 7#32
  let v2697 : BitVec 1 := Scalar.cmpi .eq v2693 c7_i32_1403
  let c1_i32_1404 : BitVec 32 := 1#32
  let c0_i32_1405 : BitVec 32 := 0#32
  let v2698 : BitVec 32 := Scalar.select v2697 c1_i32_1404 c0_i32_1405
  let v2699 : BitVec 32 := Scalar.select v2696 c2_i32_1406 v2698
  let v2704 : Index := Scalar.indexCast v2699
  let c0_1409 : Index := 0#32
  let c0_1410 : Index := 0#32
  ![v2704.toNat, 0, 0]
def k0_off129 (v2693 : BitVec 32) : Fin 3 → Nat :=
  let v2708 : Index := Scalar.indexCast v2693
  let c0_1411 : Index := 0#32
  let c0_1412 : Index := 0#32
  ![v2708.toNat, 0, 0]

def k0_chk30 (v2639 : BitVec 32) (v2693 : BitVec 32) : Prop :=
  (64 ∣ (k0_mult30 v2693).toNat) ∧
  (∀ a, (k0_off127 v2693) a + S64x128.size a ≤ S512x128.size a) ∧
  (∀ a, (k0_off128 v2639 v2693) a + S1x64x128.size a ≤ S3x64x128.size a) ∧
  (∀ a, (k0_off129 v2693) a + S1x128x128.size a ≤ S8x128x128.size a)
theorem k0_mult30_dvd : ∀ (v2639 : BitVec 32) (v2693 : BitVec 32) (k0_hw30 : k0_chk30 v2639 v2693), 64 ∣ (k0_mult30 v2693).toNat := fun v2639 v2693 k0_hw30 => k0_hw30.1
theorem k0_off127_inb : ∀ (v2639 : BitVec 32) (v2693 : BitVec 32) (k0_hw30 : k0_chk30 v2639 v2693), ∀ a, (k0_off127 v2693) a + S64x128.size a ≤ S512x128.size a := fun v2639 v2693 k0_hw30 => k0_hw30.2.1
theorem k0_off128_inb : ∀ (v2639 : BitVec 32) (v2693 : BitVec 32) (k0_hw30 : k0_chk30 v2639 v2693), ∀ a, (k0_off128 v2639 v2693) a + S1x64x128.size a ≤ S3x64x128.size a := fun v2639 v2693 k0_hw30 => k0_hw30.2.2.1
theorem k0_off129_inb : ∀ (v2639 : BitVec 32) (v2693 : BitVec 32) (k0_hw30 : k0_chk30 v2639 v2693), ∀ a, (k0_off129 v2693) a + S1x128x128.size a ≤ S8x128x128.size a := fun v2639 v2693 k0_hw30 => k0_hw30.2.2.2

def k0_off130 (i : grid0.Coords) : Fin 4 → Nat :=
  let arg0 : BitVec 32 := BitVec.ofNat 32 (i 0).val
  let v2711 : Index := Scalar.indexCast arg0
  let c3_1413 : Index := 3#32
  let c7_1414 : Index := 7#32
  let arg1 : BitVec 32 := BitVec.ofNat 32 (i 1).val
  let v2712 : Index := Scalar.indexCast arg1
  ![v2711.toNat, 3, 7, v2712.toNat]
def k0_mult31 (v2713 : BitVec 32) : BitVec 32 :=
  let c64_i32_1421 : BitVec 32 := 64#32
  let v2720 : BitVec 32 := Scalar.muli v2713 c64_i32_1421
  v2720

def k0_off131 (v2713 : BitVec 32) : Fin 2 → Nat :=
  let c64_i32_1421 : BitVec 32 := 64#32
  let v2720 : BitVec 32 := Scalar.muli v2713 c64_i32_1421
  let v2721 : BitVec 32 := v2720
  let v2722 : Index := Scalar.indexCast v2721
  let c0_1422 : Index := 0#32
  ![v2722.toNat, 0]
def k0_off132 (v2639 : BitVec 32) (v2713 : BitVec 32) : Fin 3 → Nat :=
  let c3_i32_1415 : BitVec 32 := 3#32
  let v2714 : BitVec 1 := Scalar.cmpi .sle v2639 c3_i32_1415
  let c7_i32_1416 : BitVec 32 := 7#32
  let v2715 : BitVec 1 := Scalar.cmpi .sgt v2713 c7_i32_1416
  let v2716 : BitVec 1 := Scalar.ori v2714 v2715
  let c2_i32_1420 : BitVec 32 := 2#32
  let c7_i32_1417 : BitVec 32 := 7#32
  let v2717 : BitVec 1 := Scalar.cmpi .eq v2713 c7_i32_1417
  let c1_i32_1418 : BitVec 32 := 1#32
  let c0_i32_1419 : BitVec 32 := 0#32
  let v2718 : BitVec 32 := Scalar.select v2717 c1_i32_1418 c0_i32_1419
  let v2719 : BitVec 32 := Scalar.select v2716 c2_i32_1420 v2718
  let v2724 : Index := Scalar.indexCast v2719
  let c0_1423 : Index := 0#32
  let c0_1424 : Index := 0#32
  ![v2724.toNat, 0, 0]
def k0_off133 (v2713 : BitVec 32) : Fin 3 → Nat :=
  let v2728 : Index := Scalar.indexCast v2713
  let c0_1425 : Index := 0#32
  let c0_1426 : Index := 0#32
  ![v2728.toNat, 0, 0]

def k0_chk31 (v2639 : BitVec 32) (v2713 : BitVec 32) : Prop :=
  (64 ∣ (k0_mult31 v2713).toNat) ∧
  (∀ a, (k0_off131 v2713) a + S64x128.size a ≤ S512x128.size a) ∧
  (∀ a, (k0_off132 v2639 v2713) a + S1x64x128.size a ≤ S3x64x128.size a) ∧
  (∀ a, (k0_off133 v2713) a + S1x128x128.size a ≤ S8x128x128.size a)
theorem k0_mult31_dvd : ∀ (v2639 : BitVec 32) (v2713 : BitVec 32) (k0_hw31 : k0_chk31 v2639 v2713), 64 ∣ (k0_mult31 v2713).toNat := fun v2639 v2713 k0_hw31 => k0_hw31.1
theorem k0_off131_inb : ∀ (v2639 : BitVec 32) (v2713 : BitVec 32) (k0_hw31 : k0_chk31 v2639 v2713), ∀ a, (k0_off131 v2713) a + S64x128.size a ≤ S512x128.size a := fun v2639 v2713 k0_hw31 => k0_hw31.2.1
theorem k0_off132_inb : ∀ (v2639 : BitVec 32) (v2713 : BitVec 32) (k0_hw31 : k0_chk31 v2639 v2713), ∀ a, (k0_off132 v2639 v2713) a + S1x64x128.size a ≤ S3x64x128.size a := fun v2639 v2713 k0_hw31 => k0_hw31.2.2.1
theorem k0_off133_inb : ∀ (v2639 : BitVec 32) (v2713 : BitVec 32) (k0_hw31 : k0_chk31 v2639 v2713), ∀ a, (k0_off133 v2713) a + S1x128x128.size a ≤ S8x128x128.size a := fun v2639 v2713 k0_hw31 => k0_hw31.2.2.2

def k0_off134 (i : grid0.Coords) : Fin 4 → Nat :=
  let arg0 : BitVec 32 := BitVec.ofNat 32 (i 0).val
  let v2731 : Index := Scalar.indexCast arg0
  let c4_1427 : Index := 4#32
  let c7_1428 : Index := 7#32
  let arg1 : BitVec 32 := BitVec.ofNat 32 (i 1).val
  let v2732 : Index := Scalar.indexCast arg1
  ![v2731.toNat, 4, 7, v2732.toNat]
def k0_mult32 (v2733 : BitVec 32) : BitVec 32 :=
  let c64_i32_1435 : BitVec 32 := 64#32
  let v2740 : BitVec 32 := Scalar.muli v2733 c64_i32_1435
  v2740

def k0_off135 (v2733 : BitVec 32) : Fin 2 → Nat :=
  let c64_i32_1435 : BitVec 32 := 64#32
  let v2740 : BitVec 32 := Scalar.muli v2733 c64_i32_1435
  let v2741 : BitVec 32 := v2740
  let v2742 : Index := Scalar.indexCast v2741
  let c0_1436 : Index := 0#32
  ![v2742.toNat, 0]
def k0_off136 (v2639 : BitVec 32) (v2733 : BitVec 32) : Fin 3 → Nat :=
  let c4_i32_1429 : BitVec 32 := 4#32
  let v2734 : BitVec 1 := Scalar.cmpi .sle v2639 c4_i32_1429
  let c7_i32_1430 : BitVec 32 := 7#32
  let v2735 : BitVec 1 := Scalar.cmpi .sgt v2733 c7_i32_1430
  let v2736 : BitVec 1 := Scalar.ori v2734 v2735
  let c2_i32_1434 : BitVec 32 := 2#32
  let c7_i32_1431 : BitVec 32 := 7#32
  let v2737 : BitVec 1 := Scalar.cmpi .eq v2733 c7_i32_1431
  let c1_i32_1432 : BitVec 32 := 1#32
  let c0_i32_1433 : BitVec 32 := 0#32
  let v2738 : BitVec 32 := Scalar.select v2737 c1_i32_1432 c0_i32_1433
  let v2739 : BitVec 32 := Scalar.select v2736 c2_i32_1434 v2738
  let v2744 : Index := Scalar.indexCast v2739
  let c0_1437 : Index := 0#32
  let c0_1438 : Index := 0#32
  ![v2744.toNat, 0, 0]
def k0_off137 (v2733 : BitVec 32) : Fin 3 → Nat :=
  let v2748 : Index := Scalar.indexCast v2733
  let c0_1439 : Index := 0#32
  let c0_1440 : Index := 0#32
  ![v2748.toNat, 0, 0]

def k0_chk32 (v2639 : BitVec 32) (v2733 : BitVec 32) : Prop :=
  (64 ∣ (k0_mult32 v2733).toNat) ∧
  (∀ a, (k0_off135 v2733) a + S64x128.size a ≤ S512x128.size a) ∧
  (∀ a, (k0_off136 v2639 v2733) a + S1x64x128.size a ≤ S3x64x128.size a) ∧
  (∀ a, (k0_off137 v2733) a + S1x128x128.size a ≤ S8x128x128.size a)
theorem k0_mult32_dvd : ∀ (v2639 : BitVec 32) (v2733 : BitVec 32) (k0_hw32 : k0_chk32 v2639 v2733), 64 ∣ (k0_mult32 v2733).toNat := fun v2639 v2733 k0_hw32 => k0_hw32.1
theorem k0_off135_inb : ∀ (v2639 : BitVec 32) (v2733 : BitVec 32) (k0_hw32 : k0_chk32 v2639 v2733), ∀ a, (k0_off135 v2733) a + S64x128.size a ≤ S512x128.size a := fun v2639 v2733 k0_hw32 => k0_hw32.2.1
theorem k0_off136_inb : ∀ (v2639 : BitVec 32) (v2733 : BitVec 32) (k0_hw32 : k0_chk32 v2639 v2733), ∀ a, (k0_off136 v2639 v2733) a + S1x64x128.size a ≤ S3x64x128.size a := fun v2639 v2733 k0_hw32 => k0_hw32.2.2.1
theorem k0_off137_inb : ∀ (v2639 : BitVec 32) (v2733 : BitVec 32) (k0_hw32 : k0_chk32 v2639 v2733), ∀ a, (k0_off137 v2733) a + S1x128x128.size a ≤ S8x128x128.size a := fun v2639 v2733 k0_hw32 => k0_hw32.2.2.2

def k0_off138 (i : grid0.Coords) : Fin 4 → Nat :=
  let arg0 : BitVec 32 := BitVec.ofNat 32 (i 0).val
  let v2751 : Index := Scalar.indexCast arg0
  let c5_1441 : Index := 5#32
  let c7_1442 : Index := 7#32
  let arg1 : BitVec 32 := BitVec.ofNat 32 (i 1).val
  let v2752 : Index := Scalar.indexCast arg1
  ![v2751.toNat, 5, 7, v2752.toNat]
def k0_mult33 (v2753 : BitVec 32) : BitVec 32 :=
  let c64_i32_1449 : BitVec 32 := 64#32
  let v2760 : BitVec 32 := Scalar.muli v2753 c64_i32_1449
  v2760

def k0_off139 (v2753 : BitVec 32) : Fin 2 → Nat :=
  let c64_i32_1449 : BitVec 32 := 64#32
  let v2760 : BitVec 32 := Scalar.muli v2753 c64_i32_1449
  let v2761 : BitVec 32 := v2760
  let v2762 : Index := Scalar.indexCast v2761
  let c0_1450 : Index := 0#32
  ![v2762.toNat, 0]
def k0_off140 (v2639 : BitVec 32) (v2753 : BitVec 32) : Fin 3 → Nat :=
  let c5_i32_1443 : BitVec 32 := 5#32
  let v2754 : BitVec 1 := Scalar.cmpi .sle v2639 c5_i32_1443
  let c7_i32_1444 : BitVec 32 := 7#32
  let v2755 : BitVec 1 := Scalar.cmpi .sgt v2753 c7_i32_1444
  let v2756 : BitVec 1 := Scalar.ori v2754 v2755
  let c2_i32_1448 : BitVec 32 := 2#32
  let c7_i32_1445 : BitVec 32 := 7#32
  let v2757 : BitVec 1 := Scalar.cmpi .eq v2753 c7_i32_1445
  let c1_i32_1446 : BitVec 32 := 1#32
  let c0_i32_1447 : BitVec 32 := 0#32
  let v2758 : BitVec 32 := Scalar.select v2757 c1_i32_1446 c0_i32_1447
  let v2759 : BitVec 32 := Scalar.select v2756 c2_i32_1448 v2758
  let v2764 : Index := Scalar.indexCast v2759
  let c0_1451 : Index := 0#32
  let c0_1452 : Index := 0#32
  ![v2764.toNat, 0, 0]
def k0_off141 (v2753 : BitVec 32) : Fin 3 → Nat :=
  let v2768 : Index := Scalar.indexCast v2753
  let c0_1453 : Index := 0#32
  let c0_1454 : Index := 0#32
  ![v2768.toNat, 0, 0]

def k0_chk33 (v2639 : BitVec 32) (v2753 : BitVec 32) : Prop :=
  (64 ∣ (k0_mult33 v2753).toNat) ∧
  (∀ a, (k0_off139 v2753) a + S64x128.size a ≤ S512x128.size a) ∧
  (∀ a, (k0_off140 v2639 v2753) a + S1x64x128.size a ≤ S3x64x128.size a) ∧
  (∀ a, (k0_off141 v2753) a + S1x128x128.size a ≤ S8x128x128.size a)
theorem k0_mult33_dvd : ∀ (v2639 : BitVec 32) (v2753 : BitVec 32) (k0_hw33 : k0_chk33 v2639 v2753), 64 ∣ (k0_mult33 v2753).toNat := fun v2639 v2753 k0_hw33 => k0_hw33.1
theorem k0_off139_inb : ∀ (v2639 : BitVec 32) (v2753 : BitVec 32) (k0_hw33 : k0_chk33 v2639 v2753), ∀ a, (k0_off139 v2753) a + S64x128.size a ≤ S512x128.size a := fun v2639 v2753 k0_hw33 => k0_hw33.2.1
theorem k0_off140_inb : ∀ (v2639 : BitVec 32) (v2753 : BitVec 32) (k0_hw33 : k0_chk33 v2639 v2753), ∀ a, (k0_off140 v2639 v2753) a + S1x64x128.size a ≤ S3x64x128.size a := fun v2639 v2753 k0_hw33 => k0_hw33.2.2.1
theorem k0_off141_inb : ∀ (v2639 : BitVec 32) (v2753 : BitVec 32) (k0_hw33 : k0_chk33 v2639 v2753), ∀ a, (k0_off141 v2753) a + S1x128x128.size a ≤ S8x128x128.size a := fun v2639 v2753 k0_hw33 => k0_hw33.2.2.2

def cc0_transform_0 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli c4_i32 arg1
  let c0_i32 : BitVec 32 := 0#32
  let v1 : BitVec 32 := Scalar.addi v0 c0_i32
  let c0_i32_0 : BitVec 32 := 0#32
  let c0_i32_1 : BitVec 32 := 0#32
  ![arg0.toNat, c0_i32_0.toNat, v1.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli c4_i32 arg1
  let c1_i32 : BitVec 32 := 1#32
  let v1 : BitVec 32 := Scalar.addi v0 c1_i32
  let c0_i32 : BitVec 32 := 0#32
  let c0_i32_0 : BitVec 32 := 0#32
  ![arg0.toNat, c0_i32.toNat, v1.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli c4_i32 arg1
  let c2_i32 : BitVec 32 := 2#32
  let v1 : BitVec 32 := Scalar.addi v0 c2_i32
  let c0_i32 : BitVec 32 := 0#32
  let c0_i32_0 : BitVec 32 := 0#32
  ![arg0.toNat, c0_i32.toNat, v1.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli c4_i32 arg1
  let c3_i32 : BitVec 32 := 3#32
  let v1 : BitVec 32 := Scalar.addi v0 c3_i32
  let c0_i32 : BitVec 32 := 0#32
  let c0_i32_0 : BitVec 32 := 0#32
  ![arg0.toNat, c0_i32.toNat, v1.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg1
  let c0_i32 : BitVec 32 := 0#32
  let v1 : BitVec 32 := Scalar.addi v0 c0_i32
  let c0_i32_0 : BitVec 32 := 0#32
  let c0_i32_1 : BitVec 32 := 0#32
  ![arg0.toNat, c0_i32_0.toNat, v1.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg1
  let c0_i32 : BitVec 32 := 0#32
  let v1 : BitVec 32 := Scalar.addi v0 c0_i32
  let c0_i32_0 : BitVec 32 := 0#32
  let c0_i32_1 : BitVec 32 := 0#32
  ![arg0.toNat, c0_i32_0.toNat, v1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x512x128 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S10x3x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]
-- ==== KernelIdeal.lean ====
variable {F : FTy → Type} [FloatOps F] [Named F]
def κ : String → Option EReal := fun
  | "exp2_scale" => some (((Real.sqrt 128)⁻¹ * (Real.log 2)⁻¹ : ℝ) : EReal)
  | "mask" => some ⊥
  | _ => none
-- ==== ReferenceIdeal.lean ====
abbrev S3x512x5120 : Shape := ⟨3, ![3, 512, 5120]⟩
abbrev S3x512x1280 : Shape := ⟨3, ![3, 512, 1280]⟩
abbrev S3x10x8x6 : Shape := ⟨4, ![3, 10, 8, 6]⟩
abbrev S3x10x8 : Shape := ⟨3, ![3, 10, 8]⟩
abbrev S3x512x10x128 : Shape := ⟨4, ![3, 512, 10, 128]⟩
abbrev S_ : Shape := ⟨0, ![]⟩
abbrev S3x10x128 : Shape := ⟨3, ![3, 10, 128]⟩
abbrev S3x1x10x128 : Shape := ⟨4, ![3, 1, 10, 128]⟩
abbrev S3x8x64x10x4x128 : Shape := ⟨6, ![3, 8, 64, 10, 4, 128]⟩
abbrev S3x10x8x4x64x128 : Shape := ⟨6, ![3, 10, 8, 4, 64, 128]⟩
abbrev S3x8x64x10x128 : Shape := ⟨5, ![3, 8, 64, 10, 128]⟩
abbrev S3x10x8x64x128 : Shape := ⟨5, ![3, 10, 8, 64, 128]⟩
abbrev S3x10x8x6x1 : Shape := ⟨5, ![3, 10, 8, 6, 1]⟩
abbrev S3x10x8x6x64x128 : Shape := ⟨6, ![3, 10, 8, 6, 64, 128]⟩
abbrev S3x10x8x384x128 : Shape := ⟨5, ![3, 10, 8, 384, 128]⟩
abbrev S3x10x8x4x64x384 : Shape := ⟨6, ![3, 10, 8, 4, 64, 384]⟩
abbrev S384 : Shape := ⟨1, ![384]⟩
abbrev S64 : Shape := ⟨1, ![64]⟩
abbrev S1x1x1x1x64 : Shape := ⟨5, ![1, 1, 1, 1, 64]⟩
abbrev S3x10x8x6x64 : Shape := ⟨5, ![3, 10, 8, 6, 64]⟩
abbrev S3x10x8x384 : Shape := ⟨4, ![3, 10, 8, 384]⟩
abbrev S8 : Shape := ⟨1, ![8]⟩
abbrev S8x1 : Shape := ⟨2, ![8, 1]⟩
abbrev S1x64 : Shape := ⟨2, ![1, 64]⟩
abbrev S8x64 : Shape := ⟨2, ![8, 64]⟩
abbrev S3x10x8x1 : Shape := ⟨4, ![3, 10, 8, 1]⟩
abbrev S1x1x1x384 : Shape := ⟨4, ![1, 1, 1, 384]⟩
abbrev S3x10x8x1x1x384 : Shape := ⟨6, ![3, 10, 8, 1, 1, 384]⟩
abbrev S1x1x8x1x64x1 : Shape := ⟨6, ![1, 1, 8, 1, 64, 1]⟩
abbrev S3x10x8x1x64x384 : Shape := ⟨6, ![3, 10, 8, 1, 64, 384]⟩
abbrev S3x10x8x4x64 : Shape := ⟨5, ![3, 10, 8, 4, 64]⟩
abbrev S3x10x8x4x64x1 : Shape := ⟨6, ![3, 10, 8, 4, 64, 1]⟩
abbrev S3x10x1x1x1x128 : Shape := ⟨6, ![3, 10, 1, 1, 1, 128]⟩
abbrev S3x10x512x128 : Shape := ⟨4, ![3, 10, 512, 128]⟩

abbrev nBuf : Space → Nat
  | .hbm => 189
  | .vmem => 0
  | .smem => 0
  | _ => 0

abbrev hbmTy0_0 (i : Nat) : BufTy := match i % 128 with
  | 0 => ⟨S3x512x5120, .bf16⟩
  | 1 => ⟨S3x512x1280, .bf16⟩
  | 2 => ⟨S3x512x1280, .bf16⟩
  | 3 => ⟨S3x10x8x6, .i32⟩
  | 4 => ⟨S3x10x8, .i32⟩
  | 5 => ⟨S3x512x1280, .f32⟩
  | 6 => ⟨S3x512x10x128, .f32⟩
  | 7 => ⟨S3x512x10x128, .f32⟩
  | 8 => ⟨S_, .f32⟩
  | 9 => ⟨S3x10x128, .f32⟩
  | 10 => ⟨S_, .f32⟩
  | 11 => ⟨S3x10x128, .f32⟩
  | 12 => ⟨S3x10x128, .f32⟩
  | 13 => ⟨S3x10x128, .f32⟩
  | 14 => ⟨S_, .f32⟩
  | 15 => ⟨S_, .f32⟩
  | 16 => ⟨S3x10x128, .f32⟩
  | 17 => ⟨S3x10x128, .f32⟩
  | 18 => ⟨S3x10x128, .f32⟩
  | 19 => ⟨S_, .f32⟩
  | 20 => ⟨S3x10x128, .f32⟩
  | 21 => ⟨S3x10x128, .f32⟩
  | 22 => ⟨S_, .f32⟩
  | 23 => ⟨S3x10x128, .f32⟩
  | 24 => ⟨S3x10x128, .f32⟩
  | 25 => ⟨S_, .f32⟩
  | 26 => ⟨S3x10x128, .f32⟩
  | 27 => ⟨S3x10x128, .i1⟩
  | 28 => ⟨S_, .f32⟩
  | 29 => ⟨S_, .f32⟩
  | 30 => ⟨S3x10x128, .f32⟩
  | 31 => ⟨S3x10x128, .f32⟩
  | 32 => ⟨S3x1x10x128, .f32⟩
  | 33 => ⟨S3x1x10x128, .f32⟩
  | 34 => ⟨S_, .f32⟩
  | 35 => ⟨S3x1x10x128, .f32⟩
  | 36 => ⟨S3x1x10x128, .f32⟩
  | 37 => ⟨S3x512x10x128, .f32⟩
  | 38 => ⟨S3x512x10x128, .f32⟩
  | 39 => ⟨S_, .f32⟩
  | 40 => ⟨S3x512x10x128, .f32⟩
  | 41 => ⟨S3x512x10x128, .f32⟩
  | 42 => ⟨S_, .f32⟩
  | 43 => ⟨S3x512x10x128, .f32⟩
  | 44 => ⟨S3x512x10x128, .f32⟩
  | 45 => ⟨S_, .f32⟩
  | 46 => ⟨S3x10x128, .f32⟩
  | 47 => ⟨S3x10x128, .f32⟩
  | 48 => ⟨S3x8x64x10x4x128, .bf16⟩
  | 49 => ⟨S3x10x8x4x64x128, .bf16⟩
  | 50 => ⟨S3x8x64x10x128, .bf16⟩
  | 51 => ⟨S3x10x8x64x128, .bf16⟩
  | 52 => ⟨S3x8x64x10x128, .f32⟩
  | 53 => ⟨S3x10x8x64x128, .f32⟩
  | 54 => ⟨S3x10x8x6x1, .i32⟩
  | 55 => ⟨S3x10x8x6x64x128, .bf16⟩
  | 56 => ⟨S3x10x8x384x128, .bf16⟩
  | 57 => ⟨S3x10x8x6x1, .i32⟩
  | 58 => ⟨S3x10x8x6x64x128, .f32⟩
  | 59 => ⟨S3x10x8x384x128, .f32⟩
  | 60 => ⟨S3x10x8x4x64x384, .f32⟩
  | 61 => ⟨S_, .f32⟩
  | 62 => ⟨S_, .f32⟩
  | 63 => ⟨S3x10x8x4x64x384, .f32⟩
  | 64 => ⟨S3x10x8x4x64x384, .f32⟩
  | 65 => ⟨S384, .i32⟩
  | 66 => ⟨S_, .i32⟩
  | 67 => ⟨S_, .i32⟩
  | 68 => ⟨S384, .i32⟩
  | 69 => ⟨S384, .i32⟩
  | 70 => ⟨S384, .i32⟩
  | 71 => ⟨S_, .i32⟩
  | 72 => ⟨S384, .i32⟩
  | 73 => ⟨S384, .i1⟩
  | 74 => ⟨S384, .i32⟩
  | 75 => ⟨S384, .i32⟩
  | 76 => ⟨S_, .i32⟩
  | 77 => ⟨S384, .i32⟩
  | 78 => ⟨S384, .i1⟩
  | 79 => ⟨S384, .i1⟩
  | 80 => ⟨S_, .i32⟩
  | 81 => ⟨S384, .i32⟩
  | 82 => ⟨S384, .i32⟩
  | 83 => ⟨S384, .i32⟩
  | 84 => ⟨S3x10x8x6x1, .i32⟩
  | 85 => ⟨S_, .i32⟩
  | 86 => ⟨S3x10x8x6x1, .i32⟩
  | 87 => ⟨S3x10x8x6x1, .i32⟩
  | 88 => ⟨S64, .i32⟩
  | 89 => ⟨S1x1x1x1x64, .i32⟩
  | 90 => ⟨S3x10x8x6x64, .i32⟩
  | 91 => ⟨S3x10x8x6x64, .i32⟩
  | 92 => ⟨S3x10x8x6x64, .i32⟩
  | 93 => ⟨S3x10x8x384, .i32⟩
  | 94 => ⟨S8, .i32⟩
  | 95 => ⟨S8x1, .i32⟩
  | 96 => ⟨S_, .i32⟩
  | 97 => ⟨S8x1, .i32⟩
  | 98 => ⟨S8x1, .i32⟩
  | 99 => ⟨S64, .i32⟩
  | 100 => ⟨S1x64, .i32⟩
  | 101 => ⟨S8x64, .i32⟩
  | 102 => ⟨S8x64, .i32⟩
  | 103 => ⟨S8x64, .i32⟩
  | 104 => ⟨S3x10x8x1, .i32⟩
  | 105 => ⟨S1x1x1x384, .i32⟩
  | 106 => ⟨S3x10x8x384, .i32⟩
  | 107 => ⟨S3x10x8x384, .i32⟩
  | 108 => ⟨S3x10x8x384, .i1⟩
  | 109 => ⟨S3x10x8x1x1x384, .i1⟩
  | 110 => ⟨S3x10x8x1x1x384, .i32⟩
  | 111 => ⟨S1x1x8x1x64x1, .i32⟩
  | 112 => ⟨S3x10x8x1x64x384, .i32⟩
  | 113 => ⟨S3x10x8x1x64x384, .i32⟩
  | 114 => ⟨S3x10x8x1x64x384, .i1⟩
  | 115 => ⟨S3x10x8x1x64x384, .i1⟩
  | 116 => ⟨S3x10x8x1x64x384, .i1⟩
  | 117 => ⟨S_, .f32⟩
  | 118 => ⟨S_, .f32⟩
  | 119 => ⟨S3x10x8x4x64x384, .i1⟩
  | 120 => ⟨S3x10x8x4x64x384, .f32⟩
  | 121 => ⟨S3x10x8x4x64x384, .f32⟩
  | 122 => ⟨S_, .f32⟩
  | 123 => ⟨S3x10x8x4x64, .f32⟩
  | 124 => ⟨S_, .f32⟩
  | 125 => ⟨S3x10x8x4x64, .f32⟩
  | 126 => ⟨S3x10x8x4x64, .f32⟩
  | 127 => ⟨S3x10x8x4x64x1, .f32⟩
  | _ => ⟨S3x512x5120, .bf16⟩

abbrev hbmTy0_1 (i : Nat) : BufTy := match i % 128 with
  | 0 => ⟨S3x10x8x4x64x384, .f32⟩
  | 1 => ⟨S3x10x8x4x64x384, .f32⟩
  | 2 => ⟨S3x10x8x4x64x384, .f32⟩
  | 3 => ⟨S_, .f32⟩
  | 4 => ⟨S3x10x8x4x64, .f32⟩
  | 5 => ⟨S3x10x8x4x64x1, .f32⟩
  | 6 => ⟨S3x10x8x4x64x384, .f32⟩
  | 7 => ⟨S3x10x8x4x64x384, .f32⟩
  | 8 => ⟨S3x10x8x4x64x384, .f32⟩
  | 9 => ⟨S_, .f32⟩
  | 10 => ⟨S3x10x8x4x64, .f32⟩
  | 11 => ⟨S_, .f32⟩
  | 12 => ⟨S3x10x8x4x64, .f32⟩
  | 13 => ⟨S3x10x8x4x64, .f32⟩
  | 14 => ⟨S3x10x8x4x64, .f32⟩
  | 15 => ⟨S_, .f32⟩
  | 16 => ⟨S_, .f32⟩
  | 17 => ⟨S3x10x8x4x64, .f32⟩
  | 18 => ⟨S3x10x8x4x64, .f32⟩
  | 19 => ⟨S3x10x8x4x64, .f32⟩
  | 20 => ⟨S_, .f32⟩
  | 21 => ⟨S3x10x8x4x64, .f32⟩
  | 22 => ⟨S3x10x8x4x64, .f32⟩
  | 23 => ⟨S_, .f32⟩
  | 24 => ⟨S3x10x8x4x64, .f32⟩
  | 25 => ⟨S3x10x8x4x64, .f32⟩
  | 26 => ⟨S_, .f32⟩
  | 27 => ⟨S3x10x8x4x64, .f32⟩
  | 28 => ⟨S3x10x8x4x64, .i1⟩
  | 29 => ⟨S_, .f32⟩
  | 30 => ⟨S_, .f32⟩
  | 31 => ⟨S3x10x8x4x64, .f32⟩
  | 32 => ⟨S3x10x8x4x64, .f32⟩
  | 33 => ⟨S3x10x8x4x64x1, .f32⟩
  | 34 => ⟨S3x10x8x4x64x1, .f32⟩
  | 35 => ⟨S_, .f32⟩
  | 36 => ⟨S3x10x8x4x64x1, .f32⟩
  | 37 => ⟨S3x10x8x4x64x1, .f32⟩
  | 38 => ⟨S3x10x8x4x64x384, .f32⟩
  | 39 => ⟨S3x10x8x4x64x384, .f32⟩
  | 40 => ⟨S_, .f32⟩
  | 41 => ⟨S3x10x8x4x64x384, .f32⟩
  | 42 => ⟨S3x10x8x4x64x384, .f32⟩
  | 43 => ⟨S_, .f32⟩
  | 44 => ⟨S3x10x8x4x64x384, .f32⟩
  | 45 => ⟨S3x10x8x4x64x384, .f32⟩
  | 46 => ⟨S3x10x8x4x64x128, .f32⟩
  | 47 => ⟨S_, .f32⟩
  | 48 => ⟨S3x10x8x4x64, .f32⟩
  | 49 => ⟨S3x10x8x4x64, .f32⟩
  | 50 => ⟨S3x10x8x4x64x1, .f32⟩
  | 51 => ⟨S3x10x8x4x64x128, .f32⟩
  | 52 => ⟨S3x10x8x4x64x128, .f32⟩
  | 53 => ⟨S3x10x1x1x1x128, .f32⟩
  | 54 => ⟨S3x10x8x4x64x128, .f32⟩
  | 55 => ⟨S3x10x8x4x64x128, .f32⟩
  | 56 => ⟨S3x10x8x4x64x128, .bf16⟩
  | 57 => ⟨S3x8x64x10x4x128, .bf16⟩
  | 58 => ⟨S3x512x5120, .bf16⟩
  | 59 => ⟨S3x512x10x128, .fp8e4m3⟩
  | 60 => ⟨S3x10x512x128, .fp8e4m3⟩
  | _ => ⟨S3x512x5120, .bf16⟩

abbrev hbmTy (i : Nat) : BufTy := match i / 128 with
  | 0 => hbmTy0_0 i
  | 1 => hbmTy0_1 i
  | _ => ⟨S3x512x5120, .bf16⟩

abbrev bufTy : (tb : Table) → Fin (tcTables nBuf tb) → BufTy
  | .hbm, ⟨i, _⟩ => hbmTy i
  | _, _ => ⟨S3x512x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_call0_v0 : Ref sig .tc := ⟨.hbm, 29, rfl⟩
abbrev main_call0_v1 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_6 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_7 : Ref sig .tc := ⟨.hbm, 39, rfl⟩
abbrev main_v24 : Ref sig .tc := ⟨.hbm, 40, rfl⟩
abbrev main_v25 : Ref sig .tc := ⟨.hbm, 41, rfl⟩
abbrev main_cst_8 : Ref sig .tc := ⟨.hbm, 42, rfl⟩
abbrev main_v26 : Ref sig .tc := ⟨.hbm, 43, rfl⟩
abbrev main_v27 : Ref sig .tc := ⟨.hbm, 44, rfl⟩
abbrev main_cst_9 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_10 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_c : Ref sig .tc := ⟨.hbm, 66, rfl⟩
abbrev main_call1_v0 : Ref sig .tc := ⟨.hbm, 67, rfl⟩
abbrev main_call1_v1 : Ref sig .tc := ⟨.hbm, 68, rfl⟩
abbrev main_call1_v2 : Ref sig .tc := ⟨.hbm, 69, rfl⟩
abbrev main_call1_v3 : Ref sig .tc := ⟨.hbm, 70, rfl⟩
abbrev main_call1_v4 : Ref sig .tc := ⟨.hbm, 71, rfl⟩
abbrev main_call1_v5 : Ref sig .tc := ⟨.hbm, 72, rfl⟩
abbrev main_call1_v6 : Ref sig .tc := ⟨.hbm, 73, rfl⟩
abbrev main_call1_v7 : Ref sig .tc := ⟨.hbm, 74, rfl⟩
abbrev main_call1_v8 : Ref sig .tc := ⟨.hbm, 75, rfl⟩
abbrev main_call1_c : Ref sig .tc := ⟨.hbm, 76, rfl⟩
abbrev main_call1_v9 : Ref sig .tc := ⟨.hbm, 77, rfl⟩
abbrev main_call1_v10 : Ref sig .tc := ⟨.hbm, 78, rfl⟩
abbrev main_call1_v11 : Ref sig .tc := ⟨.hbm, 79, rfl⟩
abbrev main_call1_c_0 : Ref sig .tc := ⟨.hbm, 80, rfl⟩
abbrev main_call1_v12 : Ref sig .tc := ⟨.hbm, 81, rfl⟩
abbrev main_call1_v13 : Ref sig .tc := ⟨.hbm, 82, rfl⟩
abbrev main_v47 : Ref sig .tc := ⟨.hbm, 83, rfl⟩
abbrev main_v48 : Ref sig .tc := ⟨.hbm, 84, rfl⟩
abbrev main_c_11 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_c_12 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_cst_13 : Ref sig .tc := ⟨.hbm, 117, rfl⟩
abbrev main_call2_v0 : Ref sig .tc := ⟨.hbm, 118, rfl⟩
abbrev main_call2_v1 : Ref sig .tc := ⟨.hbm, 119, rfl⟩
abbrev main_call2_v2 : Ref sig .tc := ⟨.hbm, 120, rfl⟩
abbrev main_v79 : Ref sig .tc := ⟨.hbm, 121, rfl⟩
abbrev main_cst_14 : Ref sig .tc := ⟨.hbm, 122, rfl⟩
abbrev main_v80 : Ref sig .tc := ⟨.hbm, 123, rfl⟩
abbrev main_cst_15 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_cst_16 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_cst_17 : Ref sig .tc := ⟨.hbm, 137, rfl⟩
abbrev main_v92 : Ref sig .tc := ⟨.hbm, 138, rfl⟩
abbrev main_cst_18 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_cst_19 : Ref sig .tc := ⟨.hbm, 143, rfl⟩
abbrev main_v96 : Ref sig .tc := ⟨.hbm, 144, rfl⟩
abbrev main_v97 : Ref sig .tc := ⟨.hbm, 145, rfl⟩
abbrev main_v98 : Ref sig .tc := ⟨.hbm, 146, rfl⟩
abbrev main_v99 : Ref sig .tc := ⟨.hbm, 147, rfl⟩
abbrev main_cst_20 : Ref sig .tc := ⟨.hbm, 148, rfl⟩
abbrev main_v100 : Ref sig .tc := ⟨.hbm, 149, rfl⟩
abbrev main_v101 : Ref sig .tc := ⟨.hbm, 150, rfl⟩
abbrev main_cst_21 : Ref sig .tc := ⟨.hbm, 151, rfl⟩
abbrev main_v102 : Ref sig .tc := ⟨.hbm, 152, rfl⟩
abbrev main_v103 : Ref sig .tc := ⟨.hbm, 153, rfl⟩
abbrev main_cst_22 : Ref sig .tc := ⟨.hbm, 154, rfl⟩
abbrev main_v104 : Ref sig .tc := ⟨.hbm, 155, rfl⟩
abbrev main_v105 : Ref sig .tc := ⟨.hbm, 156, rfl⟩
abbrev main_cst_23 : Ref sig .tc := ⟨.hbm, 157, rfl⟩
abbrev main_call3_v0 : Ref sig .tc := ⟨.hbm, 158, rfl⟩
abbrev main_call3_v1 : Ref sig .tc := ⟨.hbm, 159, rfl⟩
abbrev main_v106 : Ref sig .tc := ⟨.hbm, 160, rfl⟩
abbrev main_v107 : Ref sig .tc := ⟨.hbm, 161, rfl⟩
abbrev main_v108 : Ref sig .tc := ⟨.hbm, 162, rfl⟩
abbrev main_cst_24 : Ref sig .tc := ⟨.hbm, 163, rfl⟩
abbrev main_v109 : Ref sig .tc := ⟨.hbm, 164, rfl⟩
abbrev main_v110 : Ref sig .tc := ⟨.hbm, 165, rfl⟩
abbrev main_v111 : Ref sig .tc := ⟨.hbm, 166, rfl⟩
abbrev main_v112 : Ref sig .tc := ⟨.hbm, 167, rfl⟩
abbrev main_cst_25 : Ref sig .tc := ⟨.hbm, 168, rfl⟩
abbrev main_v113 : Ref sig .tc := ⟨.hbm, 169, rfl⟩
abbrev main_v114 : Ref sig .tc := ⟨.hbm, 170, rfl⟩
abbrev main_cst_26 : Ref sig .tc := ⟨.hbm, 171, rfl⟩
abbrev main_v115 : Ref sig .tc := ⟨.hbm, 172, rfl⟩
abbrev main_v116 : Ref sig .tc := ⟨.hbm, 173, rfl⟩
abbrev main_v117 : Ref sig .tc := ⟨.hbm, 174, rfl⟩
abbrev main_cst_27 : Ref sig .tc := ⟨.hbm, 175, rfl⟩
abbrev main_v118 : Ref sig .tc := ⟨.hbm, 176, rfl⟩
abbrev main_v119 : Ref sig .tc := ⟨.hbm, 177, rfl⟩
abbrev main_v120 : Ref sig .tc := ⟨.hbm, 178, rfl⟩
abbrev main_v121 : Ref sig .tc := ⟨.hbm, 179, rfl⟩
abbrev main_v122 : Ref sig .tc := ⟨.hbm, 180, rfl⟩
abbrev main_v123 : Ref sig .tc := ⟨.hbm, 181, rfl⟩
abbrev main_v124 : Ref sig .tc := ⟨.hbm, 182, rfl⟩
abbrev main_v125 : Ref sig .tc := ⟨.hbm, 183, rfl⟩
abbrev main_v126 : Ref sig .tc := ⟨.hbm, 184, rfl⟩
abbrev main_v127 : Ref sig .tc := ⟨.hbm, 185, rfl⟩
abbrev main_v128 : Ref sig .tc := ⟨.hbm, 186, rfl⟩
abbrev main_v129 : Ref sig .tc := ⟨.hbm, 187, rfl⟩
abbrev main_v130 : Ref sig .tc := ⟨.hbm, 188, rfl⟩

abbrev nD : Nat := 1
abbrev τ : Topo := Topo.v7x

variable {F : FTy → Type} [FloatOps F]
-- ==== Proof.InRange.lean ====
/- What the precondition `blocks_in_range` says of one word of the block table. -/
module

public import proofs.«01_k».proof.Proof.Gen.Pre_blocks_in_range
public import Idealize.ShloMosaic.Lib.ReduceAll
public import Idealize.ShloMosaic.Lib.Pointwise

@[expose] public section

namespace Cert.Pre_blocks_in_range

open Idealize.ShloMosaic

/-- Under `blocks_in_range`, the word at batch `b`, group `g`, query block `n`, slot `t` with `t ≤ n` names one of the
    eight blocks. -/
theorem word_lt {F : FTy → Type} [FloatOps F] (x : FVec F S3x512x5120 .bf16) (k v : FVec F S3x512x1280 .bf16)
    (idx : IVec S3x10x8x6 32) (cnt : IVec S3x10x8 32) (h : fn (F := F) x k v idx cnt = fun _ => 1#1)
    (y : S3x10x8x6.Idx) (hy : (y 3).val ≤ (y 2).val) : (idx y).toNat < 8 := by
  have : Subsingleton S_.Idx := ⟨fun a b => funext fun i => i.elim0⟩
  have e : IntOp.ori (~~~ (IntOp.cmpi .sle (BitVec.ofNat 32 (y 3).val) (BitVec.ofNat 32 (y 2).val)))
      (IntOp.andi (IntOp.cmpi .sge (idx y) 0#32) (IntOp.cmpi .slt (idx y) 8#32)) = 1#1 :=
    Host.reduce_andi_all _ _ _ _ (fun i => i.elim0) (congrFun h (fun i => i.elim0)) y
  have h3 : (y 3).val < 6 := (y 3).isLt
  have h2 : (y 2).val < 8 := (y 2).isLt
  have c3 : (BitVec.ofNat 32 (y 3).val).toInt = (y 3).val := by rw [BitVec.toInt_eq_toNat_cond, BitVec.toNat_ofNat]; omega
  have c2 : (BitVec.ofNat 32 (y 2).val).toInt = (y 2).val := by rw [BitVec.toInt_eq_toNat_cond, BitVec.toNat_ofNat]; omega
  rw [IntOp.ori_eq_one, IntOp.not_eq_one, IntOp.andi_eq_one, IntOp.cmpi_sle, IntOp.cmpi_sge, IntOp.cmpi_slt, c3, c2,
    show (0#32).toInt = 0 from rfl, show (8#32).toInt = 8 from rfl, BitVec.toInt_eq_toNat_cond] at e
  have := (idx y).isLt
  split_ifs at e <;> omega

end Cert.Pre_blocks_in_range

end
-- ==== Proof.Kernel.Points.lean ====
/- The schedule of the windows on the grid: at which points each is fetched and written back. -/
module

public import proofs.«01_k».proof.Proof.Gen.Kernel
public import Idealize.ShloMosaic.Lib.Pipeline.Kit

@[expose] public section

noncomputable section

namespace Cert.Kernel.Gen

open Idealize.ShloMosaic Idealize.ShloMosaic.TcCoe
open Idealize.SL Idealize.SL.Sem

variable {F : FTy → Type} [BitOps F]
/-! ## custom_call 0 -/

/-! A call with PREFETCHED TABLES: its memrefs and body are stated over the pipeline at ANY admissible contents `a`
    of the tables (a certificate instantiates them at the contents it reads off the launch memory). A window whose
    index map reads no table has the same schedule at every `a`: stated over the grid, the window's direction and
    that map alone (Lib/Pipeline/Kit.lean `Window.fetchOf` / `flushOf`), proved from the map and the fact about the
    axes it reads (`hreadsK_W`) or decided, and restated over the pinned window, which unfolds to them. A window whose
    map reads a table gets none here. -/

/-- Window 0 (operand 2 (%arg0)) is fetched at every point, at any contents of the tables (its index map reads none). -/
theorem fetch0_0 (a : (pcfg0 (F := F)).Adm) : ∀ t : Fin (cfg0 a).N, ((cfg0 a).win 0).fetch t = true :=
  (by decide +kernel : ∀ t : Fin grid0.N, Pipeline.Window.fetchOf grid0 false cc0_transform_0 t = true)
/-- Window 1 (operand 3 (%arg0)) is fetched at every point, at any contents of the tables (its index map reads none). -/
theorem fetch0_1 (a : (pcfg0 (F := F)).Adm) : ∀ t : Fin (cfg0 a).N, ((cfg0 a).win 1).fetch t = true :=
  (by decide +kernel : ∀ t : Fin grid0.N, Pipeline.Window.fetchOf grid0 false cc0_transform_1 t = true)
/-- Window 2 (operand 4 (%arg0)) is fetched at every point, at any contents of the tables (its index map reads none). -/
theorem fetch0_2 (a : (pcfg0 (F := F)).Adm) : ∀ t : Fin (cfg0 a).N, ((cfg0 a).win 2).fetch t = true :=
  (by decide +kernel : ∀ t : Fin grid0.N, Pipeline.Window.fetchOf grid0 false cc0_transform_2 t = true)
/-- Window 3 (operand 5 (%arg0)) is fetched at every point, at any contents of the tables (its index map reads none). -/
theorem fetch0_3 (a : (pcfg0 (F := F)).Adm) : ∀ t : Fin (cfg0 a).N, ((cfg0 a).win 3).fetch t = true :=
  (by decide +kernel : ∀ t : Fin grid0.N, Pipeline.Window.fetchOf grid0 false cc0_transform_3 t = true)
/-- Window 4 (operand 6 (%arg1)) is fetched at every point, at any contents of the tables (its index map reads none). -/
theorem fetch0_4 (a : (pcfg0 (F := F)).Adm) : ∀ t : Fin (cfg0 a).N, ((cfg0 a).win 4).fetch t = true :=
  (by decide +kernel : ∀ t : Fin grid0.N, Pipeline.Window.fetchOf grid0 false cc0_transform_4 t = true)
/-- Window 5 (operand 7 (%arg2)) is fetched at every point, at any contents of the tables (its index map reads none). -/
theorem fetch0_5 (a : (pcfg0 (F := F)).Adm) : ∀ t : Fin (cfg0 a).N, ((cfg0 a).win 5).fetch t = true :=
  (by decide +kernel : ∀ t : Fin grid0.N, Pipeline.Window.fetchOf grid0 false cc0_transform_5 t = true)
/-- Window 6 (result 0 (%2, result 0)) is written back at every point, at any contents of the tables (its index map reads none). -/
theorem flush0_6 (a : (pcfg0 (F := F)).Adm) : ∀ t : Fin (cfg0 a).N, ((cfg0 a).win 6).flush t = true :=
  (fun t => (Pipeline.Window.flushOf_reads cc0_transform_6 reads0_6 hreads0_6 1 (by decide) (by decide) (Pipeline.Window.sep_of_coord cc0_transform_6 1 2 (fun _ => rfl) (by decide)) (P := 1) (m := 0) (by decide) rfl t).mpr (Nat.mod_one _) : ∀ t : Fin grid0.N, Pipeline.Window.flushOf grid0 true cc0_transform_6 t = true)
/-- Window 7 (result 1 1) is written back at every point, at any contents of the tables (its index map reads none). -/
theorem flush0_7 (a : (pcfg0 (F := F)).Adm) : ∀ t : Fin (cfg0 a).N, ((cfg0 a).win 7).flush t = true :=
  (fun t => (Pipeline.Window.flushOf_reads cc0_transform_7 reads0_7 hreads0_7 1 (by decide) (by decide) (Pipeline.Window.sep_of_coord cc0_transform_7 1 1 (fun _ => rfl) (by decide)) (P := 1) (m := 0) (by decide) rfl t).mpr (Nat.mod_one _) : ∀ t : Fin grid0.N, Pipeline.Window.flushOf grid0 true cc0_transform_7 t = true)
/-- Window 8 (result 2 2) is written back at the last point only, at any contents of the tables (its index map reads none). -/
theorem flush0_8 (a : (pcfg0 (F := F)).Adm) : ∀ t : Fin (cfg0 a).N, ((cfg0 a).win 8).flush t = true ↔ t.val % 30 = 29 :=
  (fun t => Pipeline.Window.flushOf_const cc0_transform_8 (fun _ _ => rfl) (n := 30) (by decide) rfl t : ∀ t : Fin grid0.N, Pipeline.Window.flushOf grid0 true cc0_transform_8 t = true ↔ t.val % 30 = 29)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)
abbrev st0_6 (a : (pcfg0 (F := F)).Adm) (t : Fin (cfg0 a).N) := ((cfg0 a).win 6).stage ((cfg0 a).slots t 6)
abbrev st0_7 (a : (pcfg0 (F := F)).Adm) (t : Fin (cfg0 a).N) := ((cfg0 a).win 7).stage ((cfg0 a).slots t 7)
abbrev st0_8 (a : (pcfg0 (F := F)).Adm) (t : Fin (cfg0 a).N) := ((cfg0 a).win 8).stage ((cfg0 a).slots t 8)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0__body (grid0.coords t) (Memref.whole main_v0) (Memref.isWhole_whole _) (Memref.whole main_v1) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _)

end Cert.Kernel.Gen

end
-- ==== Proof.Kernel.Runs.lean ====
/- What the run of the body is stated over: the buffers when the region is entered, the tables, the blocks of the windows, the branch condition, and the side conditions on the words of the tables. -/
module

public import proofs.«01_k».proof.Proof.Gen.Kernel.Launch
public import proofs.«01_k».proof.Proof.Gen.Kernel.Skeleton
public import proofs.«01_k».proof.Proof.Kernel.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 2) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S3x6x8x10 .i32 := Memref.whole main_v0
abbrev htbM0_0 : tbM0_0.IsWhole := Memref.isWhole_whole _
abbrev tbM0_1 : Memref sig .tc .smem S3x8x10 .i32 := Memref.whole main_v1
abbrev htbM0_1 : tbM0_1.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0) ∗ tbPt0 c tbM0_1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (hO : Ok m) (rdat : (c : Dev nD) → Pipeline.RDat τ (Elt F) Unit ℕ (UR sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePost ((Pipeline.pin pcfgs fun _ => adm m hO) 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(Pipeline.RDat.FramePost.arr_in h c 3 rfl).trans ((hA c 3).trans (V_main_arg0 m c)),
      (Pipeline.RDat.FramePost.arr_in h c 4 rfl).trans ((hA c 4).trans (V_main_arg1 m c)),
      (Pipeline.RDat.FramePost.arr_in h c 5 rfl).trans ((hA c 5).trans (V_main_arg2 m c)),
      ((h c).2 main_arg3 (by decide : main_arg3 ∈ Pipeline.restRefs sig spec0)).trans (V_main_arg3 m c),
      ((h c).2 main_arg4 (by decide : main_arg4 ∈ Pipeline.restRefs sig spec0)).trans (V_main_arg4 m c)⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first point only — by arithmetic of the point. -/
theorem hcond0_0 : ∀ t : Fin grid0.N, cond0_0 (grid0.coords t) ↔ t.val % 30 = 0 :=
  (fun t => by
    have ht : t.val < 30 := Nat.lt_of_lt_of_eq t.isLt N_0
    have e0 : (grid0.coords t 0).val = t.val / 10 % 3 := Pipeline.Grid.coords_val t 0 (by decide) rfl
    have e1 : (grid0.coords t 1).val = t.val / 1 % 10 := Pipeline.Grid.coords_val t 1 (by decide) rfl
    simp only [cond0_0, e0, e1]
    word_cmp
   : ∀ t : Fin grid0.N, cond0_0 (grid0.coords t) ↔ t.val % 30 = 0)

/-! ## The kernel body on any staging memrefs: a subtype the run finds -/

/-- Each window's current staging memref at point `t`, spelled as the pipeline passes it (`bodyAt0`), and its wholeness. -/
abbrev ms0_0 (hO : Ok m) (t : Fin (cfgM m hO).N) : Memref sig .tc .vmem S1x512x128 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x512x128 .bf16 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x512x128 .bf16 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x512x128 .bf16 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x512x128 .bf16 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1x512x128 .bf16 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S1x512x512 .bf16 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S1x1x512x128 .fp8e4m3 := spec0_7.stage ((cfgM m hO).slots t 7)
abbrev hs0_7 (hO : Ok m) (t : Fin (cfgM m hO).N) : (ms0_7 m hO t).IsWhole := hstage0_7 (((cfgM m hO).slots t 7).cast nbuf0_7)
abbrev ms0_8 (hO : Ok m) (t : Fin (cfgM m hO).N) : Memref sig .tc .vmem S10x3x128 .f32 := spec0_8.stage ((cfgM m hO).slots t 8)
abbrev hs0_8 (hO : Ok m) (t : Fin (cfgM m hO).N) : (ms0_8 m hO t).IsWhole := hstage0_8 (((cfgM m hO).slots t 8).cast nbuf0_8)

/-! ## The side conditions the body assumes, as the frame's hypothesis -/

/-- The side conditions on the words of the two tables that the body takes at grid point `i`: for every key block of every
    query block, that the block which the word names lies inside the scratch it is read from. -/
structure HW (c : Dev nD) (i : grid0.Coords) (xt0 : TbBuf0 (F := F) c tbM0_0) (xt1 : TbBuf0 (F := F) c tbM0_1) : Prop where
  p1 : k0_chk1 (tbM0_1.view.readAt (Elt F) (Rect.unit (s := S3x8x10) (k0_off2 i) S1x1x1.size (k0_off2_inb i)).toLoadRect xt1 (Shape.Idx.first (numel1_S1x1x1.symm ▸ Nat.one_pos))) (tbM0_0.view.readAt (Elt F) (Rect.unit (s := S3x6x8x10) (k0_off3 i) S1x1x1x1.size (k0_off3_inb i)).toLoadRect xt0 (Shape.Idx.first (numel1_S1x1x1x1.symm ▸ Nat.one_pos)))
  p2 : k0_chk2 (tbM0_1.view.readAt (Elt F) (Rect.unit (s := S3x8x10) (k0_off7 i) S1x1x1.size (k0_off7_inb i)).toLoadRect xt1 (Shape.Idx.first (numel1_S1x1x1.symm ▸ Nat.one_pos))) (tbM0_0.view.readAt (Elt F) (Rect.unit (s := S3x6x8x10) (k0_off8 i) S1x1x1x1.size (k0_off8_inb i)).toLoadRect xt0 (Shape.Idx.first (numel1_S1x1x1x1.symm ▸ Nat.one_pos)))
  p3 : k0_chk3 (tbM0_1.view.readAt (Elt F) (Rect.unit (s := S3x8x10) (k0_off7 i) S1x1x1.size (k0_off7_inb i)).toLoadRect xt1 (Shape.Idx.first (numel1_S1x1x1.symm ▸ Nat.one_pos))) (tbM0_0.view.readAt (Elt F) (Rect.unit (s := S3x6x8x10) (k0_off12 i) S1x1x1x1.size (k0_off12_inb i)).toLoadRect xt0 (Shape.Idx.first (numel1_S1x1x1x1.symm ▸ Nat.one_pos)))
  p4 : k0_chk4 (tbM0_1.view.readAt (Elt F) (Rect.unit (s := S3x8x10) (k0_off16 i) S1x1x1.size (k0_off16_inb i)).toLoadRect xt1 (Shape.Idx.first (numel1_S1x1x1.symm ▸ Nat.one_pos))) (tbM0_0.view.readAt (Elt F) (Rect.unit (s := S3x6x8x10) (k0_off17 i) S1x1x1x1.size (k0_off17_inb i)).toLoadRect xt0 (Shape.Idx.first (numel1_S1x1x1x1.symm ▸ Nat.one_pos)))
  p5 : k0_chk5 (tbM0_1.view.readAt (Elt F) (Rect.unit (s := S3x8x10) (k0_off16 i) S1x1x1.size (k0_off16_inb i)).toLoadRect xt1 (Shape.Idx.first (numel1_S1x1x1.symm ▸ Nat.one_pos))) (tbM0_0.view.readAt (Elt F) (Rect.unit (s := S3x6x8x10) (k0_off21 i) S1x1x1x1.size (k0_off21_inb i)).toLoadRect xt0 (Shape.Idx.first (numel1_S1x1x1x1.symm ▸ Nat.one_pos)))
  p6 : k0_chk6 (tbM0_1.view.readAt (Elt F) (Rect.unit (s := S3x8x10) (k0_off16 i) S1x1x1.size (k0_off16_inb i)).toLoadRect xt1 (Shape.Idx.first (numel1_S1x1x1.symm ▸ Nat.one_pos))) (tbM0_0.view.readAt (Elt F) (Rect.unit (s := S3x6x8x10) (k0_off25 i) S1x1x1x1.size (k0_off25_inb i)).toLoadRect xt0 (Shape.Idx.first (numel1_S1x1x1x1.symm ▸ Nat.one_pos)))
  p7 : k0_chk7 (tbM0_1.view.readAt (Elt F) (Rect.unit (s := S3x8x10) (k0_off29 i) S1x1x1.size (k0_off29_inb i)).toLoadRect xt1 (Shape.Idx.first (numel1_S1x1x1.symm ▸ Nat.one_pos))) (tbM0_0.view.readAt (Elt F) (Rect.unit (s := S3x6x8x10) (k0_off30 i) S1x1x1x1.size (k0_off30_inb i)).toLoadRect xt0 (Shape.Idx.first (numel1_S1x1x1x1.symm ▸ Nat.one_pos)))
  p8 : k0_chk8 (tbM0_1.view.readAt (Elt F) (Rect.unit (s := S3x8x10) (k0_off29 i) S1x1x1.size (k0_off29_inb i)).toLoadRect xt1 (Shape.Idx.first (numel1_S1x1x1.symm ▸ Nat.one_pos))) (tbM0_0.view.readAt (Elt F) (Rect.unit (s := S3x6x8x10) (k0_off34 i) S1x1x1x1.size (k0_off34_inb i)).toLoadRect xt0 (Shape.Idx.first (numel1_S1x1x1x1.symm ▸ Nat.one_pos)))
  p9 : k0_chk9 (tbM0_1.view.readAt (Elt F) (Rect.unit (s := S3x8x10) (k0_off29 i) S1x1x1.size (k0_off29_inb i)).toLoadRect xt1 (Shape.Idx.first (numel1_S1x1x1.symm ▸ Nat.one_pos))) (tbM0_0.view.readAt (Elt F) (Rect.unit (s := S3x6x8x10) (k0_off38 i) S1x1x1x1.size (k0_off38_inb i)).toLoadRect xt0 (Shape.Idx.first (numel1_S1x1x1x1.symm ▸ Nat.one_pos)))
  p10 : k0_chk10 (tbM0_1.view.readAt (Elt F) (Rect.unit (s := S3x8x10) (k0_off29 i) S1x1x1.size (k0_off29_inb i)).toLoadRect xt1 (Shape.Idx.first (numel1_S1x1x1.symm ▸ Nat.one_pos))) (tbM0_0.view.readAt (Elt F) (Rect.unit (s := S3x6x8x10) (k0_off42 i) S1x1x1x1.size (k0_off42_inb i)).toLoadRect xt0 (Shape.Idx.first (numel1_S1x1x1x1.symm ▸ Nat.one_pos)))
  p11 : k0_chk11 (tbM0_1.view.readAt (Elt F) (Rect.unit (s := S3x8x10) (k0_off46 i) S1x1x1.size (k0_off46_inb i)).toLoadRect xt1 (Shape.Idx.first (numel1_S1x1x1.symm ▸ Nat.one_pos))) (tbM0_0.view.readAt (Elt F) (Rect.unit (s := S3x6x8x10) (k0_off47 i) S1x1x1x1.size (k0_off47_inb i)).toLoadRect xt0 (Shape.Idx.first (numel1_S1x1x1x1.symm ▸ Nat.one_pos)))
  p12 : k0_chk12 (tbM0_1.view.readAt (Elt F) (Rect.unit (s := S3x8x10) (k0_off46 i) S1x1x1.size (k0_off46_inb i)).toLoadRect xt1 (Shape.Idx.first (numel1_S1x1x1.symm ▸ Nat.one_pos))) (tbM0_0.view.readAt (Elt F) (Rect.unit (s := S3x6x8x10) (k0_off51 i) S1x1x1x1.size (k0_off51_inb i)).toLoadRect xt0 (Shape.Idx.first (numel1_S1x1x1x1.symm ▸ Nat.one_pos)))
  p13 : k0_chk13 (tbM0_1.view.readAt (Elt F) (Rect.unit (s := S3x8x10) (k0_off46 i) S1x1x1.size (k0_off46_inb i)).toLoadRect xt1 (Shape.Idx.first (numel1_S1x1x1.symm ▸ Nat.one_pos))) (tbM0_0.view.readAt (Elt F) (Rect.unit (s := S3x6x8x10) (k0_off55 i) S1x1x1x1.size (k0_off55_inb i)).toLoadRect xt0 (Shape.Idx.first (numel1_S1x1x1x1.symm ▸ Nat.one_pos)))
  p14 : k0_chk14 (tbM0_1.view.readAt (Elt F) (Rect.unit (s := S3x8x10) (k0_off46 i) S1x1x1.size (k0_off46_inb i)).toLoadRect xt1 (Shape.Idx.first (numel1_S1x1x1.symm ▸ Nat.one_pos))) (tbM0_0.view.readAt (Elt F) (Rect.unit (s := S3x6x8x10) (k0_off59 i) S1x1x1x1.size (k0_off59_inb i)).toLoadRect xt0 (Shape.Idx.first (numel1_S1x1x1x1.symm ▸ Nat.one_pos)))
  p15 : k0_chk15 (tbM0_1.view.readAt (Elt F) (Rect.unit (s := S3x8x10) (k0_off46 i) S1x1x1.size (k0_off46_inb i)).toLoadRect xt1 (Shape.Idx.first (numel1_S1x1x1.symm ▸ Nat.one_pos))) (tbM0_0.view.readAt (Elt F) (Rect.unit (s := S3x6x8x10) (k0_off63 i) S1x1x1x1.size (k0_off63_inb i)).toLoadRect xt0 (Shape.Idx.first (numel1_S1x1x1x1.symm ▸ Nat.one_pos)))
  p16 : k0_chk16 (tbM0_1.view.readAt (Elt F) (Rect.unit (s := S3x8x10) (k0_off67 i) S1x1x1.size (k0_off67_inb i)).toLoadRect xt1 (Shape.Idx.first (numel1_S1x1x1.symm ▸ Nat.one_pos))) (tbM0_0.view.readAt (Elt F) (Rect.unit (s := S3x6x8x10) (k0_off68 i) S1x1x1x1.size (k0_off68_inb i)).toLoadRect xt0 (Shape.Idx.first (numel1_S1x1x1x1.symm ▸ Nat.one_pos)))
  p17 : k0_chk17 (tbM0_1.view.readAt (Elt F) (Rect.unit (s := S3x8x10) (k0_off67 i) S1x1x1.size (k0_off67_inb i)).toLoadRect xt1 (Shape.Idx.first (numel1_S1x1x1.symm ▸ Nat.one_pos))) (tbM0_0.view.readAt (Elt F) (Rect.unit (s := S3x6x8x10) (k0_off72 i) S1x1x1x1.size (k0_off72_inb i)).toLoadRect xt0 (Shape.Idx.first (numel1_S1x1x1x1.symm ▸ Nat.one_pos)))
  p18 : k0_chk18 (tbM0_1.view.readAt (Elt F) (Rect.unit (s := S3x8x10) (k0_off67 i) S1x1x1.size (k0_off67_inb i)).toLoadRect xt1 (Shape.Idx.first (numel1_S1x1x1.symm ▸ Nat.one_pos))) (tbM0_0.view.readAt (Elt F) (Rect.unit (s := S3x6x8x10) (k0_off76 i) S1x1x1x1.size (k0_off76_inb i)).toLoadRect xt0 (Shape.Idx.first (numel1_S1x1x1x1.symm ▸ Nat.one_pos)))
  p19 : k0_chk19 (tbM0_1.view.readAt (Elt F) (Rect.unit (s := S3x8x10) (k0_off67 i) S1x1x1.size (k0_off67_inb i)).toLoadRect xt1 (Shape.Idx.first (numel1_S1x1x1.symm ▸ Nat.one_pos))) (tbM0_0.view.readAt (Elt F) (Rect.unit (s := S3x6x8x10) (k0_off80 i) S1x1x1x1.size (k0_off80_inb i)).toLoadRect xt0 (Shape.Idx.first (numel1_S1x1x1x1.symm ▸ Nat.one_pos)))
  p20 : k0_chk20 (tbM0_1.view.readAt (Elt F) (Rect.unit (s := S3x8x10) (k0_off67 i) S1x1x1.size (k0_off67_inb i)).toLoadRect xt1 (Shape.Idx.first (numel1_S1x1x1.symm ▸ Nat.one_pos))) (tbM0_0.view.readAt (Elt F) (Rect.unit (s := S3x6x8x10) (k0_off84 i) S1x1x1x1.size (k0_off84_inb i)).toLoadRect xt0 (Shape.Idx.first (numel1_S1x1x1x1.symm ▸ Nat.one_pos)))
  p21 : k0_chk21 (tbM0_1.view.readAt (Elt F) (Rect.unit (s := S3x8x10) (k0_off67 i) S1x1x1.size (k0_off67_inb i)).toLoadRect xt1 (Shape.Idx.first (numel1_S1x1x1.symm ▸ Nat.one_pos))) (tbM0_0.view.readAt (Elt F) (Rect.unit (s := S3x6x8x10) (k0_off88 i) S1x1x1x1.size (k0_off88_inb i)).toLoadRect xt0 (Shape.Idx.first (numel1_S1x1x1x1.symm ▸ Nat.one_pos)))
  p22 : k0_chk22 (tbM0_1.view.readAt (Elt F) (Rect.unit (s := S3x8x10) (k0_off92 i) S1x1x1.size (k0_off92_inb i)).toLoadRect xt1 (Shape.Idx.first (numel1_S1x1x1.symm ▸ Nat.one_pos))) (tbM0_0.view.readAt (Elt F) (Rect.unit (s := S3x6x8x10) (k0_off93 i) S1x1x1x1.size (k0_off93_inb i)).toLoadRect xt0 (Shape.Idx.first (numel1_S1x1x1x1.symm ▸ Nat.one_pos)))
  p23 : k0_chk23 (tbM0_1.view.readAt (Elt F) (Rect.unit (s := S3x8x10) (k0_off92 i) S1x1x1.size (k0_off92_inb i)).toLoadRect xt1 (Shape.Idx.first (numel1_S1x1x1.symm ▸ Nat.one_pos))) (tbM0_0.view.readAt (Elt F) (Rect.unit (s := S3x6x8x10) (k0_off97 i) S1x1x1x1.size (k0_off97_inb i)).toLoadRect xt0 (Shape.Idx.first (numel1_S1x1x1x1.symm ▸ Nat.one_pos)))
  p24 : k0_chk24 (tbM0_1.view.readAt (Elt F) (Rect.unit (s := S3x8x10) (k0_off92 i) S1x1x1.size (k0_off92_inb i)).toLoadRect xt1 (Shape.Idx.first (numel1_S1x1x1.symm ▸ Nat.one_pos))) (tbM0_0.view.readAt (Elt F) (Rect.unit (s := S3x6x8x10) (k0_off101 i) S1x1x1x1.size (k0_off101_inb i)).toLoadRect xt0 (Shape.Idx.first (numel1_S1x1x1x1.symm ▸ Nat.one_pos)))
  p25 : k0_chk25 (tbM0_1.view.readAt (Elt F) (Rect.unit (s := S3x8x10) (k0_off92 i) S1x1x1.size (k0_off92_inb i)).toLoadRect xt1 (Shape.Idx.first (numel1_S1x1x1.symm ▸ Nat.one_pos))) (tbM0_0.view.readAt (Elt F) (Rect.unit (s := S3x6x8x10) (k0_off105 i) S1x1x1x1.size (k0_off105_inb i)).toLoadRect xt0 (Shape.Idx.first (numel1_S1x1x1x1.symm ▸ Nat.one_pos)))
  p26 : k0_chk26 (tbM0_1.view.readAt (Elt F) (Rect.unit (s := S3x8x10) (k0_off92 i) S1x1x1.size (k0_off92_inb i)).toLoadRect xt1 (Shape.Idx.first (numel1_S1x1x1.symm ▸ Nat.one_pos))) (tbM0_0.view.readAt (Elt F) (Rect.unit (s := S3x6x8x10) (k0_off109 i) S1x1x1x1.size (k0_off109_inb i)).toLoadRect xt0 (Shape.Idx.first (numel1_S1x1x1x1.symm ▸ Nat.one_pos)))
  p27 : k0_chk27 (tbM0_1.view.readAt (Elt F) (Rect.unit (s := S3x8x10) (k0_off92 i) S1x1x1.size (k0_off92_inb i)).toLoadRect xt1 (Shape.Idx.first (numel1_S1x1x1.symm ▸ Nat.one_pos))) (tbM0_0.view.readAt (Elt F) (Rect.unit (s := S3x6x8x10) (k0_off113 i) S1x1x1x1.size (k0_off113_inb i)).toLoadRect xt0 (Shape.Idx.first (numel1_S1x1x1x1.symm ▸ Nat.one_pos)))
  p28 : k0_chk28 (tbM0_1.view.readAt (Elt F) (Rect.unit (s := S3x8x10) (k0_off117 i) S1x1x1.size (k0_off117_inb i)).toLoadRect xt1 (Shape.Idx.first (numel1_S1x1x1.symm ▸ Nat.one_pos))) (tbM0_0.view.readAt (Elt F) (Rect.unit (s := S3x6x8x10) (k0_off118 i) S1x1x1x1.size (k0_off118_inb i)).toLoadRect xt0 (Shape.Idx.first (numel1_S1x1x1x1.symm ▸ Nat.one_pos)))
  p29 : k0_chk29 (tbM0_1.view.readAt (Elt F) (Rect.unit (s := S3x8x10) (k0_off117 i) S1x1x1.size (k0_off117_inb i)).toLoadRect xt1 (Shape.Idx.first (numel1_S1x1x1.symm ▸ Nat.one_pos))) (tbM0_0.view.readAt (Elt F) (Rect.unit (s := S3x6x8x10) (k0_off122 i) S1x1x1x1.size (k0_off122_inb i)).toLoadRect xt0 (Shape.Idx.first (numel1_S1x1x1x1.symm ▸ Nat.one_pos)))
  p30 : k0_chk30 (tbM0_1.view.readAt (Elt F) (Rect.unit (s := S3x8x10) (k0_off117 i) S1x1x1.size (k0_off117_inb i)).toLoadRect xt1 (Shape.Idx.first (numel1_S1x1x1.symm ▸ Nat.one_pos))) (tbM0_0.view.readAt (Elt F) (Rect.unit (s := S3x6x8x10) (k0_off126 i) S1x1x1x1.size (k0_off126_inb i)).toLoadRect xt0 (Shape.Idx.first (numel1_S1x1x1x1.symm ▸ Nat.one_pos)))
  p31 : k0_chk31 (tbM0_1.view.readAt (Elt F) (Rect.unit (s := S3x8x10) (k0_off117 i) S1x1x1.size (k0_off117_inb i)).toLoadRect xt1 (Shape.Idx.first (numel1_S1x1x1.symm ▸ Nat.one_pos))) (tbM0_0.view.readAt (Elt F) (Rect.unit (s := S3x6x8x10) (k0_off130 i) S1x1x1x1.size (k0_off130_inb i)).toLoadRect xt0 (Shape.Idx.first (numel1_S1x1x1x1.symm ▸ Nat.one_pos)))
  p32 : k0_chk32 (tbM0_1.view.readAt (Elt F) (Rect.unit (s := S3x8x10) (k0_off117 i) S1x1x1.size (k0_off117_inb i)).toLoadRect xt1 (Shape.Idx.first (numel1_S1x1x1.symm ▸ Nat.one_pos))) (tbM0_0.view.readAt (Elt F) (Rect.unit (s := S3x6x8x10) (k0_off134 i) S1x1x1x1.size (k0_off134_inb i)).toLoadRect xt0 (Shape.Idx.first (numel1_S1x1x1x1.symm ▸ Nat.one_pos)))
  p33 : k0_chk33 (tbM0_1.view.readAt (Elt F) (Rect.unit (s := S3x8x10) (k0_off117 i) S1x1x1.size (k0_off117_inb i)).toLoadRect xt1 (Shape.Idx.first (numel1_S1x1x1.symm ▸ Nat.one_pos))) (tbM0_0.view.readAt (Elt F) (Rect.unit (s := S3x6x8x10) (k0_off138 i) S1x1x1x1.size (k0_off138_inb i)).toLoadRect xt0 (Shape.Idx.first (numel1_S1x1x1x1.symm ▸ Nat.one_pos)))

/-- The side conditions at every grid point, over the words that the tables hold when the region is entered. -/
def Hyps (m : (ℓ : Loc nD τ sig) → Buf (Elt F) ℓ) (hO : Ok m) : Prop :=
  ∀ (c : Dev nD) (t : Fin (cfgM m hO).N), HW c (grid0.coords t) (tbl m 0) (tbl m 1)

/-- The scratch operands: whole scoped buffers of the kernel's own, passed beside the windows. -/
abbrev scM0_0 : Memref sig .tc .vmem S4x512x128 .bf16 := Memref.whole cc0_scratch0
abbrev scM0_1 : Memref sig .tc .vmem S512x128 .bf16 := Memref.whole cc0_scratch1
abbrev scM0_2 : Memref sig .tc .vmem S8x128x128 .fp8e4m3 := Memref.whole cc0_scratch2
abbrev scM0_3 : Memref sig .tc .vmem S8x128x128 .fp8e4m3 := Memref.whole cc0_scratch3
abbrev scM0_4 : Memref sig .tc .vmem S3x64x128 .bf16 := Memref.whole cc0_scratch4
abbrev scM0_5 : Memref sig .tc .vmem S256x128 .bf16 := Memref.whole cc0_scratch5

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := by
  unfold Pipeline.ΦA; rw [scopedRest0_eq]; simp only [scM0_0, scM0_1, scM0_2, scM0_3, scM0_4, scM0_5, owns_whole]; try rfl

end Cert.Kernel.Gen

end
-- ==== Proof.Kernel.Words.lean ====
/- The words of `Kernel`'s two tables: each is the word of the argument with its axes exchanged, and under the precondition
   `blocks_in_range` each word that the body takes for a block names one of the eight, so the reads at it lie inside. -/
module

public import proofs.«01_k».proof.Proof.InRange
public import proofs.«01_k».proof.Proof.Kernel.Runs

@[expose] public section

namespace Cert.Kernel.Gen

open Idealize.ShloMosaic Idealize.ShloMosaic.TcCoe

variable {F : FTy → Type} [BitOps F]

/-- What the body needs of a block's word `w` (`b`: the slot is past the count; `n`: the query block): the rows of `k`, the
    mask and the transposed codes of `v` read at it lie inside their scratch. -/
def Inside (b : BitVec 1) (n w : BitVec 32) : Prop :=
  (64 ∣ (Scalar.muli w 64#32).toNat)
  ∧ (∀ a, (![(Scalar.indexCast (Scalar.muli w 64#32) : Index).toNat, 0] : Fin 2 → Nat) a + S64x128.size a ≤ S512x128.size a)
  ∧ (∀ a, (![(Scalar.indexCast (Scalar.select (Scalar.ori b (Scalar.cmpi .sgt w n)) 2#32
        (Scalar.select (Scalar.cmpi .eq w n) 1#32 0#32)) : Index).toNat, 0, 0] : Fin 3 → Nat) a + S1x64x128.size a ≤ S3x64x128.size a)
  ∧ (∀ a, (![(Scalar.indexCast w : Index).toNat, 0, 0] : Fin 3 → Nat) a + S1x128x128.size a ≤ S8x128x128.size a)

/-- A word below eight is such a word. -/
theorem inside (b : BitVec 1) (n w : BitVec 32) (hw : w.toNat < 8) : Inside b n w := by
  obtain ⟨k, hk⟩ : ∃ k : Fin 8, w = BitVec.ofNat 32 k.val := ⟨⟨w.toNat, hw⟩, by simp⟩
  subst hk
  refine ⟨?_, ?_, ?_, ?_⟩
  · revert k; decide
  · revert k; decide
  · generalize Scalar.ori b _ = x
    generalize Scalar.cmpi .eq _ n = y
    revert x y; decide
  · revert k; decide

variable (m : (ℓ : Loc nD τ sig) → Buf (Elt F) ℓ)

/-- The table of blocks is `block_idx` with its axes as (batch, slot, query block, group). -/
theorem tbl_idx : (tbl m 0 : S3x6x8x10.Idx → BitVec 32)
    = transpose S3x6x8x10 [0, 3, 2, 1] (m (((0 : Dev nD) : Thread nD τ).loc main_arg3)) transposes_S3x10x8x6_S3x6x8x10_0_3_2_1 := by
  show StableHlo.after hostOps0 (fun b => m ((0 : Dev nD), b)) (Proc.devRef .tc main_v0) = _
  rfl

/-- The table of counts is `block_count` with its axes as (batch, query block, group). -/
theorem tbl_cnt : (tbl m 1 : S3x8x10.Idx → BitVec 32)
    = transpose S3x8x10 [0, 2, 1] (m (((0 : Dev nD) : Thread nD τ).loc main_arg4)) transposes_S3x10x8_S3x8x10_0_2_1 := by
  show StableHlo.after hostOps0 (fun b => m ((0 : Dev nD), b)) (Proc.devRef .tc main_v1) = _
  rfl

/-- Under the precondition a table word whose slot is at most its query block is below eight. -/
theorem word_lt (h : ∀ c : Dev nD, Cert.Pre_blocks_in_range.fn (F := F) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) = fun _ => 1#1)
    (off : Fin 4 → Nat) (inb : ∀ a, off a + S1x1x1x1.size a ≤ S3x6x8x10.size a) (hle : off 1 ≤ off 2) :
    (tbM0_0.view.readAt (Elt F) (Rect.unit (s := S3x6x8x10) off S1x1x1x1.size inb).toLoadRect (tbl m 0)
      (Shape.Idx.first (numel1_S1x1x1x1.symm ▸ Nat.one_pos)) : BitVec 32).toNat < 8 := by
  show (tbl m 0 ((Rect.unit (s := S3x6x8x10) off S1x1x1x1.size inb).toLoadRect.idx _) : BitVec 32).toNat < 8
  have e := congrFun (tbl_idx m) ((Rect.unit (s := S3x6x8x10) off S1x1x1x1.size inb).toLoadRect.idx
    (Shape.Idx.first (s := S1x1x1x1) (numel1_S1x1x1x1.symm ▸ Nat.one_pos)))
  rw [show (tbl m 0 _ : BitVec 32) = _ from e]
  refine Cert.Pre_blocks_in_range.word_lt _ _ _ _ _ (h 0) _ ?_
  have hz : ∀ a : Fin 4, ((Shape.Idx.first (s := S1x1x1x1) (numel1_S1x1x1x1.symm ▸ Nat.one_pos)) a).val = 0 := by
    intro a; fin_cases a <;> exact Nat.lt_one_iff.mp (Fin.isLt _)
  show off 1 + 1 * ((Shape.Idx.first (s := S1x1x1x1) (numel1_S1x1x1x1.symm ▸ Nat.one_pos)) 1).val
    ≤ off 2 + 1 * ((Shape.Idx.first (s := S1x1x1x1) (numel1_S1x1x1x1.symm ▸ Nat.one_pos)) 2).val
  rw [hz, hz]; omega

/-- THE PRECONDITION IMPLIES THE SIDE CONDITIONS of the words, at every point. -/
theorem hyps_of_pre (h : ∀ c : Dev nD, Cert.Pre_blocks_in_range.fn (F := F) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) = fun _ => 1#1)
    (hO : Ok m) : Hyps m hO := by
  intro c t
  constructor
  all_goals exact inside _ _ _ (word_lt m h _ _ (Nat.le_of_ble_eq_true rfl))

end Cert.Kernel.Gen

end
-- ==== Proof.Kernel.RunA.lean ====
/- The run of the body at the first grid point, where the two constant tables in scratch are filled. -/
module

public import proofs.«01_k».proof.Proof.Kernel.Runs

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 5016000 in
set_option sl_exec.dischHeartbeats 100000 in
/-- The body's triple IN CASE A (`scf.if` 0 taken: points 0): on whole staging memrefs — the inputs' at their contents,
    the FORGOTTEN outputs' (6, 7, 8) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_A (c : Dev nD) (i : grid0.Coords) (arg4 : Memref sig .tc .vmem S1x512x128 .bf16) (harg4 : arg4.IsWhole) (arg5 : Memref sig .tc .vmem S1x512x128 .bf16) (harg5 : arg5.IsWhole) (arg6 : Memref sig .tc .vmem S1x512x128 .bf16) (harg6 : arg6.IsWhole) (arg7 : Memref sig .tc .vmem S1x512x128 .bf16) (harg7 : arg7.IsWhole) (arg8 : Memref sig .tc .vmem S1x512x128 .bf16) (harg8 : arg8.IsWhole) (arg9 : Memref sig .tc .vmem S1x512x128 .bf16) (harg9 : arg9.IsWhole) (arg10 : Memref sig .tc .vmem S1x512x512 .bf16) (harg10 : arg10.IsWhole) (arg11 : Memref sig .tc .vmem S1x1x512x128 .fp8e4m3) (harg11 : arg11.IsWhole) (arg12 : Memref sig .tc .vmem S10x3x128 .f32) (harg12 : arg12.IsWhole) (arg13 : Memref sig .tc .vmem S4x512x128 .bf16) (harg13 : arg13.IsWhole) (arg14 : Memref sig .tc .vmem S512x128 .bf16) (harg14 : arg14.IsWhole) (arg15 : Memref sig .tc .vmem S8x128x128 .fp8e4m3) (harg15 : arg15.IsWhole) (arg16 : Memref sig .tc .vmem S8x128x128 .fp8e4m3) (harg16 : arg16.IsWhole) (arg17 : Memref sig .tc .vmem S3x64x128 .bf16) (harg17 : arg17.IsWhole) (arg18 : Memref sig .tc .vmem S256x128 .bf16) (harg18 : arg18.IsWhole) (hc0 : cond0_0 i)
    (x0 : Vec F S1x512x128 .bf16) (x1 : Vec F S1x512x128 .bf16) (x2 : Vec F S1x512x128 .bf16) (x3 : Vec F S1x512x128 .bf16) (x4 : Vec F S1x512x128 .bf16) (x5 : Vec F S1x512x128 .bf16) (xt0 : TbBuf0 (F := F) c tbM0_0) (xt1 : TbBuf0 (F := F) c tbM0_1) (hw : HW c i xt0 xt1) :
      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ tbPt0 c tbM0_0 xt0 ∗ tbPt0 c tbM0_1 xt1
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ tbPt0 c tbM0_0 xt0 ∗ tbPt0 c tbM0_1 xt1) -∗ K ⟨⟩))
          ⊢ wp frame (wpE (defs₀ (F := F)) Variants.none c none) E (cc0__body i tbM0_0 htbM0_0 tbM0_1 htbM0_1 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
    intro E K
    simp only [cc0__body_eq_skeleton]; unfold cc0__body_skel
    simp only [k0_part79_eq_skeleton, k0_part2_eq_skeleton, k0_part1_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, HT0, HT1, Hk⟩
    obtain rfl := harg4.eq_unread hf0; obtain rfl := harg5.eq_unread hf1; obtain rfl := harg6.eq_unread hf2; obtain rfl := harg7.eq_unread hf3; obtain rfl := harg8.eq_unread hf4; obtain rfl := harg9.eq_unread hf5
    sl_exec (disch := first | sl_exact hc0 | sl_exact hw.p1 | sl_exact hw.p2 | sl_exact hw.p3 | sl_exact hw.p4 | sl_exact hw.p5 | sl_exact hw.p6 | sl_exact hw.p7 | sl_exact hw.p8 | sl_exact hw.p9 | sl_exact hw.p10 | sl_exact hw.p11 | sl_exact hw.p12 | sl_exact hw.p13 | sl_exact hw.p14 | sl_exact hw.p15 | sl_exact hw.p16 | sl_exact hw.p17 | sl_exact hw.p18 | sl_exact hw.p19 | sl_exact hw.p20 | sl_exact hw.p21 | sl_exact hw.p22 | sl_exact hw.p23 | sl_exact hw.p24 | sl_exact hw.p25 | sl_exact hw.p26 | sl_exact hw.p27 | sl_exact hw.p28 | sl_exact hw.p29 | sl_exact hw.p30 | sl_exact hw.p31 | sl_exact hw.p32 | sl_exact hw.p33)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [H5]
    · iexists _; isplitr; · ipureintro; exact harg9.read_unread _
      iexact H5
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    isplitl [HT0]; · iexact HT0
    iexact HT1

end Cert.Kernel.Gen

end
-- ==== Proof.Kernel.RunB.lean ====
/- The run of the body at every other grid point. -/
module

public import proofs.«01_k».proof.Proof.Kernel.RunA

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 4924000 in
set_option sl_exec.dischHeartbeats 100000 in
/-- The body's triple IN CASE B (`scf.if` 0 not taken: points 1, 2, … 29: 29 of 30): on whole staging memrefs — the inputs' at their contents,
    the FORGOTTEN outputs' (6, 7, 8) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_B (c : Dev nD) (i : grid0.Coords) (arg4 : Memref sig .tc .vmem S1x512x128 .bf16) (harg4 : arg4.IsWhole) (arg5 : Memref sig .tc .vmem S1x512x128 .bf16) (harg5 : arg5.IsWhole) (arg6 : Memref sig .tc .vmem S1x512x128 .bf16) (harg6 : arg6.IsWhole) (arg7 : Memref sig .tc .vmem S1x512x128 .bf16) (harg7 : arg7.IsWhole) (arg8 : Memref sig .tc .vmem S1x512x128 .bf16) (harg8 : arg8.IsWhole) (arg9 : Memref sig .tc .vmem S1x512x128 .bf16) (harg9 : arg9.IsWhole) (arg10 : Memref sig .tc .vmem S1x512x512 .bf16) (harg10 : arg10.IsWhole) (arg11 : Memref sig .tc .vmem S1x1x512x128 .fp8e4m3) (harg11 : arg11.IsWhole) (arg12 : Memref sig .tc .vmem S10x3x128 .f32) (harg12 : arg12.IsWhole) (arg13 : Memref sig .tc .vmem S4x512x128 .bf16) (harg13 : arg13.IsWhole) (arg14 : Memref sig .tc .vmem S512x128 .bf16) (harg14 : arg14.IsWhole) (arg15 : Memref sig .tc .vmem S8x128x128 .fp8e4m3) (harg15 : arg15.IsWhole) (arg16 : Memref sig .tc .vmem S8x128x128 .fp8e4m3) (harg16 : arg16.IsWhole) (arg17 : Memref sig .tc .vmem S3x64x128 .bf16) (harg17 : arg17.IsWhole) (arg18 : Memref sig .tc .vmem S256x128 .bf16) (harg18 : arg18.IsWhole) (hc0 : ¬cond0_0 i)
    (x0 : Vec F S1x512x128 .bf16) (x1 : Vec F S1x512x128 .bf16) (x2 : Vec F S1x512x128 .bf16) (x3 : Vec F S1x512x128 .bf16) (x4 : Vec F S1x512x128 .bf16) (x5 : Vec F S1x512x128 .bf16) (xt0 : TbBuf0 (F := F) c tbM0_0) (xt1 : TbBuf0 (F := F) c tbM0_1) (hw : HW c i xt0 xt1) :
      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ tbPt0 c tbM0_0 xt0 ∗ tbPt0 c tbM0_1 xt1
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ tbPt0 c tbM0_0 xt0 ∗ tbPt0 c tbM0_1 xt1) -∗ K ⟨⟩))
          ⊢ wp frame (wpE (defs₀ (F := F)) Variants.none c none) E (cc0__body i tbM0_0 htbM0_0 tbM0_1 htbM0_1 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
    intro E K
    simp only [cc0__body_eq_skeleton]; unfold cc0__body_skel
    simp only [k0_part79_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, HT0, HT1, Hk⟩
    obtain rfl := harg4.eq_unread hf0; obtain rfl := harg5.eq_unread hf1; obtain rfl := harg6.eq_unread hf2; obtain rfl := harg7.eq_unread hf3; obtain rfl := harg8.eq_unread hf4; obtain rfl := harg9.eq_unread hf5
    sl_exec (disch := first | sl_exact hc0 | sl_exact hw.p1 | sl_exact hw.p2 | sl_exact hw.p3 | sl_exact hw.p4 | sl_exact hw.p5 | sl_exact hw.p6 | sl_exact hw.p7 | sl_exact hw.p8 | sl_exact hw.p9 | sl_exact hw.p10 | sl_exact hw.p11 | sl_exact hw.p12 | sl_exact hw.p13 | sl_exact hw.p14 | sl_exact hw.p15 | sl_exact hw.p16 | sl_exact hw.p17 | sl_exact hw.p18 | sl_exact hw.p19 | sl_exact hw.p20 | sl_exact hw.p21 | sl_exact hw.p22 | sl_exact hw.p23 | sl_exact hw.p24 | sl_exact hw.p25 | sl_exact hw.p26 | sl_exact hw.p27 | sl_exact hw.p28 | sl_exact hw.p29 | sl_exact hw.p30 | sl_exact hw.p31 | sl_exact hw.p32 | sl_exact hw.p33)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [H5]
    · iexists _; isplitr; · ipureintro; exact harg9.read_unread _
      iexact H5
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    isplitl [HT0]; · iexact HT0
    iexact HT1

end Cert.Kernel.Gen

end
-- ==== Proof.Kernel.Frame.lean ====
/- What the outputs hold after each grid point, the body obligation, and the run of the whole launch. -/
module

public import proofs.«01_k».proof.Proof.Kernel.RunB
public import Idealize.ShloMosaic.Lib.Claim

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (6, 7, 8): nothing reads what the kernel leaves in them, so nothing
    of it is named (Lib/Pipeline/Dat.lean `Dat.toRForget`). -/
def forgets0 : Fin 9 → Bool := fun w => w.val == 6 || w.val == 7 || w.val == 8

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register) and the tables' halves (`ΦT`); nothing owed;
    each input's share of its array
    (`Pipeline.shareOf`: the full share of an array several windows stage, dealt among them). -/
def dats (hO : Ok m) (hH : Hyps m hO) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, h⟩ => Pipeline.Dat.unnamed (cfg := (cfgM m hO)) ⟨6, h⟩ t
    | ⟨7, h⟩ => Pipeline.Dat.unnamed (cfg := (cfgM m hO)) ⟨7, h⟩ t
    | ⟨8, h⟩ => Pipeline.Dat.unnamed (cfg := (cfgM m hO)) ⟨8, h⟩ t
  Φ _ := iprop(Pipeline.ΦA spec0 c ∗ Pipeline.ΦT pre0 (tbl m) c)
  q w := Pipeline.shareOf spec0 w
  owed _ := 0

/-- The proof data's arrays are the region-entry contents: the proof data's definition projected (`dsimp`), so that
    `V` — a fold over @main's host prefix, long for some programs — is never unfolded to check it. -/
theorem A_eq (hO : Ok m) (hH : Hyps m hO) (c : Dev nD) (w : Fin (cfgM m hO).W) : (dats m hO hH 0 c).A w = V m c (Pipeline.arrRef spec0 w) := by
  dsimp only [dats]

/-- What the body leaves, window by window (the proof data's `match` reduced by `dsimp`). -/
theorem after0_0 (hO : Ok m) (hH : Hyps m hO) (c : Dev nD) (t : Fin (cfgM m hO).N) : (dats m hO hH 0 c).after 0 t = iblk m hO c 0 t := by dsimp only [dats]; try rfl
theorem after0_1 (hO : Ok m) (hH : Hyps m hO) (c : Dev nD) (t : Fin (cfgM m hO).N) : (dats m hO hH 0 c).after 1 t = iblk m hO c 1 t := by dsimp only [dats]; try rfl
theorem after0_2 (hO : Ok m) (hH : Hyps m hO) (c : Dev nD) (t : Fin (cfgM m hO).N) : (dats m hO hH 0 c).after 2 t = iblk m hO c 2 t := by dsimp only [dats]; try rfl
theorem after0_3 (hO : Ok m) (hH : Hyps m hO) (c : Dev nD) (t : Fin (cfgM m hO).N) : (dats m hO hH 0 c).after 3 t = iblk m hO c 3 t := by dsimp only [dats]; try rfl
theorem after0_4 (hO : Ok m) (hH : Hyps m hO) (c : Dev nD) (t : Fin (cfgM m hO).N) : (dats m hO hH 0 c).after 4 t = iblk m hO c 4 t := by dsimp only [dats]; try rfl
theorem after0_5 (hO : Ok m) (hH : Hyps m hO) (c : Dev nD) (t : Fin (cfgM m hO).N) : (dats m hO hH 0 c).after 5 t = iblk m hO c 5 t := by dsimp only [dats]; try rfl

/-- Each input's current staging buffer holds its block at every point, fetched there or not (`beforeK_W_of`). -/
theorem before0_0 (hO : Ok m) (hH : Hyps m hO) (c : Dev nD) (t : Fin (cfgM m hO).N) (d) : (dats m hO hH 0 c).before 0 t d = iblk m hO c 0 t :=
  before0_0_of m hO (dats m hO hH 0 c) (A_eq m hO hH c 0) (after0_0 m hO hH c) t d
theorem before0_1 (hO : Ok m) (hH : Hyps m hO) (c : Dev nD) (t : Fin (cfgM m hO).N) (d) : (dats m hO hH 0 c).before 1 t d = iblk m hO c 1 t :=
  before0_1_of m hO (dats m hO hH 0 c) (A_eq m hO hH c 1) (after0_1 m hO hH c) t d
theorem before0_2 (hO : Ok m) (hH : Hyps m hO) (c : Dev nD) (t : Fin (cfgM m hO).N) (d) : (dats m hO hH 0 c).before 2 t d = iblk m hO c 2 t :=
  before0_2_of m hO (dats m hO hH 0 c) (A_eq m hO hH c 2) (after0_2 m hO hH c) t d
theorem before0_3 (hO : Ok m) (hH : Hyps m hO) (c : Dev nD) (t : Fin (cfgM m hO).N) (d) : (dats m hO hH 0 c).before 3 t d = iblk m hO c 3 t :=
  before0_3_of m hO (dats m hO hH 0 c) (A_eq m hO hH c 3) (after0_3 m hO hH c) t d
theorem before0_4 (hO : Ok m) (hH : Hyps m hO) (c : Dev nD) (t : Fin (cfgM m hO).N) (d) : (dats m hO hH 0 c).before 4 t d = iblk m hO c 4 t :=
  before0_4_of m hO (dats m hO hH 0 c) (A_eq m hO hH c 4) (after0_4 m hO hH c) t d
theorem before0_5 (hO : Ok m) (hH : Hyps m hO) (c : Dev nD) (t : Fin (cfgM m hO).N) (d) : (dats m hO hH 0 c).before 5 t d = iblk m hO c 5 t :=
  before0_5_of m hO (dats m hO hH 0 c) (A_eq m hO hH c 5) (after0_5 m hO hH c) t d

/-! ## The body obligation, at a generic point -/

/-- What the body is called with at point `t` (Lib/Pipeline.lean `BodyObligation`'s precondition, the windows one by one), -/
def bodyPre (hO : Ok m) (hH : Hyps m hO) (c : Dev nD) (t : Fin (cfgM m hO).N) : sProp 𝕄 :=
  iprop((dats m hO hH 0 c).Φ t.castSucc ∗ (dats m hO hH 0 c).owesAt () t.castSucc
    ∗ (∃ d, owns (c : Thread nD τ) (ms0_0 m hO t) fullShare ((dats m hO hH 0 c).before 0 t d))
    ∗ (∃ d, owns (c : Thread nD τ) (ms0_1 m hO t) fullShare ((dats m hO hH 0 c).before 1 t d))
    ∗ (∃ d, owns (c : Thread nD τ) (ms0_2 m hO t) fullShare ((dats m hO hH 0 c).before 2 t d))
    ∗ (∃ d, owns (c : Thread nD τ) (ms0_3 m hO t) fullShare ((dats m hO hH 0 c).before 3 t d))
    ∗ (∃ d, owns (c : Thread nD τ) (ms0_4 m hO t) fullShare ((dats m hO hH 0 c).before 4 t d))
    ∗ (∃ d, owns (c : Thread nD τ) (ms0_5 m hO t) fullShare ((dats m hO hH 0 c).before 5 t d))
    ∗ (∃ d, owns (c : Thread nD τ) (ms0_6 m hO t) fullShare d)
    ∗ (∃ d, owns (c : Thread nD τ) (ms0_7 m hO t) fullShare d)
    ∗ (∃ d, owns (c : Thread nD τ) (ms0_8 m hO t) fullShare d))

/-- and what it returns. -/
def bodyPost (hO : Ok m) (hH : Hyps m hO) (c : Dev nD) (t : Fin (cfgM m hO).N) : sProp 𝕄 :=
  iprop((dats m hO hH 0 c).Φ t.succ ∗ (dats m hO hH 0 c).owesAt () t.succ
    ∗ owns (c : Thread nD τ) (ms0_0 m hO t) fullShare ((dats m hO hH 0 c).after 0 t)
    ∗ owns (c : Thread nD τ) (ms0_1 m hO t) fullShare ((dats m hO hH 0 c).after 1 t)
    ∗ owns (c : Thread nD τ) (ms0_2 m hO t) fullShare ((dats m hO hH 0 c).after 2 t)
    ∗ owns (c : Thread nD τ) (ms0_3 m hO t) fullShare ((dats m hO hH 0 c).after 3 t)
    ∗ owns (c : Thread nD τ) (ms0_4 m hO t) fullShare ((dats m hO hH 0 c).after 4 t)
    ∗ owns (c : Thread nD τ) (ms0_5 m hO t) fullShare ((dats m hO hH 0 c).after 5 t)
    ∗ (∃ d, owns (c : Thread nD τ) (ms0_6 m hO t) fullShare d)
    ∗ (∃ d, owns (c : Thread nD τ) (ms0_7 m hO t) fullShare d)
    ∗ (∃ d, owns (c : Thread nD τ) (ms0_8 m hO t) fullShare d))

set_option maxHeartbeats 9600000 in
set_option maxRecDepth 131072 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (hO : Ok m) (hH : Hyps m hO) (c : Dev nD) (t : Fin (cfgM m hO).N) :
    bodyPre m hO hH c t ⊢ wp frame (wpE (defs₀ (F := F)) Variants.none c none) Set.univ (bodyAt0 (adm m hO) t) (fun _ => bodyPost m hO hH c t) := by
  unfold bodyPre bodyPost bodyAt0
  simp only [before0_0, before0_1, before0_2, before0_3, before0_4, before0_5]
  rw [show (dats m hO hH 0 c).Φ t.succ = (dats m hO hH 0 c).Φ t.castSucc from rfl,
    show (dats m hO hH 0 c).owesAt () t.succ = (dats m hO hH 0 c).owesAt () t.castSucc from rfl,
    after0_0, after0_1, after0_2, after0_3, after0_4, after0_5]
  rw [show (dats m hO hH 0 c).Φ t.castSucc = iprop(Pipeline.ΦA spec0 c ∗ Pipeline.ΦT pre0 (tbl m) c) from rfl, PhiT0_eq, PhiA0_eq]
  have hN : t.val < 30 := lt_of_lt_of_eq t.isLt (show (cfgM m hO).N = 30 from N_0)
  by_cases h0 : t.val % 30 = 0
  · iintro ⟨⟨⟨⟨HS0, HS1, HS2, HS3, HS4, HS5⟩, Hg⟩, ⟨HT0, HT1⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun0_A c (grid0.coords t) _ _ _ _ _ _ _ _ _ _ _ _ _ _ _ _ _ _ _ _ _ _ _ _ _ _ _ _ _ _ ((hcond0_0 t).mpr h0) (iblk m hO c 0 t) (iblk m hO c 1 t) (iblk m hO c 2 t) (iblk m hO c 3 t) (iblk m hO c 4 t) (iblk m hO c 5 t) (tbl m 0) (tbl m 1) (hH c t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [HS0]; · iexact HS0
    isplitl [HS1]; · iexact HS1
    isplitl [HS2]; · iexact HS2
    isplitl [HS3]; · iexact HS3
    isplitl [HS4]; · iexact HS4
    isplitl [HS5]; · iexact HS5
    isplitl [HT0]; · iexact HT0
    isplitl [HT1]; · iexact HT1
    iintro ⟨H0, H1, H2, H3, H4, H5, H6, H7, H8, HS0, HS1, HS2, HS3, HS4, HS5, HT0, HT1⟩
    isplitl [HS0 HS1 HS2 HS3 HS4 HS5 Hg HT0 HT1]
    · isplitl [HS0 HS1 HS2 HS3 HS4 HS5 Hg]
      · isplitl [HS0 HS1 HS2 HS3 HS4 HS5]
        · isplitl [HS0]
          · iexact HS0
          isplitl [HS1]
          · iexact HS1
          isplitl [HS2]
          · iexact HS2
          isplitl [HS3]
          · iexact HS3
          isplitl [HS4]
          · iexact HS4
          iexact HS5
        iexact Hg
      isplitl [HT0]; · iexact HT0
      iexact HT1
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · iintro ⟨⟨⟨⟨HS0, HS1, HS2, HS3, HS4, HS5⟩, Hg⟩, ⟨HT0, HT1⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun0_B c (grid0.coords t) _ _ _ _ _ _ _ _ _ _ _ _ _ _ _ _ _ _ _ _ _ _ _ _ _ _ _ _ _ _ (fun h => h0 ((hcond0_0 t).mp h)) (iblk m hO c 0 t) (iblk m hO c 1 t) (iblk m hO c 2 t) (iblk m hO c 3 t) (iblk m hO c 4 t) (iblk m hO c 5 t) (tbl m 0) (tbl m 1) (hH c t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [HS0]; · iexact HS0
    isplitl [HS1]; · iexact HS1
    isplitl [HS2]; · iexact HS2
    isplitl [HS3]; · iexact HS3
    isplitl [HS4]; · iexact HS4
    isplitl [HS5]; · iexact HS5
    isplitl [HT0]; · iexact HT0
    isplitl [HT1]; · iexact HT1
    iintro ⟨H0, H1, H2, H3, H4, H5, H6, H7, H8, HS0, HS1, HS2, HS3, HS4, HS5, HT0, HT1⟩
    isplitl [HS0 HS1 HS2 HS3 HS4 HS5 Hg HT0 HT1]
    · isplitl [HS0 HS1 HS2 HS3 HS4 HS5 Hg]
      · isplitl [HS0 HS1 HS2 HS3 HS4 HS5]
        · isplitl [HS0]
          · iexact HS0
          isplitl [HS1]
          · iexact HS1
          isplitl [HS2]
          · iexact HS2
          isplitl [HS3]
          · iexact HS3
          isplitl [HS4]
          · iexact HS4
          iexact HS5
        iexact Hg
      isplitl [HT0]; · iexact HT0
      iexact HT1
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (hH : Hyps m hO) (c : Dev nD) : BodyObligation (dats (F := F) m hO hH 0 c) (defs₀ (F := F)) Variants.none () Set.univ forgets0 := fun t => by
  rw [bigSep_W0, bigSep_W0, defs₀_row m hO]
  exact triple_restated (sound_body m hO hH c t) rfl .rfl fun _ => .rfl

/-! ## The run and the frame -/

-- `θ_run_frameP_forget_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) (hH : Hyps m hO) : θ_run defs (onTc (τ := τ) (main (F := F))) (s₀ m ρ) (fun r => (Pipeline.RDat.FramePost ((Pipeline.pin pcfgs fun _ => adm m hO) 0) (fun c => (dats m hO hH 0 c).toRForget forgets0) (V m)) r ∧ r.2.sem = fun _ => 0) :=
  Pipeline.θ_run_frameP_forget_shared (Q' := _) pcfgs (fun _ => adm m hO) (dats m hO hH) (0 : Fin 1) launch₀0 defs₀ Variants.none forgets0 m ρ main
    (hbody := fun c => (body_obligation m hO hH c).loose) (hq := fun _ _ _ => rfl)
    (howed := fun _ _ => rfl) (V := V m) (hmain := hmain m Variants.none) (hA := A_eq m hO hH) (hpf := V_pre m) (hΦ := fun _ _ => rfl)

/-- At the compiled mesh, for any values, from any memory with zero counters: every weakly fair execution of @main on the
    TensorCores terminates, and every final state has every INPUT array of the pipeline unchanged, nothing stated of the
    FORGOTTEN outputs (windows 6, 7, 8) (Lib/Pipeline/Frame.lean `RDat.FramePost` over the proof data with those windows
    forgotten, Dat.lean `Dat.toRForget`), and every other unscoped buffer at its region-entry contents. -/
theorem run_main (hO : Ok m) (hH : Hyps m hO) : θ_run defs (onTc (τ := τ) (main (F := F))) (s₀ m ρ) (Pipeline.RDat.FramePost ((Pipeline.pin pcfgs fun _ => adm m hO) 0) (fun c => (dats m hO hH 0 c).toRForget forgets0) (V m)) :=
  (θ_run defs _ _).mono (fun _ h => h.1) (run_main_quiescent m ρ hO hH)

/-- `frame` without the counters: the argument arrays end unchanged. -/
theorem unchanged (hO : Ok m) (hH : Hyps m hO) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ hO (fun c => (dats m hO hH 0 c).toRForget forgets0) (A_eq m hO hH) (run_main m ρ hO hH)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`; here for every contents of the PREFETCHED TABLES, UNDER `Gen.Ok m` (the pipeline's side condition of
    them) and `Gen.Hyps m hO` (the side conditions the body assumes, at every point), which Proof.lean proves from the precondition: `⟨…, fun m ρ h => Cert.Kernel.Gen.frame m ρ (ok_of_pre m h) (hyps_of_pre m h _)⟩`. -/
theorem frame (hO : Ok m) (hH : Hyps m hO) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ hO hH) ((θ_run defs _ _).mono (fun _ h => h.2) (run_main_quiescent m ρ hO hH))

end Cert.Kernel.Gen

end
-- ==== Proof.KernelIdeal.Points.lean ====
/- The schedule of the windows on the grid: at which points each is fetched and written back. -/
module

public import proofs.«01_k».proof.Proof.Gen.KernelIdeal
public import Idealize.ShloMosaic.Lib.Pipeline.Kit

@[expose] public section

noncomputable section

namespace Cert.KernelIdeal.Gen

open Idealize.ShloMosaic Idealize.ShloMosaic.TcCoe
open Idealize.SL Idealize.SL.Sem

variable {F : FTy → Type} [FloatOps F] [Named F]
/-! ## custom_call 0 -/

/-! A call with PREFETCHED TABLES: its memrefs and body are stated over the pipeline at ANY admissible contents `a`
    of the tables (a certificate instantiates them at the contents it reads off the launch memory). A window whose
    index map reads no table has the same schedule at every `a`: stated over the grid, the window's direction and
    that map alone (Lib/Pipeline/Kit.lean `Window.fetchOf` / `flushOf`), proved from the map and the fact about the
    axes it reads (`hreadsK_W`) or decided, and restated over the pinned window, which unfolds to them. A window whose
    map reads a table gets none here. -/

/-- Window 0 (operand 2 (%arg0)) is fetched at every point, at any contents of the tables (its index map reads none). -/
theorem fetch0_0 (a : (pcfg0 (F := F)).Adm) : ∀ t : Fin (cfg0 a).N, ((cfg0 a).win 0).fetch t = true :=
  (by decide +kernel : ∀ t : Fin grid0.N, Pipeline.Window.fetchOf grid0 false cc0_transform_0 t = true)
/-- Window 1 (operand 3 (%arg0)) is fetched at every point, at any contents of the tables (its index map reads none). -/
theorem fetch0_1 (a : (pcfg0 (F := F)).Adm) : ∀ t : Fin (cfg0 a).N, ((cfg0 a).win 1).fetch t = true :=
  (by decide +kernel : ∀ t : Fin grid0.N, Pipeline.Window.fetchOf grid0 false cc0_transform_1 t = true)
/-- Window 2 (operand 4 (%arg0)) is fetched at every point, at any contents of the tables (its index map reads none). -/
theorem fetch0_2 (a : (pcfg0 (F := F)).Adm) : ∀ t : Fin (cfg0 a).N, ((cfg0 a).win 2).fetch t = true :=
  (by decide +kernel : ∀ t : Fin grid0.N, Pipeline.Window.fetchOf grid0 false cc0_transform_2 t = true)
/-- Window 3 (operand 5 (%arg0)) is fetched at every point, at any contents of the tables (its index map reads none). -/
theorem fetch0_3 (a : (pcfg0 (F := F)).Adm) : ∀ t : Fin (cfg0 a).N, ((cfg0 a).win 3).fetch t = true :=
  (by decide +kernel : ∀ t : Fin grid0.N, Pipeline.Window.fetchOf grid0 false cc0_transform_3 t = true)
/-- Window 4 (operand 6 (%arg1)) is fetched at every point, at any contents of the tables (its index map reads none). -/
theorem fetch0_4 (a : (pcfg0 (F := F)).Adm) : ∀ t : Fin (cfg0 a).N, ((cfg0 a).win 4).fetch t = true :=
  (by decide +kernel : ∀ t : Fin grid0.N, Pipeline.Window.fetchOf grid0 false cc0_transform_4 t = true)
/-- Window 5 (operand 7 (%arg2)) is fetched at every point, at any contents of the tables (its index map reads none). -/
theorem fetch0_5 (a : (pcfg0 (F := F)).Adm) : ∀ t : Fin (cfg0 a).N, ((cfg0 a).win 5).fetch t = true :=
  (by decide +kernel : ∀ t : Fin grid0.N, Pipeline.Window.fetchOf grid0 false cc0_transform_5 t = true)
/-- Window 6 (result 0 (%2, result 0)) is written back at every point, at any contents of the tables (its index map reads none). -/
theorem flush0_6 (a : (pcfg0 (F := F)).Adm) : ∀ t : Fin (cfg0 a).N, ((cfg0 a).win 6).flush t = true :=
  (fun t => (Pipeline.Window.flushOf_reads cc0_transform_6 reads0_6 hreads0_6 1 (by decide) (by decide) (Pipeline.Window.sep_of_coord cc0_transform_6 1 2 (fun _ => rfl) (by decide)) (P := 1) (m := 0) (by decide) rfl t).mpr (Nat.mod_one _) : ∀ t : Fin grid0.N, Pipeline.Window.flushOf grid0 true cc0_transform_6 t = true)
/-- Window 7 (result 1 1) is written back at every point, at any contents of the tables (its index map reads none). -/
theorem flush0_7 (a : (pcfg0 (F := F)).Adm) : ∀ t : Fin (cfg0 a).N, ((cfg0 a).win 7).flush t = true :=
  (fun t => (Pipeline.Window.flushOf_reads cc0_transform_7 reads0_7 hreads0_7 1 (by decide) (by decide) (Pipeline.Window.sep_of_coord cc0_transform_7 1 1 (fun _ => rfl) (by decide)) (P := 1) (m := 0) (by decide) rfl t).mpr (Nat.mod_one _) : ∀ t : Fin grid0.N, Pipeline.Window.flushOf grid0 true cc0_transform_7 t = true)
/-- Window 8 (result 2 2) is written back at the last point only, at any contents of the tables (its index map reads none). -/
theorem flush0_8 (a : (pcfg0 (F := F)).Adm) : ∀ t : Fin (cfg0 a).N, ((cfg0 a).win 8).flush t = true ↔ t.val % 30 = 29 :=
  (fun t => Pipeline.Window.flushOf_const cc0_transform_8 (fun _ _ => rfl) (n := 30) (by decide) rfl t : ∀ t : Fin grid0.N, Pipeline.Window.flushOf grid0 true cc0_transform_8 t = true ↔ t.val % 30 = 29)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)
abbrev st0_6 (a : (pcfg0 (F := F)).Adm) (t : Fin (cfg0 a).N) := ((cfg0 a).win 6).stage ((cfg0 a).slots t 6)
abbrev st0_7 (a : (pcfg0 (F := F)).Adm) (t : Fin (cfg0 a).N) := ((cfg0 a).win 7).stage ((cfg0 a).slots t 7)
abbrev st0_8 (a : (pcfg0 (F := F)).Adm) (t : Fin (cfg0 a).N) := ((cfg0 a).win 8).stage ((cfg0 a).slots t 8)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0__body (grid0.coords t) (Memref.whole main_v0) (Memref.isWhole_whole _) (Memref.whole main_v1) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _)

end Cert.KernelIdeal.Gen

end
-- ==== Proof.KernelIdeal.Runs.lean ====
/- What the run of the body is stated over: the buffers when the region is entered, the tables, the blocks of the windows, the branch condition, and the side conditions on the words of the tables. -/
module

public import proofs.«01_k».proof.Proof.Gen.KernelIdeal.Launch
public import proofs.«01_k».proof.Proof.Gen.KernelIdeal.Skeleton
public import proofs.«01_k».proof.Proof.KernelIdeal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 2) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S3x6x8x10 .i32 := Memref.whole main_v0
abbrev htbM0_0 : tbM0_0.IsWhole := Memref.isWhole_whole _
abbrev tbM0_1 : Memref sig .tc .smem S3x8x10 .i32 := Memref.whole main_v1
abbrev htbM0_1 : tbM0_1.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0) ∗ tbPt0 c tbM0_1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_KernelIdeal`, Defs.lean, at any `F`). -/
theorem frame_of (hO : Ok m) (rdat : (c : Dev nD) → Pipeline.RDat τ (Elt F) Unit ℕ (UR sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePost ((Pipeline.pin pcfgs fun _ => adm m hO) 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(Pipeline.RDat.FramePost.arr_in h c 3 rfl).trans ((hA c 3).trans (V_main_arg0 m c)),
      (Pipeline.RDat.FramePost.arr_in h c 4 rfl).trans ((hA c 4).trans (V_main_arg1 m c)),
      (Pipeline.RDat.FramePost.arr_in h c 5 rfl).trans ((hA c 5).trans (V_main_arg2 m c)),
      ((h c).2 main_arg3 (by decide : main_arg3 ∈ Pipeline.restRefs sig spec0)).trans (V_main_arg3 m c),
      ((h c).2 main_arg4 (by decide : main_arg4 ∈ Pipeline.restRefs sig spec0)).trans (V_main_arg4 m c)⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first point only — by arithmetic of the point. -/
theorem hcond0_0 : ∀ t : Fin grid0.N, cond0_0 (grid0.coords t) ↔ t.val % 30 = 0 :=
  (fun t => by
    have ht : t.val < 30 := Nat.lt_of_lt_of_eq t.isLt N_0
    have e0 : (grid0.coords t 0).val = t.val / 10 % 3 := Pipeline.Grid.coords_val t 0 (by decide) rfl
    have e1 : (grid0.coords t 1).val = t.val / 1 % 10 := Pipeline.Grid.coords_val t 1 (by decide) rfl
    simp only [cond0_0, e0, e1]
    word_cmp
   : ∀ t : Fin grid0.N, cond0_0 (grid0.coords t) ↔ t.val % 30 = 0)

/-! ## The kernel body on any staging memrefs: a subtype the run finds -/

/-- One staging buffer of output window 6, through which its contents are stated (`View.read_writes_of_cover`: the
    choice does not matter). -/
abbrev VO0_6 : View sig .tc .vmem S1x512x512 .bf16 := (Memref.whole cc0_stg6_0 : Memref sig .tc .vmem S1x512x512 .bf16).view
/-- One staging buffer of output window 7, through which its contents are stated (`View.read_writes_of_cover`: the
    choice does not matter). -/
abbrev VO0_7 : View sig .tc .vmem S1x1x512x128 .fp8e4m3 := (Memref.whole cc0_stg7_0 : Memref sig .tc .vmem S1x1x512x128 .fp8e4m3).view
/-- Each window's current staging memref at point `t`, spelled as the pipeline passes it (`bodyAt0`), and its wholeness. -/
abbrev ms0_0 (hO : Ok m) (t : Fin (cfgM m hO).N) : Memref sig .tc .vmem S1x512x128 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x512x128 .bf16 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x512x128 .bf16 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x512x128 .bf16 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x512x128 .bf16 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1x512x128 .bf16 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S1x512x512 .bf16 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S1x1x512x128 .fp8e4m3 := spec0_7.stage ((cfgM m hO).slots t 7)
abbrev hs0_7 (hO : Ok m) (t : Fin (cfgM m hO).N) : (ms0_7 m hO t).IsWhole := hstage0_7 (((cfgM m hO).slots t 7).cast nbuf0_7)
abbrev ms0_8 (hO : Ok m) (t : Fin (cfgM m hO).N) : Memref sig .tc .vmem S10x3x128 .f32 := spec0_8.stage ((cfgM m hO).slots t 8)
abbrev hs0_8 (hO : Ok m) (t : Fin (cfgM m hO).N) : (ms0_8 m hO t).IsWhole := hstage0_8 (((cfgM m hO).slots t 8).cast nbuf0_8)

/-! ## The side conditions the body assumes, as the frame's hypothesis -/

/-- The side conditions on the words of the two tables that the body takes at grid point `i`: for every key block of every
    query block, that the block which the word names lies inside the scratch it is read from. -/
structure HW (c : Dev nD) (i : grid0.Coords) (xt0 : TbBuf0 (F := F) c tbM0_0) (xt1 : TbBuf0 (F := F) c tbM0_1) : Prop where
  p1 : k0_chk1 (tbM0_1.view.readAt (Elt F) (Rect.unit (s := S3x8x10) (k0_off2 i) S1x1x1.size (k0_off2_inb i)).toLoadRect xt1 (Shape.Idx.first (numel1_S1x1x1.symm ▸ Nat.one_pos))) (tbM0_0.view.readAt (Elt F) (Rect.unit (s := S3x6x8x10) (k0_off3 i) S1x1x1x1.size (k0_off3_inb i)).toLoadRect xt0 (Shape.Idx.first (numel1_S1x1x1x1.symm ▸ Nat.one_pos)))
  p2 : k0_chk2 (tbM0_1.view.readAt (Elt F) (Rect.unit (s := S3x8x10) (k0_off7 i) S1x1x1.size (k0_off7_inb i)).toLoadRect xt1 (Shape.Idx.first (numel1_S1x1x1.symm ▸ Nat.one_pos))) (tbM0_0.view.readAt (Elt F) (Rect.unit (s := S3x6x8x10) (k0_off8 i) S1x1x1x1.size (k0_off8_inb i)).toLoadRect xt0 (Shape.Idx.first (numel1_S1x1x1x1.symm ▸ Nat.one_pos)))
  p3 : k0_chk3 (tbM0_1.view.readAt (Elt F) (Rect.unit (s := S3x8x10) (k0_off7 i) S1x1x1.size (k0_off7_inb i)).toLoadRect xt1 (Shape.Idx.first (numel1_S1x1x1.symm ▸ Nat.one_pos))) (tbM0_0.view.readAt (Elt F) (Rect.unit (s := S3x6x8x10) (k0_off12 i) S1x1x1x1.size (k0_off12_inb i)).toLoadRect xt0 (Shape.Idx.first (numel1_S1x1x1x1.symm ▸ Nat.one_pos)))
  p4 : k0_chk4 (tbM0_1.view.readAt (Elt F) (Rect.unit (s := S3x8x10) (k0_off16 i) S1x1x1.size (k0_off16_inb i)).toLoadRect xt1 (Shape.Idx.first (numel1_S1x1x1.symm ▸ Nat.one_pos))) (tbM0_0.view.readAt (Elt F) (Rect.unit (s := S3x6x8x10) (k0_off17 i) S1x1x1x1.size (k0_off17_inb i)).toLoadRect xt0 (Shape.Idx.first (numel1_S1x1x1x1.symm ▸ Nat.one_pos)))
  p5 : k0_chk5 (tbM0_1.view.readAt (Elt F) (Rect.unit (s := S3x8x10) (k0_off16 i) S1x1x1.size (k0_off16_inb i)).toLoadRect xt1 (Shape.Idx.first (numel1_S1x1x1.symm ▸ Nat.one_pos))) (tbM0_0.view.readAt (Elt F) (Rect.unit (s := S3x6x8x10) (k0_off21 i) S1x1x1x1.size (k0_off21_inb i)).toLoadRect xt0 (Shape.Idx.first (numel1_S1x1x1x1.symm ▸ Nat.one_pos)))
  p6 : k0_chk6 (tbM0_1.view.readAt (Elt F) (Rect.unit (s := S3x8x10) (k0_off16 i) S1x1x1.size (k0_off16_inb i)).toLoadRect xt1 (Shape.Idx.first (numel1_S1x1x1.symm ▸ Nat.one_pos))) (tbM0_0.view.readAt (Elt F) (Rect.unit (s := S3x6x8x10) (k0_off25 i) S1x1x1x1.size (k0_off25_inb i)).toLoadRect xt0 (Shape.Idx.first (numel1_S1x1x1x1.symm ▸ Nat.one_pos)))
  p7 : k0_chk7 (tbM0_1.view.readAt (Elt F) (Rect.unit (s := S3x8x10) (k0_off29 i) S1x1x1.size (k0_off29_inb i)).toLoadRect xt1 (Shape.Idx.first (numel1_S1x1x1.symm ▸ Nat.one_pos))) (tbM0_0.view.readAt (Elt F) (Rect.unit (s := S3x6x8x10) (k0_off30 i) S1x1x1x1.size (k0_off30_inb i)).toLoadRect xt0 (Shape.Idx.first (numel1_S1x1x1x1.symm ▸ Nat.one_pos)))
  p8 : k0_chk8 (tbM0_1.view.readAt (Elt F) (Rect.unit (s := S3x8x10) (k0_off29 i) S1x1x1.size (k0_off29_inb i)).toLoadRect xt1 (Shape.Idx.first (numel1_S1x1x1.symm ▸ Nat.one_pos))) (tbM0_0.view.readAt (Elt F) (Rect.unit (s := S3x6x8x10) (k0_off34 i) S1x1x1x1.size (k0_off34_inb i)).toLoadRect xt0 (Shape.Idx.first (numel1_S1x1x1x1.symm ▸ Nat.one_pos)))
  p9 : k0_chk9 (tbM0_1.view.readAt (Elt F) (Rect.unit (s := S3x8x10) (k0_off29 i) S1x1x1.size (k0_off29_inb i)).toLoadRect xt1 (Shape.Idx.first (numel1_S1x1x1.symm ▸ Nat.one_pos))) (tbM0_0.view.readAt (Elt F) (Rect.unit (s := S3x6x8x10) (k0_off38 i) S1x1x1x1.size (k0_off38_inb i)).toLoadRect xt0 (Shape.Idx.first (numel1_S1x1x1x1.symm ▸ Nat.one_pos)))
  p10 : k0_chk10 (tbM0_1.view.readAt (Elt F) (Rect.unit (s := S3x8x10) (k0_off29 i) S1x1x1.size (k0_off29_inb i)).toLoadRect xt1 (Shape.Idx.first (numel1_S1x1x1.symm ▸ Nat.one_pos))) (tbM0_0.view.readAt (Elt F) (Rect.unit (s := S3x6x8x10) (k0_off42 i) S1x1x1x1.size (k0_off42_inb i)).toLoadRect xt0 (Shape.Idx.first (numel1_S1x1x1x1.symm ▸ Nat.one_pos)))
  p11 : k0_chk11 (tbM0_1.view.readAt (Elt F) (Rect.unit (s := S3x8x10) (k0_off46 i) S1x1x1.size (k0_off46_inb i)).toLoadRect xt1 (Shape.Idx.first (numel1_S1x1x1.symm ▸ Nat.one_pos))) (tbM0_0.view.readAt (Elt F) (Rect.unit (s := S3x6x8x10) (k0_off47 i) S1x1x1x1.size (k0_off47_inb i)).toLoadRect xt0 (Shape.Idx.first (numel1_S1x1x1x1.symm ▸ Nat.one_pos)))
  p12 : k0_chk12 (tbM0_1.view.readAt (Elt F) (Rect.unit (s := S3x8x10) (k0_off46 i) S1x1x1.size (k0_off46_inb i)).toLoadRect xt1 (Shape.Idx.first (numel1_S1x1x1.symm ▸ Nat.one_pos))) (tbM0_0.view.readAt (Elt F) (Rect.unit (s := S3x6x8x10) (k0_off51 i) S1x1x1x1.size (k0_off51_inb i)).toLoadRect xt0 (Shape.Idx.first (numel1_S1x1x1x1.symm ▸ Nat.one_pos)))
  p13 : k0_chk13 (tbM0_1.view.readAt (Elt F) (Rect.unit (s := S3x8x10) (k0_off46 i) S1x1x1.size (k0_off46_inb i)).toLoadRect xt1 (Shape.Idx.first (numel1_S1x1x1.symm ▸ Nat.one_pos))) (tbM0_0.view.readAt (Elt F) (Rect.unit (s := S3x6x8x10) (k0_off55 i) S1x1x1x1.size (k0_off55_inb i)).toLoadRect xt0 (Shape.Idx.first (numel1_S1x1x1x1.symm ▸ Nat.one_pos)))
  p14 : k0_chk14 (tbM0_1.view.readAt (Elt F) (Rect.unit (s := S3x8x10) (k0_off46 i) S1x1x1.size (k0_off46_inb i)).toLoadRect xt1 (Shape.Idx.first (numel1_S1x1x1.symm ▸ Nat.one_pos))) (tbM0_0.view.readAt (Elt F) (Rect.unit (s := S3x6x8x10) (k0_off59 i) S1x1x1x1.size (k0_off59_inb i)).toLoadRect xt0 (Shape.Idx.first (numel1_S1x1x1x1.symm ▸ Nat.one_pos)))
  p15 : k0_chk15 (tbM0_1.view.readAt (Elt F) (Rect.unit (s := S3x8x10) (k0_off46 i) S1x1x1.size (k0_off46_inb i)).toLoadRect xt1 (Shape.Idx.first (numel1_S1x1x1.symm ▸ Nat.one_pos))) (tbM0_0.view.readAt (Elt F) (Rect.unit (s := S3x6x8x10) (k0_off63 i) S1x1x1x1.size (k0_off63_inb i)).toLoadRect xt0 (Shape.Idx.first (numel1_S1x1x1x1.symm ▸ Nat.one_pos)))
  p16 : k0_chk16 (tbM0_1.view.readAt (Elt F) (Rect.unit (s := S3x8x10) (k0_off67 i) S1x1x1.size (k0_off67_inb i)).toLoadRect xt1 (Shape.Idx.first (numel1_S1x1x1.symm ▸ Nat.one_pos))) (tbM0_0.view.readAt (Elt F) (Rect.unit (s := S3x6x8x10) (k0_off68 i) S1x1x1x1.size (k0_off68_inb i)).toLoadRect xt0 (Shape.Idx.first (numel1_S1x1x1x1.symm ▸ Nat.one_pos)))
  p17 : k0_chk17 (tbM0_1.view.readAt (Elt F) (Rect.unit (s := S3x8x10) (k0_off67 i) S1x1x1.size (k0_off67_inb i)).toLoadRect xt1 (Shape.Idx.first (numel1_S1x1x1.symm ▸ Nat.one_pos))) (tbM0_0.view.readAt (Elt F) (Rect.unit (s := S3x6x8x10) (k0_off72 i) S1x1x1x1.size (k0_off72_inb i)).toLoadRect xt0 (Shape.Idx.first (numel1_S1x1x1x1.symm ▸ Nat.one_pos)))
  p18 : k0_chk18 (tbM0_1.view.readAt (Elt F) (Rect.unit (s := S3x8x10) (k0_off67 i) S1x1x1.size (k0_off67_inb i)).toLoadRect xt1 (Shape.Idx.first (numel1_S1x1x1.symm ▸ Nat.one_pos))) (tbM0_0.view.readAt (Elt F) (Rect.unit (s := S3x6x8x10) (k0_off76 i) S1x1x1x1.size (k0_off76_inb i)).toLoadRect xt0 (Shape.Idx.first (numel1_S1x1x1x1.symm ▸ Nat.one_pos)))
  p19 : k0_chk19 (tbM0_1.view.readAt (Elt F) (Rect.unit (s := S3x8x10) (k0_off67 i) S1x1x1.size (k0_off67_inb i)).toLoadRect xt1 (Shape.Idx.first (numel1_S1x1x1.symm ▸ Nat.one_pos))) (tbM0_0.view.readAt (Elt F) (Rect.unit (s := S3x6x8x10) (k0_off80 i) S1x1x1x1.size (k0_off80_inb i)).toLoadRect xt0 (Shape.Idx.first (numel1_S1x1x1x1.symm ▸ Nat.one_pos)))
  p20 : k0_chk20 (tbM0_1.view.readAt (Elt F) (Rect.unit (s := S3x8x10) (k0_off67 i) S1x1x1.size (k0_off67_inb i)).toLoadRect xt1 (Shape.Idx.first (numel1_S1x1x1.symm ▸ Nat.one_pos))) (tbM0_0.view.readAt (Elt F) (Rect.unit (s := S3x6x8x10) (k0_off84 i) S1x1x1x1.size (k0_off84_inb i)).toLoadRect xt0 (Shape.Idx.first (numel1_S1x1x1x1.symm ▸ Nat.one_pos)))
  p21 : k0_chk21 (tbM0_1.view.readAt (Elt F) (Rect.unit (s := S3x8x10) (k0_off67 i) S1x1x1.size (k0_off67_inb i)).toLoadRect xt1 (Shape.Idx.first (numel1_S1x1x1.symm ▸ Nat.one_pos))) (tbM0_0.view.readAt (Elt F) (Rect.unit (s := S3x6x8x10) (k0_off88 i) S1x1x1x1.size (k0_off88_inb i)).toLoadRect xt0 (Shape.Idx.first (numel1_S1x1x1x1.symm ▸ Nat.one_pos)))
  p22 : k0_chk22 (tbM0_1.view.readAt (Elt F) (Rect.unit (s := S3x8x10) (k0_off92 i) S1x1x1.size (k0_off92_inb i)).toLoadRect xt1 (Shape.Idx.first (numel1_S1x1x1.symm ▸ Nat.one_pos))) (tbM0_0.view.readAt (Elt F) (Rect.unit (s := S3x6x8x10) (k0_off93 i) S1x1x1x1.size (k0_off93_inb i)).toLoadRect xt0 (Shape.Idx.first (numel1_S1x1x1x1.symm ▸ Nat.one_pos)))
  p23 : k0_chk23 (tbM0_1.view.readAt (Elt F) (Rect.unit (s := S3x8x10) (k0_off92 i) S1x1x1.size (k0_off92_inb i)).toLoadRect xt1 (Shape.Idx.first (numel1_S1x1x1.symm ▸ Nat.one_pos))) (tbM0_0.view.readAt (Elt F) (Rect.unit (s := S3x6x8x10) (k0_off97 i) S1x1x1x1.size (k0_off97_inb i)).toLoadRect xt0 (Shape.Idx.first (numel1_S1x1x1x1.symm ▸ Nat.one_pos)))
  p24 : k0_chk24 (tbM0_1.view.readAt (Elt F) (Rect.unit (s := S3x8x10) (k0_off92 i) S1x1x1.size (k0_off92_inb i)).toLoadRect xt1 (Shape.Idx.first (numel1_S1x1x1.symm ▸ Nat.one_pos))) (tbM0_0.view.readAt (Elt F) (Rect.unit (s := S3x6x8x10) (k0_off101 i) S1x1x1x1.size (k0_off101_inb i)).toLoadRect xt0 (Shape.Idx.first (numel1_S1x1x1x1.symm ▸ Nat.one_pos)))
  p25 : k0_chk25 (tbM0_1.view.readAt (Elt F) (Rect.unit (s := S3x8x10) (k0_off92 i) S1x1x1.size (k0_off92_inb i)).toLoadRect xt1 (Shape.Idx.first (numel1_S1x1x1.symm ▸ Nat.one_pos))) (tbM0_0.view.readAt (Elt F) (Rect.unit (s := S3x6x8x10) (k0_off105 i) S1x1x1x1.size (k0_off105_inb i)).toLoadRect xt0 (Shape.Idx.first (numel1_S1x1x1x1.symm ▸ Nat.one_pos)))
  p26 : k0_chk26 (tbM0_1.view.readAt (Elt F) (Rect.unit (s := S3x8x10) (k0_off92 i) S1x1x1.size (k0_off92_inb i)).toLoadRect xt1 (Shape.Idx.first (numel1_S1x1x1.symm ▸ Nat.one_pos))) (tbM0_0.view.readAt (Elt F) (Rect.unit (s := S3x6x8x10) (k0_off109 i) S1x1x1x1.size (k0_off109_inb i)).toLoadRect xt0 (Shape.Idx.first (numel1_S1x1x1x1.symm ▸ Nat.one_pos)))
  p27 : k0_chk27 (tbM0_1.view.readAt (Elt F) (Rect.unit (s := S3x8x10) (k0_off92 i) S1x1x1.size (k0_off92_inb i)).toLoadRect xt1 (Shape.Idx.first (numel1_S1x1x1.symm ▸ Nat.one_pos))) (tbM0_0.view.readAt (Elt F) (Rect.unit (s := S3x6x8x10) (k0_off113 i) S1x1x1x1.size (k0_off113_inb i)).toLoadRect xt0 (Shape.Idx.first (numel1_S1x1x1x1.symm ▸ Nat.one_pos)))
  p28 : k0_chk28 (tbM0_1.view.readAt (Elt F) (Rect.unit (s := S3x8x10) (k0_off117 i) S1x1x1.size (k0_off117_inb i)).toLoadRect xt1 (Shape.Idx.first (numel1_S1x1x1.symm ▸ Nat.one_pos))) (tbM0_0.view.readAt (Elt F) (Rect.unit (s := S3x6x8x10) (k0_off118 i) S1x1x1x1.size (k0_off118_inb i)).toLoadRect xt0 (Shape.Idx.first (numel1_S1x1x1x1.symm ▸ Nat.one_pos)))
  p29 : k0_chk29 (tbM0_1.view.readAt (Elt F) (Rect.unit (s := S3x8x10) (k0_off117 i) S1x1x1.size (k0_off117_inb i)).toLoadRect xt1 (Shape.Idx.first (numel1_S1x1x1.symm ▸ Nat.one_pos))) (tbM0_0.view.readAt (Elt F) (Rect.unit (s := S3x6x8x10) (k0_off122 i) S1x1x1x1.size (k0_off122_inb i)).toLoadRect xt0 (Shape.Idx.first (numel1_S1x1x1x1.symm ▸ Nat.one_pos)))
  p30 : k0_chk30 (tbM0_1.view.readAt (Elt F) (Rect.unit (s := S3x8x10) (k0_off117 i) S1x1x1.size (k0_off117_inb i)).toLoadRect xt1 (Shape.Idx.first (numel1_S1x1x1.symm ▸ Nat.one_pos))) (tbM0_0.view.readAt (Elt F) (Rect.unit (s := S3x6x8x10) (k0_off126 i) S1x1x1x1.size (k0_off126_inb i)).toLoadRect xt0 (Shape.Idx.first (numel1_S1x1x1x1.symm ▸ Nat.one_pos)))
  p31 : k0_chk31 (tbM0_1.view.readAt (Elt F) (Rect.unit (s := S3x8x10) (k0_off117 i) S1x1x1.size (k0_off117_inb i)).toLoadRect xt1 (Shape.Idx.first (numel1_S1x1x1.symm ▸ Nat.one_pos))) (tbM0_0.view.readAt (Elt F) (Rect.unit (s := S3x6x8x10) (k0_off130 i) S1x1x1x1.size (k0_off130_inb i)).toLoadRect xt0 (Shape.Idx.first (numel1_S1x1x1x1.symm ▸ Nat.one_pos)))
  p32 : k0_chk32 (tbM0_1.view.readAt (Elt F) (Rect.unit (s := S3x8x10) (k0_off117 i) S1x1x1.size (k0_off117_inb i)).toLoadRect xt1 (Shape.Idx.first (numel1_S1x1x1.symm ▸ Nat.one_pos))) (tbM0_0.view.readAt (Elt F) (Rect.unit (s := S3x6x8x10) (k0_off134 i) S1x1x1x1.size (k0_off134_inb i)).toLoadRect xt0 (Shape.Idx.first (numel1_S1x1x1x1.symm ▸ Nat.one_pos)))
  p33 : k0_chk33 (tbM0_1.view.readAt (Elt F) (Rect.unit (s := S3x8x10) (k0_off117 i) S1x1x1.size (k0_off117_inb i)).toLoadRect xt1 (Shape.Idx.first (numel1_S1x1x1.symm ▸ Nat.one_pos))) (tbM0_0.view.readAt (Elt F) (Rect.unit (s := S3x6x8x10) (k0_off138 i) S1x1x1x1.size (k0_off138_inb i)).toLoadRect xt0 (Shape.Idx.first (numel1_S1x1x1x1.symm ▸ Nat.one_pos)))

/-- The side conditions at every grid point, over the words that the tables hold when the region is entered. -/
def Hyps (m : (ℓ : Loc nD τ sig) → Buf (Elt F) ℓ) (hO : Ok m) : Prop :=
  ∀ (c : Dev nD) (t : Fin (cfgM m hO).N), HW c (grid0.coords t) (tbl m 0) (tbl m 1)

/-- The scratch operands: whole scoped buffers of the kernel's own, passed beside the windows. -/
abbrev scM0_0 : Memref sig .tc .vmem S4x512x128 .bf16 := Memref.whole cc0_scratch0
abbrev scM0_1 : Memref sig .tc .vmem S512x128 .bf16 := Memref.whole cc0_scratch1
abbrev scM0_2 : Memref sig .tc .vmem S8x128x128 .fp8e4m3 := Memref.whole cc0_scratch2
abbrev scM0_3 : Memref sig .tc .vmem S8x128x128 .fp8e4m3 := Memref.whole cc0_scratch3
abbrev scM0_4 : Memref sig .tc .vmem S3x64x128 .bf16 := Memref.whole cc0_scratch4
abbrev scM0_5 : Memref sig .tc .vmem S256x128 .bf16 := Memref.whole cc0_scratch5
/-- The scratch `arg17` the kernel carries between points, as a view: what it holds is stated through it. -/
abbrev VS0_4 : View sig .tc .vmem S3x64x128 .bf16 := scM0_4.view
/-- The scratch `arg18` the kernel carries between points, as a view: what it holds is stated through it. -/
abbrev VS0_5 : View sig .tc .vmem S256x128 .bf16 := scM0_5.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := by
  unfold Pipeline.ΦA; rw [scopedRest0_eq]; simp only [scM0_0, scM0_1, scM0_2, scM0_3, scM0_4, scM0_5, owns_whole]; try rfl

end Cert.KernelIdeal.Gen

end
-- ==== Proof.KernelIdeal.Words.lean ====
/- The words of `KernelIdeal`'s two tables: each is the word of the argument with its axes exchanged, and under the precondition
   `blocks_in_range` each word that the body takes for a block names one of the eight, so the reads at it lie inside. -/
module

public import proofs.«01_k».proof.Proof.InRange
public import proofs.«01_k».proof.Proof.KernelIdeal.Runs

@[expose] public section

namespace Cert.KernelIdeal.Gen

open Idealize.ShloMosaic Idealize.ShloMosaic.TcCoe

variable {F : FTy → Type} [FloatOps F] [Named F]

/-- What the body needs of a block's word `w` (`b`: the slot is past the count; `n`: the query block): the rows of `k`, the
    mask and the transposed codes of `v` read at it lie inside their scratch. -/
def Inside (b : BitVec 1) (n w : BitVec 32) : Prop :=
  (64 ∣ (Scalar.muli w 64#32).toNat)
  ∧ (∀ a, (![(Scalar.indexCast (Scalar.muli w 64#32) : Index).toNat, 0] : Fin 2 → Nat) a + S64x128.size a ≤ S512x128.size a)
  ∧ (∀ a, (![(Scalar.indexCast (Scalar.select (Scalar.ori b (Scalar.cmpi .sgt w n)) 2#32
        (Scalar.select (Scalar.cmpi .eq w n) 1#32 0#32)) : Index).toNat, 0, 0] : Fin 3 → Nat) a + S1x64x128.size a ≤ S3x64x128.size a)
  ∧ (∀ a, (![(Scalar.indexCast w : Index).toNat, 0, 0] : Fin 3 → Nat) a + S1x128x128.size a ≤ S8x128x128.size a)

/-- A word below eight is such a word. -/
theorem inside (b : BitVec 1) (n w : BitVec 32) (hw : w.toNat < 8) : Inside b n w := by
  obtain ⟨k, hk⟩ : ∃ k : Fin 8, w = BitVec.ofNat 32 k.val := ⟨⟨w.toNat, hw⟩, by simp⟩
  subst hk
  refine ⟨?_, ?_, ?_, ?_⟩
  · revert k; decide
  · revert k; decide
  · generalize Scalar.ori b _ = x
    generalize Scalar.cmpi .eq _ n = y
    revert x y; decide
  · revert k; decide

variable (m : (ℓ : Loc nD τ sig) → Buf (Elt F) ℓ)

/-- The table of blocks is `block_idx` with its axes as (batch, slot, query block, group). -/
theorem tbl_idx : (tbl m 0 : S3x6x8x10.Idx → BitVec 32)
    = transpose S3x6x8x10 [0, 3, 2, 1] (m (((0 : Dev nD) : Thread nD τ).loc main_arg3)) transposes_S3x10x8x6_S3x6x8x10_0_3_2_1 := by
  show StableHlo.after hostOps0 (fun b => m ((0 : Dev nD), b)) (Proc.devRef .tc main_v0) = _
  rfl

/-- The table of counts is `block_count` with its axes as (batch, query block, group). -/
theorem tbl_cnt : (tbl m 1 : S3x8x10.Idx → BitVec 32)
    = transpose S3x8x10 [0, 2, 1] (m (((0 : Dev nD) : Thread nD τ).loc main_arg4)) transposes_S3x10x8_S3x8x10_0_2_1 := by
  show StableHlo.after hostOps0 (fun b => m ((0 : Dev nD), b)) (Proc.devRef .tc main_v1) = _
  rfl

/-- Under the precondition a table word whose slot is at most its query block is below eight. -/
theorem word_lt (h : ∀ c : Dev nD, Cert.Pre_blocks_in_range.fn (F := F) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) = fun _ => 1#1)
    (off : Fin 4 → Nat) (inb : ∀ a, off a + S1x1x1x1.size a ≤ S3x6x8x10.size a) (hle : off 1 ≤ off 2) :
    (tbM0_0.view.readAt (Elt F) (Rect.unit (s := S3x6x8x10) off S1x1x1x1.size inb).toLoadRect (tbl m 0)
      (Shape.Idx.first (numel1_S1x1x1x1.symm ▸ Nat.one_pos)) : BitVec 32).toNat < 8 := by
  show (tbl m 0 ((Rect.unit (s := S3x6x8x10) off S1x1x1x1.size inb).toLoadRect.idx _) : BitVec 32).toNat < 8
  have e := congrFun (tbl_idx m) ((Rect.unit (s := S3x6x8x10) off S1x1x1x1.size inb).toLoadRect.idx
    (Shape.Idx.first (s := S1x1x1x1) (numel1_S1x1x1x1.symm ▸ Nat.one_pos)))
  rw [show (tbl m 0 _ : BitVec 32) = _ from e]
  refine Cert.Pre_blocks_in_range.word_lt _ _ _ _ _ (h 0) _ ?_
  have hz : ∀ a : Fin 4, ((Shape.Idx.first (s := S1x1x1x1) (numel1_S1x1x1x1.symm ▸ Nat.one_pos)) a).val = 0 := by
    intro a; fin_cases a <;> exact Nat.lt_one_iff.mp (Fin.isLt _)
  show off 1 + 1 * ((Shape.Idx.first (s := S1x1x1x1) (numel1_S1x1x1x1.symm ▸ Nat.one_pos)) 1).val
    ≤ off 2 + 1 * ((Shape.Idx.first (s := S1x1x1x1) (numel1_S1x1x1x1.symm ▸ Nat.one_pos)) 2).val
  rw [hz, hz]; omega

/-- THE PRECONDITION IMPLIES THE SIDE CONDITIONS of the words, at every point. -/
theorem hyps_of_pre (h : ∀ c : Dev nD, Cert.Pre_blocks_in_range.fn (F := F) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) = fun _ => 1#1)
    (hO : Ok m) : Hyps m hO := by
  intro c t
  constructor
  all_goals exact inside _ _ _ (word_lt m h _ _ (Nat.le_of_ble_eq_true rfl))

end Cert.KernelIdeal.Gen

end
-- ==== Proof.KernelIdeal.RunA.lean ====
/- The run of the body at the first grid point, where the two constant tables in scratch are filled. -/
module

public import proofs.«01_k».proof.Proof.KernelIdeal.Runs

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 5068000 in
set_option sl_exec.dischHeartbeats 100000 in
/-- What the body's stores leave in each output's staging memref, as pieces (last first) IN CASE A (`scf.if` 0 taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), a scratch it stored into and does not carry with its pieces (`LT·`) written over some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (8) at anything, handed back at some contents nothing names. -/
noncomputable def kernelRun0_A (c : Dev nD) (i : grid0.Coords) (arg4 : Memref sig .tc .vmem S1x512x128 .bf16) (harg4 : arg4.IsWhole) (arg5 : Memref sig .tc .vmem S1x512x128 .bf16) (harg5 : arg5.IsWhole) (arg6 : Memref sig .tc .vmem S1x512x128 .bf16) (harg6 : arg6.IsWhole) (arg7 : Memref sig .tc .vmem S1x512x128 .bf16) (harg7 : arg7.IsWhole) (arg8 : Memref sig .tc .vmem S1x512x128 .bf16) (harg8 : arg8.IsWhole) (arg9 : Memref sig .tc .vmem S1x512x128 .bf16) (harg9 : arg9.IsWhole) (arg10 : Memref sig .tc .vmem S1x512x512 .bf16) (harg10 : arg10.IsWhole) (arg11 : Memref sig .tc .vmem S1x1x512x128 .fp8e4m3) (harg11 : arg11.IsWhole) (arg12 : Memref sig .tc .vmem S10x3x128 .f32) (harg12 : arg12.IsWhole) (arg13 : Memref sig .tc .vmem S4x512x128 .bf16) (harg13 : arg13.IsWhole) (arg14 : Memref sig .tc .vmem S512x128 .bf16) (harg14 : arg14.IsWhole) (arg15 : Memref sig .tc .vmem S8x128x128 .fp8e4m3) (harg15 : arg15.IsWhole) (arg16 : Memref sig .tc .vmem S8x128x128 .fp8e4m3) (harg16 : arg16.IsWhole) (arg17 : Memref sig .tc .vmem S3x64x128 .bf16) (harg17 : arg17.IsWhole) (arg18 : Memref sig .tc .vmem S256x128 .bf16) (harg18 : arg18.IsWhole) (hc0 : cond0_0 i)
    (x0 : Vec F S1x512x128 .bf16) (x1 : Vec F S1x512x128 .bf16) (x2 : Vec F S1x512x128 .bf16) (x3 : Vec F S1x512x128 .bf16) (x4 : Vec F S1x512x128 .bf16) (x5 : Vec F S1x512x128 .bf16) (xt0 : TbBuf0 (F := F) c tbM0_0) (xt1 : TbBuf0 (F := F) c tbM0_1) (hw : HW c i xt0 xt1) :
    Σ' (L6 : List (View.Piece (Elt F) S1x512x512 .bf16)), Σ' (L7 : List (View.Piece (Elt F) S1x1x512x128 .fp8e4m3)), Σ' (LS4 : List (View.Piece (Elt F) S3x64x128 .bf16)), Σ' (LS5 : List (View.Piece (Elt F) S256x128 .bf16)), Σ' (LT0 : List (View.Piece (Elt F) S4x512x128 .bf16)), Σ' (LT1 : List (View.Piece (Elt F) S512x128 .bf16)), Σ' (LT2 : List (View.Piece (Elt F) S8x128x128 .fp8e4m3)), { LT3 : List (View.Piece (Elt F) S8x128x128 .fp8e4m3) //
      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ tbPt0 c tbM0_0 xt0 ∗ tbPt0 c tbM0_1 xt1
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ (∃ f, arg10.view.loc (c : Thread nD τ) ↦[arg10.view.set]{fullShare} arg10.view.writes (Elt F) f L6) ∗ (∃ f, arg11.view.loc (c : Thread nD τ) ↦[arg11.view.set]{fullShare} arg11.view.writes (Elt F) f L7) ∗ (∃ d, owns (c : Thread nD τ) arg12 fullShare d) ∗ (∃ f, arg13.view.loc (c : Thread nD τ) ↦[arg13.view.set]{fullShare} arg13.view.writes (Elt F) f LT0) ∗ (∃ f, arg14.view.loc (c : Thread nD τ) ↦[arg14.view.set]{fullShare} arg14.view.writes (Elt F) f LT1) ∗ (∃ f, arg15.view.loc (c : Thread nD τ) ↦[arg15.view.set]{fullShare} arg15.view.writes (Elt F) f LT2) ∗ (∃ f, arg16.view.loc (c : Thread nD τ) ↦[arg16.view.set]{fullShare} arg16.view.writes (Elt F) f LT3) ∗ (∃ f, arg17.view.loc (c : Thread nD τ) ↦[arg17.view.set]{fullShare} arg17.view.writes (Elt F) f LS4) ∗ (∃ f, arg18.view.loc (c : Thread nD τ) ↦[arg18.view.set]{fullShare} arg18.view.writes (Elt F) f LS5) ∗ tbPt0 c tbM0_0 xt0 ∗ tbPt0 c tbM0_1 xt1) -∗ K ⟨⟩))
          ⊢ wp frame (wpE (defs₀ (F := F)) Variants.none c none) E (cc0__body i tbM0_0 htbM0_0 tbM0_1 htbM0_1 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, ?_, ?_, ?_, ?_, ?_, ?_, fun E K => ?run⟩
  case run =>
    simp only [cc0__body_eq_skeleton]; unfold cc0__body_skel
    simp only [k0_part81_eq_skeleton, k0_part2_eq_skeleton, k0_part1_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, HT0, HT1, Hk⟩
    obtain rfl := harg4.eq_unread hf0; obtain rfl := harg5.eq_unread hf1; obtain rfl := harg6.eq_unread hf2; obtain rfl := harg7.eq_unread hf3; obtain rfl := harg8.eq_unread hf4; obtain rfl := harg9.eq_unread hf5
    sl_exec (disch := first | sl_exact hc0 | sl_exact hw.p1 | sl_exact hw.p2 | sl_exact hw.p3 | sl_exact hw.p4 | sl_exact hw.p5 | sl_exact hw.p6 | sl_exact hw.p7 | sl_exact hw.p8 | sl_exact hw.p9 | sl_exact hw.p10 | sl_exact hw.p11 | sl_exact hw.p12 | sl_exact hw.p13 | sl_exact hw.p14 | sl_exact hw.p15 | sl_exact hw.p16 | sl_exact hw.p17 | sl_exact hw.p18 | sl_exact hw.p19 | sl_exact hw.p20 | sl_exact hw.p21 | sl_exact hw.p22 | sl_exact hw.p23 | sl_exact hw.p24 | sl_exact hw.p25 | sl_exact hw.p26 | sl_exact hw.p27 | sl_exact hw.p28 | sl_exact hw.p29 | sl_exact hw.p30 | sl_exact hw.p31 | sl_exact hw.p32 | sl_exact hw.p33)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [H5]
    · iexists _; isplitr; · ipureintro; exact harg9.read_unread _
      iexact H5
    isplitl [H6]; · iexists _; iexact H6
    isplitl [H7]; · iexists _; iexact H7
    isplitl [H8]
    · iexists _, _; isplitr; swap; · iexact H8
      ipureintro; rfl
    isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    isplitl [HT0]; · iexact HT0
    iexact HT1

end Cert.KernelIdeal.Gen

end
-- ==== Proof.KernelIdeal.RunB.lean ====
/- The run of the body at every other grid point. -/
module

public import proofs.«01_k».proof.Proof.KernelIdeal.RunA

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 4976000 in
set_option sl_exec.dischHeartbeats 100000 in
/-- What the body's stores leave in each output's staging memref, as pieces (last first) IN CASE B (`scf.if` 0 not taken: points 1, 2, … 29: 29 of 30), WITH the
    proof that on whole staging memrefs — the inputs' at their contents, the other outputs' at
    anything, a carried scratch at the contents the point before left (`xs·`) or at anything, the other scratch at anything, the body runs to the continuation holding the inputs' as they were,
    a carried scratch it stored into with its pieces written (`LS·`), a scratch it stored into and does not carry with its pieces (`LT·`) written over some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (8) at anything, handed back at some contents nothing names. -/
noncomputable def kernelRun0_B (c : Dev nD) (i : grid0.Coords) (arg4 : Memref sig .tc .vmem S1x512x128 .bf16) (harg4 : arg4.IsWhole) (arg5 : Memref sig .tc .vmem S1x512x128 .bf16) (harg5 : arg5.IsWhole) (arg6 : Memref sig .tc .vmem S1x512x128 .bf16) (harg6 : arg6.IsWhole) (arg7 : Memref sig .tc .vmem S1x512x128 .bf16) (harg7 : arg7.IsWhole) (arg8 : Memref sig .tc .vmem S1x512x128 .bf16) (harg8 : arg8.IsWhole) (arg9 : Memref sig .tc .vmem S1x512x128 .bf16) (harg9 : arg9.IsWhole) (arg10 : Memref sig .tc .vmem S1x512x512 .bf16) (harg10 : arg10.IsWhole) (arg11 : Memref sig .tc .vmem S1x1x512x128 .fp8e4m3) (harg11 : arg11.IsWhole) (arg12 : Memref sig .tc .vmem S10x3x128 .f32) (harg12 : arg12.IsWhole) (arg13 : Memref sig .tc .vmem S4x512x128 .bf16) (harg13 : arg13.IsWhole) (arg14 : Memref sig .tc .vmem S512x128 .bf16) (harg14 : arg14.IsWhole) (arg15 : Memref sig .tc .vmem S8x128x128 .fp8e4m3) (harg15 : arg15.IsWhole) (arg16 : Memref sig .tc .vmem S8x128x128 .fp8e4m3) (harg16 : arg16.IsWhole) (arg17 : Memref sig .tc .vmem S3x64x128 .bf16) (harg17 : arg17.IsWhole) (arg18 : Memref sig .tc .vmem S256x128 .bf16) (harg18 : arg18.IsWhole) (hc0 : ¬cond0_0 i)
    (x0 : Vec F S1x512x128 .bf16) (x1 : Vec F S1x512x128 .bf16) (x2 : Vec F S1x512x128 .bf16) (x3 : Vec F S1x512x128 .bf16) (x4 : Vec F S1x512x128 .bf16) (x5 : Vec F S1x512x128 .bf16) (xt0 : TbBuf0 (F := F) c tbM0_0) (xt1 : TbBuf0 (F := F) c tbM0_1) (xs4 : Vec F S3x64x128 .bf16) (xs5 : Vec F S256x128 .bf16) (hw : HW c i xt0 xt1) :
    Σ' (L6 : List (View.Piece (Elt F) S1x512x512 .bf16)), Σ' (L7 : List (View.Piece (Elt F) S1x1x512x128 .fp8e4m3)), Σ' (LS4 : List (View.Piece (Elt F) S3x64x128 .bf16)), Σ' (LS5 : List (View.Piece (Elt F) S256x128 .bf16)), Σ' (LT0 : List (View.Piece (Elt F) S4x512x128 .bf16)), Σ' (LT1 : List (View.Piece (Elt F) S512x128 .bf16)), Σ' (LT2 : List (View.Piece (Elt F) S8x128x128 .fp8e4m3)), { LT3 : List (View.Piece (Elt F) S8x128x128 .fp8e4m3) //
      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ owns (c : Thread nD τ) arg17 fullShare xs4 ∗ owns (c : Thread nD τ) arg18 fullShare xs5 ∗ tbPt0 c tbM0_0 xt0 ∗ tbPt0 c tbM0_1 xt1
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ (∃ f, arg10.view.loc (c : Thread nD τ) ↦[arg10.view.set]{fullShare} arg10.view.writes (Elt F) f L6) ∗ (∃ f, arg11.view.loc (c : Thread nD τ) ↦[arg11.view.set]{fullShare} arg11.view.writes (Elt F) f L7) ∗ (∃ d, owns (c : Thread nD τ) arg12 fullShare d) ∗ (∃ f, arg13.view.loc (c : Thread nD τ) ↦[arg13.view.set]{fullShare} arg13.view.writes (Elt F) f LT0) ∗ (∃ f, arg14.view.loc (c : Thread nD τ) ↦[arg14.view.set]{fullShare} arg14.view.writes (Elt F) f LT1) ∗ (∃ f, arg15.view.loc (c : Thread nD τ) ↦[arg15.view.set]{fullShare} arg15.view.writes (Elt F) f LT2) ∗ (∃ f, arg16.view.loc (c : Thread nD τ) ↦[arg16.view.set]{fullShare} arg16.view.writes (Elt F) f LT3) ∗ owns (c : Thread nD τ) arg17 fullShare xs4 ∗ owns (c : Thread nD τ) arg18 fullShare xs5 ∗ tbPt0 c tbM0_0 xt0 ∗ tbPt0 c tbM0_1 xt1) -∗ K ⟨⟩))
          ⊢ wp frame (wpE (defs₀ (F := F)) Variants.none c none) E (cc0__body i tbM0_0 htbM0_0 tbM0_1 htbM0_1 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, [], [], ?_, ?_, ?_, ?_, fun E K => ?run⟩
  case run =>
    simp only [cc0__body_eq_skeleton]; unfold cc0__body_skel
    simp only [k0_part81_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%ds0, %fs0, -, HS0⟩, ⟨%ds1, %fs1, -, HS1⟩, ⟨%ds2, %fs2, -, HS2⟩, ⟨%ds3, %fs3, -, HS3⟩, ⟨%fs4, %hfs4, HS4⟩, ⟨%fs5, %hfs5, HS5⟩, HT0, HT1, Hk⟩
    obtain rfl := harg4.eq_unread hf0; obtain rfl := harg5.eq_unread hf1; obtain rfl := harg6.eq_unread hf2; obtain rfl := harg7.eq_unread hf3; obtain rfl := harg8.eq_unread hf4; obtain rfl := harg9.eq_unread hf5; obtain rfl := harg17.eq_unread hfs4; obtain rfl := harg18.eq_unread hfs5
    sl_exec (disch := first | sl_exact hc0 | sl_exact hw.p1 | sl_exact hw.p2 | sl_exact hw.p3 | sl_exact hw.p4 | sl_exact hw.p5 | sl_exact hw.p6 | sl_exact hw.p7 | sl_exact hw.p8 | sl_exact hw.p9 | sl_exact hw.p10 | sl_exact hw.p11 | sl_exact hw.p12 | sl_exact hw.p13 | sl_exact hw.p14 | sl_exact hw.p15 | sl_exact hw.p16 | sl_exact hw.p17 | sl_exact hw.p18 | sl_exact hw.p19 | sl_exact hw.p20 | sl_exact hw.p21 | sl_exact hw.p22 | sl_exact hw.p23 | sl_exact hw.p24 | sl_exact hw.p25 | sl_exact hw.p26 | sl_exact hw.p27 | sl_exact hw.p28 | sl_exact hw.p29 | sl_exact hw.p30 | sl_exact hw.p31 | sl_exact hw.p32 | sl_exact hw.p33)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [H5]
    · iexists _; isplitr; · ipureintro; exact harg9.read_unread _
      iexact H5
    isplitl [H6]; · iexists _; iexact H6
    isplitl [H7]; · iexists _; iexact H7
    isplitl [H8]
    · iexists _, _; isplitr; swap; · iexact H8
      ipureintro; rfl
    isplitl [HS0]; · iexists _; iexact HS0
    isplitl [HS1]; · iexists _; iexact HS1
    isplitl [HS2]; · iexists _; iexact HS2
    isplitl [HS3]; · iexists _; iexact HS3
    isplitl [HS4]
    · iexists _; isplitr; · ipureintro; exact harg17.read_unread _
      iexact HS4
    isplitl [HS5]
    · iexists _; isplitr; · ipureintro; exact harg18.read_unread _
      iexact HS5
    isplitl [HT0]; · iexact HT0
    iexact HT1

end Cert.KernelIdeal.Gen

end
-- ==== Proof.KernelIdeal.Frame.lean ====
/- What the outputs hold after each grid point, the body obligation, and the run of the whole launch. -/
module

public import proofs.«01_k».proof.Proof.KernelIdeal.RunB
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-- Case A's pieces for output 6 tile its block (32 stores of `S1x64x128`, checked by the kernel's evaluation: Lib/Ring.lean `Piece.tiledL`, linear in the pieces, through a loop's `@[irreducible]` trip theorem too), so they cover it. -/
theorem cover0_A_6 (c : Dev nD) (i : grid0.Coords) (arg4 : Memref sig .tc .vmem S1x512x128 .bf16) (harg4 : arg4.IsWhole) (arg5 : Memref sig .tc .vmem S1x512x128 .bf16) (harg5 : arg5.IsWhole) (arg6 : Memref sig .tc .vmem S1x512x128 .bf16) (harg6 : arg6.IsWhole) (arg7 : Memref sig .tc .vmem S1x512x128 .bf16) (harg7 : arg7.IsWhole) (arg8 : Memref sig .tc .vmem S1x512x128 .bf16) (harg8 : arg8.IsWhole) (arg9 : Memref sig .tc .vmem S1x512x128 .bf16) (harg9 : arg9.IsWhole) (arg10 : Memref sig .tc .vmem S1x512x512 .bf16) (harg10 : arg10.IsWhole) (arg11 : Memref sig .tc .vmem S1x1x512x128 .fp8e4m3) (harg11 : arg11.IsWhole) (arg12 : Memref sig .tc .vmem S10x3x128 .f32) (harg12 : arg12.IsWhole) (arg13 : Memref sig .tc .vmem S4x512x128 .bf16) (harg13 : arg13.IsWhole) (arg14 : Memref sig .tc .vmem S512x128 .bf16) (harg14 : arg14.IsWhole) (arg15 : Memref sig .tc .vmem S8x128x128 .fp8e4m3) (harg15 : arg15.IsWhole) (arg16 : Memref sig .tc .vmem S8x128x128 .fp8e4m3) (harg16 : arg16.IsWhole) (arg17 : Memref sig .tc .vmem S3x64x128 .bf16) (harg17 : arg17.IsWhole) (arg18 : Memref sig .tc .vmem S256x128 .bf16) (harg18 : arg18.IsWhole) (hc0 : cond0_0 i)
    (x0 : Vec F S1x512x128 .bf16) (x1 : Vec F S1x512x128 .bf16) (x2 : Vec F S1x512x128 .bf16) (x3 : Vec F S1x512x128 .bf16) (x4 : Vec F S1x512x128 .bf16) (x5 : Vec F S1x512x128 .bf16) (xt0 : TbBuf0 (F := F) c tbM0_0) (xt1 : TbBuf0 (F := F) c tbM0_1) (hw : HW c i xt0 xt1) (y : S1x512x512.Idx) :
    ∃ pc ∈ (kernelRun0_A c i arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 xt0 xt1 hw).1, y ∈ pc.1.set :=
  View.cover_of_tiledL (kernelRun0_A c i arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 xt0 xt1 hw).1 S1x64x128.size (by sl_kernel_rfl) y

/-- What case A leaves in output 6's staging buffer: its pieces read back over junk. -/
def out0_A_6 (c : Dev nD) (i : grid0.Coords) (arg4 : Memref sig .tc .vmem S1x512x128 .bf16) (harg4 : arg4.IsWhole) (arg5 : Memref sig .tc .vmem S1x512x128 .bf16) (harg5 : arg5.IsWhole) (arg6 : Memref sig .tc .vmem S1x512x128 .bf16) (harg6 : arg6.IsWhole) (arg7 : Memref sig .tc .vmem S1x512x128 .bf16) (harg7 : arg7.IsWhole) (arg8 : Memref sig .tc .vmem S1x512x128 .bf16) (harg8 : arg8.IsWhole) (arg9 : Memref sig .tc .vmem S1x512x128 .bf16) (harg9 : arg9.IsWhole) (arg10 : Memref sig .tc .vmem S1x512x512 .bf16) (harg10 : arg10.IsWhole) (arg11 : Memref sig .tc .vmem S1x1x512x128 .fp8e4m3) (harg11 : arg11.IsWhole) (arg12 : Memref sig .tc .vmem S10x3x128 .f32) (harg12 : arg12.IsWhole) (arg13 : Memref sig .tc .vmem S4x512x128 .bf16) (harg13 : arg13.IsWhole) (arg14 : Memref sig .tc .vmem S512x128 .bf16) (harg14 : arg14.IsWhole) (arg15 : Memref sig .tc .vmem S8x128x128 .fp8e4m3) (harg15 : arg15.IsWhole) (arg16 : Memref sig .tc .vmem S8x128x128 .fp8e4m3) (harg16 : arg16.IsWhole) (arg17 : Memref sig .tc .vmem S3x64x128 .bf16) (harg17 : arg17.IsWhole) (arg18 : Memref sig .tc .vmem S256x128 .bf16) (harg18 : arg18.IsWhole) (hc0 : cond0_0 i)
    (x0 : Vec F S1x512x128 .bf16) (x1 : Vec F S1x512x128 .bf16) (x2 : Vec F S1x512x128 .bf16) (x3 : Vec F S1x512x128 .bf16) (x4 : Vec F S1x512x128 .bf16) (x5 : Vec F S1x512x128 .bf16) (xt0 : TbBuf0 (F := F) c tbM0_0) (xt1 : TbBuf0 (F := F) c tbM0_1) (hw : HW c i xt0 xt1) : Vec F S1x512x512 .bf16 :=
  VO0_6.read (Elt F) (VO0_6.writes (Elt F) VO0_6.junk (kernelRun0_A c i arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 xt0 xt1 hw).1)

/-- Case A's pieces for output 7 tile its block (4 stores of `S1x1x128x128`, checked by the kernel's evaluation: Lib/Ring.lean `Piece.tiledL`, linear in the pieces, through a loop's `@[irreducible]` trip theorem too), so they cover it. -/
theorem cover0_A_7 (c : Dev nD) (i : grid0.Coords) (arg4 : Memref sig .tc .vmem S1x512x128 .bf16) (harg4 : arg4.IsWhole) (arg5 : Memref sig .tc .vmem S1x512x128 .bf16) (harg5 : arg5.IsWhole) (arg6 : Memref sig .tc .vmem S1x512x128 .bf16) (harg6 : arg6.IsWhole) (arg7 : Memref sig .tc .vmem S1x512x128 .bf16) (harg7 : arg7.IsWhole) (arg8 : Memref sig .tc .vmem S1x512x128 .bf16) (harg8 : arg8.IsWhole) (arg9 : Memref sig .tc .vmem S1x512x128 .bf16) (harg9 : arg9.IsWhole) (arg10 : Memref sig .tc .vmem S1x512x512 .bf16) (harg10 : arg10.IsWhole) (arg11 : Memref sig .tc .vmem S1x1x512x128 .fp8e4m3) (harg11 : arg11.IsWhole) (arg12 : Memref sig .tc .vmem S10x3x128 .f32) (harg12 : arg12.IsWhole) (arg13 : Memref sig .tc .vmem S4x512x128 .bf16) (harg13 : arg13.IsWhole) (arg14 : Memref sig .tc .vmem S512x128 .bf16) (harg14 : arg14.IsWhole) (arg15 : Memref sig .tc .vmem S8x128x128 .fp8e4m3) (harg15 : arg15.IsWhole) (arg16 : Memref sig .tc .vmem S8x128x128 .fp8e4m3) (harg16 : arg16.IsWhole) (arg17 : Memref sig .tc .vmem S3x64x128 .bf16) (harg17 : arg17.IsWhole) (arg18 : Memref sig .tc .vmem S256x128 .bf16) (harg18 : arg18.IsWhole) (hc0 : cond0_0 i)
    (x0 : Vec F S1x512x128 .bf16) (x1 : Vec F S1x512x128 .bf16) (x2 : Vec F S1x512x128 .bf16) (x3 : Vec F S1x512x128 .bf16) (x4 : Vec F S1x512x128 .bf16) (x5 : Vec F S1x512x128 .bf16) (xt0 : TbBuf0 (F := F) c tbM0_0) (xt1 : TbBuf0 (F := F) c tbM0_1) (hw : HW c i xt0 xt1) (y : S1x1x512x128.Idx) :
    ∃ pc ∈ (kernelRun0_A c i arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 xt0 xt1 hw).2.1, y ∈ pc.1.set :=
  View.cover_of_tiledL (kernelRun0_A c i arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 xt0 xt1 hw).2.1 S1x1x128x128.size (by sl_kernel_rfl) y

/-- What case A leaves in output 7's staging buffer: its pieces read back over junk. -/
def out0_A_7 (c : Dev nD) (i : grid0.Coords) (arg4 : Memref sig .tc .vmem S1x512x128 .bf16) (harg4 : arg4.IsWhole) (arg5 : Memref sig .tc .vmem S1x512x128 .bf16) (harg5 : arg5.IsWhole) (arg6 : Memref sig .tc .vmem S1x512x128 .bf16) (harg6 : arg6.IsWhole) (arg7 : Memref sig .tc .vmem S1x512x128 .bf16) (harg7 : arg7.IsWhole) (arg8 : Memref sig .tc .vmem S1x512x128 .bf16) (harg8 : arg8.IsWhole) (arg9 : Memref sig .tc .vmem S1x512x128 .bf16) (harg9 : arg9.IsWhole) (arg10 : Memref sig .tc .vmem S1x512x512 .bf16) (harg10 : arg10.IsWhole) (arg11 : Memref sig .tc .vmem S1x1x512x128 .fp8e4m3) (harg11 : arg11.IsWhole) (arg12 : Memref sig .tc .vmem S10x3x128 .f32) (harg12 : arg12.IsWhole) (arg13 : Memref sig .tc .vmem S4x512x128 .bf16) (harg13 : arg13.IsWhole) (arg14 : Memref sig .tc .vmem S512x128 .bf16) (harg14 : arg14.IsWhole) (arg15 : Memref sig .tc .vmem S8x128x128 .fp8e4m3) (harg15 : arg15.IsWhole) (arg16 : Memref sig .tc .vmem S8x128x128 .fp8e4m3) (harg16 : arg16.IsWhole) (arg17 : Memref sig .tc .vmem S3x64x128 .bf16) (harg17 : arg17.IsWhole) (arg18 : Memref sig .tc .vmem S256x128 .bf16) (harg18 : arg18.IsWhole) (hc0 : cond0_0 i)
    (x0 : Vec F S1x512x128 .bf16) (x1 : Vec F S1x512x128 .bf16) (x2 : Vec F S1x512x128 .bf16) (x3 : Vec F S1x512x128 .bf16) (x4 : Vec F S1x512x128 .bf16) (x5 : Vec F S1x512x128 .bf16) (xt0 : TbBuf0 (F := F) c tbM0_0) (xt1 : TbBuf0 (F := F) c tbM0_1) (hw : HW c i xt0 xt1) : Vec F S1x1x512x128 .fp8e4m3 :=
  VO0_7.read (Elt F) (VO0_7.writes (Elt F) VO0_7.junk (kernelRun0_A c i arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 xt0 xt1 hw).2.1)

/-- Case A's pieces for scratch `arg17`, which the kernel carries between points, cover it: 3 pieces of `S1x64x128` tiling it (Lib/Ring.lean `Piece.tiledL`). -/
theorem scover0_A_4 (c : Dev nD) (i : grid0.Coords) (arg4 : Memref sig .tc .vmem S1x512x128 .bf16) (harg4 : arg4.IsWhole) (arg5 : Memref sig .tc .vmem S1x512x128 .bf16) (harg5 : arg5.IsWhole) (arg6 : Memref sig .tc .vmem S1x512x128 .bf16) (harg6 : arg6.IsWhole) (arg7 : Memref sig .tc .vmem S1x512x128 .bf16) (harg7 : arg7.IsWhole) (arg8 : Memref sig .tc .vmem S1x512x128 .bf16) (harg8 : arg8.IsWhole) (arg9 : Memref sig .tc .vmem S1x512x128 .bf16) (harg9 : arg9.IsWhole) (arg10 : Memref sig .tc .vmem S1x512x512 .bf16) (harg10 : arg10.IsWhole) (arg11 : Memref sig .tc .vmem S1x1x512x128 .fp8e4m3) (harg11 : arg11.IsWhole) (arg12 : Memref sig .tc .vmem S10x3x128 .f32) (harg12 : arg12.IsWhole) (arg13 : Memref sig .tc .vmem S4x512x128 .bf16) (harg13 : arg13.IsWhole) (arg14 : Memref sig .tc .vmem S512x128 .bf16) (harg14 : arg14.IsWhole) (arg15 : Memref sig .tc .vmem S8x128x128 .fp8e4m3) (harg15 : arg15.IsWhole) (arg16 : Memref sig .tc .vmem S8x128x128 .fp8e4m3) (harg16 : arg16.IsWhole) (arg17 : Memref sig .tc .vmem S3x64x128 .bf16) (harg17 : arg17.IsWhole) (arg18 : Memref sig .tc .vmem S256x128 .bf16) (harg18 : arg18.IsWhole) (hc0 : cond0_0 i)
    (x0 : Vec F S1x512x128 .bf16) (x1 : Vec F S1x512x128 .bf16) (x2 : Vec F S1x512x128 .bf16) (x3 : Vec F S1x512x128 .bf16) (x4 : Vec F S1x512x128 .bf16) (x5 : Vec F S1x512x128 .bf16) (xt0 : TbBuf0 (F := F) c tbM0_0) (xt1 : TbBuf0 (F := F) c tbM0_1) (hw : HW c i xt0 xt1) (y : S3x64x128.Idx) :
    ∃ pc ∈ (kernelRun0_A c i arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 xt0 xt1 hw).2.2.1, y ∈ pc.1.set :=
  View.cover_of_tiledL (kernelRun0_A c i arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 xt0 xt1 hw).2.2.1 S1x64x128.size (by sl_kernel_rfl) y

/-- What case A leaves in scratch `arg17`: its pieces read back over junk. -/
def sout0_A_4 (c : Dev nD) (i : grid0.Coords) (arg4 : Memref sig .tc .vmem S1x512x128 .bf16) (harg4 : arg4.IsWhole) (arg5 : Memref sig .tc .vmem S1x512x128 .bf16) (harg5 : arg5.IsWhole) (arg6 : Memref sig .tc .vmem S1x512x128 .bf16) (harg6 : arg6.IsWhole) (arg7 : Memref sig .tc .vmem S1x512x128 .bf16) (harg7 : arg7.IsWhole) (arg8 : Memref sig .tc .vmem S1x512x128 .bf16) (harg8 : arg8.IsWhole) (arg9 : Memref sig .tc .vmem S1x512x128 .bf16) (harg9 : arg9.IsWhole) (arg10 : Memref sig .tc .vmem S1x512x512 .bf16) (harg10 : arg10.IsWhole) (arg11 : Memref sig .tc .vmem S1x1x512x128 .fp8e4m3) (harg11 : arg11.IsWhole) (arg12 : Memref sig .tc .vmem S10x3x128 .f32) (harg12 : arg12.IsWhole) (arg13 : Memref sig .tc .vmem S4x512x128 .bf16) (harg13 : arg13.IsWhole) (arg14 : Memref sig .tc .vmem S512x128 .bf16) (harg14 : arg14.IsWhole) (arg15 : Memref sig .tc .vmem S8x128x128 .fp8e4m3) (harg15 : arg15.IsWhole) (arg16 : Memref sig .tc .vmem S8x128x128 .fp8e4m3) (harg16 : arg16.IsWhole) (arg17 : Memref sig .tc .vmem S3x64x128 .bf16) (harg17 : arg17.IsWhole) (arg18 : Memref sig .tc .vmem S256x128 .bf16) (harg18 : arg18.IsWhole) (hc0 : cond0_0 i)
    (x0 : Vec F S1x512x128 .bf16) (x1 : Vec F S1x512x128 .bf16) (x2 : Vec F S1x512x128 .bf16) (x3 : Vec F S1x512x128 .bf16) (x4 : Vec F S1x512x128 .bf16) (x5 : Vec F S1x512x128 .bf16) (xt0 : TbBuf0 (F := F) c tbM0_0) (xt1 : TbBuf0 (F := F) c tbM0_1) (hw : HW c i xt0 xt1) : Vec F S3x64x128 .bf16 :=
  VS0_4.read (Elt F) (VS0_4.writes (Elt F) VS0_4.junk (kernelRun0_A c i arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 xt0 xt1 hw).2.2.1)

/-- Case A's pieces for scratch `arg18`, which the kernel carries between points, cover it: 4 pieces of `S64x128` tiling it (Lib/Ring.lean `Piece.tiledL`). -/
theorem scover0_A_5 (c : Dev nD) (i : grid0.Coords) (arg4 : Memref sig .tc .vmem S1x512x128 .bf16) (harg4 : arg4.IsWhole) (arg5 : Memref sig .tc .vmem S1x512x128 .bf16) (harg5 : arg5.IsWhole) (arg6 : Memref sig .tc .vmem S1x512x128 .bf16) (harg6 : arg6.IsWhole) (arg7 : Memref sig .tc .vmem S1x512x128 .bf16) (harg7 : arg7.IsWhole) (arg8 : Memref sig .tc .vmem S1x512x128 .bf16) (harg8 : arg8.IsWhole) (arg9 : Memref sig .tc .vmem S1x512x128 .bf16) (harg9 : arg9.IsWhole) (arg10 : Memref sig .tc .vmem S1x512x512 .bf16) (harg10 : arg10.IsWhole) (arg11 : Memref sig .tc .vmem S1x1x512x128 .fp8e4m3) (harg11 : arg11.IsWhole) (arg12 : Memref sig .tc .vmem S10x3x128 .f32) (harg12 : arg12.IsWhole) (arg13 : Memref sig .tc .vmem S4x512x128 .bf16) (harg13 : arg13.IsWhole) (arg14 : Memref sig .tc .vmem S512x128 .bf16) (harg14 : arg14.IsWhole) (arg15 : Memref sig .tc .vmem S8x128x128 .fp8e4m3) (harg15 : arg15.IsWhole) (arg16 : Memref sig .tc .vmem S8x128x128 .fp8e4m3) (harg16 : arg16.IsWhole) (arg17 : Memref sig .tc .vmem S3x64x128 .bf16) (harg17 : arg17.IsWhole) (arg18 : Memref sig .tc .vmem S256x128 .bf16) (harg18 : arg18.IsWhole) (hc0 : cond0_0 i)
    (x0 : Vec F S1x512x128 .bf16) (x1 : Vec F S1x512x128 .bf16) (x2 : Vec F S1x512x128 .bf16) (x3 : Vec F S1x512x128 .bf16) (x4 : Vec F S1x512x128 .bf16) (x5 : Vec F S1x512x128 .bf16) (xt0 : TbBuf0 (F := F) c tbM0_0) (xt1 : TbBuf0 (F := F) c tbM0_1) (hw : HW c i xt0 xt1) (y : S256x128.Idx) :
    ∃ pc ∈ (kernelRun0_A c i arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 xt0 xt1 hw).2.2.2.1, y ∈ pc.1.set :=
  View.cover_of_tiledL (kernelRun0_A c i arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 xt0 xt1 hw).2.2.2.1 S64x128.size (by sl_kernel_rfl) y

/-- What case A leaves in scratch `arg18`: its pieces read back over junk. -/
def sout0_A_5 (c : Dev nD) (i : grid0.Coords) (arg4 : Memref sig .tc .vmem S1x512x128 .bf16) (harg4 : arg4.IsWhole) (arg5 : Memref sig .tc .vmem S1x512x128 .bf16) (harg5 : arg5.IsWhole) (arg6 : Memref sig .tc .vmem S1x512x128 .bf16) (harg6 : arg6.IsWhole) (arg7 : Memref sig .tc .vmem S1x512x128 .bf16) (harg7 : arg7.IsWhole) (arg8 : Memref sig .tc .vmem S1x512x128 .bf16) (harg8 : arg8.IsWhole) (arg9 : Memref sig .tc .vmem S1x512x128 .bf16) (harg9 : arg9.IsWhole) (arg10 : Memref sig .tc .vmem S1x512x512 .bf16) (harg10 : arg10.IsWhole) (arg11 : Memref sig .tc .vmem S1x1x512x128 .fp8e4m3) (harg11 : arg11.IsWhole) (arg12 : Memref sig .tc .vmem S10x3x128 .f32) (harg12 : arg12.IsWhole) (arg13 : Memref sig .tc .vmem S4x512x128 .bf16) (harg13 : arg13.IsWhole) (arg14 : Memref sig .tc .vmem S512x128 .bf16) (harg14 : arg14.IsWhole) (arg15 : Memref sig .tc .vmem S8x128x128 .fp8e4m3) (harg15 : arg15.IsWhole) (arg16 : Memref sig .tc .vmem S8x128x128 .fp8e4m3) (harg16 : arg16.IsWhole) (arg17 : Memref sig .tc .vmem S3x64x128 .bf16) (harg17 : arg17.IsWhole) (arg18 : Memref sig .tc .vmem S256x128 .bf16) (harg18 : arg18.IsWhole) (hc0 : cond0_0 i)
    (x0 : Vec F S1x512x128 .bf16) (x1 : Vec F S1x512x128 .bf16) (x2 : Vec F S1x512x128 .bf16) (x3 : Vec F S1x512x128 .bf16) (x4 : Vec F S1x512x128 .bf16) (x5 : Vec F S1x512x128 .bf16) (xt0 : TbBuf0 (F := F) c tbM0_0) (xt1 : TbBuf0 (F := F) c tbM0_1) (hw : HW c i xt0 xt1) : Vec F S256x128 .bf16 :=
  VS0_5.read (Elt F) (VS0_5.writes (Elt F) VS0_5.junk (kernelRun0_A c i arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 xt0 xt1 hw).2.2.2.1)

/-- Case B's pieces for output 6 tile its block (32 stores of `S1x64x128`, checked by the kernel's evaluation: Lib/Ring.lean `Piece.tiledL`, linear in the pieces, through a loop's `@[irreducible]` trip theorem too), so they cover it. -/
theorem cover0_B_6 (c : Dev nD) (i : grid0.Coords) (arg4 : Memref sig .tc .vmem S1x512x128 .bf16) (harg4 : arg4.IsWhole) (arg5 : Memref sig .tc .vmem S1x512x128 .bf16) (harg5 : arg5.IsWhole) (arg6 : Memref sig .tc .vmem S1x512x128 .bf16) (harg6 : arg6.IsWhole) (arg7 : Memref sig .tc .vmem S1x512x128 .bf16) (harg7 : arg7.IsWhole) (arg8 : Memref sig .tc .vmem S1x512x128 .bf16) (harg8 : arg8.IsWhole) (arg9 : Memref sig .tc .vmem S1x512x128 .bf16) (harg9 : arg9.IsWhole) (arg10 : Memref sig .tc .vmem S1x512x512 .bf16) (harg10 : arg10.IsWhole) (arg11 : Memref sig .tc .vmem S1x1x512x128 .fp8e4m3) (harg11 : arg11.IsWhole) (arg12 : Memref sig .tc .vmem S10x3x128 .f32) (harg12 : arg12.IsWhole) (arg13 : Memref sig .tc .vmem S4x512x128 .bf16) (harg13 : arg13.IsWhole) (arg14 : Memref sig .tc .vmem S512x128 .bf16) (harg14 : arg14.IsWhole) (arg15 : Memref sig .tc .vmem S8x128x128 .fp8e4m3) (harg15 : arg15.IsWhole) (arg16 : Memref sig .tc .vmem S8x128x128 .fp8e4m3) (harg16 : arg16.IsWhole) (arg17 : Memref sig .tc .vmem S3x64x128 .bf16) (harg17 : arg17.IsWhole) (arg18 : Memref sig .tc .vmem S256x128 .bf16) (harg18 : arg18.IsWhole) (hc0 : ¬cond0_0 i)
    (x0 : Vec F S1x512x128 .bf16) (x1 : Vec F S1x512x128 .bf16) (x2 : Vec F S1x512x128 .bf16) (x3 : Vec F S1x512x128 .bf16) (x4 : Vec F S1x512x128 .bf16) (x5 : Vec F S1x512x128 .bf16) (xt0 : TbBuf0 (F := F) c tbM0_0) (xt1 : TbBuf0 (F := F) c tbM0_1) (xs4 : Vec F S3x64x128 .bf16) (xs5 : Vec F S256x128 .bf16) (hw : HW c i xt0 xt1) (y : S1x512x512.Idx) :
    ∃ pc ∈ (kernelRun0_B c i arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 xt0 xt1 xs4 xs5 hw).1, y ∈ pc.1.set :=
  View.cover_of_tiledL (kernelRun0_B c i arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 xt0 xt1 xs4 xs5 hw).1 S1x64x128.size (by sl_kernel_rfl) y

/-- What case B leaves in output 6's staging buffer: its pieces read back over junk. -/
def out0_B_6 (c : Dev nD) (i : grid0.Coords) (arg4 : Memref sig .tc .vmem S1x512x128 .bf16) (harg4 : arg4.IsWhole) (arg5 : Memref sig .tc .vmem S1x512x128 .bf16) (harg5 : arg5.IsWhole) (arg6 : Memref sig .tc .vmem S1x512x128 .bf16) (harg6 : arg6.IsWhole) (arg7 : Memref sig .tc .vmem S1x512x128 .bf16) (harg7 : arg7.IsWhole) (arg8 : Memref sig .tc .vmem S1x512x128 .bf16) (harg8 : arg8.IsWhole) (arg9 : Memref sig .tc .vmem S1x512x128 .bf16) (harg9 : arg9.IsWhole) (arg10 : Memref sig .tc .vmem S1x512x512 .bf16) (harg10 : arg10.IsWhole) (arg11 : Memref sig .tc .vmem S1x1x512x128 .fp8e4m3) (harg11 : arg11.IsWhole) (arg12 : Memref sig .tc .vmem S10x3x128 .f32) (harg12 : arg12.IsWhole) (arg13 : Memref sig .tc .vmem S4x512x128 .bf16) (harg13 : arg13.IsWhole) (arg14 : Memref sig .tc .vmem S512x128 .bf16) (harg14 : arg14.IsWhole) (arg15 : Memref sig .tc .vmem S8x128x128 .fp8e4m3) (harg15 : arg15.IsWhole) (arg16 : Memref sig .tc .vmem S8x128x128 .fp8e4m3) (harg16 : arg16.IsWhole) (arg17 : Memref sig .tc .vmem S3x64x128 .bf16) (harg17 : arg17.IsWhole) (arg18 : Memref sig .tc .vmem S256x128 .bf16) (harg18 : arg18.IsWhole) (hc0 : ¬cond0_0 i)
    (x0 : Vec F S1x512x128 .bf16) (x1 : Vec F S1x512x128 .bf16) (x2 : Vec F S1x512x128 .bf16) (x3 : Vec F S1x512x128 .bf16) (x4 : Vec F S1x512x128 .bf16) (x5 : Vec F S1x512x128 .bf16) (xt0 : TbBuf0 (F := F) c tbM0_0) (xt1 : TbBuf0 (F := F) c tbM0_1) (xs4 : Vec F S3x64x128 .bf16) (xs5 : Vec F S256x128 .bf16) (hw : HW c i xt0 xt1) : Vec F S1x512x512 .bf16 :=
  VO0_6.read (Elt F) (VO0_6.writes (Elt F) VO0_6.junk (kernelRun0_B c i arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 xt0 xt1 xs4 xs5 hw).1)

/-- Case B's pieces for output 7 tile its block (4 stores of `S1x1x128x128`, checked by the kernel's evaluation: Lib/Ring.lean `Piece.tiledL`, linear in the pieces, through a loop's `@[irreducible]` trip theorem too), so they cover it. -/
theorem cover0_B_7 (c : Dev nD) (i : grid0.Coords) (arg4 : Memref sig .tc .vmem S1x512x128 .bf16) (harg4 : arg4.IsWhole) (arg5 : Memref sig .tc .vmem S1x512x128 .bf16) (harg5 : arg5.IsWhole) (arg6 : Memref sig .tc .vmem S1x512x128 .bf16) (harg6 : arg6.IsWhole) (arg7 : Memref sig .tc .vmem S1x512x128 .bf16) (harg7 : arg7.IsWhole) (arg8 : Memref sig .tc .vmem S1x512x128 .bf16) (harg8 : arg8.IsWhole) (arg9 : Memref sig .tc .vmem S1x512x128 .bf16) (harg9 : arg9.IsWhole) (arg10 : Memref sig .tc .vmem S1x512x512 .bf16) (harg10 : arg10.IsWhole) (arg11 : Memref sig .tc .vmem S1x1x512x128 .fp8e4m3) (harg11 : arg11.IsWhole) (arg12 : Memref sig .tc .vmem S10x3x128 .f32) (harg12 : arg12.IsWhole) (arg13 : Memref sig .tc .vmem S4x512x128 .bf16) (harg13 : arg13.IsWhole) (arg14 : Memref sig .tc .vmem S512x128 .bf16) (harg14 : arg14.IsWhole) (arg15 : Memref sig .tc .vmem S8x128x128 .fp8e4m3) (harg15 : arg15.IsWhole) (arg16 : Memref sig .tc .vmem S8x128x128 .fp8e4m3) (harg16 : arg16.IsWhole) (arg17 : Memref sig .tc .vmem S3x64x128 .bf16) (harg17 : arg17.IsWhole) (arg18 : Memref sig .tc .vmem S256x128 .bf16) (harg18 : arg18.IsWhole) (hc0 : ¬cond0_0 i)
    (x0 : Vec F S1x512x128 .bf16) (x1 : Vec F S1x512x128 .bf16) (x2 : Vec F S1x512x128 .bf16) (x3 : Vec F S1x512x128 .bf16) (x4 : Vec F S1x512x128 .bf16) (x5 : Vec F S1x512x128 .bf16) (xt0 : TbBuf0 (F := F) c tbM0_0) (xt1 : TbBuf0 (F := F) c tbM0_1) (xs4 : Vec F S3x64x128 .bf16) (xs5 : Vec F S256x128 .bf16) (hw : HW c i xt0 xt1) (y : S1x1x512x128.Idx) :
    ∃ pc ∈ (kernelRun0_B c i arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 xt0 xt1 xs4 xs5 hw).2.1, y ∈ pc.1.set :=
  View.cover_of_tiledL (kernelRun0_B c i arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 xt0 xt1 xs4 xs5 hw).2.1 S1x1x128x128.size (by sl_kernel_rfl) y

/-- What case B leaves in output 7's staging buffer: its pieces read back over junk. -/
def out0_B_7 (c : Dev nD) (i : grid0.Coords) (arg4 : Memref sig .tc .vmem S1x512x128 .bf16) (harg4 : arg4.IsWhole) (arg5 : Memref sig .tc .vmem S1x512x128 .bf16) (harg5 : arg5.IsWhole) (arg6 : Memref sig .tc .vmem S1x512x128 .bf16) (harg6 : arg6.IsWhole) (arg7 : Memref sig .tc .vmem S1x512x128 .bf16) (harg7 : arg7.IsWhole) (arg8 : Memref sig .tc .vmem S1x512x128 .bf16) (harg8 : arg8.IsWhole) (arg9 : Memref sig .tc .vmem S1x512x128 .bf16) (harg9 : arg9.IsWhole) (arg10 : Memref sig .tc .vmem S1x512x512 .bf16) (harg10 : arg10.IsWhole) (arg11 : Memref sig .tc .vmem S1x1x512x128 .fp8e4m3) (harg11 : arg11.IsWhole) (arg12 : Memref sig .tc .vmem S10x3x128 .f32) (harg12 : arg12.IsWhole) (arg13 : Memref sig .tc .vmem S4x512x128 .bf16) (harg13 : arg13.IsWhole) (arg14 : Memref sig .tc .vmem S512x128 .bf16) (harg14 : arg14.IsWhole) (arg15 : Memref sig .tc .vmem S8x128x128 .fp8e4m3) (harg15 : arg15.IsWhole) (arg16 : Memref sig .tc .vmem S8x128x128 .fp8e4m3) (harg16 : arg16.IsWhole) (arg17 : Memref sig .tc .vmem S3x64x128 .bf16) (harg17 : arg17.IsWhole) (arg18 : Memref sig .tc .vmem S256x128 .bf16) (harg18 : arg18.IsWhole) (hc0 : ¬cond0_0 i)
    (x0 : Vec F S1x512x128 .bf16) (x1 : Vec F S1x512x128 .bf16) (x2 : Vec F S1x512x128 .bf16) (x3 : Vec F S1x512x128 .bf16) (x4 : Vec F S1x512x128 .bf16) (x5 : Vec F S1x512x128 .bf16) (xt0 : TbBuf0 (F := F) c tbM0_0) (xt1 : TbBuf0 (F := F) c tbM0_1) (xs4 : Vec F S3x64x128 .bf16) (xs5 : Vec F S256x128 .bf16) (hw : HW c i xt0 xt1) : Vec F S1x1x512x128 .fp8e4m3 :=
  VO0_7.read (Elt F) (VO0_7.writes (Elt F) VO0_7.junk (kernelRun0_B c i arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 xt0 xt1 xs4 xs5 hw).2.1)

/-- Case B stores nothing into scratch `arg17`: it holds what the point before left. -/
def sout0_B_4 (c : Dev nD) (i : grid0.Coords) (arg4 : Memref sig .tc .vmem S1x512x128 .bf16) (harg4 : arg4.IsWhole) (arg5 : Memref sig .tc .vmem S1x512x128 .bf16) (harg5 : arg5.IsWhole) (arg6 : Memref sig .tc .vmem S1x512x128 .bf16) (harg6 : arg6.IsWhole) (arg7 : Memref sig .tc .vmem S1x512x128 .bf16) (harg7 : arg7.IsWhole) (arg8 : Memref sig .tc .vmem S1x512x128 .bf16) (harg8 : arg8.IsWhole) (arg9 : Memref sig .tc .vmem S1x512x128 .bf16) (harg9 : arg9.IsWhole) (arg10 : Memref sig .tc .vmem S1x512x512 .bf16) (harg10 : arg10.IsWhole) (arg11 : Memref sig .tc .vmem S1x1x512x128 .fp8e4m3) (harg11 : arg11.IsWhole) (arg12 : Memref sig .tc .vmem S10x3x128 .f32) (harg12 : arg12.IsWhole) (arg13 : Memref sig .tc .vmem S4x512x128 .bf16) (harg13 : arg13.IsWhole) (arg14 : Memref sig .tc .vmem S512x128 .bf16) (harg14 : arg14.IsWhole) (arg15 : Memref sig .tc .vmem S8x128x128 .fp8e4m3) (harg15 : arg15.IsWhole) (arg16 : Memref sig .tc .vmem S8x128x128 .fp8e4m3) (harg16 : arg16.IsWhole) (arg17 : Memref sig .tc .vmem S3x64x128 .bf16) (harg17 : arg17.IsWhole) (arg18 : Memref sig .tc .vmem S256x128 .bf16) (harg18 : arg18.IsWhole) (hc0 : ¬cond0_0 i)
    (x0 : Vec F S1x512x128 .bf16) (x1 : Vec F S1x512x128 .bf16) (x2 : Vec F S1x512x128 .bf16) (x3 : Vec F S1x512x128 .bf16) (x4 : Vec F S1x512x128 .bf16) (x5 : Vec F S1x512x128 .bf16) (xt0 : TbBuf0 (F := F) c tbM0_0) (xt1 : TbBuf0 (F := F) c tbM0_1) (xs4 : Vec F S3x64x128 .bf16) (xs5 : Vec F S256x128 .bf16) (hw : HW c i xt0 xt1) : Vec F S3x64x128 .bf16 := xs4

/-- Case B stores nothing into scratch `arg18`: it holds what the point before left. -/
def sout0_B_5 (c : Dev nD) (i : grid0.Coords) (arg4 : Memref sig .tc .vmem S1x512x128 .bf16) (harg4 : arg4.IsWhole) (arg5 : Memref sig .tc .vmem S1x512x128 .bf16) (harg5 : arg5.IsWhole) (arg6 : Memref sig .tc .vmem S1x512x128 .bf16) (harg6 : arg6.IsWhole) (arg7 : Memref sig .tc .vmem S1x512x128 .bf16) (harg7 : arg7.IsWhole) (arg8 : Memref sig .tc .vmem S1x512x128 .bf16) (harg8 : arg8.IsWhole) (arg9 : Memref sig .tc .vmem S1x512x128 .bf16) (harg9 : arg9.IsWhole) (arg10 : Memref sig .tc .vmem S1x512x512 .bf16) (harg10 : arg10.IsWhole) (arg11 : Memref sig .tc .vmem S1x1x512x128 .fp8e4m3) (harg11 : arg11.IsWhole) (arg12 : Memref sig .tc .vmem S10x3x128 .f32) (harg12 : arg12.IsWhole) (arg13 : Memref sig .tc .vmem S4x512x128 .bf16) (harg13 : arg13.IsWhole) (arg14 : Memref sig .tc .vmem S512x128 .bf16) (harg14 : arg14.IsWhole) (arg15 : Memref sig .tc .vmem S8x128x128 .fp8e4m3) (harg15 : arg15.IsWhole) (arg16 : Memref sig .tc .vmem S8x128x128 .fp8e4m3) (harg16 : arg16.IsWhole) (arg17 : Memref sig .tc .vmem S3x64x128 .bf16) (harg17 : arg17.IsWhole) (arg18 : Memref sig .tc .vmem S256x128 .bf16) (harg18 : arg18.IsWhole) (hc0 : ¬cond0_0 i)
    (x0 : Vec F S1x512x128 .bf16) (x1 : Vec F S1x512x128 .bf16) (x2 : Vec F S1x512x128 .bf16) (x3 : Vec F S1x512x128 .bf16) (x4 : Vec F S1x512x128 .bf16) (x5 : Vec F S1x512x128 .bf16) (xt0 : TbBuf0 (F := F) c tbM0_0) (xt1 : TbBuf0 (F := F) c tbM0_1) (xs4 : Vec F S3x64x128 .bf16) (xs5 : Vec F S256x128 .bf16) (hw : HW c i xt0 xt1) : Vec F S256x128 .bf16 := xs5

/-! ## What the outputs hold after each point -/

set_option maxHeartbeats 800000 in
set_option maxRecDepth 131072 in
/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (hO : Ok m) (hH : Hyps m hO) (c : Dev nD) : (n : ℕ) → n < (cfgM m hO).N → Vec F S1x512x512 .bf16 × Vec F S1x1x512x128 .fp8e4m3 × Vec F S3x64x128 .bf16 × Vec F S256x128 .bf16
  | 0, hn => (out0_A_6 c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) (ms0_4 m hO ⟨0, hn⟩) (hs0_4 m hO ⟨0, hn⟩) (ms0_5 m hO ⟨0, hn⟩) (hs0_5 m hO ⟨0, hn⟩) (ms0_6 m hO ⟨0, hn⟩) (hs0_6 m hO ⟨0, hn⟩) (ms0_7 m hO ⟨0, hn⟩) (hs0_7 m hO ⟨0, hn⟩) (ms0_8 m hO ⟨0, hn⟩) (hs0_8 m hO ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨0, hn⟩).mpr (Nat.zero_mod _)) (iblk m hO c 0 ⟨0, hn⟩) (iblk m hO c 1 ⟨0, hn⟩) (iblk m hO c 2 ⟨0, hn⟩) (iblk m hO c 3 ⟨0, hn⟩) (iblk m hO c 4 ⟨0, hn⟩) (iblk m hO c 5 ⟨0, hn⟩) (tbl m 0) (tbl m 1) (hH c ⟨0, hn⟩), out0_A_7 c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) (ms0_4 m hO ⟨0, hn⟩) (hs0_4 m hO ⟨0, hn⟩) (ms0_5 m hO ⟨0, hn⟩) (hs0_5 m hO ⟨0, hn⟩) (ms0_6 m hO ⟨0, hn⟩) (hs0_6 m hO ⟨0, hn⟩) (ms0_7 m hO ⟨0, hn⟩) (hs0_7 m hO ⟨0, hn⟩) (ms0_8 m hO ⟨0, hn⟩) (hs0_8 m hO ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨0, hn⟩).mpr (Nat.zero_mod _)) (iblk m hO c 0 ⟨0, hn⟩) (iblk m hO c 1 ⟨0, hn⟩) (iblk m hO c 2 ⟨0, hn⟩) (iblk m hO c 3 ⟨0, hn⟩) (iblk m hO c 4 ⟨0, hn⟩) (iblk m hO c 5 ⟨0, hn⟩) (tbl m 0) (tbl m 1) (hH c ⟨0, hn⟩), sout0_A_4 c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) (ms0_4 m hO ⟨0, hn⟩) (hs0_4 m hO ⟨0, hn⟩) (ms0_5 m hO ⟨0, hn⟩) (hs0_5 m hO ⟨0, hn⟩) (ms0_6 m hO ⟨0, hn⟩) (hs0_6 m hO ⟨0, hn⟩) (ms0_7 m hO ⟨0, hn⟩) (hs0_7 m hO ⟨0, hn⟩) (ms0_8 m hO ⟨0, hn⟩) (hs0_8 m hO ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨0, hn⟩).mpr (Nat.zero_mod _)) (iblk m hO c 0 ⟨0, hn⟩) (iblk m hO c 1 ⟨0, hn⟩) (iblk m hO c 2 ⟨0, hn⟩) (iblk m hO c 3 ⟨0, hn⟩) (iblk m hO c 4 ⟨0, hn⟩) (iblk m hO c 5 ⟨0, hn⟩) (tbl m 0) (tbl m 1) (hH c ⟨0, hn⟩), sout0_A_5 c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) (ms0_4 m hO ⟨0, hn⟩) (hs0_4 m hO ⟨0, hn⟩) (ms0_5 m hO ⟨0, hn⟩) (hs0_5 m hO ⟨0, hn⟩) (ms0_6 m hO ⟨0, hn⟩) (hs0_6 m hO ⟨0, hn⟩) (ms0_7 m hO ⟨0, hn⟩) (hs0_7 m hO ⟨0, hn⟩) (ms0_8 m hO ⟨0, hn⟩) (hs0_8 m hO ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨0, hn⟩).mpr (Nat.zero_mod _)) (iblk m hO c 0 ⟨0, hn⟩) (iblk m hO c 1 ⟨0, hn⟩) (iblk m hO c 2 ⟨0, hn⟩) (iblk m hO c 3 ⟨0, hn⟩) (iblk m hO c 4 ⟨0, hn⟩) (iblk m hO c 5 ⟨0, hn⟩) (tbl m 0) (tbl m 1) (hH c ⟨0, hn⟩))
  | n + 1, hn =>
    if h0 : (n + 1) % 30 = 0 then
      (out0_A_6 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) (ms0_8 m hO ⟨n + 1, hn⟩) (hs0_8 m hO ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨n + 1, hn⟩).mpr h0) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (tbl m 0) (tbl m 1) (hH c ⟨n + 1, hn⟩), out0_A_7 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) (ms0_8 m hO ⟨n + 1, hn⟩) (hs0_8 m hO ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨n + 1, hn⟩).mpr h0) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (tbl m 0) (tbl m 1) (hH c ⟨n + 1, hn⟩), sout0_A_4 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) (ms0_8 m hO ⟨n + 1, hn⟩) (hs0_8 m hO ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨n + 1, hn⟩).mpr h0) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (tbl m 0) (tbl m 1) (hH c ⟨n + 1, hn⟩), sout0_A_5 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) (ms0_8 m hO ⟨n + 1, hn⟩) (hs0_8 m hO ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨n + 1, hn⟩).mpr h0) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (tbl m 0) (tbl m 1) (hH c ⟨n + 1, hn⟩))
    else
      (out0_B_6 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) (ms0_8 m hO ⟨n + 1, hn⟩) (hs0_8 m hO ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (tbl m 0) (tbl m 1) (outsAt0 hO hH c n (Nat.lt_of_succ_lt hn)).2.2.1 (outsAt0 hO hH c n (Nat.lt_of_succ_lt hn)).2.2.2 (hH c ⟨n + 1, hn⟩), out0_B_7 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) (ms0_8 m hO ⟨n + 1, hn⟩) (hs0_8 m hO ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (tbl m 0) (tbl m 1) (outsAt0 hO hH c n (Nat.lt_of_succ_lt hn)).2.2.1 (outsAt0 hO hH c n (Nat.lt_of_succ_lt hn)).2.2.2 (hH c ⟨n + 1, hn⟩), sout0_B_4 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) (ms0_8 m hO ⟨n + 1, hn⟩) (hs0_8 m hO ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (tbl m 0) (tbl m 1) (outsAt0 hO hH c n (Nat.lt_of_succ_lt hn)).2.2.1 (outsAt0 hO hH c n (Nat.lt_of_succ_lt hn)).2.2.2 (hH c ⟨n + 1, hn⟩), sout0_B_5 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) (ms0_8 m hO ⟨n + 1, hn⟩) (hs0_8 m hO ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (tbl m 0) (tbl m 1) (outsAt0 hO hH c n (Nat.lt_of_succ_lt hn)).2.2.1 (outsAt0 hO hH c n (Nat.lt_of_succ_lt hn)).2.2.2 (hH c ⟨n + 1, hn⟩))

set_option maxHeartbeats 800000 in
set_option maxRecDepth 131072 in
/-- `outsAt0` at a point of case A: that case's contents. -/
theorem outsAt0_A (hO : Ok m) (hH : Hyps m hO) (c : Dev nD) (t : Fin (cfgM m hO).N) (h0 : t.val % 30 = 0) :
    outsAt0 m hO hH c t.val t.isLt = (out0_A_6 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (iblk m hO c 0 t) (iblk m hO c 1 t) (iblk m hO c 2 t) (iblk m hO c 3 t) (iblk m hO c 4 t) (iblk m hO c 5 t) (tbl m 0) (tbl m 1) (hH c t), out0_A_7 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (iblk m hO c 0 t) (iblk m hO c 1 t) (iblk m hO c 2 t) (iblk m hO c 3 t) (iblk m hO c 4 t) (iblk m hO c 5 t) (tbl m 0) (tbl m 1) (hH c t), sout0_A_4 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (iblk m hO c 0 t) (iblk m hO c 1 t) (iblk m hO c 2 t) (iblk m hO c 3 t) (iblk m hO c 4 t) (iblk m hO c 5 t) (tbl m 0) (tbl m 1) (hH c t), sout0_A_5 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (iblk m hO c 0 t) (iblk m hO c 1 t) (iblk m hO c 2 t) (iblk m hO c 3 t) (iblk m hO c 4 t) (iblk m hO c 5 t) (tbl m 0) (tbl m 1) (hH c t)) := by
  obtain ⟨n, hn⟩ := t
  cases n with
  | zero => exact rfl
  | succ n => exact (dif_pos h0).trans rfl

set_option maxHeartbeats 800000 in
set_option maxRecDepth 131072 in
/-- `outsAt0` at a point of case B: that case's contents, over what the point before left. -/
theorem outsAt0_B (hO : Ok m) (hH : Hyps m hO) (c : Dev nD) (t : Fin (cfgM m hO).N) (h0 : ¬t.val % 30 = 0) :
    outsAt0 m hO hH c t.val t.isLt = (out0_B_6 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (iblk m hO c 0 t) (iblk m hO c 1 t) (iblk m hO c 2 t) (iblk m hO c 3 t) (iblk m hO c 4 t) (iblk m hO c 5 t) (tbl m 0) (tbl m 1) (outsAt0 m hO hH c (t.val - 1) (Nat.lt_of_le_of_lt (Nat.sub_le _ _) t.isLt)).2.2.1 (outsAt0 m hO hH c (t.val - 1) (Nat.lt_of_le_of_lt (Nat.sub_le _ _) t.isLt)).2.2.2 (hH c t), out0_B_7 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (iblk m hO c 0 t) (iblk m hO c 1 t) (iblk m hO c 2 t) (iblk m hO c 3 t) (iblk m hO c 4 t) (iblk m hO c 5 t) (tbl m 0) (tbl m 1) (outsAt0 m hO hH c (t.val - 1) (Nat.lt_of_le_of_lt (Nat.sub_le _ _) t.isLt)).2.2.1 (outsAt0 m hO hH c (t.val - 1) (Nat.lt_of_le_of_lt (Nat.sub_le _ _) t.isLt)).2.2.2 (hH c t), sout0_B_4 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (iblk m hO c 0 t) (iblk m hO c 1 t) (iblk m hO c 2 t) (iblk m hO c 3 t) (iblk m hO c 4 t) (iblk m hO c 5 t) (tbl m 0) (tbl m 1) (outsAt0 m hO hH c (t.val - 1) (Nat.lt_of_le_of_lt (Nat.sub_le _ _) t.isLt)).2.2.1 (outsAt0 m hO hH c (t.val - 1) (Nat.lt_of_le_of_lt (Nat.sub_le _ _) t.isLt)).2.2.2 (hH c t), sout0_B_5 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (iblk m hO c 0 t) (iblk m hO c 1 t) (iblk m hO c 2 t) (iblk m hO c 3 t) (iblk m hO c 4 t) (iblk m hO c 5 t) (tbl m 0) (tbl m 1) (outsAt0 m hO hH c (t.val - 1) (Nat.lt_of_le_of_lt (Nat.sub_le _ _) t.isLt)).2.2.1 (outsAt0 m hO hH c (t.val - 1) (Nat.lt_of_le_of_lt (Nat.sub_le _ _) t.isLt)).2.2.2 (hH c t)) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (hO : Ok m) (hH : Hyps m hO) (c : Dev nD) : (n : ℕ) → n ≤ (cfgM m hO).N → sProp 𝕄
  | 0, _ => iprop(Pipeline.ΦA spec0 c ∗ Pipeline.ΦT pre0 (tbl m) c)
  | n + 1, hn => iprop(iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ owns (c : Thread nD τ) scM0_4 fullShare ((outsAt0 m hO hH c n hn).2.2.1) ∗ owns (c : Thread nD τ) scM0_5 fullShare ((outsAt0 m hO hH c n hn).2.2.2)) ∗ (∃ r, prngReg c r)) ∗ Pipeline.ΦT pre0 (tbl m) c)

theorem PhiS_zero (hO : Ok m) (hH : Hyps m hO) (c : Dev nD) (n : ℕ) (h : n ≤ (cfgM m hO).N) (hz : n = 0) : PhiS m hO hH c n h = iprop(Pipeline.ΦA spec0 c ∗ Pipeline.ΦT pre0 (tbl m) c) := by
  subst hz; rfl

/-- After point `n` (before point `n + 1`): the carried scratch at that point's contents. -/
theorem PhiS_succ (hO : Ok m) (hH : Hyps m hO) (c : Dev nD) (n : ℕ) (hn : n < (cfgM m hO).N) :
    PhiS m hO hH c (n + 1) hn = iprop(iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ owns (c : Thread nD τ) scM0_4 fullShare ((outsAt0 m hO hH c n hn).2.2.1) ∗ owns (c : Thread nD τ) scM0_5 fullShare ((outsAt0 m hO hH c n hn).2.2.2)) ∗ (∃ r, prngReg c r)) ∗ Pipeline.ΦT pre0 (tbl m) c) := rfl

/-- Before a point that is not the first: the carried scratch at what the point before left. -/
theorem PhiS_pos (hO : Ok m) (hH : Hyps m hO) (c : Dev nD) (n : ℕ) (h : n ≤ (cfgM m hO).N) (hz : n ≠ 0) :
    PhiS m hO hH c n h = iprop(iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ owns (c : Thread nD τ) scM0_4 fullShare ((outsAt0 m hO hH c (n - 1) (by omega)).2.2.1) ∗ owns (c : Thread nD τ) scM0_5 fullShare ((outsAt0 m hO hH c (n - 1) (by omega)).2.2.2)) ∗ (∃ r, prngReg c r)) ∗ Pipeline.ΦT pre0 (tbl m) c) := by
  cases n with
  | zero => exact absurd rfl hz
  | succ n => rfl

/-! ## The pipeline's proof data -/

/-- The output windows this certificate FORGETS (8): nothing reads what the kernel leaves in them, so nothing
    of it is named (Lib/Pipeline/Dat.lean `Dat.toRForget`). -/
def forgets0 : Fin 9 → Bool := fun w => w.val == 8
theorem forgets0_6 : forgets0 (6 : Fin 9) = false := by decide
theorem forgets0_7 : forgets0 (7 : Fin 9) = false := by decide

/-- The proof data of the one pipeline on core `c`: the arrays as the region finds them (`V`); after the body at
    point `t` each input's buffer at its block and the NAMED outputs' at `outsAt0` (the forgotten at `Dat.unnamed`); the invariant the class's
    (Lib/Pipeline/Frame.lean `ΦA`: the scoped rest and the generator register) and the tables' halves (`ΦT`); nothing owed;
    each input's share of its array
    (`Pipeline.shareOf`: the full share of an array several windows stage, dealt among them). -/
def dats (hO : Ok m) (hH : Hyps m hO) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => (outsAt0 m hO hH c t.val t.isLt).1
    | ⟨7, _⟩ => (outsAt0 m hO hH c t.val t.isLt).2.1
    | ⟨8, h⟩ => Pipeline.Dat.unnamed (cfg := (cfgM m hO)) ⟨8, h⟩ t
  Φ t := PhiS m hO hH c t.val (Nat.le_of_lt_succ t.isLt)
  q w := Pipeline.shareOf spec0 w
  owed _ := 0

/-- The proof data's arrays are the region-entry contents: the proof data's definition projected (`dsimp`), so that
    `V` — a fold over @main's host prefix, long for some programs — is never unfolded to check it. -/
theorem A_eq (hO : Ok m) (hH : Hyps m hO) (c : Dev nD) (w : Fin (cfgM m hO).W) : (dats m hO hH 0 c).A w = V m c (Pipeline.arrRef spec0 w) := by
  dsimp only [dats]

/-- The invariant at a point's start (the proof data at `t.castSucc`), restated at `t.val`. -/
theorem PhiS_castSucc (hO : Ok m) (hH : Hyps m hO) (c : Dev nD) (t : Fin (cfgM m hO).N) :
    (dats m hO hH 0 c).Φ t.castSucc = PhiS m hO hH c t.val (Nat.le_of_lt t.isLt) := by
  dsimp only [dats]; exact Pipeline.Dat.Φ_castSucc (PhiS m hO hH c) t

/-- What the body leaves, window by window (the proof data's `match` reduced by `dsimp`). -/
theorem after0_0 (hO : Ok m) (hH : Hyps m hO) (c : Dev nD) (t : Fin (cfgM m hO).N) : (dats m hO hH 0 c).after 0 t = iblk m hO c 0 t := by dsimp only [dats]; try rfl
theorem after0_1 (hO : Ok m) (hH : Hyps m hO) (c : Dev nD) (t : Fin (cfgM m hO).N) : (dats m hO hH 0 c).after 1 t = iblk m hO c 1 t := by dsimp only [dats]; try rfl
theorem after0_2 (hO : Ok m) (hH : Hyps m hO) (c : Dev nD) (t : Fin (cfgM m hO).N) : (dats m hO hH 0 c).after 2 t = iblk m hO c 2 t := by dsimp only [dats]; try rfl
theorem after0_3 (hO : Ok m) (hH : Hyps m hO) (c : Dev nD) (t : Fin (cfgM m hO).N) : (dats m hO hH 0 c).after 3 t = iblk m hO c 3 t := by dsimp only [dats]; try rfl
theorem after0_4 (hO : Ok m) (hH : Hyps m hO) (c : Dev nD) (t : Fin (cfgM m hO).N) : (dats m hO hH 0 c).after 4 t = iblk m hO c 4 t := by dsimp only [dats]; try rfl
theorem after0_5 (hO : Ok m) (hH : Hyps m hO) (c : Dev nD) (t : Fin (cfgM m hO).N) : (dats m hO hH 0 c).after 5 t = iblk m hO c 5 t := by dsimp only [dats]; try rfl
theorem after0_6 (hO : Ok m) (hH : Hyps m hO) (c : Dev nD) (t : Fin (cfgM m hO).N) : (dats m hO hH 0 c).after 6 t = (outsAt0 m hO hH c t.val t.isLt).1 := by dsimp only [dats]; try rfl
theorem after0_7 (hO : Ok m) (hH : Hyps m hO) (c : Dev nD) (t : Fin (cfgM m hO).N) : (dats m hO hH 0 c).after 7 t = (outsAt0 m hO hH c t.val t.isLt).2.1 := by dsimp only [dats]; try rfl

/-- Each input's current staging buffer holds its block at every point, fetched there or not (`beforeK_W_of`). -/
theorem before0_0 (hO : Ok m) (hH : Hyps m hO) (c : Dev nD) (t : Fin (cfgM m hO).N) (d) : (dats m hO hH 0 c).before 0 t d = iblk m hO c 0 t :=
  before0_0_of m hO (dats m hO hH 0 c) (A_eq m hO hH c 0) (after0_0 m hO hH c) t d
theorem before0_1 (hO : Ok m) (hH : Hyps m hO) (c : Dev nD) (t : Fin (cfgM m hO).N) (d) : (dats m hO hH 0 c).before 1 t d = iblk m hO c 1 t :=
  before0_1_of m hO (dats m hO hH 0 c) (A_eq m hO hH c 1) (after0_1 m hO hH c) t d
theorem before0_2 (hO : Ok m) (hH : Hyps m hO) (c : Dev nD) (t : Fin (cfgM m hO).N) (d) : (dats m hO hH 0 c).before 2 t d = iblk m hO c 2 t :=
  before0_2_of m hO (dats m hO hH 0 c) (A_eq m hO hH c 2) (after0_2 m hO hH c) t d
theorem before0_3 (hO : Ok m) (hH : Hyps m hO) (c : Dev nD) (t : Fin (cfgM m hO).N) (d) : (dats m hO hH 0 c).before 3 t d = iblk m hO c 3 t :=
  before0_3_of m hO (dats m hO hH 0 c) (A_eq m hO hH c 3) (after0_3 m hO hH c) t d
theorem before0_4 (hO : Ok m) (hH : Hyps m hO) (c : Dev nD) (t : Fin (cfgM m hO).N) (d) : (dats m hO hH 0 c).before 4 t d = iblk m hO c 4 t :=
  before0_4_of m hO (dats m hO hH 0 c) (A_eq m hO hH c 4) (after0_4 m hO hH c) t d
theorem before0_5 (hO : Ok m) (hH : Hyps m hO) (c : Dev nD) (t : Fin (cfgM m hO).N) (d) : (dats m hO hH 0 c).before 5 t d = iblk m hO c 5 t :=
  before0_5_of m hO (dats m hO hH 0 c) (A_eq m hO hH c 5) (after0_5 m hO hH c) t d

/-! ## The body obligation, at a generic point -/

/-- What the body is called with at point `t` (Lib/Pipeline.lean `BodyObligation`'s precondition, the windows one by one), -/
def bodyPre (hO : Ok m) (hH : Hyps m hO) (c : Dev nD) (t : Fin (cfgM m hO).N) : sProp 𝕄 :=
  iprop((dats m hO hH 0 c).Φ t.castSucc ∗ (dats m hO hH 0 c).owesAt () t.castSucc
    ∗ (∃ d, owns (c : Thread nD τ) (ms0_0 m hO t) fullShare ((dats m hO hH 0 c).before 0 t d))
    ∗ (∃ d, owns (c : Thread nD τ) (ms0_1 m hO t) fullShare ((dats m hO hH 0 c).before 1 t d))
    ∗ (∃ d, owns (c : Thread nD τ) (ms0_2 m hO t) fullShare ((dats m hO hH 0 c).before 2 t d))
    ∗ (∃ d, owns (c : Thread nD τ) (ms0_3 m hO t) fullShare ((dats m hO hH 0 c).before 3 t d))
    ∗ (∃ d, owns (c : Thread nD τ) (ms0_4 m hO t) fullShare ((dats m hO hH 0 c).before 4 t d))
    ∗ (∃ d, owns (c : Thread nD τ) (ms0_5 m hO t) fullShare ((dats m hO hH 0 c).before 5 t d))
    ∗ (∃ d, owns (c : Thread nD τ) (ms0_6 m hO t) fullShare ((dats m hO hH 0 c).before 6 t d))
    ∗ (∃ d, owns (c : Thread nD τ) (ms0_7 m hO t) fullShare ((dats m hO hH 0 c).before 7 t d))
    ∗ (∃ d, owns (c : Thread nD τ) (ms0_8 m hO t) fullShare d))

/-- and what it returns. -/
def bodyPost (hO : Ok m) (hH : Hyps m hO) (c : Dev nD) (t : Fin (cfgM m hO).N) : sProp 𝕄 :=
  iprop((dats m hO hH 0 c).Φ t.succ ∗ (dats m hO hH 0 c).owesAt () t.succ
    ∗ owns (c : Thread nD τ) (ms0_0 m hO t) fullShare ((dats m hO hH 0 c).after 0 t)
    ∗ owns (c : Thread nD τ) (ms0_1 m hO t) fullShare ((dats m hO hH 0 c).after 1 t)
    ∗ owns (c : Thread nD τ) (ms0_2 m hO t) fullShare ((dats m hO hH 0 c).after 2 t)
    ∗ owns (c : Thread nD τ) (ms0_3 m hO t) fullShare ((dats m hO hH 0 c).after 3 t)
    ∗ owns (c : Thread nD τ) (ms0_4 m hO t) fullShare ((dats m hO hH 0 c).after 4 t)
    ∗ owns (c : Thread nD τ) (ms0_5 m hO t) fullShare ((dats m hO hH 0 c).after 5 t)
    ∗ owns (c : Thread nD τ) (ms0_6 m hO t) fullShare ((dats m hO hH 0 c).after 6 t)
    ∗ owns (c : Thread nD τ) (ms0_7 m hO t) fullShare ((dats m hO hH 0 c).after 7 t)
    ∗ (∃ d, owns (c : Thread nD τ) (ms0_8 m hO t) fullShare d))

set_option maxHeartbeats 38400000 in
set_option maxRecDepth 131072 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (hO : Ok m) (hH : Hyps m hO) (c : Dev nD) (t : Fin (cfgM m hO).N) :
    bodyPre m hO hH c t ⊢ wp frame (wpE (defs₀ (F := F)) Variants.none c none) Set.univ (bodyAt0 (adm m hO) t) (fun _ => bodyPost m hO hH c t) := by
  unfold bodyPre bodyPost bodyAt0
  simp only [before0_0, before0_1, before0_2, before0_3, before0_4, before0_5]
  rw [show (dats m hO hH 0 c).owesAt () t.succ = (dats m hO hH 0 c).owesAt () t.castSucc from rfl,
    after0_0, after0_1, after0_2, after0_3, after0_4, after0_5, after0_6, after0_7]
  rw [show (dats m hO hH 0 c).Φ t.succ = PhiS m hO hH c (t.val + 1) t.isLt from rfl, PhiS_succ, PhiT0_eq]
  have hN : t.val < 30 := lt_of_lt_of_eq t.isLt (show (cfgM m hO).N = 30 from N_0)
  by_cases h0 : t.val % 30 = 0
  · by_cases hz : t.val = 0
    · rw [PhiS_castSucc m hO hH c t, PhiS_zero m hO hH c _ _ hz, PhiT0_eq, PhiA0_eq]
      rw [outsAt0_A m hO hH c t h0]
      unfold out0_A_6 out0_A_7 sout0_A_4 sout0_A_5; (try dsimp only)
      iintro ⟨⟨⟨⟨HS0, HS1, HS2, HS3, HS4, HS5⟩, Hg⟩, ⟨HT0, HT1⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_A c (grid0.coords t) _ _ _ _ _ _ _ _ _ _ _ _ _ _ _ _ _ _ _ _ _ _ _ _ _ _ _ _ _ _ ((hcond0_0 t).mpr h0) (iblk m hO c 0 t) (iblk m hO c 1 t) (iblk m hO c 2 t) (iblk m hO c 3 t) (iblk m hO c 4 t) (iblk m hO c 5 t) (tbl m 0) (tbl m 1) (hH c t)).2.2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [HS0]; · iexact HS0
      isplitl [HS1]; · iexact HS1
      isplitl [HS2]; · iexact HS2
      isplitl [HS3]; · iexact HS3
      isplitl [HS4]; · iexact HS4
      isplitl [HS5]; · iexact HS5
      isplitl [HT0]; · iexact HT0
      isplitl [HT1]; · iexact HT1
      iintro ⟨H0, H1, H2, H3, H4, H5, ⟨%e6, H6⟩, ⟨%e7, H7⟩, H8, ⟨%fT0, HS0⟩, ⟨%fT1, HS1⟩, ⟨%fT2, HS2⟩, ⟨%fT3, HS3⟩, ⟨%es4, HS4⟩, ⟨%es5, HS5⟩, HT0, HT1⟩
      isplitl [HS0 HS1 HS2 HS3 HS4 HS5 Hg HT0 HT1]
      · isplitl [HS0 HS1 HS2 HS3 HS4 HS5 Hg]
        · isplitl [HS0 HS1 HS2 HS3 HS4 HS5]
          · isplitl [HS0]
            · iexists _; unfold owns; iexists _; isplitr
              swap; · iexact HS0
              ipureintro; rfl
            isplitl [HS1]
            · iexists _; unfold owns; iexists _; isplitr
              swap; · iexact HS1
              ipureintro; rfl
            isplitl [HS2]
            · iexists _; unfold owns; iexists _; isplitr
              swap; · iexact HS2
              ipureintro; rfl
            isplitl [HS3]
            · iexists _; unfold owns; iexists _; isplitr
              swap; · iexact HS3
              ipureintro; rfl
            isplitl [HS4]
            · unfold owns; iexists _; isplitr
              swap; · iexact HS4
              ipureintro; exact View.read_writes_of_cover _ _ _ _ _ (scover0_A_4 c _ _ _ _ _ _ _ _ _ _ _ _ _ _ _ _ _ _ _ _ _ _ _ _ _ _ _ _ _ _ _ _ _ _ _ _ _ _ _ _ _)
            unfold owns; iexists _; isplitr
            swap; · iexact HS5
            ipureintro; exact View.read_writes_of_cover _ _ _ _ _ (scover0_A_5 c _ _ _ _ _ _ _ _ _ _ _ _ _ _ _ _ _ _ _ _ _ _ _ _ _ _ _ _ _ _ _ _ _ _ _ _ _ _ _ _ _)
          iexact Hg
        isplitl [HT0]; · iexact HT0
        iexact HT1
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover0_A_6 c _ _ _ _ _ _ _ _ _ _ _ _ _ _ _ _ _ _ _ _ _ _ _ _ _ _ _ _ _ _ _ _ _ _ _ _ _ _ _ _ _)
      isplitl [H7]
      · unfold owns; iexists _; isplitr
        swap; · iexact H7
        ipureintro; exact View.read_writes_of_cover _ _ _ _ _ (cover0_A_7 c _ _ _ _ _ _ _ _ _ _ _ _ _ _ _ _ _ _ _ _ _ _ _ _ _ _ _ _ _ _ _ _ _ _ _ _ _ _ _ _ _)
      iexact H8
    · exfalso; have hN : t.val < 30 := lt_of_lt_of_eq t.isLt (show (cfgM m hO).N = 30 from N_0); omega
  · by_cases hz : t.val = 0
    · exfalso; have hN : t.val < 30 := lt_of_lt_of_eq t.isLt (show (cfgM m hO).N = 30 from N_0); omega
    · rw [PhiS_castSucc m hO hH c t, PhiS_pos m hO hH c _ _ hz, PhiT0_eq]
      rw [outsAt0_B m hO hH c t h0]
      unfold out0_B_6 out0_B_7 sout0_B_4 sout0_B_5; (try dsimp only)
      iintro ⟨⟨⟨⟨HS0, HS1, HS2, HS3, HS4, HS5⟩, Hg⟩, ⟨HT0, HT1⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_B c (grid0.coords t) _ _ _ _ _ _ _ _ _ _ _ _ _ _ _ _ _ _ _ _ _ _ _ _ _ _ _ _ _ _ (fun h => h0 ((hcond0_0 t).mp h)) (iblk m hO c 0 t) (iblk m hO c 1 t) (iblk m hO c 2 t) (iblk m hO c 3 t) (iblk m hO c 4 t) (iblk m hO c 5 t) (tbl m 0) (tbl m 1) _ _ (hH c t)).2.2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [HS0]; · iexact HS0
      isplitl [HS1]; · iexact HS1
      isplitl [HS2]; · iexact HS2
      isplitl [HS3]; · iexact HS3
      isplitl [HS4]; · iexact HS4
      isplitl [HS5]; · iexact HS5
      isplitl [HT0]; · iexact HT0
      isplitl [HT1]; · iexact HT1
      iintro ⟨H0, H1, H2, H3, H4, H5, ⟨%e6, H6⟩, ⟨%e7, H7⟩, H8, ⟨%fT0, HS0⟩, ⟨%fT1, HS1⟩, ⟨%fT2, HS2⟩, ⟨%fT3, HS3⟩, HS4, HS5, HT0, HT1⟩
      isplitl [HS0 HS1 HS2 HS3 HS4 HS5 Hg HT0 HT1]
      · isplitl [HS0 HS1 HS2 HS3 HS4 HS5 Hg]
        · isplitl [HS0 HS1 HS2 HS3 HS4 HS5]
          · isplitl [HS0]
            · iexists _; unfold owns; iexists _; isplitr
              swap; · iexact HS0
              ipureintro; rfl
            isplitl [HS1]
            · iexists _; unfold owns; iexists _; isplitr
              swap; · iexact HS1
              ipureintro; rfl
            isplitl [HS2]
            · iexists _; unfold owns; iexists _; isplitr
              swap; · iexact HS2
              ipureintro; rfl
            isplitl [HS3]
            · iexists _; unfold owns; iexists _; isplitr
              swap; · iexact HS3
              ipureintro; rfl
            isplitl [HS4]
            · iexact HS4
            iexact HS5
          iexact Hg
        isplitl [HT0]; · iexact HT0
        iexact HT1
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover0_B_6 c _ _ _ _ _ _ _ _ _ _ _ _ _ _ _ _ _ _ _ _ _ _ _ _ _ _ _ _ _ _ _ _ _ _ _ _ _ _ _ _ _ _ _)
      isplitl [H7]
      · unfold owns; iexists _; isplitr
        swap; · iexact H7
        ipureintro; exact View.read_writes_of_cover _ _ _ _ _ (cover0_B_7 c _ _ _ _ _ _ _ _ _ _ _ _ _ _ _ _ _ _ _ _ _ _ _ _ _ _ _ _ _ _ _ _ _ _ _ _ _ _ _ _ _ _ _)
      iexact H8

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (hH : Hyps m hO) (c : Dev nD) : BodyObligation (dats (F := F) m hO hH 0 c) (defs₀ (F := F)) Variants.none () Set.univ forgets0 := fun t => by
  rw [bigSep_W0, bigSep_W0, defs₀_row m hO]
  exact triple_restated (sound_body m hO hH c t) rfl .rfl fun _ => .rfl

/-- What the launch hands the region (`ΦA`, the tables beside it) is the invariant before the first point. -/
theorem hin (hO : Ok m) (hH : Hyps m hO) (c : Dev nD) : iprop(Pipeline.ΦA spec0 c ∗ Pipeline.ΦT pre0 (tbl m) c) ⊢ (dats m hO hH 0 c).Φ 0 := by
  rw [show (dats m hO hH 0 c).Φ 0 = PhiS m hO hH c 0 (Nat.zero_le _) from rfl, PhiS_zero m hO hH c 0 _ rfl]
  try exact Idealize.SL.BI.Entails.refl _

/-- After any point but the first the invariant gives `ΦA` back: the carried scratch's named contents are forgotten (and the tables' halves dropped). -/
theorem Phi_out (hO : Ok m) (hH : Hyps m hO) (c : Dev nD) (t : Fin ((cfgM m hO).N + 1)) (ht : t.val ≠ 0) : (dats m hO hH 0 c).Φ t ⊢ Pipeline.ΦA spec0 c := by
  rw [show (dats m hO hH 0 c).Φ t = PhiS m hO hH c t.val (Nat.le_of_lt_succ t.isLt) from rfl, PhiS_pos m hO hH c _ _ ht, PhiA0_eq]
  iintro ⟨⟨⟨HS0, HS1, HS2, HS3, HS4, HS5⟩, Hg⟩, -⟩
  isplitl [HS0 HS1 HS2 HS3 HS4 HS5]
  · isplitl [HS0]
    · iexact HS0
    isplitl [HS1]
    · iexact HS1
    isplitl [HS2]
    · iexact HS2
    isplitl [HS3]
    · iexact HS3
    isplitl [HS4]
    · iexists _; iexact HS4
    iexists _; iexact HS5
  iexact Hg

/-- The same after the last point. -/
theorem hout (hO : Ok m) (hH : Hyps m hO) (c : Dev nD) : (dats m hO hH 0 c).Φ (Fin.last (cfgM m hO).N) ⊢ Pipeline.ΦA spec0 c :=
  Phi_out m hO hH c _ (by rw [Fin.val_last]; have : (cfgM m hO).N = 30 := N_0; omega)

/-! ## The run and the frame -/

-- `θ_run_frameP_track_forget_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) (hH : Hyps m hO) : θ_run defs (onTc (τ := τ) (main (F := F))) (s₀ m ρ) (fun r => (Pipeline.RDat.FramePost ((Pipeline.pin pcfgs fun _ => adm m hO) 0) (fun c => (dats m hO hH 0 c).toRForget forgets0) (V m)) r ∧ r.2.sem = fun _ => 0) :=
  Pipeline.θ_run_frameP_track_forget_shared (Q' := _) pcfgs (fun _ => adm m hO) (dats m hO hH) (0 : Fin 1) launch₀0 defs₀ Variants.none forgets0 m ρ main
    (hbody := fun c => (body_obligation m hO hH c).loose) (hq := fun _ _ _ => rfl)
    (howed := fun _ _ => rfl) (V := V m) (hmain := hmain m Variants.none) (hA := A_eq m hO hH) (hpf := V_pre m) (hin := hin m hO hH) (hout := hout m hO hH)

/-- At the compiled mesh, for any values, from any memory with zero counters: every weakly fair execution of @main on the
    TensorCores terminates, and every final state has every INPUT array of the pipeline unchanged, nothing stated of the
    FORGOTTEN outputs (window 8) (Lib/Pipeline/Frame.lean `RDat.FramePost` over the proof data with those windows
    forgotten, Dat.lean `Dat.toRForget`), and every other unscoped buffer at its region-entry contents. -/
theorem run_main (hO : Ok m) (hH : Hyps m hO) : θ_run defs (onTc (τ := τ) (main (F := F))) (s₀ m ρ) (Pipeline.RDat.FramePost ((Pipeline.pin pcfgs fun _ => adm m hO) 0) (fun c => (dats m hO hH 0 c).toRForget forgets0) (V m)) :=
  (θ_run defs _ _).mono (fun _ h => h.1) (run_main_quiescent m ρ hO hH)

/-- `frame` without the counters: the argument arrays end unchanged. -/
theorem unchanged (hO : Ok m) (hH : Hyps m hO) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ hO (fun c => (dats m hO hH 0 c).toRForget forgets0) (A_eq m hO hH) (run_main m ρ hO hH)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`; here for every contents of the PREFETCHED TABLES, UNDER `Gen.Ok m` (the pipeline's side condition of
    them) and `Gen.Hyps m hO` (the side conditions the body assumes, at every point), which Proof.lean proves from the precondition: `⟨…, fun m ρ h => Cert.KernelIdeal.Gen.frame m ρ (ok_of_pre m h) (hyps_of_pre m h _)⟩`. -/
theorem frame (hO : Ok m) (hH : Hyps m hO) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ hO hH) ((θ_run defs _ _).mono (fun _ h => h.2) (run_main_quiescent m ρ hO hH))

end Cert.KernelIdeal.Gen

end
-- ==== Proof.Exponent.lean ====
/- The power-of-two scale of a quantised column, over the extended reals: what the search over the bits of an exponent field
   finds, what the words made of it denote, and that the logarithm's floor finds the same exponent. -/
module

public import Idealize.ShloMosaic.Lib.Pointwise

@[expose] public section

noncomputable section

namespace Cert.Scale

open Idealize.ShloMosaic

/-- A value's magnitude. -/
def mag (x : EReal) : EReal := max x (-x)

/-- What the pattern with exponent field `n` and nothing else denotes. -/
def field (n : Nat) : EReal :=
  if n = 0 then 0 else if n = 255 then ⊤ else (((2 : ℝ) ^ ((n : ℤ) - 127) : ℝ) : EReal)

theorem ieee_bits32 (n : Fin 256) : ((BitVec.ofNat 32 n.val <<< 23).extractLsb' 31 1 = 0#1)
    ∧ ((BitVec.ofNat 32 n.val <<< 23).extractLsb' 23 8).toNat = n.val
    ∧ ((BitVec.ofNat 32 n.val <<< 23).extractLsb' 0 23).toNat = 0 := by
  revert n; decide

theorem ieee_bits16 (n : Fin 256) : ((BitVec.ofNat 16 n.val <<< 7).extractLsb' 15 1 = 0#1)
    ∧ ((BitVec.ofNat 16 n.val <<< 7).extractLsb' 7 8).toNat = n.val
    ∧ ((BitVec.ofNat 16 n.val <<< 7).extractLsb' 0 7).toNat = 0 := by
  revert n; decide

theorem ofBits_field32 (n : Nat) (h : n < 256) : Ideal.ofBits .f32 (BitVec.ofNat 32 n <<< 23) = field n := by
  obtain ⟨h1, h2, h3⟩ := ieee_bits32 ⟨n, h⟩
  show Ideal.ieee 8 23 _ = _
  unfold Ideal.ieee field
  simp only at h1 h2 h3
  simp only [Nat.reduceAdd, h1, h2, h3]
  by_cases h0 : n = 0
  · subst h0; norm_num
  · by_cases h5 : n = 255
    · subst h5; norm_num
    · rw [if_neg (by omega), if_neg h0, if_neg h0, if_neg h5]
      refine congrArg Real.toEReal ?_
      rw [show ((n : ℤ) - 127) = ((n : ℤ) - (2 ^ (8 - 1) - 1) - ((23 : Nat) : ℤ)) + 23 by norm_num,
        zpow_add₀ (by norm_num : (2 : ℝ) ≠ 0)]
      norm_num [mul_comm]

theorem ofBits_field16 (n : Nat) (h : n < 256) : Ideal.ofBits .bf16 (BitVec.ofNat 16 n <<< 7) = field n := by
  obtain ⟨h1, h2, h3⟩ := ieee_bits16 ⟨n, h⟩
  show Ideal.ieee 8 7 _ = _
  unfold Ideal.ieee field
  simp only at h1 h2 h3
  simp only [Nat.reduceAdd, h1, h2, h3]
  by_cases h0 : n = 0
  · subst h0; norm_num
  · by_cases h5 : n = 255
    · subst h5; norm_num
    · rw [if_neg (by omega), if_neg h0, if_neg h0, if_neg h5]
      refine congrArg Real.toEReal ?_
      rw [show ((n : ℤ) - 127) = ((n : ℤ) - (2 ^ (8 - 1) - 1) - ((7 : Nat) : ℤ)) + 7 by norm_num,
        zpow_add₀ (by norm_num : (2 : ℝ) ≠ 0)]
      norm_num [mul_comm]

/-- One step of the search: the field `e` with the bit `k` added where the amplitude reaches the denoted power. -/
def step (t : EReal) (e k : BitVec 32) : BitVec 32 :=
  Scalar.select (Ideal.cmp .oge t (Ideal.ofBits .f32 (IntOp.shli .vector (IntOp.addi e k) 23#32))) (IntOp.addi e k) e

/-- The search over the eight bits. -/
def search (t : EReal) : BitVec 32 :=
  step t (step t (step t (step t (step t (step t (step t (step t 0#32 128#32) 64#32) 32#32) 16#32) 8#32) 4#32) 2#32) 1#32

theorem step_spec (t : EReal) (e k : Nat) (hk : 0 < k) (hek : e + 2 * k ≤ 256) (h1 : field e ≤ t)
    (h2 : e + 2 * k = 256 ∨ t < field (e + 2 * k)) :
    ∃ e' : Nat, step t (BitVec.ofNat 32 e) (BitVec.ofNat 32 k) = BitVec.ofNat 32 e' ∧ e' + k ≤ 256 ∧ field e' ≤ t
      ∧ (e' + k = 256 ∨ t < field (e' + k)) := by
  have hs : IntOp.shli .vector (IntOp.addi (BitVec.ofNat 32 e) (BitVec.ofNat 32 k)) 23#32 = BitVec.ofNat 32 (e + k) <<< 23 := by
    rw [IntOp.addi, ← BitVec.ofNat_add]; rfl
  have hd := ofBits_field32 (e + k) (by omega)
  unfold step
  rw [hs, hd, IntOp.addi, ← BitVec.ofNat_add]
  by_cases h : field (e + k) ≤ t
  · refine ⟨e + k, ?_, by omega, h, ?_⟩
    · simp [Ideal.cmp, h, Scalar.select]
    · rw [show e + k + k = e + 2 * k by ring]; exact h2
  · refine ⟨e, ?_, by omega, h1, Or.inr (not_le.mp h)⟩
    simp [Ideal.cmp, h, Scalar.select]

/-- The search finds the field whose power is the greatest at most the amplitude. -/
theorem search_spec (t : EReal) (h0 : 0 ≤ t) (ht : t < ⊤) :
    ∃ n : Nat, search t = BitVec.ofNat 32 n ∧ n < 255 ∧ field n ≤ t ∧ t < field (n + 1) := by
  obtain ⟨a, ea, la, ha, ka⟩ := step_spec t 0 128 (by norm_num) (by norm_num) (by simpa [field] using h0) (Or.inl rfl)
  obtain ⟨b, eb, lb, hb, kb⟩ := step_spec t a 64 (by norm_num) (by omega) ha (by simpa using ka)
  obtain ⟨c, ec, lc, hc, kc⟩ := step_spec t b 32 (by norm_num) (by omega) hb (by simpa using kb)
  obtain ⟨d, ed, ld, hd, kd⟩ := step_spec t c 16 (by norm_num) (by omega) hc (by simpa using kc)
  obtain ⟨e, ee, le, he, ke⟩ := step_spec t d 8 (by norm_num) (by omega) hd (by simpa using kd)
  obtain ⟨f, ef, lf, hf, kf⟩ := step_spec t e 4 (by norm_num) (by omega) he (by simpa using ke)
  obtain ⟨g, eg, lg, hg, kg⟩ := step_spec t f 2 (by norm_num) (by omega) hf (by simpa using kf)
  obtain ⟨n, en, ln, hn, kn⟩ := step_spec t g 1 (by norm_num) (by omega) hg (by simpa using kg)
  have hn5 : n ≠ 255 := by
    rintro rfl
    have : (⊤ : EReal) ≤ t := by simpa [field] using hn
    exact absurd ht (not_lt.mpr this)
  refine ⟨n, ?_, by omega, hn, by rcases kn with k | k; · omega
                                  · exact k⟩
  unfold search
  rw [show (0#32) = BitVec.ofNat 32 0 from rfl, ea, eb, ec, ed, ee, ef, eg, en]

/-- The exponent of a column whose greatest magnitude is `a` and its amplitude `t`, by the search. -/
def expo (t : EReal) : BitVec 32 :=
  Scalar.select (Ideal.cmp .oeq t 0) 0#32 (IntOp.subi (search t) 126#32)

/-- The exponent by the logarithm. -/
def expoLog (t : EReal) : EReal :=
  max (Ideal.liftRound Int.floor (Ideal.div (Ideal.log t) (Ideal.log 2)) + 1) (-126)

theorem floor_log (t : ℝ) (z : ℤ) (h1 : (2 : ℝ) ^ z ≤ t) (h2 : t < (2 : ℝ) ^ (z + 1)) : ⌊Real.log t * (Real.log 2)⁻¹⌋ = z := by
  have hp : 0 < t := lt_of_lt_of_le (by positivity) h1
  have hl : 0 < Real.log 2 := Real.log_pos (by norm_num)
  rw [← div_eq_mul_inv, Int.floor_eq_iff, le_div_iff₀ hl, div_lt_iff₀ hl]
  constructor
  · rw [← Real.log_zpow]; exact Real.log_le_log (by positivity) h1
  · rw [show ((z : ℝ) + 1) = ((z + 1 : ℤ) : ℝ) by push_cast; ring, ← Real.log_zpow]; exact Real.log_lt_log hp h2

theorem expoLog_eq (t : ℝ) (ht : 0 < t) : expoLog t = ((max ((⌊Real.log t * (Real.log 2)⁻¹⌋ : ℝ) + 1) (-126) : ℝ) : EReal) := by
  have hl : Real.log 2 ≠ 0 := (Real.log_pos (by norm_num)).ne'
  have e2 : Ideal.log 2 = ((Real.log 2 : ℝ) : EReal) := by
    show (if (2 : ℝ) ≤ 0 then (⊥ : EReal) else _) = _
    rw [if_neg (by norm_num)]; norm_num
  have et : Ideal.log (t : EReal) = ((Real.log t : ℝ) : EReal) := by
    show (if t ≤ 0 then (⊥ : EReal) else _) = _
    rw [if_neg (not_le.mpr ht)]
  unfold expoLog
  rw [e2, et, Ideal.div, if_neg (by simpa using hl), ← EReal.coe_inv, ← EReal.coe_mul]
  show max (((⌊Real.log t * (Real.log 2)⁻¹⌋ : ℝ) : EReal) + 1) (-126) = _
  rw [← EReal.coe_one, ← EReal.coe_add, show (-126 : EReal) = ((-126 : ℝ) : EReal) from rfl]
  exact (EReal.coe_strictMono.monotone.map_max).symm

/-- THE TWO EXPONENTS AGREE, and the exponent lies in the format's range. -/
theorem expo_spec (t : ℝ) (h0 : 0 ≤ t) (ht : t < 2 ^ 120) :
    ∃ z : ℤ, -126 ≤ z ∧ z ≤ 121 ∧ expo t = BitVec.ofInt 32 z ∧ (t = 0 → z = 0) ∧ (t ≠ 0 → expoLog t = ((z : ℝ) : EReal)) := by
  by_cases hz : t = 0
  · subst hz
    refine ⟨0, by norm_num, by norm_num, ?_, fun _ => rfl, fun h => absurd rfl h⟩
    simp [expo, Ideal.cmp, Scalar.select]
  have hp : 0 < t := lt_of_le_of_ne h0 (Ne.symm hz)
  obtain ⟨n, en, ln, hn, kn⟩ := search_spec (t : EReal) (by exact_mod_cast h0) (EReal.coe_lt_top t)
  have hn1 : n ≠ 0 → (2 : ℝ) ^ ((n : ℤ) - 127) ≤ t := fun h => by
    rw [field, if_neg h, if_neg (by omega)] at hn; exact_mod_cast hn
  have hle : n ≤ 246 := by
    by_contra hc
    have h1 := hn1 (by omega)
    have h2 : (2 : ℝ) ^ (120 : ℤ) ≤ (2 : ℝ) ^ ((n : ℤ) - 127) := zpow_le_zpow_right₀ (by norm_num) (by omega)
    have h3 : (2 : ℝ) ^ (120 : ℤ) = 2 ^ 120 := by norm_cast
    linarith
  have kn1 : t < (2 : ℝ) ^ ((n : ℤ) - 127 + 1) := by
    rw [field, if_neg (by omega), if_neg (by omega)] at kn
    rw [show (n : ℤ) - 127 + 1 = ((n + 1 : Nat) : ℤ) - 127 by push_cast; ring]; exact_mod_cast kn
  refine ⟨n - 126, by omega, by omega, ?_, fun h => absurd h hz, fun _ => ?_⟩
  · have : Ideal.cmp .oeq (t : EReal) 0 = 0#1 := by simp [Ideal.cmp, hz]
    rw [expo, this, en]
    show BitVec.ofInt 32 (n : ℤ) - 126#32 = _
    rw [BitVec.sub_eq_add_neg, show -(126#32) = BitVec.ofInt 32 (-126) from rfl, ← BitVec.ofInt_add]; rfl
  · rw [expoLog_eq t hp]
    refine congrArg Real.toEReal ?_
    by_cases h : n = 0
    · subst h
      have : ⌊Real.log t * (Real.log 2)⁻¹⌋ ≤ -127 := by
        rw [← Int.lt_add_one_iff, Int.floor_lt, ← div_eq_mul_inv, div_lt_iff₀ (Real.log_pos (by norm_num)), ← Real.log_zpow]
        exact Real.log_lt_log hp (by simpa using kn1)
      have : (⌊Real.log t * (Real.log 2)⁻¹⌋ : ℝ) ≤ -127 := by exact_mod_cast this
      rw [max_eq_right (by linarith)]; norm_num
    · rw [floor_log t _ (hn1 h) kn1, max_eq_left]
      · push_cast; ring
      · have : (1 : ℝ) ≤ n := by exact_mod_cast Nat.one_le_iff_ne_zero.mpr h
        push_cast; linarith

theorem ofInt_add (z w : ℤ) (n : Nat) (h : z + w = n) : BitVec.ofInt 32 z + BitVec.ofInt 32 w = BitVec.ofNat 32 n := by
  rw [← BitVec.ofInt_add, h]; rfl

theorem field_zpow (z : ℤ) (n : Nat) (h : (n : ℤ) = z + 127) (h0 : n ≠ 0) (h5 : n < 255) : field n = (((2 : ℝ) ^ z : ℝ) : EReal) := by
  rw [field, if_neg h0, if_neg (by omega), h]; congr 3; ring

/-- The word of the scale. -/
theorem pow2_word (z : ℤ) (h1 : -126 ≤ z) (h2 : z ≤ 127) :
    Ideal.ofBits .f32 (IntOp.shli .vector (IntOp.addi (BitVec.ofInt 32 z) 127#32) 23#32) = (((2 : ℝ) ^ z : ℝ) : EReal) := by
  obtain ⟨n, hn⟩ : ∃ n : Nat, (n : ℤ) = z + 127 := ⟨(z + 127).toNat, by omega⟩
  rw [IntOp.addi, show (127#32) = BitVec.ofInt 32 127 from rfl, ofInt_add z 127 n hn.symm]
  exact (ofBits_field32 n (by omega)).trans (field_zpow z n hn (by omega) (by omega))

/-- The word of the scale's inverse. -/
theorem inv_word (z : ℤ) (h1 : -127 ≤ z) (h2 : z ≤ 126) :
    Ideal.ofBits .f32 (IntOp.shli .vector (IntOp.addi (IntOp.subi 0#32 (BitVec.ofInt 32 z)) 127#32) 23#32)
      = (((2 : ℝ) ^ (-z) : ℝ) : EReal) := by
  rw [IntOp.subi, show 0#32 - BitVec.ofInt 32 z = BitVec.ofInt 32 (-z) by rw [BitVec.ofInt_neg]; simp]
  exact pow2_word (-z) (by omega) (by omega)

/-- The rows' pair of the scale's inverse: both halves of the word denote it. -/
theorem inv_pair (z : ℤ) (h1 : -126 ≤ z) (h2 : z ≤ 126) (x : BitVec 32)
    (hx : x = IntOp.shli .vector (IntOp.subi 127#32 (BitVec.ofInt 32 z)) 7#32) :
    Ideal.ofBits .bf16 ((IntOp.ori x (IntOp.shli .vector x 16#32)).extractLsb' 0 16) = (((2 : ℝ) ^ (-z) : ℝ) : EReal)
    ∧ Ideal.ofBits .bf16 ((IntOp.ori x (IntOp.shli .vector x 16#32)).extractLsb' 16 16) = (((2 : ℝ) ^ (-z) : ℝ) : EReal) := by
  obtain ⟨n, hn⟩ : ∃ n : Nat, (n : ℤ) = -z + 127 := ⟨(-z + 127).toNat, by omega⟩
  have e : IntOp.subi 127#32 (BitVec.ofInt 32 z) = BitVec.ofNat 32 n := by
    rw [IntOp.subi, BitVec.sub_eq_add_neg, ← BitVec.ofInt_neg, BitVec.add_comm, show (127#32) = BitVec.ofInt 32 127 from rfl, ofInt_add _ 127 n hn.symm]
  have hf := (ofBits_field16 n (by omega)).trans (field_zpow (-z) n hn (by omega) (by omega))
  have hw : ∀ n : Fin 254, ((BitVec.ofNat 32 n.val <<< 7) ||| ((BitVec.ofNat 32 n.val <<< 7) <<< 16)).extractLsb' 0 16 = BitVec.ofNat 16 n.val <<< 7
      ∧ ((BitVec.ofNat 32 n.val <<< 7) ||| ((BitVec.ofNat 32 n.val <<< 7) <<< 16)).extractLsb' 16 16 = BitVec.ofNat 16 n.val <<< 7 := by decide
  obtain ⟨w1, w2⟩ := hw ⟨n, by omega⟩
  rw [e] at hx
  subst hx
  exact ⟨(congrArg (Ideal.ofBits .bf16) w1).trans hf, (congrArg (Ideal.ofBits .bf16) w2).trans hf⟩

/-- The host's power of two. -/
theorem pow_two (z : ℤ) : Ideal.pow 2 ((z : ℝ) : EReal) = (((2 : ℝ) ^ z : ℝ) : EReal) := by
  show ((Real.rpow 2 (z : ℝ) : ℝ) : EReal) = _
  exact congrArg Real.toEReal (Real.rpow_intCast 2 z)

end Cert.Scale

end
-- ==== Proof.Row.lean ====
/- One row of the attention over the reals and the infinities: the kernel's and the reference's, and that they agree. -/
module

public import proofs.«01_k».proof.Proof.Exponent

@[expose] public section

noncomputable section

namespace Cert.Row

open Idealize.ShloMosaic

/-- The inverse of the root of the head's width. -/
def scale : ℝ := (Real.sqrt 128)⁻¹

theorem scale_pos : 0 < scale := inv_pos.2 (Real.sqrt_pos.2 (by norm_num))

theorem both_pos : 0 < (Real.sqrt 128)⁻¹ * (Real.log 2)⁻¹ := mul_pos scale_pos (inv_pos.2 (Real.log_pos (by norm_num)))

/-- The greatest score. -/
def top {L : Nat} (S : Fin L → EReal) : EReal := Finset.fold max ⊥ S Finset.univ

theorem le_top {L : Nat} (S : Fin L → EReal) (k : Fin L) : S k ≤ top S :=
  ((Finset.fold_max_le (top S)).1 le_rfl).2 k (Finset.mem_univ _)

theorem top_mem {L : Nat} (S : Fin L → EReal) (h : top S ≠ ⊥) : ∃ k, S k = top S := by
  have := (Finset.le_fold_max (f := S) (s := Finset.univ) (b := ⊥) (top S)).1 le_rfl
  rcases this with h' | ⟨k, _, hk⟩
  · exact absurd (le_bot_iff.1 h') h
  · exact ⟨k, le_antisymm (le_top S k) hk⟩

/-- The kernel's unnormalised weight. -/
def wt {L : Nat} (S : Fin L → EReal) (k : Fin L) : EReal :=
  Ideal.exp2 ((S k - top S) * (((Real.sqrt 128)⁻¹ * (Real.log 2)⁻¹ : ℝ) : EReal))

/-- The exponential of the difference of the scaled scores is the kernel's power of two. -/
theorem exp_eq (x m : EReal) (h : x ≤ m) :
    Ideal.exp (x * (scale : EReal) - m * (scale : EReal)) = Ideal.exp2 ((x - m) * (((Real.sqrt 128)⁻¹ * (Real.log 2)⁻¹ : ℝ) : EReal)) := by
  have hs := scale_pos
  have hC : 0 < (Real.sqrt 128)⁻¹ * (Real.log 2)⁻¹ := mul_pos hs (inv_pos.2 (Real.log_pos (by norm_num)))
  induction m with
  | top =>
    rw [EReal.top_mul_coe_of_pos hs, EReal.sub_top, EReal.sub_top, EReal.bot_mul_coe_of_pos hC]
    rfl
  | bot =>
    obtain rfl := le_bot_iff.1 h
    rw [EReal.bot_mul_coe_of_pos hs, EReal.bot_sub, EReal.bot_mul_coe_of_pos hC]
    rfl
  | coe m =>
    induction x with
    | top => exact absurd h (by simp)
    | bot =>
      rw [EReal.bot_mul_coe_of_pos hs, EReal.bot_sub, EReal.bot_sub, EReal.bot_mul_coe_of_pos hC]
      rfl
    | coe x =>
      rw [← EReal.coe_mul, ← EReal.coe_mul, ← EReal.coe_sub, ← EReal.coe_sub, ← EReal.coe_mul]
      show ((Real.exp _ : ℝ) : EReal) = ((Real.rpow 2 _ : ℝ) : EReal)
      refine congrArg Real.toEReal ?_
      show _ = (2 : ℝ) ^ ((x - m) * ((Real.sqrt 128)⁻¹ * (Real.log 2)⁻¹))
      rw [Real.rpow_def_of_pos (by norm_num)]
      congr 1
      have : Real.log 2 ≠ 0 := (Real.log_pos (by norm_num)).ne'
      unfold scale
      field_simp

/-- The sum of the weights. -/
def tot {L : Nat} (S : Fin L → EReal) : EReal := ∑ k, wt S k

theorem exp2_le_one (x m : EReal) (h : x ≤ m) (C : ℝ) (hC : 0 < C) : ∃ a : ℝ, Ideal.exp2 ((x - m) * (C : EReal)) = (a : EReal) ∧ 0 ≤ a ∧ a ≤ 1 := by
  induction m with
  | top => exact ⟨0, by rw [EReal.sub_top, EReal.bot_mul_coe_of_pos hC]; rfl, le_rfl, zero_le_one⟩
  | bot =>
    obtain rfl := le_bot_iff.1 h
    exact ⟨0, by rw [EReal.bot_sub, EReal.bot_mul_coe_of_pos hC]; rfl, le_rfl, zero_le_one⟩
  | coe m =>
    induction x with
    | top => exact absurd h (by simp)
    | bot => exact ⟨0, by rw [EReal.bot_sub, EReal.bot_mul_coe_of_pos hC]; rfl, le_rfl, zero_le_one⟩
    | coe x =>
      refine ⟨(2 : ℝ) ^ ((x - m) * C), by rw [← EReal.coe_sub, ← EReal.coe_mul]; rfl, by positivity, ?_⟩
      have : x ≤ m := EReal.coe_le_coe_iff.1 h
      exact Real.rpow_le_one_of_one_le_of_nonpos (by norm_num) (mul_nonpos_of_nonpos_of_nonneg (by linarith) hC.le)

theorem wt_real {L : Nat} (S : Fin L → EReal) (k : Fin L) : ∃ a : ℝ, wt S k = (a : EReal) ∧ 0 ≤ a ∧ a ≤ 1 :=
  exp2_le_one _ _ (le_top S k) _ both_pos

/-- Either no weight is positive, or the sum is a real of at least one and some weight is one. -/
theorem tot_cases {L : Nat} (S : Fin L → EReal) :
    (∀ k, wt S k = 0) ∨ ((∃ l : ℝ, tot S = (l : EReal) ∧ 1 ≤ l) ∧ ∃ k, wt S k = 1) := by
  by_cases hb : top S = ⊥
  · left
    intro k
    have : S k = ⊥ := le_bot_iff.1 (hb ▸ le_top S k)
    unfold wt
    rw [this, EReal.bot_sub, EReal.bot_mul_coe_of_pos both_pos]
    rfl
  by_cases ht : top S = ⊤
  · left
    intro k
    unfold wt
    rw [ht, EReal.sub_top, EReal.bot_mul_coe_of_pos both_pos]
    rfl
  right
  obtain ⟨k, hk⟩ := top_mem S hb
  have h1 : wt S k = 1 := by
    unfold wt
    rw [hk, EReal.sub_self ht hb, zero_mul]
    show ((Real.rpow 2 0 : ℝ) : EReal) = 1
    simp [Real.rpow_eq_pow]
  refine ⟨?_, k, h1⟩
  choose a ha h0 _ using wt_real S
  have e : tot S = ((∑ k, a k : ℝ) : EReal) := by
    unfold tot
    rw [Finset.sum_congr rfl fun k _ => ha k]
    exact (map_sum (⟨⟨Real.toEReal, rfl⟩, EReal.coe_add⟩ : ℝ →+ EReal) a Finset.univ).symm
  refine ⟨∑ k, a k, e, ?_⟩
  have : a k = 1 := by
    have := (ha k).symm.trans h1
    exact_mod_cast this
  rw [← this]
  exact Finset.single_le_sum (fun i _ => h0 i) (Finset.mem_univ k)

/-- The least and the greatest code. -/
def clip (x : EReal) : EReal := min (Ideal.ofBits .f32 0x43E00000#32) (max (Ideal.ofBits .f32 0xC3E00000#32) x)

theorem clip_zero : clip 0 = 0 := by
  have h1 : Ideal.ofBits .f32 0x43E00000#32 = ((448 : ℝ) : EReal) := by
    simp [Ideal.ofBits, Ideal.ieee, -EReal.coe_mul]; norm_num
    try rfl
  have h2 : Ideal.ofBits .f32 0xC3E00000#32 = ((-448 : ℝ) : EReal) := by
    simp [Ideal.ofBits, Ideal.ieee, -EReal.coe_mul]; norm_num
    try rfl
  unfold clip
  rw [h1, h2, ← EReal.coe_zero, max_eq_right (EReal.coe_le_coe_iff.2 (by norm_num)), min_eq_right (EReal.coe_le_coe_iff.2 (by norm_num))]

/-- The factor of the greatest code's inverse. -/
abbrev fac : EReal := Ideal.ofBits .f32 0x3B124925#32

def inv (e : BitVec 32) : EReal := Ideal.ofBits .f32 (IntOp.shli .vector (IntOp.addi (IntOp.subi 0#32 e) 127#32) 23#32)
def pow (e : BitVec 32) : EReal := Ideal.ofBits .f32 (IntOp.shli .vector (IntOp.addi e 127#32) 23#32)

/-- The word of the row's exponent. -/
def word {L : Nat} (S : Fin L → EReal) : BitVec 32 := Scale.expo (Ideal.div 1 (tot S) * fac)

/-- The kernel's row: the weights over their sum, quantised, times the values, and the two scales. -/
def row {L : Nat} (S W : Fin L → EReal) (vs : EReal) : EReal :=
  (∑ k, W k * clip (wt S k * (Ideal.div 1 (tot S) * inv (word S)))) * pow (word S) * vs

/-- A sum over positions of which all past `L` are zero. -/
theorem sum_pad {L M : Nat} (h : L ≤ M) (f : Fin M → EReal) (hz : ∀ k : Fin M, L ≤ k.val → f k = 0) :
    ∑ k, f k = ∑ k : Fin L, f (Fin.castLE h k) := by
  obtain ⟨d, rfl⟩ := Nat.exists_eq_add_of_le h
  rw [Fin.sum_univ_add]
  rw [Finset.sum_eq_zero (s := Finset.univ) (f := fun i : Fin d => f (Fin.natAdd L i)) fun i _ => hz _ (by simp), add_zero]
  rfl

theorem top_pad {L M : Nat} (h : L ≤ M) (S : Fin M → EReal) (hz : ∀ k : Fin M, L ≤ k.val → S k = ⊥) :
    top S = top fun k : Fin L => S (Fin.castLE h k) := by
  refine le_antisymm ?_ ?_
  · refine (Finset.fold_max_le _).2 ⟨bot_le, fun k _ => ?_⟩
    by_cases hk : L ≤ k.val
    · rw [hz k hk]; exact bot_le
    · exact le_top (fun k : Fin L => S (Fin.castLE h k)) ⟨k.val, by omega⟩
  · exact (Finset.fold_max_le _).2 ⟨bot_le, fun k _ => le_top S _⟩

/-- Positions of score minus infinity do not count. -/
theorem row_pad {L M : Nat} (h : L ≤ M) (S W : Fin M → EReal) (hz : ∀ k : Fin M, L ≤ k.val → S k = ⊥) (vs : EReal) :
    row (fun k : Fin L => S (Fin.castLE h k)) (fun k => W (Fin.castLE h k)) vs = row S W vs := by
  have hw : ∀ k : Fin L, wt (fun k : Fin L => S (Fin.castLE h k)) k = wt S (Fin.castLE h k) := fun k => by
    unfold wt
    rw [top_pad h S hz]
  have h0 : ∀ k : Fin M, L ≤ k.val → wt S k = 0 := fun k hk => by
    unfold wt
    rw [hz k hk, EReal.bot_sub, EReal.bot_mul_coe_of_pos both_pos]
    rfl
  have ht : tot (fun k : Fin L => S (Fin.castLE h k)) = tot S := by
    unfold tot
    rw [sum_pad h (wt S) h0]
    exact Finset.sum_congr rfl fun k _ => hw k
  unfold row word
  rw [ht, sum_pad h]
  · simp only [hw]
  · intro k hk
    rw [h0 k hk, zero_mul, clip_zero, mul_zero]

/-- A position of score minus infinity takes nothing of its value. -/
theorem row_congr {L : Nat} (S W W' : Fin L → EReal) (h : ∀ k, S k ≠ ⊥ → W k = W' k) (vs : EReal) : row S W vs = row S W' vs := by
  unfold row
  refine congrArg (fun s : EReal => s * pow (word S) * vs) (Finset.sum_congr rfl fun k _ => ?_)
  by_cases hk : S k = ⊥
  · have h0 : wt S k = 0 := by
      unfold wt
      rw [hk, EReal.bot_sub, EReal.bot_mul_coe_of_pos both_pos]
      rfl
    rw [h0, zero_mul, clip_zero, mul_zero, mul_zero]
  · rw [h k hk]

/-- The reference's exponent of a row. -/
def expoR (A : EReal) : EReal := if A = 0 then 0 else Scale.expoLog (A * fac)

/-- The reference's row, of scores that are already scaled. -/
def rowR {L : Nat} (T W : Fin L → EReal) (vs : EReal) : EReal :=
  let p := fun k => Ideal.div (Ideal.exp (T k - max ⊥ (top T))) (0 + ∑ k, Ideal.exp (T k - max ⊥ (top T)))
  let A := top fun k => Scale.mag (p k)
  (∑ k, min (max (p k * Ideal.pow 2 (-expoR A)) (Ideal.ofBits .f32 0xC3E00000#32)) (Ideal.ofBits .f32 0x43E00000#32) * W k)
    * Ideal.pow 2 (expoR A) * vs

theorem top_scale {L : Nat} (S : Fin L → EReal) : top (fun k => S k * (scale : EReal)) = top S * (scale : EReal) := by
  have hm : Monotone fun x : EReal => x * (scale : EReal) := fun x y h => mul_le_mul_of_nonneg_right h (EReal.coe_nonneg.2 scale_pos.le)
  unfold top
  have := Finset.fold_hom (op := max) (op' := max) (m := fun x : EReal => x * (scale : EReal)) (fun x y => hm.map_max) (s := Finset.univ) (f := S) (b := ⊥)
  rw [← this, EReal.bot_mul_coe_of_pos scale_pos]

theorem factor : fac = ((9586981 * (2 ^ 32)⁻¹ : ℝ) : EReal) := by
  simp [Ideal.ofBits, Ideal.ieee, -EReal.coe_mul]

/-- The reference's row is the kernel's. -/
theorem rowR_eq {L : Nat} (hL : 0 < L) (S W : Fin L → EReal) (vs : EReal) : rowR (fun k => S k * (scale : EReal)) W vs = row S W vs := by
  have hp : ∀ k, Ideal.exp (S k * (scale : EReal) - max ⊥ (top fun k => S k * (scale : EReal))) = wt S k := fun k => by
    rw [top_scale, max_eq_right bot_le, exp_eq _ _ (le_top S k)]
    rfl
  unfold rowR row
  simp only [hp, zero_add]
  rw [show (∑ k, wt S k) = tot S from rfl]
  rcases tot_cases S with h0 | ⟨⟨l, hl, hl1⟩, k1, hk1⟩
  · have ht : tot S = 0 := Finset.sum_eq_zero fun k _ => h0 k
    have hd : Ideal.div 0 0 = ⊥ := by unfold Ideal.div; simp
    have hA : (top fun k : Fin L => Scale.mag (Ideal.div (wt S k) (tot S))) = ⊤ := by
      refine top_unique (le_trans ?_ (le_top _ ⟨0, hL⟩))
      rw [h0, ht, hd]
      simp [Scale.mag]
    have hE : expoR ⊤ = ⊤ := by
      have hf : (⊤ : EReal) * fac = ⊤ := by rw [factor]; exact EReal.top_mul_coe_of_pos (by norm_num)
      unfold expoR
      rw [if_neg (by simp), hf]
      have h2 : Ideal.log 2 = ((Real.log 2 : ℝ) : EReal) := by
        show (if (2 : ℝ) ≤ 0 then (⊥ : EReal) else ((Real.log 2 : ℝ) : EReal)) = _
        rw [if_neg (by norm_num)]
      have hlog : 0 < Real.log 2 := Real.log_pos (by norm_num)
      unfold Scale.expoLog
      rw [h2, show Ideal.log ⊤ = ⊤ from rfl]
      unfold Ideal.div
      rw [if_neg (by exact_mod_cast hlog.ne'), ← EReal.coe_inv, EReal.top_mul_coe_of_pos (inv_pos.2 hlog)]
      show max ((⊤ : EReal) + 1) (-126) = ⊤
      rw [EReal.top_add_of_ne_bot (by decide)]
      simp
    have hb : Ideal.pow 2 (-⊤) = 0 := by
      show (if (2 : ℝ) < 0 then (⊥ : EReal) else if (1 : ℝ) < 2 then 0 else if (2 : ℝ) = 1 then 1 else ⊤) = 0
      norm_num
    rw [hA, hE, hb]
    have hc := clip_zero
    unfold clip at hc
    rw [min_comm, max_comm] at hc
    simp only [mul_zero, zero_mul, hc, h0, clip_zero, Finset.sum_const_zero]
  · have hl0 : l ≠ 0 := by linarith
    have hdiv : ∀ x : EReal, Ideal.div x (tot S) = x * ((l⁻¹ : ℝ) : EReal) := fun x => by
      unfold Ideal.div
      rw [hl, if_neg (by exact_mod_cast hl0), EReal.coe_inv]
    have hA : (top fun k : Fin L => Scale.mag (Ideal.div (wt S k) (tot S))) = ((l⁻¹ : ℝ) : EReal) := by
      have hm : ∀ k, ∃ a : ℝ, Scale.mag (Ideal.div (wt S k) (tot S)) = (a : EReal) ∧ a ≤ l⁻¹ := fun k => by
        obtain ⟨a, ha, h0, h1⟩ := wt_real S k
        have hi : 0 ≤ l⁻¹ := inv_nonneg.2 (by linarith)
        refine ⟨a * l⁻¹, ?_, by nlinarith⟩
        rw [hdiv, ha, ← EReal.coe_mul]
        unfold Scale.mag
        rw [← EReal.coe_neg]
        exact max_eq_left (EReal.coe_le_coe_iff.2 (by nlinarith [mul_nonneg h0 hi]))
      refine le_antisymm ((Finset.fold_max_le _).2 ⟨bot_le, fun k _ => ?_⟩) ?_
      · obtain ⟨a, ha, h1⟩ := hm k
        rw [ha]
        exact EReal.coe_le_coe_iff.2 h1
      · refine le_trans ?_ (le_top _ k1)
        show _ ≤ Scale.mag (Ideal.div (wt S k1) (tot S))
        rw [hdiv, hk1, one_mul]
        exact le_max_left _ _
    have h1 : Ideal.div 1 (tot S) = ((l⁻¹ : ℝ) : EReal) := by rw [hdiv, one_mul]
    have hpos : 0 < l⁻¹ := inv_pos.2 (by linarith)
    have hle : l⁻¹ ≤ 1 := inv_le_one_of_one_le₀ hl1
    obtain ⟨z, hz⟩ : ∃ z : ℤ, -126 ≤ z ∧ z ≤ 126 ∧ word S = BitVec.ofInt 32 z ∧ expoR ((l⁻¹ : ℝ) : EReal) = ((z : ℝ) : EReal) := by
      obtain ⟨z, z1, z2, e, _, e1⟩ := Scale.expo_spec (l⁻¹ * (9586981 * (2 ^ 32)⁻¹)) (by positivity) (by
        calc l⁻¹ * (9586981 * (2 ^ 32)⁻¹) ≤ 1 * (9586981 * (2 ^ 32)⁻¹) := by gcongr
          _ < 2 ^ 120 := by norm_num)
      refine ⟨z, z1, by omega, ?_, ?_⟩
      · unfold word
        rw [h1, factor, ← EReal.coe_mul]
        exact e
      · unfold expoR
        rw [if_neg (by exact_mod_cast hpos.ne'), factor, ← EReal.coe_mul]
        exact e1 (by positivity)
    obtain ⟨z1, z2, zw, zr⟩ := hz
    rw [hA, zr, zw, h1]
    have hi : inv (BitVec.ofInt 32 z) = (((2 : ℝ) ^ (-z) : ℝ) : EReal) := Scale.inv_word z (by omega) (by omega)
    have hpw : pow (BitVec.ofInt 32 z) = (((2 : ℝ) ^ z : ℝ) : EReal) := Scale.pow2_word z (by omega) (by omega)
    have hn : -(((z : ℝ)) : EReal) = (((-z : ℤ) : ℝ) : EReal) := by simp
    rw [hi, hpw, hn, Scale.pow_two, Scale.pow_two]
    congr 2
    refine Finset.sum_congr rfl fun k _ => ?_
    rw [mul_comm (W k), hdiv, mul_assoc]
    unfold clip
    rw [min_comm, max_comm]

end Cert.Row

end
-- ==== Proof.KernelIdeal.Quantise.lean ====
/- The quantiser of `v` in the body: the greatest magnitude of a column, the words of its scale and the codes, each read at an
   index over the extended reals. -/
module

public import proofs.«01_k».proof.Proof.Exponent
public import proofs.«01_k».proof.Proof.KernelIdeal.RunA
public import proofs.«01_k».proof.Proof.KernelIdeal.RunB
public import Idealize.ShloMosaic.Lib.BitcastPair
public import Idealize.ShloMosaic.Lib.WholeRead

@[expose] public section

set_option maxRecDepth 16384

noncomputable section

namespace Cert.KernelIdeal.Gen

open Idealize.ShloMosaic Idealize.ShloMosaic.TcCoe

section Any

variable {F : FTy → Type} [FloatOps F]
variable (m : Memref sig .tc .vmem S1x512x128 .bf16) (h : m.IsWhole) (x : Vec F S1x512x128 .bf16)

/-- Sixteen rows of `v`, as the body reads them: the rows of each parity, interleaved. -/
def rows16 (o : Nat) (ho : ∀ a, (![0, o, 0] : Fin 3 → Nat) a + S1x16x128.size a ≤ S1x512x128.size a) : FVec F S16x128 .bf16 :=
  interleaveRows S16x128
    (shapeCast S8x128 (rowsOfParity 0 S1x8x128 (View.readAt (Elt F) m.view (Rect.unit (s := S1x512x128) ![0, o, 0] S1x16x128.size ho).toLoadRect (h.unread x)) bitcasts_S1x16x128_w16_S1x8x128_w32) shapeCasts_S1x8x128_S8x128)
    (shapeCast S8x128 (rowsOfParity 1 S1x8x128 (View.readAt (Elt F) m.view (Rect.unit (s := S1x512x128) ![0, o, 0] S1x16x128.size ho).toLoadRect (h.unread x)) bitcasts_S1x16x128_w16_S1x8x128_w32) shapeCasts_S1x8x128_S8x128)
    bitcasts_S16x128_w16_S8x128_w32

theorem inside16 {o : Nat} (ho : o + 16 ≤ 512) (a : Fin 3) : (![0, o, 0] : Fin 3 → Nat) a + S1x16x128.size a ≤ S1x512x128.size a := by
  fin_cases a
  · exact Nat.le_of_ble_eq_true rfl
  · exact ho
  · exact Nat.le_of_ble_eq_true rfl

/-- The running maximum of the magnitudes over the first `n + 1` runs of sixteen rows. -/
def runMax : (n : Nat) → n < 32 → FVec F S16x128 .bf16
  | 0, _ => absf (rows16 m h x 0 (inside16 (by omega)))
  | n + 1, hn => maximumf (runMax n (by omega)) (absf (rows16 m h x (16 * (n + 1)) (inside16 (by omega))))

/-- Sixteen rows times the scale's inverse, clipped. -/
def clip16 (w : FVec F S16x128 .bf16) (o : Nat) (ho : o + 16 ≤ 512) : FVec F S16x128 .bf16 :=
  minimumf (broadcast S16x128 (Scalar.truncf .bf16 bitsLt_bf16_f32 (Scalar.ofBits .f32 0x43E00000#32)))
    (maximumf (broadcast S16x128 (Scalar.truncf .bf16 bitsLt_bf16_f32 (Scalar.ofBits .f32 0xC3E00000#32)))
      (mulf (rows16 m h x o (inside16 ho)) w))

/-- The codes of 128 rows from row `o`. -/
def clip128 (w : FVec F S16x128 .bf16) (o : Nat) (ho : o + 128 ≤ 512) : FVec F S128x128 .bf16 :=
  concatenate S128x128 0 [⟨S16x128, clip16 m h x w o (by omega)⟩, ⟨S16x128, clip16 m h x w (o + 16) (by omega)⟩,
    ⟨S16x128, clip16 m h x w (o + 32) (by omega)⟩, ⟨S16x128, clip16 m h x w (o + 48) (by omega)⟩,
    ⟨S16x128, clip16 m h x w (o + 64) (by omega)⟩, ⟨S16x128, clip16 m h x w (o + 80) (by omega)⟩,
    ⟨S16x128, clip16 m h x w (o + 96) (by omega)⟩, ⟨S16x128, clip16 m h x w (o + 112) (by omega)⟩]
    concatenates_S16x128_S16x128_S16x128_S16x128_S16x128_S16x128_S16x128_S16x128_S128x128_d0

/-- The body's running maximum is `runMax`. -/
theorem v200_eq (c : Dev nD) : kernelRun0_B.sl.v200 c m h x = runMax m h x 31 (by omega) := rfl
theorem v404_eq (c : Dev nD) : kernelRun0_B.sl.v404 c m h x = clip128 m h x (kernelRun0_B.sl.v311 c m h x) 0 (by omega) := rfl
theorem v571_eq (c : Dev nD) : kernelRun0_B.sl.v571 c m h x = clip128 m h x (kernelRun0_B.sl.v311 c m h x) 128 (by omega) := rfl
theorem v738_eq (c : Dev nD) : kernelRun0_B.sl.v738 c m h x = clip128 m h x (kernelRun0_B.sl.v311 c m h x) 256 (by omega) := rfl
theorem v905_eq (c : Dev nD) : kernelRun0_B.sl.v905 c m h x = clip128 m h x (kernelRun0_B.sl.v311 c m h x) 384 (by omega) := rfl

end Any

variable (m : Memref sig .tc .vmem S1x512x128 .bf16) (h : m.IsWhole) (x : Vec Ideal S1x512x128 .bf16)

theorem rows16_apply (o : Nat) (ho : o + 16 ≤ 512) (r : Fin 16) (l : Fin 128) :
    rows16 m h x o (inside16 ho) (ix2 r l) = x (ix3 0 ⟨o + r.val, by omega⟩ l) := by
  have e : ∀ (p : Fin 2) (k : Fin 8), (shapeCast S8x128 (rowsOfParity p S1x8x128 (View.readAt (Elt Ideal) m.view (Rect.unit (s := S1x512x128) ![0, o, 0] S1x16x128.size (inside16 ho)).toLoadRect (h.unread x)) bitcasts_S1x16x128_w16_S1x8x128_w32) shapeCasts_S1x8x128_S8x128) (ix2 k l)
      = x (ix3 0 ⟨o + (2 * k.val + p.val), by omega⟩ l) := by
    intro p k
    pointwise
    rw [h.readAt_unread]
    refine congrArg x (funext fun a => Fin.ext ?_)
    fin_cases a
    · rfl
    · show o + 1 * (2 * k.val + p.val) = o + (2 * k.val + p.val)
      omega
    · show 0 + 1 * l.val = l.val
      omega
  have hr : r.val % 2 = 0 ∨ r.val % 2 = 1 := by omega
  unfold rows16
  rcases hr with hr | hr
  · refine (if_pos (show S16x128.row (ix2 r l) % 2 = 0 from hr)).trans ?_
    refine Eq.trans ?_ ((e 0 ⟨r.val / 2, by omega⟩).trans ?_)
    · refine congrArg _ (funext fun a => Fin.ext ?_)
      fin_cases a <;> rfl
    · refine congrArg (fun q => x (ix3 0 q l)) (Fin.ext ?_)
      simp only [Fin.isValue, Fin.val_zero]
      omega
  · refine (if_neg (show ¬ S16x128.row (ix2 r l) % 2 = 0 from by rw [show S16x128.row (ix2 r l) = r.val from rfl]; omega)).trans ?_
    refine Eq.trans ?_ ((e 1 ⟨r.val / 2, by omega⟩).trans ?_)
    · refine congrArg _ (funext fun a => Fin.ext ?_)
      fin_cases a <;> rfl
    · refine congrArg (fun q => x (ix3 0 q l)) (Fin.ext ?_)
      simp only [Fin.isValue, Fin.val_one]
      omega

theorem runMax_le (n : Nat) (hn : n < 32) (r : Fin 16) (l : Fin 128) (B : EReal) :
    (show EReal from runMax m h x n hn (ix2 r l)) ≤ B ↔ ∀ j : Nat, ∀ hj : j ≤ n, Scale.mag (x (ix3 0 ⟨16 * j + r.val, by omega⟩ l)) ≤ B := by
  induction n with
  | zero =>
    have e : runMax m h x 0 hn (ix2 r l) = Scale.mag (rows16 m h x 0 (inside16 (by omega)) (ix2 r l)) := rfl
    rw [e, rows16_apply m h x 0 (by omega)]
    constructor
    · intro H j hj
      obtain rfl : j = 0 := by omega
      exact H
    · intro H
      exact H 0 (le_refl _)
  | succ n ih =>
    have e : runMax m h x (n + 1) hn (ix2 r l)
      = max (runMax m h x n (by omega) (ix2 r l)) (Scale.mag (rows16 m h x (16 * (n + 1)) (inside16 (by omega)) (ix2 r l))) := rfl
    rw [e, rows16_apply m h x (16 * (n + 1)) (by omega)]
    refine (max_le_iff (α := EReal)).trans ?_
    rw [ih]
    constructor
    · rintro ⟨H1, H2⟩ j hj
      by_cases hjn : j ≤ n
      · exact H1 j hjn
      · obtain rfl : j = n + 1 := by omega
        exact H2
    · intro H
      exact ⟨fun j hj => H j (by omega), H (n + 1) (le_refl _)⟩

theorem clip128_apply (w : FVec Ideal S16x128 .bf16) (o : Nat) (ho : o + 128 ≤ 512) (r : Fin 128) (l : Fin 128) :
    clip128 m h x w o ho (ix2 r l)
      = min (Ideal.ofBits .f32 0x43E00000#32) (max (Ideal.ofBits .f32 0xC3E00000#32)
          ((show EReal from x (ix3 0 ⟨o + r.val, by omega⟩ l)) * w (ix2 ⟨r.val % 16, Nat.mod_lt _ (by omega)⟩ l))) := by
  have e : ∀ (k : Nat) (hk : k < 8) (q : Fin 16), r.val = 16 * k + q.val →
      clip16 m h x w (o + 16 * k) (by omega) (ix2 q l) = min (Ideal.ofBits .f32 0x43E00000#32) (max (Ideal.ofBits .f32 0xC3E00000#32)
          ((show EReal from x (ix3 0 ⟨o + r.val, by omega⟩ l)) * w (ix2 ⟨r.val % 16, Nat.mod_lt _ (by omega)⟩ l))) := by
    intro k hk q hq
    have a : clip16 m h x w (o + 16 * k) (by omega) (ix2 q l) = min (Ideal.ofBits .f32 0x43E00000#32) (max (Ideal.ofBits .f32 0xC3E00000#32)
          ((show EReal from rows16 m h x (o + 16 * k) (inside16 (by omega)) (ix2 q l)) * w (ix2 q l))) := rfl
    rw [a, rows16_apply m h x (o + 16 * k) (by omega)]
    have e1 : (⟨o + 16 * k + q.val, by omega⟩ : Fin 512) = ⟨o + r.val, by omega⟩ := Fin.ext (by simp only; omega)
    have e2 : q = ⟨r.val % 16, Nat.mod_lt _ (by omega)⟩ := Fin.ext (by simp only; omega)
    rw [e1]
    rw [← e2]
  unfold clip128
  pointwise
  split
  · exact e 0 (by omega) _ (by simp only; omega)
  split
  · exact e 1 (by omega) _ (by simp only; omega)
  split
  · exact e 2 (by omega) _ (by simp only; omega)
  split
  · exact e 3 (by omega) _ (by simp only; omega)
  split
  · exact e 4 (by omega) _ (by simp only; omega)
  split
  · exact e 5 (by omega) _ (by simp only; omega)
  split
  · exact e 6 (by omega) _ (by simp only; omega)
  exact e 7 (by omega) _ (by simp only; omega)

/-- The greatest magnitude of column `l`. -/
def amax (x : Vec Ideal S1x512x128 .bf16) (l : Fin 128) : EReal :=
  Finset.fold max (Ideal.ofBits .f32 0xFF800000#32) (fun r : Fin 512 => Scale.mag (x (ix3 0 r l))) Finset.univ

theorem v214_apply (c : Dev nD) (r : Fin 8) (l : Fin 128) :
    kernelRun0_B.sl.v214 c m h x (ix2 r l) = amax x l * Ideal.ofBits .f32 0x3B124925#32 := by
  pointwise [kernelRun0_B.sl.v214, kernelRun0_B.sl.v212, kernelRun0_B.sl.v211, kernelRun0_B.sl.v210, kernelRun0_B.sl.v209, kernelRun0_B.sl.v208, kernelRun0_B.sl.v207, kernelRun0_B.sl.v204, kernelRun0_B.sl.v201_lo, kernelRun0_B.sl.v201_hi, v200_eq, kernelRun0_B.sl.v213, kernelRun0_B.sl.cst_71]
  congr 1
  refine eq_of_forall_ge_iff fun B => ?_
  unfold amax
  rw [Finset.fold_max_le, Finset.fold_max_le]
  refine and_congr Iff.rfl ?_
  constructor
  · intro H r _
    have H' := H ⟨r.val % 16 / 2, by omega⟩ (Finset.mem_univ _)
    rw [max_le_iff] at H'
    have hq : r.val % 16 % 2 = 0 ∨ r.val % 16 % 2 = 1 := by omega
    rcases hq with hq | hq
    · refine le_of_eq_of_le (congrArg (fun q => Scale.mag (x (ix3 0 q l))) (Fin.ext ?_))
        ((runMax_le m h x 31 (by omega) _ l B).1 H'.1 (r.val / 16) (by omega))
      simp only
      omega
    · refine le_of_eq_of_le (congrArg (fun q => Scale.mag (x (ix3 0 q l))) (Fin.ext ?_))
        ((runMax_le m h x 31 (by omega) _ l B).1 H'.2 (r.val / 16) (by omega))
      simp only
      omega
  · intro H k _
    rw [max_le_iff]
    exact ⟨(runMax_le m h x 31 _ _ l B).2 fun j hj => H _ (Finset.mem_univ _), (runMax_le m h x 31 _ _ l B).2 fun j hj => H _ (Finset.mem_univ _)⟩

section Search

variable {s : Shape}

/-- One step of the body's search for an exponent, a column at a time. -/
def vstep (T : FVec Ideal s .f32) (E : IVec s 32) (k : BitVec 32) : IVec s 32 :=
  select (cmpf .oge T (bitcastToFloat .f32 (shli (addi E (broadcast s k)) (broadcast s 23#32)))) (addi E (broadcast s k)) E

def vsearch (T : FVec Ideal s .f32) : IVec s 32 :=
  vstep T (vstep T (vstep T (vstep T (vstep T (vstep T (vstep T (vstep T (broadcast s 0#32) 128#32) 64#32) 32#32) 16#32) 8#32) 4#32) 2#32) 1#32

def vexpo (T : FVec Ideal s .f32) : IVec s 32 :=
  select (cmpf .oeq T (broadcast s (Scalar.ofBits .f32 0x00000000#32))) (broadcast s 0#32) (subi (vsearch T) (broadcast s 126#32))

theorem vstep_apply (T : FVec Ideal s .f32) (E : IVec s 32) (k : BitVec 32) (i : s.Idx) :
    vstep T E k i = Scale.step (T i) (E i) k := rfl

theorem vsearch_apply (T : FVec Ideal s .f32) (i : s.Idx) : vsearch T i = Scale.search (T i) := by
  unfold vsearch Scale.search
  simp only [vstep_apply]
  rfl

theorem vexpo_apply (T : FVec Ideal s .f32) (i : s.Idx) : vexpo T i = Scale.expo (T i) := by
  unfold vexpo Scale.expo
  rw [← vsearch_apply]
  have e : (0 : EReal) = Ideal.ofBits .f32 0x00000000#32 := by simp [Ideal.ofBits, Ideal.ieee]
  rw [e]
  rfl

end Search

theorem v287_eq (c : Dev nD) : kernelRun0_B.sl.v287 c m h x = vsearch (kernelRun0_B.sl.v214 c m h x) := rfl

theorem v293_eq (c : Dev nD) : kernelRun0_B.sl.v293 c m h x = vexpo (kernelRun0_B.sl.v214 c m h x) := rfl

/-- The codes' factor in column `l`: the inverse of the scale. -/
theorem v311_apply (c : Dev nD) (r : Fin 16) (l : Fin 128) (z : ℤ) (h1 : -126 ≤ z) (h2 : z ≤ 126)
    (hz : Scale.expo (amax x l * Ideal.ofBits .f32 0x3B124925#32) = BitVec.ofInt 32 z) :
    kernelRun0_B.sl.v311 c m h x (ix2 r l) = (((2 : ℝ) ^ (-z) : ℝ) : EReal) := by
  have e293 : kernelRun0_B.sl.v293 c m h x (ix2 ⟨r.val / 2, by omega⟩ l) = BitVec.ofInt 32 z := by
    rw [v293_eq, vexpo_apply, v214_apply, hz]
  obtain ⟨p0, p1⟩ := Scale.inv_pair z h1 h2 _ rfl
  have ew : kernelRun0_B.sl.v310 c m h x (ix2 ⟨r.val / 2, by omega⟩ l) = IntOp.ori
      (IntOp.shli .vector (IntOp.subi 127#32 (kernelRun0_B.sl.v293 c m h x (ix2 ⟨r.val / 2, by omega⟩ l))) 7#32)
      (IntOp.shli .vector (IntOp.shli .vector (IntOp.subi 127#32 (kernelRun0_B.sl.v293 c m h x (ix2 ⟨r.val / 2, by omega⟩ l))) 7#32) 16#32) := rfl
  rw [e293] at ew
  have e : kernelRun0_B.sl.v311 c m h x (ix2 r l)
      = Ideal.ofBits .bf16 (bitcast S16x128 16 (kernelRun0_B.sl.v310 c m h x) bitcasts_S8x128_w32_S16x128_w16 (ix2 r l)) := rfl
  rw [e, bitcast_32_16]
  have es : ∀ hp, Shape.Bitcasts.srcIdx bitcasts_S8x128_w32_S16x128_w16 (ix2 r l) (S16x128.row (ix2 r l) / 2) hp = ix2 ⟨r.val / 2, by omega⟩ l := by
    intro hp
    refine funext fun a => Fin.ext ?_
    fin_cases a <;> rfl
  rw [es, ew]
  have hr : r.val % 2 = 0 ∨ r.val % 2 = 1 := by omega
  rcases hr with hr | hr
  · rw [show S16x128.row (ix2 r l) = r.val from rfl, hr]
    exact p0
  · rw [show S16x128.row (ix2 r l) = r.val from rfl, hr]
    exact p1

end Cert.KernelIdeal.Gen

end
-- ==== Proof.KernelIdeal.Block.lean ====
/- One block of queries in the body: the weights, their sums, the words of their scale, their codes and the product with the codes
   of `v`, each over any number of scores and read at an index over the extended reals. -/
module

public import proofs.«01_k».proof.Proof.Row
public import proofs.«01_k».proof.Proof.KernelIdeal.Quantise
public import Idealize.ShloMosaic.Lib.MatmulPlain
public import Idealize.ShloMosaic.PureOps.Ideal.Laws

@[expose] public section

set_option maxRecDepth 16384

noncomputable section

namespace Cert.KernelIdeal.Gen

open Idealize.ShloMosaic Idealize.ShloMosaic.TcCoe
open scoped BigOperators

section Block

/-- A square of scores: `n` slots by 256 query rows. -/
abbrev sq (n : Nat) : Shape := ⟨2, ![n, 256]⟩

variable {L M : Nat}

/-- The scores of a block: the keys against the queries. -/
def scores (lhs : FVec Ideal (sq L) .bf16) (rhs : FVec Ideal S256x256 .bf16) : FVec Ideal (sq L) .f32 :=
  matmul (DotDims.transposedRhs L 256 256) none lhs rhs (constant (sq L) .f32 0x00000000#32)

/-- The weights, not yet divided by their sum. -/
def wgt (s : FVec Ideal (sq L) .f32) (hr : (sq L).Reduces [0] S256) (hb : S1x256.Broadcasts (sq L)) : FVec Ideal (sq L) .f32 :=
  exp2 (mulf (subf s (broadcastTo (sq L) (shapeCast S1x256 (multiReduction .maximumf [0] S256 s 0xFF800000#32 hr (.inl rfl) rfl) shapeCasts_S256_S1x256) hb))
    (broadcast (sq L) (Named.named κ "exp2_scale" 0x3E0293EE#32)))

/-- The inverse of the sum of the weights. -/
def recip (p : FVec Ideal (sq L) .f32) (hr : (sq L).Reduces [0] S256) : FVec Ideal S1x256 .f32 :=
  divf (broadcast S1x256 (Scalar.ofBits .f32 0x3F800000#32))
    (shapeCast S1x256 (multiReduction .add [0] S256 p 0x00000000#32 hr (.inl rfl) rfl) shapeCasts_S256_S1x256)

/-- The value whose word is searched for. -/
def target (r : FVec Ideal S1x256 .f32) : FVec Ideal S1x256 .f32 := mulf r (broadcast S1x256 (Scalar.ofBits .f32 0x3B124925#32))

/-- The codes of the weights. -/
def pcodes (p : FVec Ideal (sq L) .f32) (r : FVec Ideal S1x256 .f32) (e : IVec S1x256 32) (hb : S1x256.Broadcasts (sq L)) : FVec Ideal (sq L) .fp8e4m3 :=
  truncf .fp8e4m3 (minimumf (broadcast (sq L) (Scalar.ofBits .f32 0x43E00000#32)) (maximumf (broadcast (sq L) (Scalar.ofBits .f32 0xC3E00000#32))
    (mulf p (broadcastTo (sq L) (mulf r (bitcastToFloat .f32 (shli (addi (subi (broadcast S1x256 0#32) e) (broadcast S1x256 127#32)) (broadcast S1x256 23#32)))) hb))))
    bitsLt_fp8e4m3_f32

/-- The product with the codes of `v`, scaled back. -/
def product (vt : FVec Ideal ⟨2, ![128, M]⟩ .fp8e4m3) (q : FVec Ideal (sq M) .fp8e4m3) (e : IVec S1x256 32) (vs : FVec Ideal S1x128 .bf16) : FVec Ideal S256x128 .bf16 :=
  mulf (transpose S256x128 [1, 0]
    (mulf (truncf .bf16 (matmul (DotDims.plain 128 M 256) none vt q (constant S128x256 .f32 0x00000000#32)) bitsLt_bf16_f32)
      (broadcastTo S128x256 (truncf .bf16 (bitcastToFloat .f32 (shli (addi e (broadcast S1x256 127#32)) (broadcast S1x256 23#32))) bitsLt_bf16_f32) broadcasts_S1x256_S128x256))
    transposes_S128x256_p1_0_S256x128)
    (broadcastTo S256x128 vs broadcasts_S1x128_S256x128)

/-- A whole block, the codes padded to the width of the product by `pad`. -/
def block (lhs : FVec Ideal (sq L) .bf16) (rhs : FVec Ideal S256x256 .bf16) (hr : (sq L).Reduces [0] S256) (hb : S1x256.Broadcasts (sq L))
    (pad : FVec Ideal (sq L) .fp8e4m3 → FVec Ideal (sq M) .fp8e4m3) (vt : FVec Ideal ⟨2, ![128, M]⟩ .fp8e4m3) (vs : FVec Ideal S1x128 .bf16) : FVec Ideal S256x128 .bf16 :=
  product vt (pad (pcodes (wgt (scores lhs rhs) hr hb) (recip (wgt (scores lhs rhs) hr hb) hr) (vexpo (target (recip (wgt (scores lhs rhs) hr hb) hr))) hb))
    (vexpo (target (recip (wgt (scores lhs rhs) hr hb) hr))) vs

theorem scores_apply (lhs : FVec Ideal (sq L) .bf16) (rhs : FVec Ideal S256x256 .bf16) (k : Fin L) (j : Fin 256) :
    (show EReal from scores lhs rhs (ix2 k j)) = ∑ a : Fin 256, (show EReal from lhs (ix2 k a)) * (show EReal from rhs (ix2 j a)) := by
  refine (Ideal.matmul_transposedRhs_apply none lhs rhs _ k j).trans ?_
  have : (show EReal from (constant (sq L) .f32 0x00000000#32 : FVec Ideal (sq L) .f32) (ix2 k j)) = 0 := by pointwise
  exact (congrArg (· + _) this).trans (zero_add _)

theorem lift_eq (hr : (sq L).Reduces [0] S256) (j : Fin 256) (k : Fin L) : hr.lift (ix1 j) k = ix2 k j := by
  funext a
  apply Fin.ext
  fin_cases a <;> rfl

variable {hr : (sq L).Reduces [0] S256} {hb : S1x256.Broadcasts (sq L)}

theorem wgt_apply (s : FVec Ideal (sq L) .f32) (S : Fin L → EReal) (j : Fin 256) (hs : ∀ k, (show EReal from s (ix2 k j)) = S k) (k : Fin L) :
    (show EReal from wgt s hr hb (ix2 k j)) = Row.wt S k := by
  have hm : (show EReal from multiReduction .maximumf [0] S256 s 0xFF800000#32 hr (.inl rfl) rfl (ix1 j)) = Row.top S := by
    refine (Ideal.multiReduction_maximumf_single s _ hr (.inl rfl) rfl (ix1 j)).trans ?_
    have h1 : (FloatOps.ofBits .f32 0xFF800000#32 : Ideal .f32) = (⊥ : EReal) := by
      show Ideal.ofBits .f32 0xFF800000#32 = ⊥
      simp [Ideal.ofBits, Ideal.ieee]
    have h2 : (s ∘ hr.lift (ix1 j)) = S := funext fun k => (congrArg s (lift_eq hr j k)).trans (hs k)
    unfold Row.top
    rw [← h2, ← h1]
    rfl
  have e : (show EReal from wgt s hr hb (ix2 k j)) = Ideal.exp2 (((show EReal from s (ix2 k j)) - (show EReal from multiReduction .maximumf [0] S256 s 0xFF800000#32 hr (.inl rfl) rfl (ix1 j))) * (((Real.sqrt 128)⁻¹ * (Real.log 2)⁻¹ : ℝ) : EReal)) := by
    unfold wgt
    generalize multiReduction .maximumf [0] S256 s 0xFF800000#32 hr (.inl rfl) rfl = mm
    pointwise
    rfl
  rw [e, hm, hs]
  rfl

theorem recip_apply (p : FVec Ideal (sq L) .f32) (S : Fin L → EReal) (j : Fin 256) (hp : ∀ k, (show EReal from p (ix2 k j)) = Row.wt S k) :
    (show EReal from recip p hr (ix2 0 j)) = Ideal.div 1 (Row.tot S) := by
  have hm : (show EReal from multiReduction .add [0] S256 p 0x00000000#32 hr (.inl rfl) rfl (ix1 j)) = Row.tot S := by
    refine (Ideal.multiReduction_add_single p _ hr (.inl rfl) rfl (ix1 j)).trans ?_
    exact Finset.sum_congr rfl fun k _ => (congrArg p (lift_eq hr j k)).trans (hp k)
  have e : (show EReal from recip p hr (ix2 0 j)) = Ideal.div 1 (show EReal from multiReduction .add [0] S256 p 0x00000000#32 hr (.inl rfl) rfl (ix1 j)) := by
    unfold recip
    generalize multiReduction .add [0] S256 p 0x00000000#32 hr (.inl rfl) rfl = mm
    pointwise
  rw [e, hm]

theorem pcodes_apply (p : FVec Ideal (sq L) .f32) (r : FVec Ideal S1x256 .f32) (e : IVec S1x256 32) (k : Fin L) (j : Fin 256) :
    (show EReal from pcodes p r e hb (ix2 k j)) = Row.clip ((show EReal from p (ix2 k j)) * ((show EReal from r (ix2 0 j)) * Row.inv (e (ix2 0 j)))) := by
  unfold pcodes
  pointwise
  rfl

theorem product_apply (vt : FVec Ideal ⟨2, ![128, M]⟩ .fp8e4m3) (q : FVec Ideal (sq M) .fp8e4m3) (e : IVec S1x256 32) (vs : FVec Ideal S1x128 .bf16)
    (j : Fin 256) (d : Fin 128) :
    (show EReal from product vt q e vs (ix2 j d))
      = (∑ k : Fin M, (show EReal from vt (ix2 d k)) * (show EReal from q (ix2 k j))) * Row.pow (e (ix2 0 j)) * (show EReal from vs (ix2 0 d)) := by
  have hm : (show EReal from matmul (DotDims.plain 128 M 256) none vt q (constant S128x256 .f32 0x00000000#32) (ix2 d j))
      = ∑ k : Fin M, (show EReal from vt (ix2 d k)) * (show EReal from q (ix2 k j)) := by
    refine (Ideal.matmul_plain_apply none vt q _ d j).trans ?_
    have : (show EReal from (constant S128x256 .f32 0x00000000#32 : FVec Ideal S128x256 .f32) (ix2 d j)) = 0 := by pointwise
    exact (congrArg (· + _) this).trans (zero_add _)
  have e' : (show EReal from product vt q e vs (ix2 j d))
      = (show EReal from matmul (DotDims.plain 128 M 256) none vt q (constant S128x256 .f32 0x00000000#32) (ix2 d j)) * Row.pow (e (ix2 0 j)) * (show EReal from vs (ix2 0 d)) := by
    unfold product
    generalize matmul (DotDims.plain 128 M 256) none vt q (constant S128x256 .f32 0x00000000#32) = mm
    pointwise
    rfl
  rw [e', hm]

theorem block_apply (h : L ≤ M) (lhs : FVec Ideal (sq L) .bf16) (rhs : FVec Ideal S256x256 .bf16)
    (pad : FVec Ideal (sq L) .fp8e4m3 → FVec Ideal (sq M) .fp8e4m3) (vt : FVec Ideal ⟨2, ![128, M]⟩ .fp8e4m3) (vs : FVec Ideal S1x128 .bf16)
    (hin : ∀ q k j, (show EReal from pad q (ix2 (Fin.castLE h k) j)) = q (ix2 k j)) (hout : ∀ q (k : Fin M) j, L ≤ k.val → (show EReal from pad q (ix2 k j)) = 0)
    (S : Fin L → EReal) (W : Fin L → EReal) (j : Fin 256) (d : Fin 128)
    (hs : ∀ k, ∑ a : Fin 256, (show EReal from lhs (ix2 k a)) * (show EReal from rhs (ix2 j a)) = S k)
    (hW : ∀ k : Fin L, (show EReal from vt (ix2 d (Fin.castLE h k))) = W k) :
    (show EReal from block lhs rhs hr hb pad vt vs (ix2 j d)) = Row.row S W (vs (ix2 0 d)) := by
  have hw := wgt_apply (hr := hr) (hb := hb) (scores lhs rhs) S j (fun k => (scores_apply lhs rhs k j).trans (hs k))
  have hrec := recip_apply (hr := hr) (wgt (scores lhs rhs) hr hb) S j hw
  have he : vexpo (target (recip (wgt (scores lhs rhs) hr hb) hr)) (ix2 0 j) = Row.word S := by
    rw [vexpo_apply]
    unfold Row.word
    rw [← hrec]
    rfl
  unfold block
  rw [product_apply, he]
  rw [Row.sum_pad h]
  · unfold Row.row
    refine congrArg (fun z => z * Row.pow (Row.word S) * (show EReal from vs (ix2 0 d))) (Finset.sum_congr rfl fun k _ => ?_)
    rw [hin, hW]
    refine congrArg (W k * ·) ((pcodes_apply _ _ _ k j).trans ?_)
    rw [hw, hrec, he]
  · intro k hk
    rw [hout _ _ _ hk, mul_zero]

end Block

end Cert.KernelIdeal.Gen

end
-- ==== Proof.KernelIdeal.Attend.lean ====
/- One block of queries with what it loads: the queries, the selected keys and their masks, and the codes of the selected values,
   each read at an index; the block's result is a row of the attention over six selected blocks. -/
module

public import proofs.«01_k».proof.Proof.KernelIdeal.Block

@[expose] public section

set_option maxRecDepth 16384

noncomputable section

namespace Cert.KernelIdeal.Gen

open Idealize.ShloMosaic Idealize.ShloMosaic.TcCoe
open scoped BigOperators

/-- What a load at the coordinates `r` reads of the contents `X`. -/
def get {s : Shape} {α : Type} (X : s.Idx → α) (r : LoadRect s) : r.shape.Idx → α := fun x => X (r.idx x)

theorem inside_q {h o : Nat} (hh : h < 4) (ho : o + 64 ≤ 512) : ∀ a, (![h, o, 0] : Fin 3 → Nat) a + S1x64x128.size a ≤ S4x512x128.size a := by
  intro a
  fin_cases a
  · show h + 1 ≤ 4
    omega
  · exact ho
  · exact le_refl _

theorem inside_k (w : BitVec 32) (hw : w.toNat < 8) : ∀ a, k0_off9 w a + S64x128.size a ≤ S512x128.size a := by
  intro a
  fin_cases a
  · show (w * 64#32).toNat + 64 ≤ 512
    rw [BitVec.toNat_mul, show (64#32).toNat = 64 from rfl]
    omega
  · exact le_refl _

theorem inside_t (w : BitVec 32) (hw : w.toNat < 8) : ∀ a, k0_off11 w a + S1x128x128.size a ≤ S8x128x128.size a := by
  intro a
  fin_cases a
  · show w.toNat + 1 ≤ 8
    omega
  · exact le_refl _
  · exact le_refl _

/-- The mask a selected block is added: nothing before the diagonal, the triangle on it, everything masked after it or after the
    last selected block. -/
def kindOf (n t cnt w : BitVec 32) : BitVec 32 :=
  Scalar.select (Scalar.ori (Scalar.cmpi .sle cnt t) (Scalar.cmpi .sgt w n)) 2#32 (Scalar.select (Scalar.cmpi .eq w n) 1#32 0#32)

def moff (n t cnt w : BitVec 32) : Fin 3 → Nat := ![(Scalar.indexCast (kindOf n t cnt w)).toNat, 0, 0]

theorem kind_cases (n t cnt w : BitVec 32) :
    kindOf n t cnt w = if cnt.sle t ∨ n.slt w then 2#32 else if w = n then 1#32 else 0#32 := by
  have h3 : w = n ↔ (w == n) = true := beq_iff_eq.symm
  rw [if_congr h3 rfl rfl]
  show (if (BitVec.ofBool (cnt.sle t) ||| BitVec.ofBool (n.slt w)) = 1#1 then 2#32 else if BitVec.ofBool (w == n) = 1#1 then 1#32 else 0#32) = _
  cases cnt.sle t <;> cases n.slt w <;> cases (w == n) <;> rfl

theorem kind_lt (n t cnt w : BitVec 32) : (kindOf n t cnt w).toNat < 3 := by
  rw [kind_cases]
  split_ifs <;> decide

theorem inside_m (n t cnt w : BitVec 32) : ∀ a, moff n t cnt w a + S1x64x128.size a ≤ S3x64x128.size a := by
  intro a
  fin_cases a
  · show (kindOf n t cnt w).toNat + 1 ≤ 3
    have := kind_lt n t cnt w
    omega
  · exact le_refl _
  · exact le_refl _

section Loads

variable (X13 : FVec Ideal S4x512x128 .bf16) (X14 : FVec Ideal S512x128 .bf16) (X15 X16 : FVec Ideal S8x128x128 .fp8e4m3)
  (X17 : FVec Ideal S3x64x128 .bf16) (X18 : FVec Ideal S256x128 .bf16)

/-- One head's queries of a block. -/
def qpart (h o : Nat) (hh : h < 4) (ho : o + 64 ≤ 512) : FVec Ideal S64x128 .bf16 :=
  shapeCast S64x128 (get X13 (Rect.unit (s := S4x512x128) ![h, o, 0] S1x64x128.size (inside_q hh ho)).toLoadRect) shapeCasts_S1x64x128_S64x128

/-- The queries of a block, the heads stacked, with the constants of the mask beside them. -/
def qrow (o : Nat) (ho : o + 64 ≤ 512) : FVec Ideal S256x256 .bf16 :=
  concatenate S256x256 1 [⟨S256x128, concatenate S256x128 0 [⟨S64x128, qpart X13 0 o (by omega) ho⟩, ⟨S64x128, qpart X13 1 o (by omega) ho⟩,
    ⟨S64x128, qpart X13 2 o (by omega) ho⟩, ⟨S64x128, qpart X13 3 o (by omega) ho⟩] concatenates_S64x128_S64x128_S64x128_S64x128_S256x128_d0⟩,
    ⟨S256x128, get X18 (Rect.unit (s := S256x128) ![0, 0] S256x128.size inb_S256x128_S256x128_0_0).toLoadRect⟩] concatenates_S256x128_S256x128_S256x256_d1

/-- The keys of a selected block with its mask beside them. -/
def krow (n t cnt w : BitVec 32) (hw : w.toNat < 8) : FVec Ideal S64x256 .bf16 :=
  concatenate S64x256 1 [⟨S64x128, get X14 (Rect.unit (s := S512x128) (k0_off9 w) S64x128.size (inside_k w hw)).toLoadRect⟩,
    ⟨S64x128, shapeCast S64x128 (get X17 (Rect.unit (s := S3x64x128) (moff n t cnt w) S1x64x128.size (inside_m n t cnt w)).toLoadRect) shapeCasts_S1x64x128_S64x128⟩]
    concatenates_S64x128_S64x128_S64x256_d1

/-- The codes of a selected block's values. -/
def tile (X : FVec Ideal S8x128x128 .fp8e4m3) (w : BitVec 32) (hw : w.toNat < 8) : FVec Ideal S128x128 .fp8e4m3 :=
  shapeCast S128x128 (get X (Rect.unit (s := S8x128x128) (k0_off11 w) S1x128x128.size (inside_t w hw)).toLoadRect) shapeCasts_S1x128x128_S128x128

/-- The left half of one tile and the right half of the next. -/
def halves (a b : FVec Ideal S128x128 .fp8e4m3) : FVec Ideal S128x128 .fp8e4m3 :=
  select (cmpi .slt (iota .tc S128x128 32 [1] iota_S128x128_d1_w32) (broadcast S128x128 64#32)) a b

theorem qpart_apply (h o : Nat) (hh : h < 4) (ho : o + 64 ≤ 512) (r : Fin 64) (l : Fin 128) :
    qpart X13 h o hh ho (ix2 r l) = X13 (ix3 ⟨h, hh⟩ ⟨o + r.val, by omega⟩ l) := by
  unfold qpart
  have e : ∀ G : FVec Ideal S1x64x128 .bf16, shapeCast S64x128 G shapeCasts_S1x64x128_S64x128 (ix2 r l) = G (ix3 0 r l) := by
    intro G
    pointwise
  refine (e _).trans (congrArg X13 (funext fun a => Fin.ext ?_))
  fin_cases a
  · show h + 1 * 0 = h
    omega
  · show o + 1 * r.val = o + r.val
    omega
  · show 0 + 1 * l.val = l.val
    omega

theorem tile_apply (X : FVec Ideal S8x128x128 .fp8e4m3) (w : BitVec 32) (hw : w.toNat < 8) (d c : Fin 128) :
    tile X w hw (ix2 d c) = X (ix3 ⟨w.toNat, hw⟩ d c) := by
  unfold tile
  have e : ∀ G : FVec Ideal S1x128x128 .fp8e4m3, shapeCast S128x128 G shapeCasts_S1x128x128_S128x128 (ix2 d c) = G (ix3 0 d c) := by
    intro G
    pointwise
  refine (e _).trans (congrArg X (funext fun a => Fin.ext ?_))
  fin_cases a
  · show w.toNat + 1 * 0 = w.toNat
    omega
  · show 0 + 1 * d.val = d.val
    omega
  · show 0 + 1 * c.val = c.val
    omega

theorem halves_apply (a b : FVec Ideal S128x128 .fp8e4m3) (d c : Fin 128) :
    halves a b (ix2 d c) = if c.val < 64 then a (ix2 d c) else b (ix2 d c) := by
  have e : cmpi .slt (iota .tc S128x128 32 [1] iota_S128x128_d1_w32) (broadcast S128x128 64#32) (ix2 d c) = if c.val < 64 then 1#1 else 0#1 := by
    pointwise
    revert c
    decide +kernel
  show (if cmpi .slt (iota .tc S128x128 32 [1] iota_S128x128_d1_w32) (broadcast S128x128 64#32) (ix2 d c) = 1#1 then a (ix2 d c) else b (ix2 d c)) = _
  rw [e]
  split_ifs <;> simp_all

theorem beside_lo {N : Nat} {α : Type} (A B : (⟨2, ![N, 128]⟩ : Shape).Idx → α) (h : Shape.Concatenates [⟨2, ![N, 128]⟩, ⟨2, ![N, 128]⟩] ⟨2, ![N, 256]⟩ 1) (k : Fin N) (a : Fin 128) :
    concatenate (⟨2, ![N, 256]⟩ : Shape) 1 [⟨(⟨2, ![N, 128]⟩ : Shape), A⟩, ⟨(⟨2, ![N, 128]⟩ : Shape), B⟩] h (ix2 k ⟨a.val, by omega⟩) = A (ix2 k a) := by
  pointwise
  refine congrArg A (funext fun b => Fin.ext ?_)
  fin_cases b <;> rfl

theorem beside_hi {N : Nat} {α : Type} (A B : (⟨2, ![N, 128]⟩ : Shape).Idx → α) (h : Shape.Concatenates [⟨2, ![N, 128]⟩, ⟨2, ![N, 128]⟩] ⟨2, ![N, 256]⟩ 1) (k : Fin N) (a : Fin 128) :
    concatenate (⟨2, ![N, 256]⟩ : Shape) 1 [⟨(⟨2, ![N, 128]⟩ : Shape), A⟩, ⟨(⟨2, ![N, 128]⟩ : Shape), B⟩] h (ix2 k ⟨128 + a.val, by omega⟩) = B (ix2 k a) := by
  pointwise
  refine congrArg B (funext fun b => Fin.ext ?_)
  fin_cases b <;> rfl

/-- Tiles of sixty-four rows stacked. -/
theorem stacked_apply {nb N : Nat} {φ : FTy} (f : Fin nb → FVec Ideal ⟨2, ![64, N]⟩ φ)
    (h : Shape.Concatenates ((List.ofFn fun n : Fin nb => (⟨⟨2, ![64, N]⟩, f n⟩ : (s : Shape) × (s.Idx → Ideal φ))).map (·.1)) ⟨2, ![64 * nb, N]⟩ 0) (k : Fin (64 * nb)) (a : Fin N) :
    concatenate (⟨2, ![64 * nb, N]⟩ : Shape) 0 (List.ofFn fun n : Fin nb => (⟨⟨2, ![64, N]⟩, f n⟩ : (s : Shape) × (s.Idx → Ideal φ))) h (ix2 k a)
      = f ⟨k.val / 64, by omega⟩ (ix2 ⟨k.val % 64, by omega⟩ a) := by
  refine concatenate_ofFn_apply 0 f h rfl 64 rfl (ix2 k a) ⟨k.val / 64, by omega⟩ rfl (ix2 ⟨k.val % 64, by omega⟩ a) rfl fun b hb => ?_
  fin_cases b
  · exact absurd rfl hb
  · rfl

theorem qrow_lo (o : Nat) (ho : o + 64 ≤ 512) (j : Fin 256) (a : Fin 128) :
    qrow X13 X18 o ho (ix2 j ⟨a.val, by omega⟩) = X13 (ix3 ⟨j.val / 64, by omega⟩ ⟨o + j.val % 64, by omega⟩ a) := by
  unfold qrow
  refine (beside_lo (N := 256) _ _ _ j a).trans ?_
  refine (stacked_apply (nb := 4) (N := 128) (fun h : Fin 4 => qpart X13 h.val o h.isLt ho) _ j a).trans ?_
  exact qpart_apply X13 _ o _ ho _ a

theorem qrow_hi (o : Nat) (ho : o + 64 ≤ 512) (j : Fin 256) (a : Fin 128) :
    qrow X13 X18 o ho (ix2 j ⟨128 + a.val, by omega⟩) = X18 (ix2 j a) := by
  unfold qrow
  refine (beside_hi (N := 256) _ _ _ j a).trans ?_
  refine congrArg X18 (funext fun b => Fin.ext ?_)
  fin_cases b
  · show 0 + 1 * j.val = j.val
    omega
  · show 0 + 1 * a.val = a.val
    omega

theorem krow_lo (n t cnt w : BitVec 32) (hw : w.toNat < 8) (k : Fin 64) (a : Fin 128) :
    krow X14 X17 n t cnt w hw (ix2 k ⟨a.val, by omega⟩) = X14 (ix2 ⟨w.toNat * 64 + k.val, by omega⟩ a) := by
  unfold krow
  refine (beside_lo (N := 64) _ _ _ k a).trans ?_
  refine congrArg X14 (funext fun b => Fin.ext ?_)
  fin_cases b
  · show (w * 64#32).toNat + 1 * k.val = w.toNat * 64 + k.val
    rw [BitVec.toNat_mul, show (64#32).toNat = 64 from rfl]
    omega
  · show 0 + 1 * a.val = a.val
    omega

theorem krow_hi (n t cnt w : BitVec 32) (hw : w.toNat < 8) (k : Fin 64) (a : Fin 128) :
    krow X14 X17 n t cnt w hw (ix2 k ⟨128 + a.val, by omega⟩) = X17 (ix3 ⟨(kindOf n t cnt w).toNat, kind_lt n t cnt w⟩ k a) := by
  unfold krow
  refine (beside_hi (N := 64) _ _ _ k a).trans ?_
  have e : ∀ G : FVec Ideal S1x64x128 .bf16, shapeCast S64x128 G shapeCasts_S1x64x128_S64x128 (ix2 k a) = G (ix3 0 k a) := by
    intro G
    pointwise
  refine (e _).trans (congrArg X17 (funext fun b => Fin.ext ?_))
  fin_cases b
  · show (kindOf n t cnt w).toNat + 1 * 0 = (kindOf n t cnt w).toNat
    omega
  · show 0 + 1 * k.val = k.val
    omega
  · show 0 + 1 * a.val = a.val
    omega

/-- The constants the masks are made of. -/
def IsMask : Prop :=
  (∀ (k : Fin 64) (a : Fin 128), (show EReal from X17 (ix3 0 k a)) = 0)
  ∧ (∀ (k : Fin 64) (a : Fin 128), (show EReal from X17 (ix3 1 k a)) = if k.val = a.val then 1 else 0)
  ∧ (∀ (k : Fin 64) (a : Fin 128), (show EReal from X17 (ix3 2 k a)) = if a.val = 64 then ⊥ else 0)
  ∧ (∀ (j : Fin 256) (a : Fin 128), (show EReal from X18 (ix2 j a)) = if a.val = 64 then 1 else if a.val < 64 ∧ j.val % 64 < a.val then ⊥ else 0)

variable {X17 X18}

theorem mask_sum (hm : IsMask X17 X18) (n t cnt w : BitVec 32) (k : Fin 64) (j : Fin 256) :
    ∑ a : Fin 128, (show EReal from X17 (ix3 ⟨(kindOf n t cnt w).toNat, kind_lt n t cnt w⟩ k a)) * (show EReal from X18 (ix2 j a))
      = if cnt.sle t ∨ n.slt w ∨ (w = n ∧ j.val % 64 < k.val) then ⊥ else 0 := by
  obtain ⟨h0, h1, h2, hq⟩ := hm
  have hk := kind_cases n t cnt w
  by_cases hd : cnt.sle t ∨ n.slt w
  · rw [if_pos hd] at hk
    have e : (⟨(kindOf n t cnt w).toNat, kind_lt n t cnt w⟩ : Fin 3) = 2 := Fin.ext (show (kindOf n t cnt w).toNat = 2 from congrArg BitVec.toNat hk)
    rw [e, if_pos (by tauto), Finset.sum_eq_single (⟨64, by omega⟩ : Fin 128)]
    · rw [h2, hq, if_pos rfl, if_pos rfl, mul_one]
    · intro b _ hb
      rw [h2, if_neg (fun h => hb (Fin.ext h)), zero_mul]
    · intro h
      exact absurd (Finset.mem_univ _) h
  · rw [if_neg hd] at hk
    by_cases hw : w = n
    · rw [if_pos hw] at hk
      have e : (⟨(kindOf n t cnt w).toNat, kind_lt n t cnt w⟩ : Fin 3) = 1 := Fin.ext (show (kindOf n t cnt w).toNat = 1 from congrArg BitVec.toNat hk)
      rw [e, Finset.sum_eq_single (⟨k.val, by omega⟩ : Fin 128)]
      · rw [h1, hq, if_pos rfl, one_mul, if_neg (by show ¬ k.val = 64; omega)]
        refine if_congr ?_ rfl rfl
        have := k.isLt
        constructor
        · rintro ⟨_, h⟩
          exact Or.inr (Or.inr ⟨hw, h⟩)
        · rintro (h | h | ⟨_, h⟩)
          · exact absurd (Or.inl h) hd
          · exact absurd (Or.inr h) hd
          · exact ⟨this, h⟩
      · intro b _ hb
        rw [h1, if_neg (fun h => hb (Fin.ext h.symm)), zero_mul]
      · intro h
        exact absurd (Finset.mem_univ _) h
    · rw [if_neg hw] at hk
      have e : (⟨(kindOf n t cnt w).toNat, kind_lt n t cnt w⟩ : Fin 3) = 0 := Fin.ext (show (kindOf n t cnt w).toNat = 0 from congrArg BitVec.toNat hk)
      rw [e, if_neg (by tauto)]
      exact Finset.sum_eq_zero fun a _ => by rw [h0, zero_mul]

/-- The score of a query row and a slot: the product of the query and the key where the slot is live. -/
def sc (n : Nat) (hn : n < 8) (cnt : BitVec 32) (w : Fin 6 → BitVec 32) (hw : ∀ t, (w t).toNat < 8) (j : Fin 256) (k : Fin 384) : EReal :=
  if ¬ cnt.sle (BitVec.ofNat 32 (k.val / 64)) ∧ (w ⟨k.val / 64, by omega⟩).toNat * 64 + k.val % 64 ≤ 64 * n + j.val % 64 then
    ∑ a : Fin 128, (show EReal from X14 (ix2 ⟨(w ⟨k.val / 64, by omega⟩).toNat * 64 + k.val % 64, by have := hw ⟨k.val / 64, by omega⟩; omega⟩ a))
      * (show EReal from X13 (ix3 ⟨j.val / 64, by omega⟩ ⟨64 * n + j.val % 64, by omega⟩ a))
  else ⊥

theorem slt_iff (n : Nat) (hn : n < 8) (w : BitVec 32) (hw : w.toNat < 8) : (BitVec.ofNat 32 n).slt w = true ↔ n < w.toNat := by
  have e : (BitVec.ofNat 32 n).toNat = n := by
    rw [BitVec.toNat_ofNat]
    omega
  rw [BitVec.slt_eq_decide, decide_eq_true_iff, BitVec.toInt_eq_toNat_of_lt (by omega), BitVec.toInt_eq_toNat_of_lt (by omega), e]
  exact Int.ofNat_lt

theorem eq_iff (n : Nat) (hn : n < 8) (w : BitVec 32) : w = BitVec.ofNat 32 n ↔ w.toNat = n := by
  have e : (BitVec.ofNat 32 n).toNat = n := by
    rw [BitVec.toNat_ofNat]
    omega
  rw [← BitVec.toNat_inj, e]

theorem score_eq (hm : IsMask X17 X18) (n : Nat) (hn : n < 8) (cnt : BitVec 32) (w : Fin 6 → BitVec 32) (hw : ∀ t, (w t).toNat < 8) (j : Fin 256) (k : Fin 384) :
    ∑ a : Fin 256, (show EReal from krow X14 X17 (BitVec.ofNat 32 n) (BitVec.ofNat 32 (k.val / 64)) cnt (w ⟨k.val / 64, by omega⟩) (hw _) (ix2 ⟨k.val % 64, by omega⟩ a))
        * (show EReal from qrow X13 X18 (64 * n) (by omega) (ix2 j a))
      = sc X13 X14 n hn cnt w hw j k := by
  rw [show (Finset.univ : Finset (Fin 256)) = (Finset.univ : Finset (Fin (128 + 128))) from rfl]
  refine (Fin.sum_univ_add (M := EReal) (a := 128) (b := 128) _).trans ?_
  have lo : ∀ a : Fin 128, (show EReal from krow X14 X17 (BitVec.ofNat 32 n) (BitVec.ofNat 32 (k.val / 64)) cnt (w ⟨k.val / 64, by omega⟩) (hw _) (ix2 ⟨k.val % 64, by omega⟩ (Fin.castAdd 128 a)))
        * (show EReal from qrow X13 X18 (64 * n) (by omega) (ix2 j (Fin.castAdd 128 a)))
      = (show EReal from X14 (ix2 ⟨(w ⟨k.val / 64, by omega⟩).toNat * 64 + k.val % 64, by have := hw ⟨k.val / 64, by omega⟩; omega⟩ a))
      * (show EReal from X13 (ix3 ⟨j.val / 64, by omega⟩ ⟨64 * n + j.val % 64, by omega⟩ a)) := fun a =>
    congrArg₂ (fun x y : EReal => x * y) (krow_lo X14 X17 _ _ _ _ (hw _) _ a) (qrow_lo X13 X18 _ _ j a)
  have hi : ∀ a : Fin 128, (show EReal from krow X14 X17 (BitVec.ofNat 32 n) (BitVec.ofNat 32 (k.val / 64)) cnt (w ⟨k.val / 64, by omega⟩) (hw _) (ix2 ⟨k.val % 64, by omega⟩ (Fin.natAdd 128 a)))
        * (show EReal from qrow X13 X18 (64 * n) (by omega) (ix2 j (Fin.natAdd 128 a)))
      = (show EReal from X17 (ix3 ⟨(kindOf (BitVec.ofNat 32 n) (BitVec.ofNat 32 (k.val / 64)) cnt (w ⟨k.val / 64, by omega⟩)).toNat, kind_lt _ _ _ _⟩ ⟨k.val % 64, by omega⟩ a)) * (show EReal from X18 (ix2 j a)) := fun a =>
    congrArg₂ (fun x y : EReal => x * y) (krow_hi X14 X17 _ _ _ _ (hw _) _ a) (qrow_hi X13 X18 _ _ j a)
  refine (congrArg₂ (fun x y : EReal => x + y) (Finset.sum_congr rfl fun a _ => lo a) ((Finset.sum_congr rfl fun a _ => hi a).trans (mask_sum hm _ _ _ _ _ j))).trans ?_
  unfold sc
  have hw' := hw ⟨k.val / 64, by omega⟩
  have h1 := slt_iff n hn (w ⟨k.val / 64, by omega⟩) hw'
  have h2 := eq_iff n hn (w ⟨k.val / 64, by omega⟩)
  by_cases hl : ¬ cnt.sle (BitVec.ofNat 32 (k.val / 64)) ∧ (w ⟨k.val / 64, by omega⟩).toNat * 64 + k.val % 64 ≤ 64 * n + j.val % 64
  · rw [if_pos hl, if_neg, add_zero]
    rintro (h | h | ⟨h, h'⟩)
    · exact hl.1 h
    · have := h1.1 h
      omega
    · have := h2.1 h
      have h' : j.val % 64 < k.val % 64 := h'
      omega
  · rw [if_neg hl, if_pos, EReal.add_bot]
    by_cases hc : cnt.sle (BitVec.ofNat 32 (k.val / 64))
    · exact Or.inl hc
    · have hx : ¬ (w ⟨k.val / 64, by omega⟩).toNat * 64 + k.val % 64 ≤ 64 * n + j.val % 64 := fun h => hl ⟨hc, h⟩
      rw [h1, h2]
      show _ ∨ _ ∨ (_ ∧ j.val % 64 < k.val % 64)
      omega

/-- A whole block is a row of the attention over six selected blocks. -/
theorem attend_apply (hm : IsMask X17 X18) (n nb M : Nat) (hn : n < 8) (hnb : nb ≤ 6) (hM : 64 * nb ≤ M) (cnt : BitVec 32) (w : Fin 6 → BitVec 32) (hw : ∀ t, (w t).toNat < 8)
    (hdead : ∀ t, nb ≤ t → t < 6 → cnt.sle (BitVec.ofNat 32 t) = true)
    {hr : (sq (64 * nb)).Reduces [0] S256} {hb : S1x256.Broadcasts (sq (64 * nb))}
    (lhs : FVec Ideal (sq (64 * nb)) .bf16)
    (pad : FVec Ideal (sq (64 * nb)) .fp8e4m3 → FVec Ideal (sq M) .fp8e4m3) (vt : FVec Ideal ⟨2, ![128, M]⟩ .fp8e4m3) (vs : FVec Ideal S1x128 .bf16)
    (hlhs : ∀ (k : Fin (64 * nb)) (a : Fin 256), lhs (ix2 k a)
      = krow X14 X17 (BitVec.ofNat 32 n) (BitVec.ofNat 32 (k.val / 64)) cnt (w ⟨k.val / 64, by omega⟩) (hw _) (ix2 ⟨k.val % 64, by omega⟩ a))
    (hin : ∀ q k j, (show EReal from pad q (ix2 (Fin.castLE hM k) j)) = q (ix2 k j)) (hout : ∀ q (k : Fin M) j, 64 * nb ≤ k.val → (show EReal from pad q (ix2 k j)) = 0)
    (j : Fin 256) (d : Fin 128) (W : Fin 384 → EReal)
    (hW : ∀ (k : Fin (64 * nb)), (show EReal from vt (ix2 d (Fin.castLE hM k))) = W ⟨k.val, by omega⟩) :
    (show EReal from block lhs (qrow X13 X18 (64 * n) (by omega)) hr hb pad vt vs (ix2 j d)) = Row.row (sc X13 X14 n hn cnt w hw j) W (vs (ix2 0 d)) := by
  rw [← Row.row_pad (L := 64 * nb) (M := 384) (by omega)]
  · refine block_apply hM lhs _ pad vt vs hin hout _ _ j d (fun k => ?_) hW
    refine Eq.trans (Finset.sum_congr rfl fun a _ => ?_) (score_eq X13 X14 hm n hn cnt w hw j ⟨k.val, by omega⟩)
    exact congrArg (fun x : EReal => x * _) (hlhs k a)
  · intro k hk
    unfold sc
    rw [if_neg]
    rintro ⟨h, _⟩
    exact h (hdead _ (by omega) (by omega))

end Loads

end Cert.KernelIdeal.Gen

end
-- ==== Proof.KernelIdeal.Blocks.lean ====
/- The eight blocks of queries of the body: how many selected blocks each has, its keys stacked, its codes of the values side by
   side, and its result as a row of the attention. -/
module

public import proofs.«01_k».proof.Proof.KernelIdeal.Attend
public import Idealize.ShloMosaic.Lib.Pipeline.ValueKit

@[expose] public section

set_option maxRecDepth 16384

noncomputable section

namespace Cert.KernelIdeal.Gen

open Idealize.ShloMosaic Idealize.ShloMosaic.TcCoe
open scoped BigOperators

theorem coord0 (i : grid0.Coords) : (Scalar.indexCast (BitVec.ofNat 32 (i 0).val)).toNat = (i 0).val := by
  have h : (i 0).val < 3 := (i 0).isLt
  show (BitVec.ofNat 32 (i 0).val).toNat = _
  rw [BitVec.toNat_ofNat]
  omega

theorem coord1 (i : grid0.Coords) : (Scalar.indexCast (BitVec.ofNat 32 (i 1).val)).toNat = (i 1).val := by
  have h : (i 1).val < 10 := (i 1).isLt
  show (BitVec.ofNat 32 (i 1).val).toNat = _
  rw [BitVec.toNat_ofNat]
  omega

/-- Where the table of the selected blocks is read. -/
def woff (i : grid0.Coords) (n : Fin 8) (t : Fin 6) : Fin 4 → Nat :=
  ![(Scalar.indexCast (BitVec.ofNat 32 (i 0).val)).toNat, t.val, n.val, (Scalar.indexCast (BitVec.ofNat 32 (i 1).val)).toNat]

/-- Where the table of the counts is read. -/
def coff (i : grid0.Coords) (n : Fin 8) : Fin 3 → Nat :=
  ![(Scalar.indexCast (BitVec.ofNat 32 (i 0).val)).toNat, n.val, (Scalar.indexCast (BitVec.ofNat 32 (i 1).val)).toNat]

theorem woff_inb (i : grid0.Coords) (n : Fin 8) (t : Fin 6) : ∀ a, woff i n t a + S1x1x1x1.size a ≤ S3x6x8x10.size a := by
  intro a
  have h0 : (i 0).val < 3 := (i 0).isLt
  have h1 : (i 1).val < 10 := (i 1).isLt
  fin_cases a
  · show (Scalar.indexCast (BitVec.ofNat 32 (i 0).val)).toNat + 1 ≤ 3
    rw [coord0]
    omega
  · show t.val + 1 ≤ 6
    omega
  · show n.val + 1 ≤ 8
    omega
  · show (Scalar.indexCast (BitVec.ofNat 32 (i 1).val)).toNat + 1 ≤ 10
    rw [coord1]
    omega

theorem coff_inb (i : grid0.Coords) (n : Fin 8) : ∀ a, coff i n a + S1x1x1.size a ≤ S3x8x10.size a := by
  intro a
  have h0 : (i 0).val < 3 := (i 0).isLt
  have h1 : (i 1).val < 10 := (i 1).isLt
  fin_cases a
  · show (Scalar.indexCast (BitVec.ofNat 32 (i 0).val)).toNat + 1 ≤ 3
    rw [coord0]
    omega
  · show n.val + 1 ≤ 8
    omega
  · show (Scalar.indexCast (BitVec.ofNat 32 (i 1).val)).toNat + 1 ≤ 10
    rw [coord1]
    omega

/-- A selected block's number, as the body loads it. -/
def word (T : IVec S3x6x8x10 32) (i : grid0.Coords) (n : Fin 8) (t : Fin 6) : BitVec 32 :=
  get T (Rect.unit (s := S3x6x8x10) (woff i n t) S1x1x1x1.size (woff_inb i n t)).toLoadRect (Shape.Idx.first (numel1_S1x1x1x1.symm ▸ Nat.one_pos))

/-- The number of selected blocks, as the body loads it. -/
def count (T : IVec S3x8x10 32) (i : grid0.Coords) (n : Fin 8) : BitVec 32 :=
  get T (Rect.unit (s := S3x8x10) (coff i n) S1x1x1.size (coff_inb i n)).toLoadRect (Shape.Idx.first (numel1_S1x1x1.symm ▸ Nat.one_pos))

theorem word_eq (T : IVec S3x6x8x10 32) (i : grid0.Coords) (n : Fin 8) (t : Fin 6) : word T i n t = T (ix4 (i 0) t n (i 1)) := by
  refine congrArg T (funext fun a => Fin.ext ?_)
  fin_cases a
  · show (Scalar.indexCast (BitVec.ofNat 32 (i 0).val)).toNat + 1 * 0 = (i 0).val
    rw [coord0]
    omega
  · show t.val + 1 * 0 = t.val
    omega
  · show n.val + 1 * 0 = n.val
    omega
  · show (Scalar.indexCast (BitVec.ofNat 32 (i 1).val)).toNat + 1 * 0 = (i 1).val
    rw [coord1]
    omega

theorem count_eq (T : IVec S3x8x10 32) (i : grid0.Coords) (n : Fin 8) : count T i n = T (ix3 (i 0) n (i 1)) := by
  refine congrArg T (funext fun a => Fin.ext ?_)
  fin_cases a
  · show (Scalar.indexCast (BitVec.ofNat 32 (i 0).val)).toNat + 1 * 0 = (i 0).val
    rw [coord0]
    omega
  · show n.val + 1 * 0 = n.val
    omega
  · show (Scalar.indexCast (BitVec.ofNat 32 (i 1).val)).toNat + 1 * 0 = (i 1).val
    rw [coord1]
    omega

section Stack

variable (X13 : FVec Ideal S4x512x128 .bf16) (X14 : FVec Ideal S512x128 .bf16) (X15 X16 : FVec Ideal S8x128x128 .fp8e4m3)
  (X17 : FVec Ideal S3x64x128 .bf16) (X18 : FVec Ideal S256x128 .bf16)

/-- The keys of the selected blocks, stacked. -/
def keys (nb n : Nat) (hnb : nb ≤ 6) (cnt : BitVec 32) (w : Fin 6 → BitVec 32) (hw : ∀ t, (w t).toNat < 8)
    (h : Shape.Concatenates ((List.ofFn fun t : Fin nb => (⟨⟨2, ![64, 256]⟩, krow X14 X17 (BitVec.ofNat 32 n) (BitVec.ofNat 32 t.val) cnt (w ⟨t.val, by omega⟩) (hw _)⟩ : (s : Shape) × (s.Idx → Ideal .bf16))).map (·.1)) ⟨2, ![64 * nb, 256]⟩ 0) : FVec Ideal (sq (64 * nb)) .bf16 :=
  concatenate (⟨2, ![64 * nb, 256]⟩ : Shape) 0 (List.ofFn fun t : Fin nb => (⟨⟨2, ![64, 256]⟩, krow X14 X17 (BitVec.ofNat 32 n) (BitVec.ofNat 32 t.val) cnt (w ⟨t.val, by omega⟩) (hw _)⟩ : (s : Shape) × (s.Idx → Ideal .bf16))) h

/-- The codes of two selected blocks side by side, or of the last. -/
def duo (nb : Nat) (hnb : nb ≤ 6) (w : Fin 6 → BitVec 32) (hw : ∀ t, (w t).toNat < 8) (u : Nat) (hu : u < 3) : FVec Ideal S128x128 .fp8e4m3 :=
  if h : 2 * u + 1 < nb then halves (tile X15 (w ⟨2 * u, by omega⟩) (hw _)) (tile X16 (w ⟨2 * u + 1, by omega⟩) (hw _)) else tile X15 (w ⟨2 * u, by omega⟩) (hw _)

/-- The codes of all the selected blocks side by side. -/
def vals (nt nb : Nat) (hnb : nb ≤ 6) (hnt : nt ≤ 3) (w : Fin 6 → BitVec 32) (hw : ∀ t, (w t).toNat < 8)
    (h : Shape.Concatenates ((List.ofFn fun u : Fin nt => (⟨⟨2, ![128, 128]⟩, duo X15 X16 nb hnb w hw u.val (by omega)⟩ : (s : Shape) × (s.Idx → Ideal .fp8e4m3))).map (·.1)) ⟨2, ![128, 128 * nt]⟩ 1) : FVec Ideal ⟨2, ![128, 128 * nt]⟩ .fp8e4m3 :=
  concatenate (⟨2, ![128, 128 * nt]⟩ : Shape) 1 (List.ofFn fun u : Fin nt => (⟨⟨2, ![128, 128]⟩, duo X15 X16 nb hnb w hw u.val (by omega)⟩ : (s : Shape) × (s.Idx → Ideal .fp8e4m3))) h

/-- Sixty-four rows of zeros below. -/
def below {L M : Nat} (h : Shape.Concatenates [sq L, S64x256] (sq M) 0) (q : FVec Ideal (sq L) .fp8e4m3) : FVec Ideal (sq M) .fp8e4m3 :=
  concatenate (sq M) 0 [⟨sq L, q⟩, ⟨S64x256, broadcast S64x256 (Scalar.ofBits .fp8e4m3 0x00#8)⟩] h

/-- The result of a block of queries, the keys, the masks, the queries and the codes being given. -/
def result (n : Fin 8) (cnt : BitVec 32) (w : Fin 6 → BitVec 32) (hw : ∀ t, (w t).toNat < 8) (vs : FVec Ideal S1x128 .bf16) : FVec Ideal S256x128 .bf16 :=
  match n with
  | ⟨0, _⟩ => block (L := 64 * 1) (M := 128 * 1) (krow X14 X17 (BitVec.ofNat 32 0) (BitVec.ofNat 32 0) cnt (w 0) (hw 0)) (qrow X13 X18 (64 * 0) (by omega)) reduces_S64x256_S256 broadcasts_S1x256_S64x256
      (below concatenates_S64x256_S64x256_S128x256_d0) (tile X15 (w 0) (hw 0)) vs
  | ⟨1, _⟩ => block (L := 64 * 2) (M := 128 * 1) (keys X14 X17 2 1 (by omega) cnt w hw concatenates_S64x256_S64x256_S128x256_d0) (qrow X13 X18 (64 * 1) (by omega)) reduces_S128x256_S256 broadcasts_S1x256_S128x256
      id (duo X15 X16 2 (by omega) w hw 0 (by omega)) vs
  | ⟨2, _⟩ => block (L := 64 * 3) (M := 128 * 2) (keys X14 X17 3 2 (by omega) cnt w hw concatenates_S64x256_S64x256_S64x256_S192x256_d0) (qrow X13 X18 (64 * 2) (by omega)) reduces_S192x256_S256 broadcasts_S1x256_S192x256
      (below concatenates_S192x256_S64x256_S256x256_d0) (vals X15 X16 2 3 (by omega) (by omega) w hw concatenates_S128x128_S128x128_S128x256_d1) vs
  | ⟨3, _⟩ => block (L := 64 * 4) (M := 128 * 2) (keys X14 X17 4 3 (by omega) cnt w hw concatenates_S64x256_S64x256_S64x256_S64x256_S256x256_d0) (qrow X13 X18 (64 * 3) (by omega)) reduces_S256x256_S256 broadcasts_S1x256_S256x256
      id (vals X15 X16 2 4 (by omega) (by omega) w hw concatenates_S128x128_S128x128_S128x256_d1) vs
  | ⟨4, _⟩ => block (L := 64 * 5) (M := 128 * 3) (keys X14 X17 5 4 (by omega) cnt w hw concatenates_S64x256_S64x256_S64x256_S64x256_S64x256_S320x256_d0) (qrow X13 X18 (64 * 4) (by omega)) reduces_S320x256_S256 broadcasts_S1x256_S320x256
      (below concatenates_S320x256_S64x256_S384x256_d0) (vals X15 X16 3 5 (by omega) (by omega) w hw concatenates_S128x128_S128x128_S128x128_S128x384_d1) vs
  | ⟨n + 5, h⟩ => block (L := 64 * 6) (M := 128 * 3) (keys X14 X17 6 (n + 5) (by omega) cnt w hw concatenates_S64x256_S64x256_S64x256_S64x256_S64x256_S64x256_S384x256_d0) (qrow X13 X18 (64 * (n + 5)) (by omega)) reduces_S384x256_S256 broadcasts_S1x256_S384x256
      id (vals X15 X16 3 6 (by omega) (by omega) w hw concatenates_S128x128_S128x128_S128x128_S128x384_d1) vs

variable (V : Fin 512 → Fin 128 → EReal)

/-- The two arrays of codes: the left one holds a block's codes in its first sixty-four columns, the right one in the others. -/
def IsCodes : Prop :=
  (∀ (b : Fin 8) (d : Fin 128) (k : Fin 64), (show EReal from X15 (ix3 b d ⟨k.val, by omega⟩)) = V ⟨b.val * 64 + k.val, by omega⟩ d)
  ∧ (∀ (b : Fin 8) (d : Fin 128) (k : Fin 64), (show EReal from X16 (ix3 b d ⟨64 + k.val, by omega⟩)) = V ⟨b.val * 64 + k.val, by omega⟩ d)

/-- The code of a slot's value in a column. -/
def slotV (w : Fin 6 → BitVec 32) (hw : ∀ t, (w t).toNat < 8) (d : Fin 128) (k : Fin 384) : EReal :=
  V ⟨(w ⟨k.val / 64, by omega⟩).toNat * 64 + k.val % 64, by have := hw ⟨k.val / 64, by omega⟩; omega⟩ d

variable {X15 X16 V}

theorem duo_apply (hV : IsCodes X15 X16 V) (nb : Nat) (hnb : nb ≤ 6) (w : Fin 6 → BitVec 32) (hw : ∀ t, (w t).toNat < 8) (u : Nat) (hu : u < 3) (d : Fin 128)
    (k : Fin 384) (hk : k.val < 64 * nb) (a : Fin 128) (ha : k.val = 128 * u + a.val) :
    (show EReal from duo X15 X16 nb hnb w hw u hu (ix2 d a)) = slotV V w hw d k := by
  have tl : ∀ (t : Nat) (ht : t < 6) (e : t = k.val / 64), (⟨t, ht⟩ : Fin 6) = ⟨k.val / 64, by omega⟩ := fun t ht e => Fin.ext e
  have L : ∀ (ha' : a.val < 64), (show EReal from tile X15 (w ⟨2 * u, by omega⟩) (hw _) (ix2 d a)) = slotV V w hw d k := by
    intro ha'
    refine (congrArg (fun x : EReal => x) (tile_apply X15 _ (hw _) d a)).trans ((hV.1 ⟨_, hw ⟨2 * u, by omega⟩⟩ d ⟨a.val, ha'⟩).trans ?_)
    unfold slotV
    refine congrArg (fun q => V q d) (Fin.ext ?_)
    show (w ⟨2 * u, _⟩).toNat * 64 + a.val = (w ⟨k.val / 64, _⟩).toNat * 64 + k.val % 64
    rw [tl (2 * u) (by omega) (by omega)]
    omega
  unfold duo
  by_cases h : 2 * u + 1 < nb
  · rw [dif_pos h]
    refine (congrArg (fun x : EReal => x) (halves_apply _ _ d a)).trans ?_
    by_cases ha' : a.val < 64
    · rw [if_pos ha']
      exact L ha'
    · rw [if_neg ha']
      refine (congrArg (fun x : EReal => x) (tile_apply X16 _ (hw _) d a)).trans ?_
      have e : a = ⟨64 + (a.val - 64), by omega⟩ := Fin.ext (by show a.val = 64 + (a.val - 64); omega)
      refine Eq.trans ?_ ((hV.2 ⟨_, hw ⟨2 * u + 1, by omega⟩⟩ d ⟨a.val - 64, by omega⟩).trans ?_)
      · exact congrArg (fun q => (show EReal from X16 (ix3 _ d q))) e
      unfold slotV
      refine congrArg (fun q => V q d) (Fin.ext ?_)
      show (w ⟨2 * u + 1, _⟩).toNat * 64 + (a.val - 64) = (w ⟨k.val / 64, _⟩).toNat * 64 + k.val % 64
      rw [tl (2 * u + 1) (by omega) (by omega)]
      omega
  · rw [dif_neg h]
    exact L (by omega)

theorem vals_apply (hV : IsCodes X15 X16 V) (nt nb : Nat) (hnb : nb ≤ 6) (hnt : nt ≤ 3) (w : Fin 6 → BitVec 32) (hw : ∀ t, (w t).toNat < 8) (h) (d : Fin 128)
    (k : Fin (128 * nt)) (hk : k.val < 64 * nb) :
    (show EReal from vals X15 X16 nt nb hnb hnt w hw h (ix2 d k)) = slotV V w hw d ⟨k.val, by omega⟩ := by
  refine (congrArg (fun x : EReal => x) (concatenate_ofFn_apply 1 (fun u : Fin nt => duo X15 X16 nb hnb w hw u.val (by omega)) h rfl 128 rfl (ix2 d k) ⟨k.val / 128, by omega⟩ rfl (ix2 d ⟨k.val % 128, by omega⟩) rfl fun b hb => ?_)).trans ?_
  · fin_cases b
    · rfl
    · exact absurd rfl hb
  · exact duo_apply hV nb hnb w hw _ (by omega) d ⟨k.val, by omega⟩ hk ⟨k.val % 128, by omega⟩ (by show k.val = 128 * (k.val / 128) + k.val % 128; omega)

theorem keys_apply (nb n : Nat) (hnb : nb ≤ 6) (cnt : BitVec 32) (w : Fin 6 → BitVec 32) (hw : ∀ t, (w t).toNat < 8) (h) (k : Fin (64 * nb)) (a : Fin 256) :
    keys X14 X17 nb n hnb cnt w hw h (ix2 k a)
      = krow X14 X17 (BitVec.ofNat 32 n) (BitVec.ofNat 32 (k.val / 64)) cnt (w ⟨k.val / 64, by omega⟩) (hw _) (ix2 ⟨k.val % 64, by omega⟩ a) :=
  stacked_apply (fun t : Fin nb => krow X14 X17 (BitVec.ofNat 32 n) (BitVec.ofNat 32 t.val) cnt (w ⟨t.val, by omega⟩) (hw _)) h k a

theorem below_in {L M : Nat} (h : Shape.Concatenates [sq L, S64x256] (sq M) 0) (hM : L ≤ M) (q : FVec Ideal (sq L) .fp8e4m3) (k : Fin L) (j : Fin 256) :
    (show EReal from below h q (ix2 (Fin.castLE hM k) j)) = q (ix2 k j) := by
  refine congrArg (fun x : EReal => x) (concatenate_pair_apply_left 0 q _ h _ rfl (ix2 k j) fun b => ?_)
  fin_cases b <;> rfl

theorem below_out {L M : Nat} (h : Shape.Concatenates [sq L, S64x256] (sq M) 0) (q : FVec Ideal (sq L) .fp8e4m3) (k : Fin M) (hk : L ≤ k.val) (j : Fin 256) :
    (show EReal from below h q (ix2 k j)) = 0 := by
  have hm : L + (64 + 0) = M := h.2.2
  refine (congrArg (fun x : EReal => x) (concatenate_pair_apply_right 0 q _ h _ rfl rfl (ix2 ⟨k.val - L, by omega⟩ j) (fun b hb => ?_) ?_)).trans ?_
  · fin_cases b
    · exact absurd rfl hb
    · rfl
  · show k.val - L + L = k.val
    omega
  · simp [broadcast, Scalar.ofBits, Ideal.ofBits, Ideal.e4m3fn]

/-- The words that are read: a query block `n` reads the slots up to `n`, and the others are taken as zero. -/
def kept (w : Fin 8 → Fin 6 → BitVec 32) (n : Fin 8) (t : Fin 6) : BitVec 32 := cond (Nat.ble t.val n.val) (w n t) 0#32

theorem dead_of (n : Fin 8) (cnt : BitVec 32) (hc : n.val < 5 → cnt.sle (BitVec.ofNat 32 (n.val + 1)) = true) (t : Nat) (ht : n.val + 1 ≤ t) (ht' : t < 6) :
    cnt.sle (BitVec.ofNat 32 t) = true := by
  have hc := hc (by omega)
  have e : ∀ u : Nat, u < 9 → (BitVec.ofNat 32 u).toInt = (u : Int) := fun u hu => by
    rw [BitVec.toInt_eq_toNat_of_lt (by rw [BitVec.toNat_ofNat]; omega), BitVec.toNat_ofNat]
    omega
  rw [BitVec.sle_eq_decide, decide_eq_true_iff] at hc ⊢
  rw [e _ (by omega)] at hc ⊢
  omega

/-- Each block of queries is a row of the attention over six selected blocks. -/
theorem result_apply (hm : IsMask X17 X18) (hV : IsCodes X15 X16 V) (n : Fin 8) (cnt : BitVec 32) (hc : n.val < 5 → cnt.sle (BitVec.ofNat 32 (n.val + 1)) = true)
    (w : Fin 6 → BitVec 32) (hw : ∀ t, (w t).toNat < 8) (vs : FVec Ideal S1x128 .bf16) (j : Fin 256) (d : Fin 128) :
    (show EReal from result X13 X14 X15 X16 X17 X18 n cnt w hw vs (ix2 j d)) = Row.row (sc X13 X14 n.val n.isLt cnt w hw j) (slotV V w hw d) (vs (ix2 0 d)) := by
  have hd := dead_of n cnt hc
  match n, hd with
  | ⟨0, _⟩, hd =>
    refine attend_apply X13 X14 hm 0 1 128 (by omega) (by omega) (by omega) cnt w hw hd _ _ _ vs (fun k a => ?_) (below_in _ (by omega)) (fun q k j hk => below_out _ q k hk j) j d _ fun k => ?_
    · have hk := k.isLt
      have e : ∀ (t : Nat) (ht : t < 6) (e : t = 0), krow X14 X17 (BitVec.ofNat 32 0) (BitVec.ofNat 32 0) cnt (w 0) (hw 0) (ix2 k a) = krow X14 X17 (BitVec.ofNat 32 0) (BitVec.ofNat 32 t) cnt (w ⟨t, ht⟩) (hw _) (ix2 ⟨k.val % 64, by omega⟩ a) := by
        rintro t ht rfl
        exact congrArg (fun q => krow X14 X17 (BitVec.ofNat 32 0) (BitVec.ofNat 32 0) cnt (w 0) (hw 0) (ix2 q a)) (Fin.ext (by show k.val = k.val % 64; omega))
      exact e _ (by omega) (by omega)
    · exact duo_apply hV 1 (by omega) w hw 0 (by omega) d ⟨k.val, by omega⟩ k.isLt ⟨k.val, by omega⟩ (by show k.val = 128 * 0 + k.val; omega)
  | ⟨1, _⟩, hd =>
    refine attend_apply X13 X14 hm 1 2 128 (by omega) (by omega) (by omega) cnt w hw hd _ _ _ vs (keys_apply X14 X17 2 1 (by omega) cnt w hw _) (fun _ _ _ => rfl) (fun q k j hk => by omega) j d _ fun k => ?_
    exact duo_apply hV 2 (by omega) w hw 0 (by omega) d ⟨k.val, by omega⟩ k.isLt ⟨k.val, by omega⟩ (by show k.val = 128 * 0 + k.val; omega)
  | ⟨2, _⟩, hd =>
    exact attend_apply X13 X14 hm 2 3 (128 * 2) (by omega) (by omega) (by omega) cnt w hw hd _ _ _ vs (keys_apply X14 X17 3 2 (by omega) cnt w hw _) (below_in _ (by omega)) (fun q k j hk => below_out _ q k hk j) j d _ fun k =>
      vals_apply hV 2 3 (by omega) (by omega) w hw _ d (Fin.castLE _ k) k.isLt
  | ⟨3, _⟩, hd =>
    exact attend_apply X13 X14 hm 3 4 (128 * 2) (by omega) (by omega) (by omega) cnt w hw hd _ _ _ vs (keys_apply X14 X17 4 3 (by omega) cnt w hw _) (fun _ _ _ => rfl) (fun q k j hk => by omega) j d _ fun k =>
      vals_apply hV 2 4 (by omega) (by omega) w hw _ d (Fin.castLE _ k) k.isLt
  | ⟨4, _⟩, hd =>
    exact attend_apply X13 X14 hm 4 5 (128 * 3) (by omega) (by omega) (by omega) cnt w hw hd _ _ _ vs (keys_apply X14 X17 5 4 (by omega) cnt w hw _) (below_in _ (by omega)) (fun q k j hk => below_out _ q k hk j) j d _ fun k =>
      vals_apply hV 3 5 (by omega) (by omega) w hw _ d (Fin.castLE _ k) k.isLt
  | ⟨n + 5, hn⟩, hd =>
    exact attend_apply X13 X14 hm (n + 5) 6 (128 * 3) hn (by omega) (by omega) cnt w hw (fun t ht ht' => by omega) _ _ _ vs (keys_apply X14 X17 6 (n + 5) (by omega) cnt w hw _) (fun _ _ _ => rfl) (fun q k j hk => by omega) j d _ fun k =>
      vals_apply hV 3 6 (by omega) (by omega) w hw _ d (Fin.castLE _ k) k.isLt

end Stack

theorem inside_piece (n : Fin 8) (h : Fin 4) (a : Fin 3) : (![0, 64 * n.val, 128 * h.val] : Fin 3 → Nat) a + S1x64x128.size a ≤ S1x512x512.size a := by
  fin_cases a
  · exact Nat.le_of_ble_eq_true rfl
  · show 64 * n.val + 64 ≤ 512
    omega
  · show 128 * h.val + 128 ≤ 512
    omega

/-- A stored piece: the rows of one head in one block of queries. -/
theorem head_eq (O : FVec Ideal S256x128 .bf16) (G : S1x512x512.Idx → EReal) (n : Fin 8) (h : Fin 4) (hs : S256x128.Slices (![64 * h.val, 0] : Fin 2 → Nat) S64x128)
    (hG : ∀ (r : Fin 64) (d : Fin 128), (show EReal from O (ix2 ⟨64 * h.val + r.val, by omega⟩ d)) = G (ix3 0 ⟨64 * n.val + r.val, by omega⟩ ⟨128 * h.val + d.val, by omega⟩)) (y : S1x64x128.Idx) :
    (show EReal from shapeCast S1x64x128 (extractStridedSlice S64x128 (![64 * h.val, 0] : Fin 2 → Nat) O hs) shapeCasts_S64x128_S1x64x128 y)
      = G ((Rect.unit (s := S1x512x512) ![0, 64 * n.val, 128 * h.val] S1x64x128.size (inside_piece n h)).emb y) := by
  have ey : ∀ (a : Fin 1) (r : Fin 64) (d : Fin 128), (Rect.unit (s := S1x512x512) ![0, 64 * n.val, 128 * h.val] S1x64x128.size (inside_piece n h)).emb (ix3 a r d) = ix3 0 ⟨64 * n.val + r.val, by omega⟩ ⟨128 * h.val + d.val, by omega⟩ := by
    intro a r d
    refine funext fun k => Fin.ext ?_
    rw [ValueKit.rect_emb_unit_val]
    fin_cases k
    · show 0 + a.val = 0
      omega
    · rfl
    · rfl
  idx_vars y
  rw [ey, ← hG]
  pointwise

theorem slices_head (h : Fin 4) : S256x128.Slices (![64 * h.val, 0] : Fin 2 → Nat) S64x128 :=
  match h with
  | ⟨0, _⟩ => slices_S256x128_o0_0_S64x128
  | ⟨1, _⟩ => slices_S256x128_o64_0_S64x128
  | ⟨2, _⟩ => slices_S256x128_o128_0_S64x128
  | ⟨3, _⟩ => slices_S256x128_o192_0_S64x128

/-- The piece stored for one head of one block of queries. -/
def piece6 (O : Fin 8 → FVec Ideal S256x128 .bf16) (n : Fin 8) (h : Fin 4) : View.Piece (Elt Ideal) S1x512x512 .bf16 :=
  ⟨Rect.unit (s := S1x512x512) ![0, 64 * n.val, 128 * h.val] S1x64x128.size (inside_piece n h),
    shapeCast S1x64x128 (extractStridedSlice S64x128 (![64 * h.val, 0] : Fin 2 → Nat) (O n) (slices_head h)) shapeCasts_S64x128_S1x64x128⟩

/-- The pieces in the order in which the block's contents list them. -/
def pieces6 (O : Fin 8 → FVec Ideal S256x128 .bf16) : List (View.Piece (Elt Ideal) S1x512x512 .bf16) :=
  [7, 6, 5, 4, 3, 2, 1, 0].flatMap fun n => [3, 2, 1, 0].map (piece6 O n)

theorem mem_pieces6 (O : Fin 8 → FVec Ideal S256x128 .bf16) (G : S1x512x512.Idx → EReal)
    (hG : ∀ (n : Fin 8) (h : Fin 4) (r : Fin 64) (d : Fin 128), (show EReal from O n (ix2 ⟨64 * h.val + r.val, by omega⟩ d)) = G (ix3 0 ⟨64 * n.val + r.val, by omega⟩ ⟨128 * h.val + d.val, by omega⟩)) :
    ∀ p ∈ pieces6 O, ∀ y, p.2 y = G (p.1.emb y) := by
  intro p hp
  obtain ⟨n, -, hp⟩ := List.mem_flatMap.1 hp
  obtain ⟨h, -, rfl⟩ := List.mem_map.1 hp
  exact fun y => head_eq (O n) G n h (slices_head h) (hG n h) y

end Cert.KernelIdeal.Gen

end
-- ==== Proof.KernelIdeal.CodesV.lean ====
/- The codes of `v` that the body leaves in its block, read at an index. -/
module

public import proofs.«01_k».proof.Proof.KernelIdeal.Quantise
public import proofs.«01_k».proof.Proof.KernelIdeal.Frame
public import Idealize.ShloMosaic.Lib.Pipeline.ValueKit

@[expose] public section

set_option maxRecDepth 16384

noncomputable section

namespace Cert.KernelIdeal.Gen

open Idealize.ShloMosaic Idealize.ShloMosaic.TcCoe

/-- The code of a block's element at the exponent `z l` of its column. -/
def code (x : Vec Ideal S1x512x128 .bf16) (z : Fin 128 → ℤ) (y : S1x1x512x128.Idx) : EReal :=
  min (Ideal.ofBits .f32 0x43E00000#32) (max (Ideal.ofBits .f32 0xC3E00000#32)
    ((show EReal from x (ix3 0 (y 2) (y 3))) * (((2 : ℝ) ^ (-z (y 3)) : ℝ) : EReal)))

/-- The exponents of a block's columns, in the format's range. -/
structure IsExpo (x : Vec Ideal S1x512x128 .bf16) (z : Fin 128 → ℤ) : Prop where
  lo : ∀ l, -126 ≤ z l
  hi : ∀ l, z l ≤ 126
  eq : ∀ l, Scale.expo (amax x l * Ideal.ofBits .f32 0x3B124925#32) = BitVec.ofInt 32 (z l)

variable (m : Memref sig .tc .vmem S1x512x128 .bf16) (h : m.IsWhole) (x : Vec Ideal S1x512x128 .bf16)

theorem inside128 {o : Nat} (ho : o + 128 ≤ 512) (a : Fin 4) : (![0, 0, o, 0] : Fin 4 → Nat) a + S1x1x128x128.size a ≤ S1x1x512x128.size a := by
  fin_cases a
  · exact Nat.le_of_ble_eq_true rfl
  · exact Nat.le_of_ble_eq_true rfl
  · exact ho
  · exact Nat.le_of_ble_eq_true rfl

/-- A stored piece of 128 rows holds the codes of its rows. -/
theorem piece_eq (c : Dev nD) (z : Fin 128 → ℤ) (hz : IsExpo x z) (o : Nat) (ho : o + 128 ≤ 512)
    (inb : ∀ a, (![0, 0, o, 0] : Fin 4 → Nat) a + S1x1x128x128.size a ≤ S1x1x512x128.size a) (y : S1x1x128x128.Idx) :
    shapeCast S1x1x128x128 (truncf .fp8e4m3 (clip128 m h x (kernelRun0_B.sl.v311 c m h x) o ho) bitsLt_fp8e4m3_bf16) shapeCasts_S128x128_S1x1x128x128 y
      = code x z ((Rect.unit (s := S1x1x512x128) ![0, 0, o, 0] S1x1x128x128.size inb).emb y) := by
  have ey : ∀ (a b : Fin 1) (r l : Fin 128), (Rect.unit (s := S1x1x512x128) ![0, 0, o, 0] S1x1x128x128.size inb).emb (ix4 a b r l) = ix4 0 0 ⟨o + r.val, by omega⟩ l := by
    intro a b r l
    refine funext fun k => Fin.ext ?_
    rw [ValueKit.rect_emb_unit_val]
    fin_cases k
    · show 0 + a.val = 0
      omega
    · show 0 + b.val = 0
      omega
    · rfl
    · show 0 + l.val = l.val
      omega
  idx_vars y
  rw [ey]
  pointwise
  rw [clip128_apply]
  rw [v311_apply m h x c _ y3 (z y3) (hz.lo y3) (hz.hi y3) (hz.eq y3)]
  rfl

/-- What case B's body leaves in the codes' block. -/
theorem out0_B_7_apply (c : Dev nD) (i : grid0.Coords) (arg4 : Memref sig .tc .vmem S1x512x128 .bf16) (harg4 : arg4.IsWhole) (arg5 : Memref sig .tc .vmem S1x512x128 .bf16) (harg5 : arg5.IsWhole) (arg6 : Memref sig .tc .vmem S1x512x128 .bf16) (harg6 : arg6.IsWhole) (arg7 : Memref sig .tc .vmem S1x512x128 .bf16) (harg7 : arg7.IsWhole) (arg8 : Memref sig .tc .vmem S1x512x128 .bf16) (harg8 : arg8.IsWhole) (arg9 : Memref sig .tc .vmem S1x512x128 .bf16) (harg9 : arg9.IsWhole) (arg10 : Memref sig .tc .vmem S1x512x512 .bf16) (harg10 : arg10.IsWhole) (arg11 : Memref sig .tc .vmem S1x1x512x128 .fp8e4m3) (harg11 : arg11.IsWhole) (arg12 : Memref sig .tc .vmem S10x3x128 .f32) (harg12 : arg12.IsWhole) (arg13 : Memref sig .tc .vmem S4x512x128 .bf16) (harg13 : arg13.IsWhole) (arg14 : Memref sig .tc .vmem S512x128 .bf16) (harg14 : arg14.IsWhole) (arg15 : Memref sig .tc .vmem S8x128x128 .fp8e4m3) (harg15 : arg15.IsWhole) (arg16 : Memref sig .tc .vmem S8x128x128 .fp8e4m3) (harg16 : arg16.IsWhole) (arg17 : Memref sig .tc .vmem S3x64x128 .bf16) (harg17 : arg17.IsWhole) (arg18 : Memref sig .tc .vmem S256x128 .bf16) (harg18 : arg18.IsWhole) (hc0 : ¬cond0_0 i)
    (x0 : Vec Ideal S1x512x128 .bf16) (x1 : Vec Ideal S1x512x128 .bf16) (x2 : Vec Ideal S1x512x128 .bf16) (x3 : Vec Ideal S1x512x128 .bf16) (x4 : Vec Ideal S1x512x128 .bf16) (x5 : Vec Ideal S1x512x128 .bf16) (xt0 : TbBuf0 (F := Ideal) c tbM0_0) (xt1 : TbBuf0 (F := Ideal) c tbM0_1) (xs4 : Vec Ideal S3x64x128 .bf16) (xs5 : Vec Ideal S256x128 .bf16) (hw : HW c i xt0 xt1) (z : Fin 128 → ℤ) (hz : IsExpo x5 z) (y : S1x1x512x128.Idx) :
    out0_B_7 c i arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 xt0 xt1 xs4 xs5 hw y = code x5 z y := by
  refine View.read_writes_apply_of_pieces VO0_7 VO0_7.junk (code x5 z) _ ?_ y (cover0_B_7 c i arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 xt0 xt1 xs4 xs5 hw y)
  intro p hp
  rcases List.mem_cons.1 hp with rfl | hp
  · exact fun y => piece_eq arg9 harg9 x5 c z hz 384 (by omega) (inside128 (by omega)) y
  rcases List.mem_cons.1 hp with rfl | hp
  · exact fun y => piece_eq arg9 harg9 x5 c z hz 256 (by omega) (inside128 (by omega)) y
  rcases List.mem_cons.1 hp with rfl | hp
  · exact fun y => piece_eq arg9 harg9 x5 c z hz 128 (by omega) (inside128 (by omega)) y
  rcases List.mem_cons.1 hp with rfl | hp
  · exact fun y => piece_eq arg9 harg9 x5 c z hz 0 (by omega) (inside128 (by omega)) y
  exact absurd hp List.not_mem_nil

/-- What case A's body leaves in the codes' block. -/
theorem out0_A_7_apply (c : Dev nD) (i : grid0.Coords) (arg4 : Memref sig .tc .vmem S1x512x128 .bf16) (harg4 : arg4.IsWhole) (arg5 : Memref sig .tc .vmem S1x512x128 .bf16) (harg5 : arg5.IsWhole) (arg6 : Memref sig .tc .vmem S1x512x128 .bf16) (harg6 : arg6.IsWhole) (arg7 : Memref sig .tc .vmem S1x512x128 .bf16) (harg7 : arg7.IsWhole) (arg8 : Memref sig .tc .vmem S1x512x128 .bf16) (harg8 : arg8.IsWhole) (arg9 : Memref sig .tc .vmem S1x512x128 .bf16) (harg9 : arg9.IsWhole) (arg10 : Memref sig .tc .vmem S1x512x512 .bf16) (harg10 : arg10.IsWhole) (arg11 : Memref sig .tc .vmem S1x1x512x128 .fp8e4m3) (harg11 : arg11.IsWhole) (arg12 : Memref sig .tc .vmem S10x3x128 .f32) (harg12 : arg12.IsWhole) (arg13 : Memref sig .tc .vmem S4x512x128 .bf16) (harg13 : arg13.IsWhole) (arg14 : Memref sig .tc .vmem S512x128 .bf16) (harg14 : arg14.IsWhole) (arg15 : Memref sig .tc .vmem S8x128x128 .fp8e4m3) (harg15 : arg15.IsWhole) (arg16 : Memref sig .tc .vmem S8x128x128 .fp8e4m3) (harg16 : arg16.IsWhole) (arg17 : Memref sig .tc .vmem S3x64x128 .bf16) (harg17 : arg17.IsWhole) (arg18 : Memref sig .tc .vmem S256x128 .bf16) (harg18 : arg18.IsWhole) (hc0 : cond0_0 i)
    (x0 : Vec Ideal S1x512x128 .bf16) (x1 : Vec Ideal S1x512x128 .bf16) (x2 : Vec Ideal S1x512x128 .bf16) (x3 : Vec Ideal S1x512x128 .bf16) (x4 : Vec Ideal S1x512x128 .bf16) (x5 : Vec Ideal S1x512x128 .bf16) (xt0 : TbBuf0 (F := Ideal) c tbM0_0) (xt1 : TbBuf0 (F := Ideal) c tbM0_1) (hw : HW c i xt0 xt1) (z : Fin 128 → ℤ) (hz : IsExpo x5 z) (y : S1x1x512x128.Idx) :
    out0_A_7 c i arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 xt0 xt1 hw y = code x5 z y := by
  refine View.read_writes_apply_of_pieces VO0_7 VO0_7.junk (code x5 z) _ ?_ y (cover0_A_7 c i arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 xt0 xt1 hw y)
  intro p hp
  rcases List.mem_cons.1 hp with rfl | hp
  · exact fun y => piece_eq arg9 harg9 x5 c z hz 384 (by omega) (inside128 (by omega)) y
  rcases List.mem_cons.1 hp with rfl | hp
  · exact fun y => piece_eq arg9 harg9 x5 c z hz 256 (by omega) (inside128 (by omega)) y
  rcases List.mem_cons.1 hp with rfl | hp
  · exact fun y => piece_eq arg9 harg9 x5 c z hz 128 (by omega) (inside128 (by omega)) y
  rcases List.mem_cons.1 hp with rfl | hp
  · exact fun y => piece_eq arg9 harg9 x5 c z hz 0 (by omega) (inside128 (by omega)) y
  exact absurd hp List.not_mem_nil

end Cert.KernelIdeal.Gen

end
-- ==== Proof.KernelIdeal.Scratch.lean ====
/- What the body leaves in its scratch buffers before the attention: the queries, the keys, the codes of the values transposed and
   the two masks, read at an index. -/
module

public import proofs.«01_k».proof.Proof.KernelIdeal.Blocks
public import proofs.«01_k».proof.Proof.KernelIdeal.CodesV

@[expose] public section

set_option maxRecDepth 16384

noncomputable section

namespace Cert.KernelIdeal.Gen

open Idealize.ShloMosaic Idealize.ShloMosaic.TcCoe

theorem whole1 (m : Memref sig .tc .vmem S1x512x128 .bf16) (h : m.IsWhole) (x : Vec Ideal S1x512x128 .bf16) (r : Fin 512) (l : Fin 128) :
    View.readAt (Elt Ideal) m.view (Rect.unit (s := S1x512x128) ![0, 0, 0] S1x512x128.size inb_S1x512x128_S1x512x128_0_0_0).toLoadRect (h.unread x) (ix3 0 r l) = x (ix3 0 r l) := by
  rw [h.readAt_unread]
  refine congrArg x (funext fun a => Fin.ext ?_)
  fin_cases a
  · rfl
  · show 0 + 1 * r.val = r.val
    omega
  · show 0 + 1 * l.val = l.val
    omega

section Queries

variable (c : Dev nD) (arg4 : Memref sig .tc .vmem S1x512x128 .bf16) (harg4 : arg4.IsWhole) (arg5 : Memref sig .tc .vmem S1x512x128 .bf16) (harg5 : arg5.IsWhole) (arg6 : Memref sig .tc .vmem S1x512x128 .bf16) (harg6 : arg6.IsWhole) (arg7 : Memref sig .tc .vmem S1x512x128 .bf16) (harg7 : arg7.IsWhole)
  (x0 x1 x2 x3 : Vec Ideal S1x512x128 .bf16)

/-- The block of a head. -/
def pick (h : Fin 4) : Vec Ideal S1x512x128 .bf16 :=
  match h with
  | ⟨0, _⟩ => x0
  | ⟨1, _⟩ => x1
  | ⟨2, _⟩ => x2
  | ⟨3, _⟩ => x3

theorem inside_head (h : Fin 4) (a : Fin 3) : (![h.val, 0, 0] : Fin 3 → Nat) a + S1x512x128.size a ≤ S4x512x128.size a := by
  fin_cases a
  · show h.val + 1 ≤ 4
    omega
  · exact le_refl _
  · exact le_refl _

theorem stored_head (m : Memref sig .tc .vmem S1x512x128 .bf16) (hm : m.IsWhole) (x : Vec Ideal S1x512x128 .bf16) (h : Fin 4) (hx : pick x0 x1 x2 x3 h = x) (y : S1x512x128.Idx) :
    shapeCast S1x512x128 (shapeCast S512x128 (View.readAt (Elt Ideal) m.view (Rect.unit (s := S1x512x128) ![0, 0, 0] S1x512x128.size inb_S1x512x128_S1x512x128_0_0_0).toLoadRect (hm.unread x)) shapeCasts_S1x512x128_S512x128) shapeCasts_S512x128_S1x512x128 y
      = (fun y : S4x512x128.Idx => pick x0 x1 x2 x3 (y 0) (ix3 0 (y 1) (y 2))) ((Rect.unit (s := S4x512x128) ![h.val, 0, 0] S1x512x128.size (inside_head h)).emb y) := by
  have e : ∀ G : S1x512x128.Idx → Ideal .bf16, ∀ y : S1x512x128.Idx, shapeCast S1x512x128 (shapeCast S512x128 G shapeCasts_S1x512x128_S512x128) shapeCasts_S512x128_S1x512x128 y = G (ix3 0 (y 1) (y 2)) := by
    intro G y
    idx_vars y
    pointwise
    obtain rfl : y0 = 0 := Subsingleton.elim _ _
    rfl
  refine (e _ y).trans ((whole1 m hm x (y 1) (y 2)).trans ?_)
  have e0 : (Rect.unit (s := S4x512x128) ![h.val, 0, 0] S1x512x128.size (inside_head h)).emb y = ix3 h (y 1) (y 2) := by
    refine funext fun k => Fin.ext ?_
    rw [ValueKit.rect_emb_unit_val]
    fin_cases k
    · show h.val + (y 0).val = h.val
      have : (y 0).val < 1 := (y 0).isLt
      omega
    · show 0 + (y 1).val = (y 1).val
      omega
    · show 0 + (y 2).val = (y 2).val
      omega
  rw [e0]
  show x _ = pick x0 x1 x2 x3 h _
  rw [hx]
  rfl

theorem queries_apply (m : Memref sig .tc .vmem S4x512x128 .bf16) (h : Fin 4) (r : Fin 512) (l : Fin 128) :
    m.view.read (Elt Ideal) (m.view.writes (Elt Ideal) m.view.junk (kernelRun0_B.sl.HS0_4 c arg4 harg4 arg5 harg5 arg6 harg6 arg7 harg7 x0 x1 x2 x3)) (ix3 h r l)
      = pick x0 x1 x2 x3 h (ix3 0 r l) := by
  refine View.read_writes_apply_of_pieces m.view m.view.junk (fun y : S4x512x128.Idx => pick x0 x1 x2 x3 (y 0) (ix3 0 (y 1) (y 2))) _ ?_ (ix3 h r l)
    (View.cover_of_tiledL (kernelRun0_B.sl.HS0_4 c arg4 harg4 arg5 harg5 arg6 harg6 arg7 harg7 x0 x1 x2 x3) S1x512x128.size (by rfl) _)
  intro p hp
  rcases List.mem_cons.1 hp with rfl | hp
  · exact fun y => stored_head x0 x1 x2 x3 arg7 harg7 x3 3 rfl y
  rcases List.mem_cons.1 hp with rfl | hp
  · exact fun y => stored_head x0 x1 x2 x3 arg6 harg6 x2 2 rfl y
  rcases List.mem_cons.1 hp with rfl | hp
  · exact fun y => stored_head x0 x1 x2 x3 arg5 harg5 x1 1 rfl y
  rcases List.mem_cons.1 hp with rfl | hp
  · exact fun y => stored_head x0 x1 x2 x3 arg4 harg4 x0 0 rfl y
  exact absurd hp List.not_mem_nil

theorem keys_read (arg8 : Memref sig .tc .vmem S1x512x128 .bf16) (harg8 : arg8.IsWhole) (x4 : Vec Ideal S1x512x128 .bf16) (m : Memref sig .tc .vmem S512x128 .bf16) (r : Fin 512) (l : Fin 128) :
    m.view.read (Elt Ideal) (m.view.writes (Elt Ideal) m.view.junk (kernelRun0_B.sl.HS1_1 c arg8 harg8 x4)) (ix2 r l) = x4 (ix3 0 r l) := by
  refine View.read_writes_apply_of_pieces m.view m.view.junk (fun y : S512x128.Idx => x4 (ix3 0 (y 0) (y 1))) _ ?_ (ix2 r l)
    (View.cover_of_tiledL (kernelRun0_B.sl.HS1_1 c arg8 harg8 x4) S512x128.size (by rfl) _)
  intro p hp
  rcases List.mem_cons.1 hp with rfl | hp
  · intro y
    have e : ∀ G : S1x512x128.Idx → Ideal .bf16, ∀ y : S512x128.Idx, k0_pay11 G y = G (ix3 0 (y 0) (y 1)) := by
      intro G y
      idx_vars y
      pointwise [k0_pay11]
    refine (e _ y).trans ((whole1 arg8 harg8 x4 (y 0) (y 1)).trans ?_)
    refine congrArg x4 (funext fun k => Fin.ext ?_)
    fin_cases k
    · rfl
    · show (y 0).val = 0 + 1 * (y 0).val
      omega
    · show (y 1).val = 0 + 1 * (y 1).val
      omega
  exact absurd hp List.not_mem_nil

end Queries

section Codes

variable (m : Memref sig .tc .vmem S1x512x128 .bf16) (h : m.IsWhole) (x : Vec Ideal S1x512x128 .bf16)

/-- The first sixty-four columns. -/
def first : IVec S32x128 1 := cmpi .slt (iota .tc S32x128 32 [1] iota_S32x128_d1_w32) (broadcast S32x128 64#32)

/-- The codes of 128 rows from row `o`, transposed. -/
def turned (w : FVec Ideal S16x128 .bf16) (o : Nat) (ho : o + 128 ≤ 512) : FVec Ideal S128x128 .fp8e4m3 :=
  truncf .fp8e4m3 (transpose S128x128 [1, 0] (clip128 m h x w o ho) transposes_S128x128_p1_0_S128x128) bitsLt_fp8e4m3_bf16

theorem slices_cut (i : Fin 4) : S128x128.Slices (![32 * i.val, 0] : Fin 2 → Nat) S32x128 :=
  match i with
  | ⟨0, _⟩ => slices_S128x128_o0_0_S32x128
  | ⟨1, _⟩ => slices_S128x128_o32_0_S32x128
  | ⟨2, _⟩ => slices_S128x128_o64_0_S32x128
  | ⟨3, _⟩ => slices_S128x128_o96_0_S32x128

/-- Thirty-two rows of a transposed array, as they are or turned by half a row. -/
def cut (T : FVec Ideal S128x128 .fp8e4m3) (i : Fin 4) (b : Fin 2) : FVec Ideal S32x128 .fp8e4m3 :=
  match b with
  | ⟨0, _⟩ => extractStridedSlice S32x128 (![32 * i.val, 0] : Fin 2 → Nat) T (slices_cut i)
  | ⟨1, _⟩ => dynamicRotate 1 64#32 none (extractStridedSlice S32x128 (![32 * i.val, 0] : Fin 2 → Nat) T (slices_cut i)) rotates_S32x128_d1

theorem inside_cut (p i : Fin 4) (b : Fin 2) (a : Fin 3) : (![2 * p.val + b.val, 32 * i.val, 0] : Fin 3 → Nat) a + S1x32x128.size a ≤ S8x128x128.size a := by
  fin_cases a
  · show 2 * p.val + b.val + 1 ≤ 8
    omega
  · show 32 * i.val + 32 ≤ 128
    omega
  · exact le_refl _

def zeros : FVec Ideal S32x128 .fp8e4m3 := broadcast S32x128 (Scalar.ofBits .fp8e4m3 0x00#8)

/-- The pieces of the left array of codes. -/
def left (T : Fin 4 → FVec Ideal S128x128 .fp8e4m3) (p i : Fin 4) (b : Fin 2) : View.Piece (Elt Ideal) S8x128x128 .fp8e4m3 :=
  ⟨Rect.unit (s := S8x128x128) ![2 * p.val + b.val, 32 * i.val, 0] S1x32x128.size (inside_cut p i b),
    shapeCast S1x32x128 (select first (cut (T p) i b) zeros) shapeCasts_S32x128_S1x32x128⟩

/-- The pieces of the right array of codes. -/
def right (T : Fin 4 → FVec Ideal S128x128 .fp8e4m3) (p i : Fin 4) (b : Fin 2) : View.Piece (Elt Ideal) S8x128x128 .fp8e4m3 :=
  ⟨Rect.unit (s := S8x128x128) ![2 * p.val + b.val, 32 * i.val, 0] S1x32x128.size (inside_cut p i b),
    shapeCast S1x32x128 (select first zeros (cut (T p) i (1 - b))) shapeCasts_S32x128_S1x32x128⟩

def all32 (P : Fin 4 → Fin 4 → Fin 2 → View.Piece (Elt Ideal) S8x128x128 .fp8e4m3) : List (View.Piece (Elt Ideal) S8x128x128 .fp8e4m3) :=
  [3, 2, 1, 0].flatMap fun p => [3, 2, 1, 0].flatMap fun i => [1, 0].map (P p i)

def four (w : FVec Ideal S16x128 .bf16) (p : Fin 4) : FVec Ideal S128x128 .fp8e4m3 := turned m h x w (128 * p.val) (by omega)

theorem left_eq (c : Dev nD) : kernelRun0_B.sl.HS2_32 c m h x = all32 (left (four m h x (kernelRun0_B.sl.v311 c m h x))) := rfl

theorem right_eq (c : Dev nD) : kernelRun0_B.sl.HS3_32 c m h x = all32 (right (four m h x (kernelRun0_B.sl.v311 c m h x))) := rfl

theorem first_apply (r : Fin 32) (l : Fin 128) : first (ix2 r l) = 1#1 ↔ l.val < 64 := by
  have e : first (ix2 r l) = IntOp.cmpi .slt (BitVec.ofNat 32 l.val) 64#32 := by
    unfold first
    pointwise
  rw [e]
  clear e r
  revert l
  decide +kernel

theorem turned_apply (c : Dev nD) (z : Fin 128 → ℤ) (hz : IsExpo x z) (o : Nat) (ho : o + 128 ≤ 512) (d r : Fin 128) :
    (show EReal from turned m h x (kernelRun0_B.sl.v311 c m h x) o ho (ix2 d r)) = code x z (ix4 0 0 ⟨o + r.val, by omega⟩ d) := by
  have e : turned m h x (kernelRun0_B.sl.v311 c m h x) o ho (ix2 d r) = clip128 m h x (kernelRun0_B.sl.v311 c m h x) o ho (ix2 r d) := by
    unfold turned
    generalize clip128 m h x (kernelRun0_B.sl.v311 c m h x) o ho = G
    pointwise
  refine (congrArg (fun q : EReal => q) e).trans ?_
  rw [clip128_apply, v311_apply m h x c _ d (z d) (hz.lo d) (hz.hi d) (hz.eq d)]
  rfl

theorem cut_zero (T : FVec Ideal S128x128 .fp8e4m3) (i : Fin 4) (r : Fin 32) (l : Fin 128) : cut T i 0 (ix2 r l) = T (ix2 ⟨32 * i.val + r.val, by omega⟩ l) := by
  show extractStridedSlice S32x128 (![32 * i.val, 0] : Fin 2 → Nat) T (slices_cut i) (ix2 r l) = _
  pointwise

theorem cut_one (T : FVec Ideal S128x128 .fp8e4m3) (i : Fin 4) (r : Fin 32) (l : Fin 128) : cut T i 1 (ix2 r l) = T (ix2 ⟨32 * i.val + r.val, by omega⟩ ⟨(l.val + 64) % 128, by omega⟩) := by
  show dynamicRotate 1 64#32 none (extractStridedSlice S32x128 (![32 * i.val, 0] : Fin 2 → Nat) T (slices_cut i)) rotates_S32x128_d1 (ix2 r l) = _
  pointwise
  refine congrArg T (funext fun a => Fin.ext ?_)
  fin_cases a
  · rfl
  · show (l.val + 128 - 64) % 128 = (l.val + 64) % 128
    omega

theorem cut_emb (p i : Fin 4) (b : Fin 2) (a : Fin 1) (r : Fin 32) (l : Fin 128) :
    (Rect.unit (s := S8x128x128) ![2 * p.val + b.val, 32 * i.val, 0] S1x32x128.size (inside_cut p i b)).emb (ix3 a r l) = ix3 ⟨2 * p.val + b.val, by omega⟩ ⟨32 * i.val + r.val, by omega⟩ l := by
  refine funext fun k => Fin.ext ?_
  rw [ValueKit.rect_emb_unit_val]
  fin_cases k
  · show 2 * p.val + b.val + a.val = 2 * p.val + b.val
    omega
  · rfl
  · show 0 + l.val = l.val
    omega

theorem cover32 (P : Fin 4 → Fin 4 → Fin 2 → View.Piece (Elt Ideal) S8x128x128 .fp8e4m3)
    (hP : ∀ p i b, (P p i b).1 = Rect.unit (s := S8x128x128) ![2 * p.val + b.val, 32 * i.val, 0] S1x32x128.size (inside_cut p i b)) (b : Fin 8) (d k : Fin 128) :
    ∃ p ∈ all32 P, (ix3 b d k : S8x128x128.Idx) ∈ p.1.set := by
  have m4 : ∀ q : Fin 4, q ∈ ([3, 2, 1, 0] : List (Fin 4)) := by decide
  have m2 : ∀ q : Fin 2, q ∈ ([1, 0] : List (Fin 2)) := by decide
  refine ⟨P ⟨b.val / 2, by omega⟩ ⟨d.val / 32, by omega⟩ ⟨b.val % 2, by omega⟩, List.mem_flatMap.2 ⟨_, m4 _, List.mem_flatMap.2 ⟨_, m4 _, List.mem_map.2 ⟨_, m2 _, rfl⟩⟩⟩, ?_⟩
  rw [hP]
  refine Rect.mem_set_unit.2 fun a => ?_
  fin_cases a
  · show 2 * (b.val / 2) + b.val % 2 ≤ b.val ∧ b.val < 2 * (b.val / 2) + b.val % 2 + 1
    omega
  · show 32 * (d.val / 32) ≤ d.val ∧ d.val < 32 * (d.val / 32) + 32
    omega
  · show 0 ≤ k.val ∧ k.val < 0 + 128
    omega

theorem mem32 (P : Fin 4 → Fin 4 → Fin 2 → View.Piece (Elt Ideal) S8x128x128 .fp8e4m3) (q) (hq : q ∈ all32 P) : ∃ p i b, q = P p i b := by
  obtain ⟨p, -, hq⟩ := List.mem_flatMap.1 hq
  obtain ⟨i, -, hq⟩ := List.mem_flatMap.1 hq
  obtain ⟨b, -, rfl⟩ := List.mem_map.1 hq
  exact ⟨p, i, b, rfl⟩

theorem zeros_apply (i : S32x128.Idx) : (show EReal from zeros i) = 0 := by
  simp [zeros, broadcast, Scalar.ofBits, Ideal.ofBits, Ideal.e4m3fn]

/-- The left array's contents. -/
def leftG (V : Fin 512 → Fin 128 → EReal) (y : S8x128x128.Idx) : EReal :=
  if hk : (show Fin 128 from y 2).val < 64 then V ⟨(show Fin 8 from y 0).val * 64 + (show Fin 128 from y 2).val, by have := (show Fin 8 from y 0).isLt; omega⟩ (y 1) else 0

/-- The right array's contents. -/
def rightG (V : Fin 512 → Fin 128 → EReal) (y : S8x128x128.Idx) : EReal :=
  if hk : (show Fin 128 from y 2).val < 64 then 0 else V ⟨(show Fin 8 from y 0).val * 64 + ((show Fin 128 from y 2).val - 64), by have := (show Fin 8 from y 0).isLt; have := (show Fin 128 from y 2).isLt; omega⟩ (y 1)

theorem left_read (c : Dev nD) (z : Fin 128 → ℤ) (hz : IsExpo x z) (M : Memref sig .tc .vmem S8x128x128 .fp8e4m3) (b : Fin 8) (d k : Fin 128) :
    (show EReal from M.view.read (Elt Ideal) (M.view.writes (Elt Ideal) M.view.junk (kernelRun0_B.sl.HS2_32 c m h x)) (ix3 b d k)) = leftG (fun k d => code x z (ix4 0 0 k d)) (ix3 b d k) := by
  rw [left_eq]
  refine View.read_writes_apply_of_pieces M.view M.view.junk (leftG fun k d => code x z (ix4 0 0 k d)) _ ?_ (ix3 b d k)
    (cover32 (left (four m h x (kernelRun0_B.sl.v311 c m h x))) (fun _ _ _ => rfl) b d k)
  intro q hq
  obtain ⟨p, i, b, rfl⟩ := mem32 _ q hq
  intro y
  obtain ⟨a, r, l, rfl⟩ : ∃ a r l, y = ix3 a r l := ⟨y 0, y 1, y 2, by funext k; fin_cases k <;> rfl⟩
  have e : ∀ G : FVec Ideal S32x128 .fp8e4m3, shapeCast S1x32x128 (select first G zeros) shapeCasts_S32x128_S1x32x128 (ix3 a r l) = Scalar.select (first (ix2 r l)) (G (ix2 r l)) (zeros (ix2 r l)) := by
    intro G
    generalize first = f
    generalize zeros = g
    pointwise
  refine (e _).trans ?_
  refine Eq.trans ?_ (congrArg (leftG fun k d => code x z (ix4 0 0 k d)) (cut_emb p i b a r l)).symm
  unfold leftG
  by_cases hl : l.val < 64
  · refine (if_pos ((first_apply r l).2 hl)).trans ?_
    refine Eq.trans ?_ (dif_pos hl).symm
    match b with
    | ⟨0, _⟩ =>
      refine (cut_zero _ i r l).trans ((turned_apply m h x c z hz _ _ _ l).trans ?_)
      refine congrArg (fun q => code x z (ix4 0 0 q _)) (Fin.ext ?_)
      show 128 * p.val + l.val = (2 * p.val + 0) * 64 + l.val
      omega
    | ⟨1, _⟩ =>
      refine (cut_one _ i r l).trans ((turned_apply m h x c z hz _ _ _ _).trans ?_)
      refine congrArg (fun q => code x z (ix4 0 0 q _)) (Fin.ext ?_)
      show 128 * p.val + (l.val + 64) % 128 = (2 * p.val + 1) * 64 + l.val
      omega
  · refine (if_neg (fun H => hl ((first_apply r l).1 H))).trans ?_
    refine Eq.trans ?_ (dif_neg hl).symm
    exact zeros_apply _

theorem right_read (c : Dev nD) (z : Fin 128 → ℤ) (hz : IsExpo x z) (M : Memref sig .tc .vmem S8x128x128 .fp8e4m3) (b : Fin 8) (d k : Fin 128) :
    (show EReal from M.view.read (Elt Ideal) (M.view.writes (Elt Ideal) M.view.junk (kernelRun0_B.sl.HS3_32 c m h x)) (ix3 b d k)) = rightG (fun k d => code x z (ix4 0 0 k d)) (ix3 b d k) := by
  rw [right_eq]
  refine View.read_writes_apply_of_pieces M.view M.view.junk (rightG fun k d => code x z (ix4 0 0 k d)) _ ?_ (ix3 b d k)
    (cover32 (right (four m h x (kernelRun0_B.sl.v311 c m h x))) (fun _ _ _ => rfl) b d k)
  intro q hq
  obtain ⟨p, i, b, rfl⟩ := mem32 _ q hq
  intro y
  obtain ⟨a, r, l, rfl⟩ : ∃ a r l, y = ix3 a r l := ⟨y 0, y 1, y 2, by funext k; fin_cases k <;> rfl⟩
  have e : ∀ G : FVec Ideal S32x128 .fp8e4m3, shapeCast S1x32x128 (select first zeros G) shapeCasts_S32x128_S1x32x128 (ix3 a r l) = Scalar.select (first (ix2 r l)) (zeros (ix2 r l)) (G (ix2 r l)) := by
    intro G
    generalize first = f
    generalize zeros = g
    pointwise
  refine (e _).trans ?_
  refine Eq.trans ?_ (congrArg (rightG fun k d => code x z (ix4 0 0 k d)) (cut_emb p i b a r l)).symm
  unfold rightG
  by_cases hl : l.val < 64
  · refine (if_pos ((first_apply r l).2 hl)).trans ?_
    refine Eq.trans ?_ (dif_pos hl).symm
    exact zeros_apply _
  · refine (if_neg (fun H => hl ((first_apply r l).1 H))).trans ?_
    refine Eq.trans ?_ (dif_neg hl).symm
    match b with
    | ⟨0, _⟩ =>
      refine (cut_one _ i r l).trans ((turned_apply m h x c z hz _ _ _ _).trans ?_)
      refine congrArg (fun q => code x z (ix4 0 0 q _)) (Fin.ext ?_)
      show 128 * p.val + (l.val + 64) % 128 = (2 * p.val + 0) * 64 + (l.val - 64)
      omega
    | ⟨1, _⟩ =>
      refine (cut_zero _ i r l).trans ((turned_apply m h x c z hz _ _ _ l).trans ?_)
      refine congrArg (fun q => code x z (ix4 0 0 q _)) (Fin.ext ?_)
      show 128 * p.val + l.val = (2 * p.val + 1) * 64 + (l.val - 64)
      omega

/-- The two arrays hold the codes of the values. -/
theorem isCodes (c : Dev nD) (z : Fin 128 → ℤ) (hz : IsExpo x z) (M15 M16 : Memref sig .tc .vmem S8x128x128 .fp8e4m3) :
    IsCodes (M15.view.read (Elt Ideal) (M15.view.writes (Elt Ideal) M15.view.junk (kernelRun0_B.sl.HS2_32 c m h x)))
      (M16.view.read (Elt Ideal) (M16.view.writes (Elt Ideal) M16.view.junk (kernelRun0_B.sl.HS3_32 c m h x))) (fun k d => code x z (ix4 0 0 k d)) := by
  refine ⟨fun b d k => (left_read m h x c z hz M15 b d _).trans ?_, fun b d k => (right_read m h x c z hz M16 b d _).trans ?_⟩
  · exact dif_pos k.isLt
  · refine (dif_neg (show ¬ 64 + k.val < 64 by omega)).trans ?_
    refine congrArg (fun q => code x z (ix4 0 0 q d)) (Fin.ext ?_)
    show b.val * 64 + (64 + k.val - 64) = b.val * 64 + k.val
    omega

/-- The scale of the values' codes, as the body applies it. -/
theorem scale_apply (c : Dev nD) (z : Fin 128 → ℤ) (hz : IsExpo x z) (d : Fin 128) :
    (show EReal from kernelRun0_B.sl.v1010 c m h x (ix2 0 d)) = (((2 : ℝ) ^ z d : ℝ) : EReal) := by
  have e293 : kernelRun0_B.sl.v293 c m h x (ix2 0 d) = BitVec.ofInt 32 (z d) := by
    rw [v293_eq, vexpo_apply, v214_apply, hz.eq]
  have e : ∀ E : IVec S8x128 32, extractStridedSlice S1x128 ![0, 0] (bitcastToFloat (F := Ideal) .f32 (shli (addi E (broadcast S8x128 127#32)) (broadcast S8x128 23#32))) slices_S8x128_o0_0_S1x128 (ix2 0 d)
      = Ideal.ofBits .f32 (IntOp.shli .vector (IntOp.addi (E (ix2 0 d)) 127#32) 23#32) := by
    intro E
    pointwise
  refine (congrArg (fun q : EReal => q) (e (kernelRun0_B.sl.v293 c m h x))).trans ?_
  rw [e293]
  exact Scale.pow2_word (z d) (hz.lo d) (by have := hz.hi d; omega)

end Codes

section Masks

theorem mask_const : (Named.named κ "mask" 0xF149F2CA#32 : Ideal .f32) = (⊥ : EReal) := rfl

/-- The mask rows of the keys: none, the diagonal, all. -/
def keyMask (y : S3x64x128.Idx) : EReal :=
  if (y 0).val = 0 then 0 else if (y 0).val = 1 then (if (y 1).val = (y 2).val then 1 else 0) else (if (y 2).val = 64 then ⊥ else 0)

/-- The mask columns of the queries. -/
def queryMask (y : S256x128.Idx) : EReal :=
  if (y 1).val = 64 then 1 else if (y 1).val < 64 ∧ (y 0).val % 64 < (y 1).val then ⊥ else 0

theorem eq_small (a b : Nat) (ha : a < 128) (hb : b < 128) : (IntOp.cmpi .eq (BitVec.ofNat 32 a) (BitVec.ofNat 32 b) = 1#1) ↔ a = b := by
  rw [show IntOp.cmpi .eq (BitVec.ofNat 32 a) (BitVec.ofNat 32 b) = BitVec.ofBool (BitVec.ofNat 32 a == BitVec.ofNat 32 b) from rfl]
  rw [show (1#1 : BitVec 1) = BitVec.ofBool true from rfl, BitVec.ofBool_eq_iff_eq, beq_iff_eq]
  refine ⟨fun H => ?_, fun H => by rw [H]⟩
  have := congrArg BitVec.toNat H
  simp only [BitVec.toNat_ofNat] at this
  omega

theorem pay3_apply (a : Fin 1) (r : Fin 64) (l : Fin 128) : (show EReal from (k0_pay3 (F := Ideal)) (ix3 a r l)) = 0 := by
  simp [k0_pay3, Idealize.ShloMosaic.shapeCast, broadcast, Scalar.ofBits, Ideal.ofBits, Ideal.ieee]

theorem sel (c : BitVec 1) (p : Prop) [Decidable p] (h : c = 1#1 ↔ p) (a b : EReal) : Scalar.select c a b = if p then a else b := by
  unfold Scalar.select
  exact if_congr h rfl rfl

theorem lt_small (a b : Nat) (ha : a < 128) (hb : b < 128) : (IntOp.cmpi .slt (BitVec.ofNat 32 a) (BitVec.ofNat 32 b) = 1#1) ↔ a < b := by
  rw [show IntOp.cmpi .slt (BitVec.ofNat 32 a) (BitVec.ofNat 32 b) = BitVec.ofBool ((BitVec.ofNat 32 a).slt (BitVec.ofNat 32 b)) from rfl]
  rw [show (1#1 : BitVec 1) = BitVec.ofBool true from rfl, BitVec.ofBool_eq_iff_eq, BitVec.slt_eq_decide, decide_eq_true_iff, BitVec.toInt_eq_toNat_of_lt, BitVec.toInt_eq_toNat_of_lt, BitVec.toNat_ofNat, BitVec.toNat_ofNat]
  · omega
  · simp only [BitVec.toNat_ofNat]
    omega
  · simp only [BitVec.toNat_ofNat]
    omega

theorem gt_small (a b : Nat) (ha : a < 128) (hb : b < 128) : (IntOp.cmpi .sgt (BitVec.ofNat 32 a) (BitVec.ofNat 32 b) = 1#1) ↔ b < a :=
  lt_small b a hb ha

theorem and_one (a b : BitVec 1) (p q : Prop) (ha : a = 1#1 ↔ p) (hb : b = 1#1 ↔ q) : IntOp.andi a b = 1#1 ↔ p ∧ q := by
  rw [← ha, ← hb]
  clear ha hb
  revert a b
  decide

theorem pay4_apply (a : Fin 1) (r : Fin 64) (l : Fin 128) : (show EReal from (k0_pay4 (F := Ideal)) (ix3 a r l)) = if r.val = l.val then 1 else 0 := by
  have e : (show EReal from (k0_pay4 (F := Ideal)) (ix3 a r l)) = Scalar.select (IntOp.cmpi .eq (BitVec.ofNat 32 r.val) (BitVec.ofNat 32 l.val)) 1 0 := by
    pointwise [k0_pay4]
  rw [e, sel _ _ (eq_small r.val l.val (by omega) l.isLt)]

theorem pay5_apply (a : Fin 1) (r : Fin 64) (l : Fin 128) : (show EReal from (k0_pay5 (F := Ideal)) (ix3 a r l)) = if l.val = 64 then ⊥ else 0 := by
  have e : (show EReal from (k0_pay5 (F := Ideal)) (ix3 a r l)) = Scalar.select (IntOp.cmpi .eq (BitVec.ofNat 32 l.val) 64#32) (Named.named κ "mask" 0xF149F2CA#32 : Ideal .f32) 0 := by
    pointwise [k0_pay5]
  rw [e, sel _ _ (eq_small l.val 64 l.isLt (by omega)), mask_const]

theorem pay6_apply (r : Fin 64) (l : Fin 128) : (show EReal from (k0_pay6 (F := Ideal)) (ix2 r l)) = if l.val = 64 then 1 else if l.val < 64 ∧ r.val < l.val then ⊥ else 0 := by
  have e : (show EReal from (k0_pay6 (F := Ideal)) (ix2 r l)) = Scalar.select (IntOp.cmpi .eq (BitVec.ofNat 32 l.val) 64#32) 1
      (Scalar.select (IntOp.andi (IntOp.cmpi .slt (BitVec.ofNat 32 l.val) 64#32) (IntOp.cmpi .sgt (BitVec.ofNat 32 l.val) (BitVec.ofNat 32 r.val))) (Named.named κ "mask" 0xF149F2CA#32 : Ideal .f32) 0) := by
    pointwise [k0_pay6]
  rw [e, sel _ _ (eq_small l.val 64 l.isLt (by omega)), sel _ _ (and_one _ _ _ _ (lt_small l.val 64 l.isLt (by omega)) (gt_small l.val r.val l.isLt (by omega))), mask_const]

theorem pays (f : FVec Ideal S64x128 .bf16) : k0_pay7 f = f ∧ k0_pay8 f = f ∧ k0_pay9 f = f ∧ k0_pay10 f = f := by
  have e : shapeCast S64x128 f shapeCasts_S64x128_S64x128 = f := by
    funext y
    idx_vars y
    pointwise
  exact ⟨e, e, e, e⟩

theorem emb3 (o : Nat) (ho) (a : Fin 1) (r : Fin 64) (l : Fin 128) (h : o < 3) :
    (Rect.unit (s := S3x64x128) ![o, 0, 0] S1x64x128.size ho).emb (ix3 a r l) = ix3 ⟨o, h⟩ r l := by
  refine funext fun k => Fin.ext ?_
  rw [ValueKit.rect_emb_unit_val]
  fin_cases k
  · show o + a.val = o
    omega
  · show 0 + r.val = r.val
    omega
  · show 0 + l.val = l.val
    omega

theorem emb2 (o : Nat) (ho) (r : Fin 64) (l : Fin 128) (h : o + 64 ≤ 256) :
    (Rect.unit (s := S256x128) ![o, 0] S64x128.size ho).emb (ix2 r l) = ix2 ⟨o + r.val, by omega⟩ l := by
  refine funext fun k => Fin.ext ?_
  rw [ValueKit.rect_emb_unit_val]
  fin_cases k
  · rfl
  · show 0 + l.val = l.val
    omega

/-- What the first point of a core's share writes into the two mask arrays. -/
theorem isMask (M17 : Memref sig .tc .vmem S3x64x128 .bf16) (M18 : Memref sig .tc .vmem S256x128 .bf16) (f17 f18) :
    IsMask (M17.view.read (Elt Ideal) (M17.view.writes (Elt Ideal) f17 kernelRun0_A.sl.HS4_3)) (M18.view.read (Elt Ideal) (M18.view.writes (Elt Ideal) f18 kernelRun0_A.sl.HS5_4)) := by
  have k3 : ∀ y : S3x64x128.Idx, M17.view.read (Elt Ideal) (M17.view.writes (Elt Ideal) f17 kernelRun0_A.sl.HS4_3) y = keyMask y := by
    intro y
    refine View.read_writes_apply_of_pieces M17.view f17 keyMask _ ?_ y (View.cover_of_tiledL (kernelRun0_A.sl.HS4_3 (F := Ideal)) S1x64x128.size (by rfl) _)
    intro p hp
    rcases List.mem_cons.1 hp with rfl | hp
    · intro y
      obtain ⟨a, r, l, rfl⟩ : ∃ (a : Fin 1) (r : Fin 64) (l : Fin 128), y = ix3 a r l := ⟨y 0, y 1, y 2, by funext k; fin_cases k <;> rfl⟩
      exact (pay5_apply a r l).trans (congrArg keyMask (emb3 2 inb_S3x64x128_S1x64x128_2_0_0 a r l (by omega))).symm
    rcases List.mem_cons.1 hp with rfl | hp
    · intro y
      obtain ⟨a, r, l, rfl⟩ : ∃ (a : Fin 1) (r : Fin 64) (l : Fin 128), y = ix3 a r l := ⟨y 0, y 1, y 2, by funext k; fin_cases k <;> rfl⟩
      exact (pay4_apply a r l).trans (congrArg keyMask (emb3 1 inb_S3x64x128_S1x64x128_1_0_0 a r l (by omega))).symm
    rcases List.mem_cons.1 hp with rfl | hp
    · intro y
      obtain ⟨a, r, l, rfl⟩ : ∃ (a : Fin 1) (r : Fin 64) (l : Fin 128), y = ix3 a r l := ⟨y 0, y 1, y 2, by funext k; fin_cases k <;> rfl⟩
      exact (pay3_apply a r l).trans (congrArg keyMask (emb3 0 inb_S3x64x128_S1x64x128_0_0_0 a r l (by omega))).symm
    exact absurd hp List.not_mem_nil
  have piece : ∀ (o : Nat) (h : o + 64 ≤ 256) (ho) (r : Fin 64) (l : Fin 128), o % 64 = 0 →
      (show EReal from (k0_pay6 (F := Ideal)) (ix2 r l)) = queryMask ((Rect.unit (s := S256x128) ![o, 0] S64x128.size ho).emb (ix2 r l)) := by
    intro o h ho r l hm
    refine (pay6_apply r l).trans (Eq.trans ?_ (congrArg queryMask (emb2 o ho r l h)).symm)
    show _ = if l.val = 64 then 1 else if l.val < 64 ∧ (o + r.val) % 64 < l.val then ⊥ else 0
    rw [show (o + r.val) % 64 = r.val by omega]
  have q4 : ∀ y : S256x128.Idx, M18.view.read (Elt Ideal) (M18.view.writes (Elt Ideal) f18 kernelRun0_A.sl.HS5_4) y = queryMask y := by
    intro y
    refine View.read_writes_apply_of_pieces M18.view f18 queryMask _ ?_ y (View.cover_of_tiledL (kernelRun0_A.sl.HS5_4 (F := Ideal)) S64x128.size (by rfl) _)
    obtain ⟨e7, e8, e9, e10⟩ := pays (k0_pay6 (F := Ideal))
    intro p hp
    rcases List.mem_cons.1 hp with rfl | hp
    · intro y
      obtain ⟨r, l, rfl⟩ : ∃ (r : Fin 64) (l : Fin 128), y = ix2 r l := ⟨y 0, y 1, by funext k; fin_cases k <;> rfl⟩
      exact (congrFun e10 _).trans (piece 192 (by omega) inb_S256x128_S64x128_192_0 r l rfl)
    rcases List.mem_cons.1 hp with rfl | hp
    · intro y
      obtain ⟨r, l, rfl⟩ : ∃ (r : Fin 64) (l : Fin 128), y = ix2 r l := ⟨y 0, y 1, by funext k; fin_cases k <;> rfl⟩
      exact (congrFun e9 _).trans (piece 128 (by omega) inb_S256x128_S64x128_128_0 r l rfl)
    rcases List.mem_cons.1 hp with rfl | hp
    · intro y
      obtain ⟨r, l, rfl⟩ : ∃ (r : Fin 64) (l : Fin 128), y = ix2 r l := ⟨y 0, y 1, by funext k; fin_cases k <;> rfl⟩
      exact (congrFun e8 _).trans (piece 64 (by omega) inb_S256x128_S64x128_64_0 r l rfl)
    rcases List.mem_cons.1 hp with rfl | hp
    · intro y
      obtain ⟨r, l, rfl⟩ : ∃ (r : Fin 64) (l : Fin 128), y = ix2 r l := ⟨y 0, y 1, by funext k; fin_cases k <;> rfl⟩
      exact (congrFun e7 _).trans (piece 0 (by omega) inb_S256x128_S64x128_0_0 r l rfl)
    exact absurd hp List.not_mem_nil
  exact ⟨fun k a => k3 _, fun k a => k3 _, fun k a => k3 _, fun j a => q4 _⟩

end Masks

end Cert.KernelIdeal.Gen

end
-- ==== Proof.KernelIdeal.LinkA.lean ====
/- The pieces that the body leaves in the result's block where it makes its two masks first, as rows of the attention. -/
module

public import proofs.«01_k».proof.Proof.KernelIdeal.Blocks
public import proofs.«01_k».proof.Proof.KernelIdeal.Frame

@[expose] public section

set_option maxRecDepth 16384

noncomputable section

namespace Cert.KernelIdeal.Gen

open Idealize.ShloMosaic Idealize.ShloMosaic.TcCoe

variable (c : Dev nD) (i : grid0.Coords) (arg4 : Memref sig .tc .vmem S1x512x128 .bf16) (harg4 : arg4.IsWhole) (arg5 : Memref sig .tc .vmem S1x512x128 .bf16) (harg5 : arg5.IsWhole) (arg6 : Memref sig .tc .vmem S1x512x128 .bf16) (harg6 : arg6.IsWhole) (arg7 : Memref sig .tc .vmem S1x512x128 .bf16) (harg7 : arg7.IsWhole) (arg8 : Memref sig .tc .vmem S1x512x128 .bf16) (harg8 : arg8.IsWhole) (arg9 : Memref sig .tc .vmem S1x512x128 .bf16) (harg9 : arg9.IsWhole) (arg10 : Memref sig .tc .vmem S1x512x512 .bf16) (harg10 : arg10.IsWhole) (arg11 : Memref sig .tc .vmem S1x1x512x128 .fp8e4m3) (harg11 : arg11.IsWhole) (arg12 : Memref sig .tc .vmem S10x3x128 .f32) (harg12 : arg12.IsWhole) (arg13 : Memref sig .tc .vmem S4x512x128 .bf16) (harg13 : arg13.IsWhole) (arg14 : Memref sig .tc .vmem S512x128 .bf16) (harg14 : arg14.IsWhole) (arg15 : Memref sig .tc .vmem S8x128x128 .fp8e4m3) (harg15 : arg15.IsWhole) (arg16 : Memref sig .tc .vmem S8x128x128 .fp8e4m3) (harg16 : arg16.IsWhole) (arg17 : Memref sig .tc .vmem S3x64x128 .bf16) (harg17 : arg17.IsWhole) (arg18 : Memref sig .tc .vmem S256x128 .bf16) (harg18 : arg18.IsWhole) (hc0 : cond0_0 i)
  (x0 x1 x2 x3 x4 x5 : Vec Ideal S1x512x128 .bf16) (xt0 : TbBuf0 (F := Ideal) c tbM0_0) (xt1 : TbBuf0 (F := Ideal) c tbM0_1) (hw : HW c i xt0 xt1)

theorem list6_A (hx : ∀ (n : Fin 8) (t : Fin 6), (kept (word (tbM0_0.view.read (Elt Ideal) xt0) i) n t).toNat < 8) :
    (kernelRun0_A c i arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 xt0 xt1 hw).1
      = pieces6 fun n => result (arg13.view.read (Elt Ideal) (arg13.view.writes (Elt Ideal) arg13.view.junk (kernelRun0_A.sl.HS0_4 c arg4 harg4 arg5 harg5 arg6 harg6 arg7 harg7 x0 x1 x2 x3)))
          (arg14.view.read (Elt Ideal) (arg14.view.writes (Elt Ideal) arg14.view.junk (kernelRun0_A.sl.HS1_1 c arg8 harg8 x4)))
          (arg15.view.read (Elt Ideal) (arg15.view.writes (Elt Ideal) arg15.view.junk (kernelRun0_A.sl.HS2_32 c arg9 harg9 x5)))
          (arg16.view.read (Elt Ideal) (arg16.view.writes (Elt Ideal) arg16.view.junk (kernelRun0_A.sl.HS3_32 c arg9 harg9 x5)))
          (arg17.view.read (Elt Ideal) (arg17.view.writes (Elt Ideal) arg17.view.junk kernelRun0_A.sl.HS4_3)) (arg18.view.read (Elt Ideal) (arg18.view.writes (Elt Ideal) arg18.view.junk kernelRun0_A.sl.HS5_4))
          n (count (tbM0_1.view.read (Elt Ideal) xt1) i n) (kept (word (tbM0_0.view.read (Elt Ideal) xt0) i) n) (hx n) (kernelRun0_A.sl.v1010 c arg9 harg9 x5) := rfl

end Cert.KernelIdeal.Gen

end
-- ==== Proof.KernelIdeal.LinkB.lean ====
/- The pieces that the body leaves in the result's block where it finds its two masks made, as rows of the attention. -/
module

public import proofs.«01_k».proof.Proof.KernelIdeal.Blocks
public import proofs.«01_k».proof.Proof.KernelIdeal.Frame

@[expose] public section

set_option maxRecDepth 16384

noncomputable section

namespace Cert.KernelIdeal.Gen

open Idealize.ShloMosaic Idealize.ShloMosaic.TcCoe

variable (c : Dev nD) (i : grid0.Coords) (arg4 : Memref sig .tc .vmem S1x512x128 .bf16) (harg4 : arg4.IsWhole) (arg5 : Memref sig .tc .vmem S1x512x128 .bf16) (harg5 : arg5.IsWhole) (arg6 : Memref sig .tc .vmem S1x512x128 .bf16) (harg6 : arg6.IsWhole) (arg7 : Memref sig .tc .vmem S1x512x128 .bf16) (harg7 : arg7.IsWhole) (arg8 : Memref sig .tc .vmem S1x512x128 .bf16) (harg8 : arg8.IsWhole) (arg9 : Memref sig .tc .vmem S1x512x128 .bf16) (harg9 : arg9.IsWhole) (arg10 : Memref sig .tc .vmem S1x512x512 .bf16) (harg10 : arg10.IsWhole) (arg11 : Memref sig .tc .vmem S1x1x512x128 .fp8e4m3) (harg11 : arg11.IsWhole) (arg12 : Memref sig .tc .vmem S10x3x128 .f32) (harg12 : arg12.IsWhole) (arg13 : Memref sig .tc .vmem S4x512x128 .bf16) (harg13 : arg13.IsWhole) (arg14 : Memref sig .tc .vmem S512x128 .bf16) (harg14 : arg14.IsWhole) (arg15 : Memref sig .tc .vmem S8x128x128 .fp8e4m3) (harg15 : arg15.IsWhole) (arg16 : Memref sig .tc .vmem S8x128x128 .fp8e4m3) (harg16 : arg16.IsWhole) (arg17 : Memref sig .tc .vmem S3x64x128 .bf16) (harg17 : arg17.IsWhole) (arg18 : Memref sig .tc .vmem S256x128 .bf16) (harg18 : arg18.IsWhole) (hc0 : ¬cond0_0 i)
  (x0 x1 x2 x3 x4 x5 : Vec Ideal S1x512x128 .bf16) (xt0 : TbBuf0 (F := Ideal) c tbM0_0) (xt1 : TbBuf0 (F := Ideal) c tbM0_1) (xs4 : Vec Ideal S3x64x128 .bf16) (xs5 : Vec Ideal S256x128 .bf16) (hw : HW c i xt0 xt1)

theorem list6_B (hx : ∀ (n : Fin 8) (t : Fin 6), (kept (word (tbM0_0.view.read (Elt Ideal) xt0) i) n t).toNat < 8) :
    (kernelRun0_B c i arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 xt0 xt1 xs4 xs5 hw).1
      = pieces6 fun n => result (arg13.view.read (Elt Ideal) (arg13.view.writes (Elt Ideal) arg13.view.junk (kernelRun0_B.sl.HS0_4 c arg4 harg4 arg5 harg5 arg6 harg6 arg7 harg7 x0 x1 x2 x3)))
          (arg14.view.read (Elt Ideal) (arg14.view.writes (Elt Ideal) arg14.view.junk (kernelRun0_B.sl.HS1_1 c arg8 harg8 x4)))
          (arg15.view.read (Elt Ideal) (arg15.view.writes (Elt Ideal) arg15.view.junk (kernelRun0_B.sl.HS2_32 c arg9 harg9 x5)))
          (arg16.view.read (Elt Ideal) (arg16.view.writes (Elt Ideal) arg16.view.junk (kernelRun0_B.sl.HS3_32 c arg9 harg9 x5)))
          (arg17.view.read (Elt Ideal) (harg17.unread xs4)) (arg18.view.read (Elt Ideal) (harg18.unread xs5))
          n (count (tbM0_1.view.read (Elt Ideal) xt1) i n) (kept (word (tbM0_0.view.read (Elt Ideal) xt0) i) n) (hx n) (kernelRun0_B.sl.v1010 c arg9 harg9 x5) := rfl

end Cert.KernelIdeal.Gen

end
-- ==== Proof.KernelIdeal.ReadBack.lean ====
/- The array of the codes after the run, in terms of the arguments. -/
module

public import proofs.«01_k».proof.Proof.KernelIdeal.CodesV

@[expose] public section

set_option maxRecDepth 16384

noncomputable section

namespace Cert.KernelIdeal.Gen

open Idealize.ShloMosaic Idealize.ShloMosaic.TcCoe Idealize.SL.Sem

variable (m : (ℓ : Loc nD τ sig) → Buf (Elt Ideal) ℓ) (ρ : Dev nD → PrngReg)

/-- The values' argument on core `c`. -/
abbrev argV (c : Dev nD) : Vec Ideal S3x512x1280 .bf16 := m ((c.tc : Thread nD τ).loc main_arg2)

theorem coords_lt0 (t : Fin grid0.N) : ((grid0.coords t) 0).val < 3 := ((grid0.coords t) 0).isLt
theorem coords_lt1 (t : Fin grid0.N) : ((grid0.coords t) 1).val < 10 := ((grid0.coords t) 1).isLt

theorem index5 : ∀ t : Fin grid0.N, cc0_transform_5 (grid0.coords t) = ![((grid0.coords t) 0).val, 0, ((grid0.coords t) 1).val] := by
  decide +kernel
theorem index7 : ∀ t : Fin grid0.N, cc0_transform_7 (grid0.coords t) = ![((grid0.coords t) 0).val, ((grid0.coords t) 1).val, 0, 0] := by
  decide +kernel

/-- The values' block at a point. -/
theorem iblk5_apply (hO : Ok m) (c : Dev nD) (t : Fin (cfgM m hO).N) (r : Fin 512) (l : Fin 128) :
    (show Vec Ideal S1x512x128 .bf16 from iblk m hO c 5 t) (ix3 0 r l)
      = argV m c (ix3 ⟨((grid0.coords t) 0).val, coords_lt0 t⟩ r ⟨((grid0.coords t) 1).val * 128 + l.val, by have := coords_lt1 t; omega⟩) := by
  show V m c main_arg2 ((((cfgM m hO).win 5).blk t).view.emb (ix3 0 r l)) = _
  rw [V_main_arg2]
  refine congrArg (argV m c) (funext fun a => Fin.ext ?_)
  show (((((cfgM m hO).win 5).blk t).view.emb (ix3 0 r l) a : Fin _) : Nat) = _
  have e : ((cfgM m hO).win 5).index t = ![((grid0.coords t) 0).val, 0, ((grid0.coords t) 1).val] := index5 t
  blk_simp [e]
  fin_cases a
  · show ((grid0.coords t) 0).val * 1 + 0 = ((grid0.coords t) 0).val
    omega
  · show 0 * 512 + r.val = r.val
    omega
  · rfl

/-- The codes the array holds after the run, at the exponents `z`. -/
def codes (v : Vec Ideal S3x512x1280 .bf16) (z : Fin 3 → Fin 10 → Fin 128 → ℤ) : Vec Ideal S3x10x512x128 .fp8e4m3 := fun i =>
  min (Ideal.ofBits .f32 0x43E00000#32) (max (Ideal.ofBits .f32 0xC3E00000#32)
    ((show EReal from v (ix3 (i 0) (i 2) ⟨(show Fin 10 from i 1).val * 128 + (show Fin 128 from i 3).val, by
      have h1 := (show Fin 10 from i 1).isLt
      have h3 := (show Fin 128 from i 3).isLt
      omega⟩)) * (((2 : ℝ) ^ (-z (i 0) (i 1) (i 3)) : ℝ) : EReal)))

/-- The exponents of every column of the values. -/
def AllExpo (v : Vec Ideal S3x512x1280 .bf16) (z : Fin 3 → Fin 10 → Fin 128 → ℤ) : Prop :=
  ∀ b g l, -126 ≤ z b g l ∧ z b g l ≤ 126 ∧
    Scale.expo (Finset.fold max (Ideal.ofBits .f32 0xFF800000#32)
      (fun r : Fin 512 => Scale.mag (v (ix3 b r ⟨g.val * 128 + l.val, by omega⟩))) Finset.univ * Ideal.ofBits .f32 0x3B124925#32) = BitVec.ofInt 32 (z b g l)

theorem isExpo_iblk5 (hO : Ok m) (c : Dev nD) (z) (hz : AllExpo (argV m c) z) (t : Fin (cfgM m hO).N) :
    IsExpo (iblk m hO c 5 t) (z ⟨((grid0.coords t) 0).val, coords_lt0 t⟩ ⟨((grid0.coords t) 1).val, coords_lt1 t⟩) := by
  refine ⟨fun l => (hz _ _ l).1, fun l => (hz _ _ l).2.1, fun l => ?_⟩
  refine Eq.trans ?_ (hz ⟨((grid0.coords t) 0).val, coords_lt0 t⟩ ⟨((grid0.coords t) 1).val, coords_lt1 t⟩ l).2.2
  unfold amax
  refine congrArg (fun f => Scale.expo (Finset.fold max (Ideal.ofBits .f32 0xFF800000#32) f Finset.univ * Ideal.ofBits .f32 0x3B124925#32)) (funext fun r => ?_)
  exact congrArg Scale.mag (iblk5_apply m hO c t r l)

/-- What the body leaves in the codes' block at a point. -/
theorem after7_apply (hO : Ok m) (hH : Hyps m hO) (c : Dev nD) (z) (hz : AllExpo (argV m c) z) (t : Fin (cfgM m hO).N) (y : S1x1x512x128.Idx) :
    (dats m hO hH 0 c).after 7 t y
      = code (iblk m hO c 5 t) (z ⟨((grid0.coords t) 0).val, coords_lt0 t⟩ ⟨((grid0.coords t) 1).val, coords_lt1 t⟩) y := by
  rw [after0_7]
  by_cases h0 : t.val % 30 = 0
  · rw [outsAt0_A m hO hH c t h0]
    dsimp only
    exact out0_A_7_apply (z := _) (hz := isExpo_iblk5 m hO c z hz t) (y := y) ..
  · rw [outsAt0_B m hO hH c t h0]
    dsimp only
    exact out0_B_7_apply (z := _) (hz := isExpo_iblk5 m hO c z hz t) (y := y) ..

theorem onto : ∀ (b : Fin 3) (g : Fin 10), ∃ t : Fin grid0.N, ((grid0.coords t) 0).val = b.val ∧ ((grid0.coords t) 1).val = g.val := by
  decide +kernel

theorem exists_ix4 (y : S1x1x512x128.Idx) : ∃ (a b : Fin 1) (r : Fin 512) (l : Fin 128), y = ix4 a b r l :=
  ⟨y 0, y 1, y 2, y 3, by funext k; fin_cases k <;> rfl⟩

theorem covers7 (hO : Ok m) : ((cfgM m hO).win 7).Covers := by
  refine ⟨fun a => ?_, fun β => ?_⟩
  · fin_cases a <;> exact Nat.le_of_ble_eq_true rfl
  · let k (a : Fin 4) : Fin ((cfgM m hO).win 7).shape.rank := a
    have b0 : (β (k 0)).val < 3 := lt_of_lt_of_eq (β (k 0)).isLt (show (3 + 1 - 1) / 1 = 3 from rfl)
    have b1 : (β (k 1)).val < 10 := lt_of_lt_of_eq (β (k 1)).isLt (show (10 + 1 - 1) / 1 = 10 from rfl)
    have b2 : (β (k 2)).val < 1 := lt_of_lt_of_eq (β (k 2)).isLt (show (512 + 512 - 1) / 512 = 1 from rfl)
    have b3 : (β (k 3)).val < 1 := lt_of_lt_of_eq (β (k 3)).isLt (show (128 + 128 - 1) / 128 = 1 from rfl)
    obtain ⟨t, h0, h1⟩ := onto ⟨(β (k 0)).val, b0⟩ ⟨(β (k 1)).val, b1⟩
    refine ⟨t, flush0_7 _ t, fun a => ⟨?_, Or.inl rfl⟩⟩
    have e : ((cfgM m hO).win 7).index t = ![((grid0.coords t) 0).val, ((grid0.coords t) 1).val, 0, 0] := index7 t
    rw [e]
    fin_cases a
    · exact h0
    · exact h1
    · show 0 = (β (k 2)).val
      omega
    · show 0 = (β (k 3)).val
      omega

/-- The array of the codes after the run. -/
theorem arr7 (hO : Ok m) (hH : Hyps m hO) (c : Dev nD) (z) (hz : AllExpo (argV m c) z) :
    (dats m hO hH 0 c).arrAt 7 (cfgM m hO).N = codes (argV m c) z := by
  refine (dats m hO hH 0 c).arrAt_eq_of_covers 7 _ (covers7 m hO) fun t hf y => ?_
  have e : ((cfgM m hO).win 7).index t = ![((grid0.coords t) 0).val, ((grid0.coords t) 1).val, 0, 0] := index7 t
  have key : ∀ (a b : Fin 1) (r : Fin 512) (l : Fin 128),
      (show S3x10x512x128.Idx from (((cfgM m hO).win 7).blk t).view.emb (ix4 a b r l)) = ix4 ⟨((grid0.coords t) 0).val, coords_lt0 t⟩ ⟨((grid0.coords t) 1).val, coords_lt1 t⟩ r l := by
    intro a b r l
    refine funext fun k => Fin.ext ?_
    show (((((cfgM m hO).win 7).blk t).view.emb (ix4 a b r l) k : Fin _) : Nat) = _
    blk_simp [e]
    fin_cases k
    · show ((grid0.coords t) 0).val * 1 + a.val = ((grid0.coords t) 0).val
      omega
    · show ((grid0.coords t) 1).val * 1 + b.val = ((grid0.coords t) 1).val
      omega
    · show 0 * 512 + r.val = r.val
      omega
    · show 0 * 128 + l.val = l.val
      omega
  blk_simp
  refine (after7_apply m hO hH c z hz t y).trans ?_
  obtain ⟨a, b, r, l, rfl⟩ := exists_ix4 y
  refine Eq.trans ?_ (congrArg (codes (argV m c) z) (key a b r l)).symm
  unfold code codes
  refine congrArg (fun q : EReal => min (Ideal.ofBits .f32 0x43E00000#32) (max (Ideal.ofBits .f32 0xC3E00000#32)
    (q * (((2 : ℝ) ^ (-z ⟨((grid0.coords t) 0).val, coords_lt0 t⟩ ⟨((grid0.coords t) 1).val, coords_lt1 t⟩ l) : ℝ) : EReal)))) ?_
  exact iblk5_apply m hO c t r l

/-- The run leaves the codes in the result's array and the arguments unchanged. -/
theorem run_codes (hO : Ok m) (hH : Hyps m hO) (z : Dev nD → Fin 3 → Fin 10 → Fin 128 → ℤ) (hz : ∀ c, AllExpo (argV m c) (z c)) :
    θ_run defs (onTc (τ := τ) (main (F := Ideal))) ⟨m, fun _ => 0, ρ⟩ (fun r => ∀ c : Dev nD,
      r.2.mem ((c.tc : Thread nD τ).loc main_v2_1) = codes (argV m c) (z c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(((dats m hO hH 0 c).toRForget_arrAt_iff forgets0_7 _ _).1 ((h.1 c).1 7)).trans (arr7 m hO hH c (z c) (hz c)), h.2 c⟩)
    (θ_run_and (run_main m ρ hO hH) (unchanged m ρ hO hH))

end Cert.KernelIdeal.Gen

end
-- ==== Proof.KernelIdeal.Out.lean ====
/- What the body leaves in the result's block, and the result's array after the run, in terms of the arguments. -/
module

public import proofs.«01_k».proof.Proof.KernelIdeal.Scratch
public import proofs.«01_k».proof.Proof.KernelIdeal.LinkA
public import proofs.«01_k».proof.Proof.KernelIdeal.LinkB
public import proofs.«01_k».proof.Proof.KernelIdeal.ReadBack
public import proofs.«01_k».proof.Proof.KernelIdeal.Words

@[expose] public section

set_option maxRecDepth 16384

noncomputable section

namespace Cert.KernelIdeal.Gen

open Idealize.ShloMosaic Idealize.ShloMosaic.TcCoe Idealize.SL.Sem

/-- The score of a slot's key against a query, of a query block. -/
def score (x : Vec Ideal S1x512x128 .bf16) (y : Vec Ideal S1x512x128 .bf16) (n : Fin 8) (cnt : BitVec 32) (w : Fin 6 → BitVec 32) (hw : ∀ t, (w t).toNat < 8) (r : Fin 64) (k : Fin 384) : EReal :=
  if ¬ cnt.sle (BitVec.ofNat 32 (k.val / 64)) ∧ (w ⟨k.val / 64, by omega⟩).toNat * 64 + k.val % 64 ≤ 64 * n.val + r.val then
    ∑ a : Fin 128, (show EReal from y (ix3 0 ⟨(w ⟨k.val / 64, by omega⟩).toNat * 64 + k.val % 64, by have := hw ⟨k.val / 64, by omega⟩; omega⟩ a))
      * (show EReal from x (ix3 0 ⟨64 * n.val + r.val, by omega⟩ a))
  else ⊥

section Block

variable (x0 x1 x2 x3 x4 x5 : Vec Ideal S1x512x128 .bf16) (z : Fin 128 → ℤ) (cnt : Fin 8 → BitVec 32) (w : Fin 8 → Fin 6 → BitVec 32) (hw : ∀ n t, (w n t).toNat < 8)

/-- One element of the result's block: query block `n`, head `h`, row `r`, column `d`. -/
def cell (n : Fin 8) (h : Fin 4) (r : Fin 64) (d : Fin 128) : EReal :=
  Row.row (score (pick x0 x1 x2 x3 h) x4 n (cnt n) (w n) (hw n) r) (slotV (fun k d => code x5 z (ix4 0 0 k d)) (w n) (hw n) d) (((2 : ℝ) ^ z d : ℝ) : EReal)

/-- The result's block. -/
def cells (y : S1x512x512.Idx) : EReal :=
  cell x0 x1 x2 x3 x4 x5 z cnt w hw ⟨(y 1).val / 64, by have : (y 1).val < 512 := (y 1).isLt; omega⟩ ⟨(y 2).val / 128, by have : (y 2).val < 512 := (y 2).isLt; omega⟩
    ⟨(y 1).val % 64, Nat.mod_lt _ (by omega)⟩ ⟨(y 2).val % 128, Nat.mod_lt _ (by omega)⟩

theorem cells_at (n : Fin 8) (h : Fin 4) (r : Fin 64) (d : Fin 128) :
    cells x0 x1 x2 x3 x4 x5 z cnt w hw (ix3 0 ⟨64 * n.val + r.val, by omega⟩ ⟨128 * h.val + d.val, by omega⟩) = cell x0 x1 x2 x3 x4 x5 z cnt w hw n h r d := by
  unfold cells
  have e1 : (⟨(64 * n.val + r.val) / 64, by omega⟩ : Fin 8) = n := Fin.ext (show (64 * n.val + r.val) / 64 = n.val by omega)
  have e2 : (⟨(128 * h.val + d.val) / 128, by omega⟩ : Fin 4) = h := Fin.ext (show (128 * h.val + d.val) / 128 = h.val by omega)
  have e3 : (⟨(64 * n.val + r.val) % 64, by omega⟩ : Fin 64) = r := Fin.ext (show (64 * n.val + r.val) % 64 = r.val by omega)
  have e4 : (⟨(128 * h.val + d.val) % 128, by omega⟩ : Fin 128) = d := Fin.ext (show (128 * h.val + d.val) % 128 = d.val by omega)
  show cell x0 x1 x2 x3 x4 x5 z cnt w hw ⟨(64 * n.val + r.val) / 64, _⟩ ⟨(128 * h.val + d.val) / 128, _⟩ ⟨(64 * n.val + r.val) % 64, _⟩ ⟨(128 * h.val + d.val) % 128, _⟩ = _
  rw [e1, e2, e3, e4]

theorem pieces_cells (X13 : FVec Ideal S4x512x128 .bf16) (X14 : FVec Ideal S512x128 .bf16) (X15 X16 : FVec Ideal S8x128x128 .fp8e4m3) (X17 : FVec Ideal S3x64x128 .bf16) (X18 : FVec Ideal S256x128 .bf16)
    (vs : FVec Ideal S1x128 .bf16) (hq : ∀ h r l, X13 (ix3 h r l) = pick x0 x1 x2 x3 h (ix3 0 r l)) (hk : ∀ r l, X14 (ix2 r l) = x4 (ix3 0 r l)) (hm : IsMask X17 X18)
    (hV : IsCodes X15 X16 (fun k d => code x5 z (ix4 0 0 k d))) (hs : ∀ d, (show EReal from vs (ix2 0 d)) = (((2 : ℝ) ^ z d : ℝ) : EReal))
    (hc : ∀ n : Fin 8, n.val < 5 → (cnt n).sle (BitVec.ofNat 32 (n.val + 1)) = true) :
    ∀ p ∈ pieces6 (fun n => result X13 X14 X15 X16 X17 X18 n (cnt n) (w n) (hw n) vs), ∀ y, p.2 y = cells x0 x1 x2 x3 x4 x5 z cnt w hw (p.1.emb y) := by
  refine mem_pieces6 _ _ fun n h r d => ?_
  refine (result_apply X13 X14 X17 X18 hm hV n (cnt n) (hc n) (w n) (hw n) vs _ d).trans (Eq.trans ?_ (cells_at x0 x1 x2 x3 x4 x5 z cnt w hw n h r d).symm)
  unfold cell
  rw [show (vs (ix2 0 d) : EReal) = _ from hs d]
  refine congrArg (fun S => Row.row S _ _) (funext fun k => ?_)
  unfold sc score
  have e1 : (⟨(64 * h.val + r.val) / 64, by omega⟩ : Fin 4) = h := Fin.ext (show (64 * h.val + r.val) / 64 = h.val by omega)
  have e3 : (64 * h.val + r.val) % 64 = r.val := by omega
  simp only [e1, e3, hq, hk]

end Block

variable (c : Dev nD) (i : grid0.Coords) (arg4 : Memref sig .tc .vmem S1x512x128 .bf16) (harg4 : arg4.IsWhole) (arg5 : Memref sig .tc .vmem S1x512x128 .bf16) (harg5 : arg5.IsWhole) (arg6 : Memref sig .tc .vmem S1x512x128 .bf16) (harg6 : arg6.IsWhole) (arg7 : Memref sig .tc .vmem S1x512x128 .bf16) (harg7 : arg7.IsWhole) (arg8 : Memref sig .tc .vmem S1x512x128 .bf16) (harg8 : arg8.IsWhole) (arg9 : Memref sig .tc .vmem S1x512x128 .bf16) (harg9 : arg9.IsWhole) (arg10 : Memref sig .tc .vmem S1x512x512 .bf16) (harg10 : arg10.IsWhole) (arg11 : Memref sig .tc .vmem S1x1x512x128 .fp8e4m3) (harg11 : arg11.IsWhole) (arg12 : Memref sig .tc .vmem S10x3x128 .f32) (harg12 : arg12.IsWhole) (arg13 : Memref sig .tc .vmem S4x512x128 .bf16) (harg13 : arg13.IsWhole) (arg14 : Memref sig .tc .vmem S512x128 .bf16) (harg14 : arg14.IsWhole) (arg15 : Memref sig .tc .vmem S8x128x128 .fp8e4m3) (harg15 : arg15.IsWhole) (arg16 : Memref sig .tc .vmem S8x128x128 .fp8e4m3) (harg16 : arg16.IsWhole) (arg17 : Memref sig .tc .vmem S3x64x128 .bf16) (harg17 : arg17.IsWhole) (arg18 : Memref sig .tc .vmem S256x128 .bf16) (harg18 : arg18.IsWhole)
  (x0 x1 x2 x3 x4 x5 : Vec Ideal S1x512x128 .bf16) (xt0 : TbBuf0 (F := Ideal) c tbM0_0) (xt1 : TbBuf0 (F := Ideal) c tbM0_1)

theorem out0_B_6_apply (hc0 : ¬cond0_0 i) (xs4 : Vec Ideal S3x64x128 .bf16) (xs5 : Vec Ideal S256x128 .bf16) (hw : HW c i xt0 xt1) (z : Fin 128 → ℤ) (hz : IsExpo x5 z)
    (hx : ∀ (n : Fin 8) (t : Fin 6), (kept (word (tbM0_0.view.read (Elt Ideal) xt0) i) n t).toNat < 8)
    (hc : ∀ n : Fin 8, n.val < 5 → (count (tbM0_1.view.read (Elt Ideal) xt1) i n).sle (BitVec.ofNat 32 (n.val + 1)) = true)
    (hm : IsMask xs4 xs5) (y : S1x512x512.Idx) :
    out0_B_6 c i arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 xt0 xt1 xs4 xs5 hw y
      = cells x0 x1 x2 x3 x4 x5 z (count (tbM0_1.view.read (Elt Ideal) xt1) i) (kept (word (tbM0_0.view.read (Elt Ideal) xt0) i)) hx y := by
  refine View.read_writes_apply_of_pieces VO0_6 VO0_6.junk (cells x0 x1 x2 x3 x4 x5 z (count (tbM0_1.view.read (Elt Ideal) xt1) i) (kept (word (tbM0_0.view.read (Elt Ideal) xt0) i)) hx) _ ?_ y
    (cover0_B_6 c i arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 xt0 xt1 xs4 xs5 hw y)
  rw [list6_B c i arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 xt0 xt1 xs4 xs5 hw hx]
  refine pieces_cells x0 x1 x2 x3 x4 x5 z _ _ hx _ _ _ _ _ _ _ (queries_apply c arg4 harg4 arg5 harg5 arg6 harg6 arg7 harg7 x0 x1 x2 x3 arg13) (keys_read c arg8 harg8 x4 arg14) ?_
    (isCodes arg9 harg9 x5 c z hz arg15 arg16) (scale_apply arg9 harg9 x5 c z hz) hc
  rw [harg17.read_unread, harg18.read_unread]
  exact hm

theorem out0_A_6_apply (hc0 : cond0_0 i) (hw : HW c i xt0 xt1) (z : Fin 128 → ℤ) (hz : IsExpo x5 z)
    (hx : ∀ (n : Fin 8) (t : Fin 6), (kept (word (tbM0_0.view.read (Elt Ideal) xt0) i) n t).toNat < 8)
    (hc : ∀ n : Fin 8, n.val < 5 → (count (tbM0_1.view.read (Elt Ideal) xt1) i n).sle (BitVec.ofNat 32 (n.val + 1)) = true) (y : S1x512x512.Idx) :
    out0_A_6 c i arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 xt0 xt1 hw y
      = cells x0 x1 x2 x3 x4 x5 z (count (tbM0_1.view.read (Elt Ideal) xt1) i) (kept (word (tbM0_0.view.read (Elt Ideal) xt0) i)) hx y := by
  refine View.read_writes_apply_of_pieces VO0_6 VO0_6.junk (cells x0 x1 x2 x3 x4 x5 z (count (tbM0_1.view.read (Elt Ideal) xt1) i) (kept (word (tbM0_0.view.read (Elt Ideal) xt0) i)) hx) _ ?_ y
    (cover0_A_6 c i arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 xt0 xt1 hw y)
  rw [list6_A c i arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 xt0 xt1 hw hx]
  exact pieces_cells x0 x1 x2 x3 x4 x5 z _ _ hx _ _ _ _ _ _ _ (queries_apply c arg4 harg4 arg5 harg5 arg6 harg6 arg7 harg7 x0 x1 x2 x3 arg13) (keys_read c arg8 harg8 x4 arg14) (isMask arg17 arg18 _ _)
    (isCodes arg9 harg9 x5 c z hz arg15 arg16) (scale_apply arg9 harg9 x5 c z hz) hc

/-- The masks that case A leaves. -/
theorem sout0_A_mask (hc0 : cond0_0 i) (hw : HW c i xt0 xt1) :
    IsMask (sout0_A_4 c i arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 xt0 xt1 hw) (sout0_A_5 c i arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 xt0 xt1 hw) := by
  have h := isMask (Memref.whole cc0_scratch4) (Memref.whole cc0_scratch5) VS0_4.junk VS0_5.junk
  exact h

end Cert.KernelIdeal.Gen

end
-- ==== Proof.KernelIdeal.ReadOut.lean ====
/- The result's array after the run, in terms of the arguments. -/
module

public import proofs.«01_k».proof.Proof.KernelIdeal.Out

@[expose] public section

set_option maxRecDepth 16384

noncomputable section

namespace Cert.KernelIdeal.Gen

open Idealize.ShloMosaic Idealize.ShloMosaic.TcCoe Idealize.SL.Sem

section Spec

variable (x : Vec Ideal S3x512x5120 .bf16) (k v : Vec Ideal S3x512x1280 .bf16) (I : IVec S3x10x8x6 32) (C : IVec S3x10x8 32)
  (z : Fin 3 → Fin 10 → Fin 128 → ℤ) (hI : ∀ i, (I i).toNat < 8)

/-- The row of the key in a slot. -/
def slotRow (b : Fin 3) (g : Fin 10) (n : Fin 8) (j : Fin 384) : Fin 512 :=
  ⟨(I (ix4 b g n ⟨j.val / 64, by omega⟩)).toNat * 64 + j.val % 64, by have := hI (ix4 b g n ⟨j.val / 64, by omega⟩); omega⟩

/-- The score of a slot against a query, before the scale. -/
def scoreG (b : Fin 3) (g : Fin 10) (n : Fin 8) (h : Fin 4) (r : Fin 64) (j : Fin 384) : EReal :=
  if ¬ (C (ix3 b g n)).sle (BitVec.ofNat 32 (j.val / 64)) ∧ (slotRow I hI b g n j).val ≤ 64 * n.val + r.val then
    ∑ a : Fin 128, (show EReal from k (ix3 b (slotRow I hI b g n j) ⟨g.val * 128 + a.val, by omega⟩))
      * (show EReal from x (ix3 b ⟨64 * n.val + r.val, by omega⟩ ⟨(4 * g.val + h.val) * 128 + a.val, by omega⟩))
  else ⊥

/-- The result at a batch, a group, a block of queries, a head, a row and a column. -/
def outG (b : Fin 3) (g : Fin 10) (n : Fin 8) (h : Fin 4) (r : Fin 64) (d : Fin 128) : EReal :=
  Row.row (scoreG x k I C hI b g n h r) (fun j => codes v z (ix4 b g (slotRow I hI b g n j) d)) (((2 : ℝ) ^ z b g d : ℝ) : EReal)

/-- The result's array. -/
def outs : Vec Ideal S3x512x5120 .bf16 := fun y =>
  outG x k v I C z hI (y 0) ⟨(y 2).val / 512, by have : (y 2).val < 5120 := (y 2).isLt; omega⟩ ⟨(y 1).val / 64, by have : (y 1).val < 512 := (y 1).isLt; omega⟩
    ⟨(y 2).val % 512 / 128, by omega⟩ ⟨(y 1).val % 64, by omega⟩ ⟨(y 2).val % 128, by omega⟩

theorem cell_eq (x0 x1 x2 x3 x4 x5 : Vec Ideal S1x512x128 .bf16) (z' : Fin 128 → ℤ) (cnt : Fin 8 → BitVec 32) (w : Fin 8 → Fin 6 → BitVec 32) (hw : ∀ n t, (w n t).toNat < 8)
    (b : Fin 3) (g : Fin 10) (hcnt : ∀ n, cnt n = C (ix3 b g n)) (hword : ∀ n t, w n t = I (ix4 b g n t))
    (hx : ∀ h r (l : Fin 128), pick x0 x1 x2 x3 h (ix3 0 r l) = x (ix3 b r ⟨(4 * g.val + h.val) * 128 + l.val, by omega⟩))
    (hk : ∀ r (l : Fin 128), x4 (ix3 0 r l) = k (ix3 b r ⟨g.val * 128 + l.val, by omega⟩))
    (hv : ∀ r d, code x5 z' (ix4 0 0 r d) = codes v z (ix4 b g r d)) (hz : ∀ d, z' d = z b g d) (n : Fin 8) (h : Fin 4) (r : Fin 64) (d : Fin 128) :
    cell x0 x1 x2 x3 x4 x5 z' cnt w hw n h r d = outG x k v I C z hI b g n h r d := by
  obtain rfl : cnt = fun n => C (ix3 b g n) := funext hcnt
  obtain rfl : w = fun n t => I (ix4 b g n t) := funext fun n => funext fun t => hword n t
  unfold cell outG
  rw [hz]
  refine congrArg₂ (fun S W => Row.row S W _) (funext fun j => ?_) (funext fun j => ?_)
  · unfold score scoreG
    simp only [hx, hk]
    rfl
  · exact hv _ d

end Spec

variable (m : (ℓ : Loc nD τ sig) → Buf (Elt Ideal) ℓ) (ρ : Dev nD → PrngReg)

/-- The other arguments on core `c`. -/
abbrev argX (c : Dev nD) : Vec Ideal S3x512x5120 .bf16 := m ((c.tc : Thread nD τ).loc main_arg0)
abbrev argK (c : Dev nD) : Vec Ideal S3x512x1280 .bf16 := m ((c.tc : Thread nD τ).loc main_arg1)
abbrev argI (c : Dev nD) : IVec S3x10x8x6 32 := m ((c.tc : Thread nD τ).loc main_arg3)
/-- The table of blocks with the words that are not read as zero. -/
def keptI (I : IVec S3x10x8x6 32) : IVec S3x10x8x6 32 := fun y => cond (Nat.ble (y 3).val (y 2).val) (I y) 0#32
abbrev argJ (c : Dev nD) : IVec S3x10x8x6 32 := keptI (argI m c)
abbrev argC (c : Dev nD) : IVec S3x10x8 32 := m ((c.tc : Thread nD τ).loc main_arg4)

theorem index0 : ∀ t : Fin grid0.N, cc0_transform_0 (grid0.coords t) = ![((grid0.coords t) 0).val, 0, 4 * ((grid0.coords t) 1).val] := by
  decide +kernel
theorem index1 : ∀ t : Fin grid0.N, cc0_transform_1 (grid0.coords t) = ![((grid0.coords t) 0).val, 0, 4 * ((grid0.coords t) 1).val + 1] := by
  decide +kernel
theorem index2 : ∀ t : Fin grid0.N, cc0_transform_2 (grid0.coords t) = ![((grid0.coords t) 0).val, 0, 4 * ((grid0.coords t) 1).val + 2] := by
  decide +kernel
theorem index3 : ∀ t : Fin grid0.N, cc0_transform_3 (grid0.coords t) = ![((grid0.coords t) 0).val, 0, 4 * ((grid0.coords t) 1).val + 3] := by
  decide +kernel
theorem index4 : ∀ t : Fin grid0.N, cc0_transform_4 (grid0.coords t) = ![((grid0.coords t) 0).val, 0, ((grid0.coords t) 1).val] := by
  decide +kernel
theorem index6 : ∀ t : Fin grid0.N, cc0_transform_6 (grid0.coords t) = ![((grid0.coords t) 0).val, 0, ((grid0.coords t) 1).val] := by
  decide +kernel

theorem iblk4_apply (hO : Ok m) (c : Dev nD) (t : Fin (cfgM m hO).N) (r : Fin 512) (l : Fin 128) :
    (show Vec Ideal S1x512x128 .bf16 from iblk m hO c 4 t) (ix3 0 r l)
      = argK m c (ix3 ⟨((grid0.coords t) 0).val, coords_lt0 t⟩ r ⟨((grid0.coords t) 1).val * 128 + l.val, by have := coords_lt1 t; omega⟩) := by
  show V m c main_arg1 ((((cfgM m hO).win 4).blk t).view.emb (ix3 0 r l)) = _
  rw [V_main_arg1]
  refine congrArg (argK m c) (funext fun a => Fin.ext ?_)
  show (((((cfgM m hO).win 4).blk t).view.emb (ix3 0 r l) a : Fin _) : Nat) = _
  have e : ((cfgM m hO).win 4).index t = ![((grid0.coords t) 0).val, 0, ((grid0.coords t) 1).val] := index4 t
  blk_simp [e]
  fin_cases a
  · show ((grid0.coords t) 0).val * 1 + 0 = ((grid0.coords t) 0).val
    omega
  · show 0 * 512 + r.val = r.val
    omega
  · rfl

theorem iblk0_apply (hO : Ok m) (c : Dev nD) (t : Fin (cfgM m hO).N) (r : Fin 512) (l : Fin 128) :
    (show Vec Ideal S1x512x128 .bf16 from iblk m hO c 0 t) (ix3 0 r l)
      = argX m c (ix3 ⟨((grid0.coords t) 0).val, coords_lt0 t⟩ r ⟨(4 * ((grid0.coords t) 1).val + 0) * 128 + l.val, by have := coords_lt1 t; omega⟩) := by
  show V m c main_arg0 ((((cfgM m hO).win 0).blk t).view.emb (ix3 0 r l)) = _
  rw [V_main_arg0]
  refine congrArg (argX m c) (funext fun a => Fin.ext ?_)
  show (((((cfgM m hO).win 0).blk t).view.emb (ix3 0 r l) a : Fin _) : Nat) = _
  have e : ((cfgM m hO).win 0).index t = ![((grid0.coords t) 0).val, 0, 4 * ((grid0.coords t) 1).val] := index0 t
  blk_simp [e]
  fin_cases a
  · show ((grid0.coords t) 0).val * 1 + 0 = ((grid0.coords t) 0).val
    omega
  · show 0 * 512 + r.val = r.val
    omega
  · rfl

theorem iblk1_apply (hO : Ok m) (c : Dev nD) (t : Fin (cfgM m hO).N) (r : Fin 512) (l : Fin 128) :
    (show Vec Ideal S1x512x128 .bf16 from iblk m hO c 1 t) (ix3 0 r l)
      = argX m c (ix3 ⟨((grid0.coords t) 0).val, coords_lt0 t⟩ r ⟨(4 * ((grid0.coords t) 1).val + 1) * 128 + l.val, by have := coords_lt1 t; omega⟩) := by
  show V m c main_arg0 ((((cfgM m hO).win 1).blk t).view.emb (ix3 0 r l)) = _
  rw [V_main_arg0]
  refine congrArg (argX m c) (funext fun a => Fin.ext ?_)
  show (((((cfgM m hO).win 1).blk t).view.emb (ix3 0 r l) a : Fin _) : Nat) = _
  have e : ((cfgM m hO).win 1).index t = ![((grid0.coords t) 0).val, 0, 4 * ((grid0.coords t) 1).val + 1] := index1 t
  blk_simp [e]
  fin_cases a
  · show ((grid0.coords t) 0).val * 1 + 0 = ((grid0.coords t) 0).val
    omega
  · show 0 * 512 + r.val = r.val
    omega
  · rfl

theorem iblk2_apply (hO : Ok m) (c : Dev nD) (t : Fin (cfgM m hO).N) (r : Fin 512) (l : Fin 128) :
    (show Vec Ideal S1x512x128 .bf16 from iblk m hO c 2 t) (ix3 0 r l)
      = argX m c (ix3 ⟨((grid0.coords t) 0).val, coords_lt0 t⟩ r ⟨(4 * ((grid0.coords t) 1).val + 2) * 128 + l.val, by have := coords_lt1 t; omega⟩) := by
  show V m c main_arg0 ((((cfgM m hO).win 2).blk t).view.emb (ix3 0 r l)) = _
  rw [V_main_arg0]
  refine congrArg (argX m c) (funext fun a => Fin.ext ?_)
  show (((((cfgM m hO).win 2).blk t).view.emb (ix3 0 r l) a : Fin _) : Nat) = _
  have e : ((cfgM m hO).win 2).index t = ![((grid0.coords t) 0).val, 0, 4 * ((grid0.coords t) 1).val + 2] := index2 t
  blk_simp [e]
  fin_cases a
  · show ((grid0.coords t) 0).val * 1 + 0 = ((grid0.coords t) 0).val
    omega
  · show 0 * 512 + r.val = r.val
    omega
  · rfl

theorem iblk3_apply (hO : Ok m) (c : Dev nD) (t : Fin (cfgM m hO).N) (r : Fin 512) (l : Fin 128) :
    (show Vec Ideal S1x512x128 .bf16 from iblk m hO c 3 t) (ix3 0 r l)
      = argX m c (ix3 ⟨((grid0.coords t) 0).val, coords_lt0 t⟩ r ⟨(4 * ((grid0.coords t) 1).val + 3) * 128 + l.val, by have := coords_lt1 t; omega⟩) := by
  show V m c main_arg0 ((((cfgM m hO).win 3).blk t).view.emb (ix3 0 r l)) = _
  rw [V_main_arg0]
  refine congrArg (argX m c) (funext fun a => Fin.ext ?_)
  show (((((cfgM m hO).win 3).blk t).view.emb (ix3 0 r l) a : Fin _) : Nat) = _
  have e : ((cfgM m hO).win 3).index t = ![((grid0.coords t) 0).val, 0, 4 * ((grid0.coords t) 1).val + 3] := index3 t
  blk_simp [e]
  fin_cases a
  · show ((grid0.coords t) 0).val * 1 + 0 = ((grid0.coords t) 0).val
    omega
  · show 0 * 512 + r.val = r.val
    omega
  · rfl

theorem word_tbl (i : grid0.Coords) (n : Fin 8) (t : Fin 6) :
    word (tbM0_0.view.read (Elt Ideal) (tbl m 0)) i n t = argI m 0 (ix4 (i 0) (i 1) n t) := by
  rw [word_eq]
  refine (congrFun (tbl_idx m) (ix4 (i 0) t n (i 1))).trans ?_
  refine congrArg (argI m 0) (funext fun a => Fin.ext ?_)
  fin_cases a <;> rfl

theorem kept_tbl (i : grid0.Coords) (n : Fin 8) (t : Fin 6) :
    kept (word (tbM0_0.view.read (Elt Ideal) (tbl m 0)) i) n t = argJ m 0 (ix4 (i 0) (i 1) n t) := by
  unfold kept
  rw [word_tbl]
  rfl

theorem count_tbl (i : grid0.Coords) (n : Fin 8) :
    count (tbM0_1.view.read (Elt Ideal) (tbl m 1)) i n = argC m 0 (ix3 (i 0) (i 1) n) := by
  rw [count_eq]
  refine (congrFun (tbl_cnt m) (ix3 (i 0) n (i 1))).trans ?_
  refine congrArg (argC m 0) (funext fun a => Fin.ext ?_)
  fin_cases a <;> rfl

/-- The masks stand at every point. -/
theorem masks (hO : Ok m) (hH : Hyps m hO) (c : Dev nD) : ∀ (n : ℕ) (hn : n < (cfgM m hO).N), IsMask (outsAt0 m hO hH c n hn).2.2.1 (outsAt0 m hO hH c n hn).2.2.2 := by
  intro n
  induction n with
  | zero =>
    intro hn
    rw [outsAt0_A m hO hH c ⟨0, hn⟩ rfl]
    dsimp only
    exact sout0_A_mask ..
  | succ n ih =>
    intro hn
    by_cases h0 : (n + 1) % 30 = 0
    · rw [outsAt0_A m hO hH c ⟨n + 1, hn⟩ h0]
      dsimp only
      exact sout0_A_mask ..
    · rw [outsAt0_B m hO hH c ⟨n + 1, hn⟩ h0]
      dsimp only
      unfold sout0_B_4 sout0_B_5
      exact ih (by omega)

section Array

variable (hO : Ok m) (hH : Hyps m hO) (z : Dev nD → Fin 3 → Fin 10 → Fin 128 → ℤ) (hz : ∀ c, AllExpo (argV m c) (z c))
  (hI : ∀ c i, (argJ m c i).toNat < 8) (hC : ∀ c b g (n : Fin 8), n.val < 5 → (argC m c (ix3 b g n)).sle (BitVec.ofNat 32 (n.val + 1)) = true)

include hz hC

/-- What the body leaves in the result's block at a point. -/
theorem after6_apply (c : Dev nD) (t : Fin (cfgM m hO).N) (y : S1x512x512.Idx) :
    (dats m hO hH 0 c).after 6 t y
      = cells (iblk m hO c 0 t) (iblk m hO c 1 t) (iblk m hO c 2 t) (iblk m hO c 3 t) (iblk m hO c 4 t) (iblk m hO c 5 t)
          (z c ⟨((grid0.coords t) 0).val, coords_lt0 t⟩ ⟨((grid0.coords t) 1).val, coords_lt1 t⟩)
          (count (tbM0_1.view.read (Elt Ideal) (tbl m 1)) (grid0.coords t)) (kept (word (tbM0_0.view.read (Elt Ideal) (tbl m 0)) (grid0.coords t)))
          (fun n s => by rw [kept_tbl]; exact hI 0 _) y := by
  rw [after0_6]
  by_cases h0 : t.val % 30 = 0
  · rw [outsAt0_A m hO hH c t h0]
    dsimp only
    exact out0_A_6_apply (hz := isExpo_iblk5 m hO c (z c) (hz c) t) (hc := fun n => by rw [count_tbl]; exact hC 0 _ _ n) (y := y) ..
  · rw [outsAt0_B m hO hH c t h0]
    dsimp only
    exact out0_B_6_apply (hz := isExpo_iblk5 m hO c (z c) (hz c) t) (hc := fun n => by rw [count_tbl]; exact hC 0 _ _ n) (hm := masks m hO hH c _ _) (y := y) ..

omit hz hC in
theorem exists_block (y : S1x512x512.Idx) : ∃ (a : Fin 1) (r l : Fin 512), y = ix3 a r l :=
  ⟨y 0, y 1, y 2, by funext k; fin_cases k <;> rfl⟩

omit hz hC in
theorem covers6 : ((cfgM m hO).win 6).Covers := by
  refine ⟨fun a => ?_, fun β => ?_⟩
  · fin_cases a <;> exact Nat.le_of_ble_eq_true rfl
  · let k (a : Fin 3) : Fin ((cfgM m hO).win 6).shape.rank := a
    have b0 : (β (k 0)).val < 3 := lt_of_lt_of_eq (β (k 0)).isLt (show (3 + 1 - 1) / 1 = 3 from rfl)
    have b1 : (β (k 1)).val < 1 := lt_of_lt_of_eq (β (k 1)).isLt (show (512 + 512 - 1) / 512 = 1 from rfl)
    have b2 : (β (k 2)).val < 10 := lt_of_lt_of_eq (β (k 2)).isLt (show (5120 + 512 - 1) / 512 = 10 from rfl)
    obtain ⟨t, h0, h1⟩ := onto ⟨(β (k 0)).val, b0⟩ ⟨(β (k 2)).val, b2⟩
    refine ⟨t, flush0_6 _ t, fun a => ⟨?_, Or.inl rfl⟩⟩
    have e : ((cfgM m hO).win 6).index t = ![((grid0.coords t) 0).val, 0, ((grid0.coords t) 1).val] := index6 t
    rw [e]
    fin_cases a
    · exact h0
    · show 0 = (β (k 1)).val
      omega
    · exact h1

omit hz hC in
theorem cell_point (c : Dev nD) (t : Fin (cfgM m hO).N) (n : Fin 8) (h : Fin 4) (r : Fin 64) (d : Fin 128) :
    cell (iblk m hO c 0 t) (iblk m hO c 1 t) (iblk m hO c 2 t) (iblk m hO c 3 t) (iblk m hO c 4 t) (iblk m hO c 5 t)
          (z c ⟨((grid0.coords t) 0).val, coords_lt0 t⟩ ⟨((grid0.coords t) 1).val, coords_lt1 t⟩)
          (count (tbM0_1.view.read (Elt Ideal) (tbl m 1)) (grid0.coords t)) (kept (word (tbM0_0.view.read (Elt Ideal) (tbl m 0)) (grid0.coords t)))
          (fun n s => by rw [kept_tbl]; exact hI 0 _) n h r d
      = outG (argX m c) (argK m c) (argV m c) (argJ m c) (argC m c) (z c) (hI c) ⟨((grid0.coords t) 0).val, coords_lt0 t⟩ ⟨((grid0.coords t) 1).val, coords_lt1 t⟩ n h r d := by
  obtain rfl : c = 0 := Subsingleton.elim _ _
  refine cell_eq _ _ _ _ _ _ (hI 0) _ _ _ _ _ _ _ _ _ _ _ _ (fun n => count_tbl m _ n) (fun n s => kept_tbl m _ n s) ?_ (fun r l => iblk4_apply m hO 0 t r l) (fun r d => ?_) (fun d => rfl) n h r d
  · intro h r l
    match h with
    | ⟨0, _⟩ => exact iblk0_apply m hO 0 t r l
    | ⟨1, _⟩ => exact iblk1_apply m hO 0 t r l
    | ⟨2, _⟩ => exact iblk2_apply m hO 0 t r l
    | ⟨3, _⟩ => exact iblk3_apply m hO 0 t r l
  · unfold code codes
    refine congrArg (fun q : EReal => min (Ideal.ofBits .f32 0x43E00000#32) (max (Ideal.ofBits .f32 0xC3E00000#32)
      (q * (((2 : ℝ) ^ (-z 0 ⟨((grid0.coords t) 0).val, coords_lt0 t⟩ ⟨((grid0.coords t) 1).val, coords_lt1 t⟩ d) : ℝ) : EReal)))) ?_
    exact iblk5_apply m hO 0 t r d

/-- The result's array after the run. -/
theorem arr6 (c : Dev nD) :
    (dats m hO hH 0 c).arrAt 6 (cfgM m hO).N = outs (argX m c) (argK m c) (argV m c) (argJ m c) (argC m c) (z c) (hI c) := by
  refine (dats m hO hH 0 c).arrAt_eq_of_covers 6 _ (covers6 m hO) fun t hf y => ?_
  have e : ((cfgM m hO).win 6).index t = ![((grid0.coords t) 0).val, 0, ((grid0.coords t) 1).val] := index6 t
  have hg := coords_lt1 t
  have key : ∀ (a : Fin 1) (r l : Fin 512),
      (show S3x512x5120.Idx from (((cfgM m hO).win 6).blk t).view.emb (ix3 a r l)) = ix3 ⟨((grid0.coords t) 0).val, coords_lt0 t⟩ r ⟨((grid0.coords t) 1).val * 512 + l.val, by omega⟩ := by
    intro a r l
    refine funext fun k => Fin.ext ?_
    show (((((cfgM m hO).win 6).blk t).view.emb (ix3 a r l) k : Fin _) : Nat) = _
    blk_simp [e]
    fin_cases k
    · show ((grid0.coords t) 0).val * 1 + a.val = ((grid0.coords t) 0).val
      omega
    · show 0 * 512 + r.val = r.val
      omega
    · rfl
  blk_simp
  refine (after6_apply m hO hH z hz hI hC c t y).trans ?_
  obtain ⟨a, r, l, rfl⟩ : ∃ (a : Fin 1) (r l : Fin 512), y = ix3 a r l := exists_block y
  refine Eq.trans ?_ (congrArg (outs (argX m c) (argK m c) (argV m c) (argJ m c) (argC m c) (z c) (hI c)) (key a r l)).symm
  unfold cells
  refine (cell_point m hO z hI c t _ _ _ _).trans ?_
  unfold outs
  have e1 : (⟨(((grid0.coords t) 1).val * 512 + l.val) / 512, by omega⟩ : Fin 10) = ⟨((grid0.coords t) 1).val, hg⟩ := Fin.ext (show (((grid0.coords t) 1).val * 512 + l.val) / 512 = ((grid0.coords t) 1).val by omega)
  have e2 : (⟨(((grid0.coords t) 1).val * 512 + l.val) % 512 / 128, by omega⟩ : Fin 4) = ⟨l.val / 128, by omega⟩ := Fin.ext (show (((grid0.coords t) 1).val * 512 + l.val) % 512 / 128 = l.val / 128 by omega)
  have e3 : (⟨(((grid0.coords t) 1).val * 512 + l.val) % 128, by omega⟩ : Fin 128) = ⟨l.val % 128, by omega⟩ := Fin.ext (show (((grid0.coords t) 1).val * 512 + l.val) % 128 = l.val % 128 by omega)
  show _ = outG (argX m c) (argK m c) (argV m c) (argJ m c) (argC m c) (z c) (hI c) ⟨((grid0.coords t) 0).val, coords_lt0 t⟩ ⟨(((grid0.coords t) 1).val * 512 + l.val) / 512, _⟩ ⟨r.val / 64, _⟩
    ⟨(((grid0.coords t) 1).val * 512 + l.val) % 512 / 128, _⟩ ⟨r.val % 64, _⟩ ⟨(((grid0.coords t) 1).val * 512 + l.val) % 128, _⟩
  rw [e1, e2, e3]
  rfl

include hO hH in
/-- The run leaves the result and the codes in their arrays, and the arguments unchanged. -/
theorem run_out :
    θ_run defs (onTc (τ := τ) (main (F := Ideal))) ⟨m, fun _ => 0, ρ⟩ (fun r => ∀ c : Dev nD,
      r.2.mem ((c.tc : Thread nD τ).loc main_v2_0) = outs (argX m c) (argK m c) (argV m c) (argJ m c) (argC m c) (z c) (hI c)
      ∧ r.2.mem ((c.tc : Thread nD τ).loc main_v2_1) = codes (argV m c) (z c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(((dats m hO hH 0 c).toRForget_arrAt_iff forgets0_6 _ _).1 ((h.1 c).1 6)).trans (arr6 m hO hH z hz hI hC c),
      (((dats m hO hH 0 c).toRForget_arrAt_iff forgets0_7 _ _).1 ((h.1 c).1 7)).trans (arr7 m hO hH c (z c) (hz c)), h.2 c⟩)
    (θ_run_and (run_main m ρ hO hH) (unchanged m ρ hO hH))

end Array

end Cert.KernelIdeal.Gen

end
-- ==== Proof.Codes.lean ====
/- The codes of `v` by the reference: its result read at an index, over the extended reals. -/
module

public import proofs.«01_k».proof.Proof.Exponent
public import proofs.«01_k».proof.Proof.Gen.ReferenceIdeal.Run

@[expose] public section

set_option maxRecDepth 16384

noncomputable section

namespace Cert.ReferenceIdeal.Codes

open Cert.ReferenceIdeal Cert.ReferenceIdeal.Gen Idealize.ShloMosaic

/-- The greatest magnitude of each column, of each head of each sequence. -/
def AM (v : FVec Ideal S3x512x1280 .bf16) : FVec Ideal S3x10x128 .f32 :=
  Host.reduce FloatOps.maximumf (Host.absf (shapeCast _ (extf .f32 v bitsLt_bf16_f32) shapeCasts_S3x512x1280_S3x512x10x128)) (constant S_ .f32 0xFF800000#32) reducesTo_S3x512x10x128_S3x10x128_d1 h_S_

/-- The exponent of each column of greatest magnitude `a`. -/
def EV (a : FVec Ideal S3x10x128 .f32) : FVec Ideal S3x10x128 .f32 :=
  select (cmpf .oeq a (broadcastInDim S3x10x128 ![] bcast_S_S3x10x128 (constant S_ .f32 0x00000000#32))) (broadcastInDim S3x10x128 ![] bcast_S_S3x10x128 (id (constant S_ .f32 0x00000000#32))) (maximumf (addf (Host.floor (Host.divf (Host.log (mulf a (broadcastInDim S3x10x128 ![] bcast_S_S3x10x128 (constant S_ .f32 0x3B124925#32)))) (broadcastInDim S3x10x128 ![] bcast_S_S3x10x128 (Host.log (constant S_ .f32 0x40000000#32))))) (broadcastInDim S3x10x128 ![] bcast_S_S3x10x128 (constant S_ .f32 0x3F800000#32))) (broadcastInDim S3x10x128 ![] bcast_S_S3x10x128 (constant S_ .f32 0xC2FC0000#32)))

/-- The codes at the exponents `e`. -/
def CD (v : FVec Ideal S3x512x1280 .bf16) (e : FVec Ideal S3x10x128 .f32) : FVec Ideal S3x10x512x128 .fp8e4m3 :=
  transpose S3x10x512x128 [0, 2, 1, 3] (Host.convertf .fp8e4m3 (minimumf (maximumf (mulf (shapeCast _ (extf .f32 v bitsLt_bf16_f32) shapeCasts_S3x512x1280_S3x512x10x128) (broadcastInDim S3x512x10x128 ![0, 1, 2, 3] bcast_S3x1x10x128_S3x512x10x128_0_1_2_3 (Host.powf (broadcastInDim S3x1x10x128 ![] bcast_S_S3x1x10x128 (constant S_ .f32 0x40000000#32)) (Host.negf (broadcastInDim S3x1x10x128 ![0, 2, 3] bcast_S3x10x128_S3x1x10x128_0_2_3 e))))) (broadcastInDim S3x512x10x128 ![] bcast_S_S3x512x10x128 (constant S_ .f32 0xC3E00000#32))) (broadcastInDim S3x512x10x128 ![] bcast_S_S3x512x10x128 (constant S_ .f32 0x43E00000#32)))) transposes_S3x512x10x128_S3x10x512x128_0_2_1_3

/-- The reference's result as a function of `v`. -/
def REF (v : FVec Ideal S3x512x1280 .bf16) : FVec Ideal S3x10x512x128 .fp8e4m3 := CD v (EV (AM v))

/-- The greatest magnitude of a column of `v`. -/
def amax (v : FVec Ideal S3x512x1280 .bf16) (b : Fin 3) (g : Fin 10) (d : Fin 128) : EReal :=
  Finset.fold max (Ideal.ofBits .f32 0xFF800000#32) (fun r : Fin 512 => Scale.mag (v (ix3 b r ⟨g.val * 128 + d.val, by omega⟩))) Finset.univ

theorem AM_apply (v : FVec Ideal S3x512x1280 .bf16) (b : Fin 3) (g : Fin 10) (d : Fin 128) : AM v (ix3 b g d) = amax v b g d := by
  pointwise [AM]
  unfold amax
  refine congrArg (fun f => Finset.fold max (Ideal.ofBits .f32 0xFF800000#32) f Finset.univ) (funext fun r => ?_)
  rfl

theorem EV_apply (a : FVec Ideal S3x10x128 .f32) (b : Fin 3) (g : Fin 10) (d : Fin 128) :
    EV a (ix3 b g d) = if (show EReal from a (ix3 b g d)) = 0 then 0 else
        max (Ideal.liftRound Int.floor (Ideal.div (Ideal.log ((show EReal from a (ix3 b g d)) * Ideal.ofBits .f32 0x3B124925#32)) (Ideal.log (Ideal.ofBits .f32 0x40000000#32)))
          + 1) (Ideal.ofBits .f32 0xC2FC0000#32) := by
  have e : (Ideal.ofBits .f32 0x00000000#32) = 0 := by simp [Ideal.ofBits, Ideal.ieee]
  pointwise [EV]
  refine if_congr Iff.rfl e rfl

theorem CD_apply (v : FVec Ideal S3x512x1280 .bf16) (e : FVec Ideal S3x10x128 .f32) (b : Fin 3) (g : Fin 10) (r : Fin 512) (d : Fin 128) :
    CD v e (ix4 b g r d) = min (max ((show EReal from v (ix3 b r ⟨g.val * 128 + d.val, by omega⟩))
      * Ideal.pow (Ideal.ofBits .f32 0x40000000#32) (-(show EReal from e (ix3 b g d))))
      (Ideal.ofBits .f32 0xC3E00000#32)) (Ideal.ofBits .f32 0x43E00000#32) := by
  pointwise [CD]

/-- The reference's code of an element. -/
theorem REF_raw (v : FVec Ideal S3x512x1280 .bf16) (b : Fin 3) (g : Fin 10) (r : Fin 512) (d : Fin 128) :
    REF v (ix4 b g r d) = min (max ((show EReal from v (ix3 b r ⟨g.val * 128 + d.val, by omega⟩))
      * Ideal.pow (Ideal.ofBits .f32 0x40000000#32) (-(if amax v b g d = 0 then 0 else
        max (Ideal.liftRound Int.floor (Ideal.div (Ideal.log (amax v b g d * Ideal.ofBits .f32 0x3B124925#32)) (Ideal.log (Ideal.ofBits .f32 0x40000000#32)))
          + 1) (Ideal.ofBits .f32 0xC2FC0000#32))))
      (Ideal.ofBits .f32 0xC3E00000#32)) (Ideal.ofBits .f32 0x43E00000#32) := by
  rw [REF, CD_apply, EV_apply, AM_apply]

end Cert.ReferenceIdeal.Codes

end
-- ==== Proof.Columns.lean ====
/- One column's greatest magnitude and its exponent, and the reference's code at a given exponent. -/
module

public import proofs.«01_k».proof.Proof.Codes

@[expose] public section

set_option maxRecDepth 16384

noncomputable section

namespace Cert.ReferenceIdeal.Codes

open Cert.ReferenceIdeal Cert.ReferenceIdeal.Gen Idealize.ShloMosaic

theorem two : Ideal.ofBits .f32 0x40000000#32 = 2 := by
  simp [Ideal.ofBits, Ideal.ieee, -EReal.coe_mul]; norm_num
  rfl

theorem least : Ideal.ofBits .f32 0xC2FC0000#32 = -126 := by
  simp [Ideal.ofBits, Ideal.ieee, -EReal.coe_mul]; norm_num
  first | done | rfl

theorem bottom : Ideal.ofBits .f32 0xFF800000#32 = ⊥ := by
  simp [Ideal.ofBits, Ideal.ieee]

theorem factor : Ideal.ofBits .f32 0x3B124925#32 = ((9586981 * (2 ^ 32)⁻¹ : ℝ) : EReal) := by
  simp [Ideal.ofBits, Ideal.ieee, -EReal.coe_mul]

/-- The reference's code of an element, given the exponent of its column. -/
theorem REF_apply (v : FVec Ideal S3x512x1280 .bf16) (b : Fin 3) (g : Fin 10) (r : Fin 512) (d : Fin 128) (z : ℤ)
    (h0 : amax v b g d = 0 → z = 0)
    (h1 : amax v b g d ≠ 0 → Scale.expoLog (amax v b g d * Ideal.ofBits .f32 0x3B124925#32) = ((z : ℝ) : EReal)) :
    REF v (ix4 b g r d) = min (max ((show EReal from v (ix3 b r ⟨g.val * 128 + d.val, by omega⟩)) * (((2 : ℝ) ^ (-z) : ℝ) : EReal))
      (Ideal.ofBits .f32 0xC3E00000#32)) (Ideal.ofBits .f32 0x43E00000#32) := by
  have hp : (-(if amax v b g d = 0 then 0 else
        max (Ideal.liftRound Int.floor (Ideal.div (Ideal.log (amax v b g d * Ideal.ofBits .f32 0x3B124925#32)) (Ideal.log (Ideal.ofBits .f32 0x40000000#32)))
          + 1) (Ideal.ofBits .f32 0xC2FC0000#32)) : EReal) = (((-z : ℤ) : ℝ) : EReal) := by
    rw [two, least]
    by_cases h : amax v b g d = 0
    · rw [if_pos h, h0 h]; simp
    · rw [if_neg h]
      refine (congrArg (fun e : EReal => -e) (h1 h)).trans ?_
      simp
  rw [REF_raw, hp, two, Scale.pow_two]

/-- A column of reals of the format's range has an exponent, the same by the search and by the logarithm. -/
theorem exists_expo {n : Nat} (hn : 0 < n) (f : Fin n → EReal) (hf : ∀ r, ∃ a : ℝ, Scale.mag (f r) = (a : EReal) ∧ 0 ≤ a ∧ a ≤ 2 ^ 128) :
    ∃ z : ℤ, -126 ≤ z ∧ z ≤ 121
      ∧ Scale.expo (Finset.fold max (Ideal.ofBits .f32 0xFF800000#32) (fun r => Scale.mag (f r)) Finset.univ * Ideal.ofBits .f32 0x3B124925#32) = BitVec.ofInt 32 z
      ∧ (Finset.fold max (Ideal.ofBits .f32 0xFF800000#32) (fun r => Scale.mag (f r)) Finset.univ = 0 → z = 0)
      ∧ (Finset.fold max (Ideal.ofBits .f32 0xFF800000#32) (fun r => Scale.mag (f r)) Finset.univ ≠ 0 →
          Scale.expoLog (Finset.fold max (Ideal.ofBits .f32 0xFF800000#32) (fun r => Scale.mag (f r)) Finset.univ * Ideal.ofBits .f32 0x3B124925#32) = ((z : ℝ) : EReal)) := by
  generalize hA : Finset.fold max (Ideal.ofBits .f32 0xFF800000#32) (fun r => Scale.mag (f r)) Finset.univ = A
  have hle : A ≤ ((2 ^ 128 : ℝ) : EReal) := by
    rw [← hA, Finset.fold_max_le]
    refine ⟨by rw [bottom]; exact bot_le, fun r _ => ?_⟩
    obtain ⟨a, ha, _, h2⟩ := hf r
    rw [ha]
    exact EReal.coe_le_coe_iff.2 h2
  have hge : 0 ≤ A := by
    obtain ⟨a, ha, h1, _⟩ := hf ⟨0, hn⟩
    have h := (Finset.fold_max_le A).1 (le_of_eq hA)
    refine le_trans ?_ (h.2 ⟨0, hn⟩ (Finset.mem_univ _))
    rw [ha]
    exact_mod_cast h1
  obtain ⟨a, rfl⟩ : ∃ a : ℝ, A = (a : EReal) := by
    refine ⟨A.toReal, (EReal.coe_toReal ?_ ?_).symm⟩
    · rintro rfl
      exact absurd hle (not_le.2 (EReal.coe_lt_top _))
    · rintro rfl
      exact absurd hge (by simp)
  have h1 : 0 ≤ a := by exact_mod_cast hge
  have h2 : a ≤ 2 ^ 128 := EReal.coe_le_coe_iff.1 hle
  rw [factor, ← EReal.coe_mul]
  obtain ⟨z, z1, z2, e, e0, e1⟩ := Scale.expo_spec (a * (9586981 * (2 ^ 32)⁻¹)) (by positivity) (by
    calc a * (9586981 * (2 ^ 32)⁻¹) ≤ 2 ^ 128 * (9586981 * (2 ^ 32)⁻¹) := by gcongr
      _ < 2 ^ 120 := by norm_num)
  refine ⟨z, z1, z2, e, fun h => e0 ?_, fun h => e1 ?_⟩
  · rw [show a = 0 by exact_mod_cast h, zero_mul]
  · have : a ≠ 0 := fun h' => h (by rw [h']; rfl)
    positivity

end Cert.ReferenceIdeal.Codes

end
-- ==== Proof.AttentionDefs.lean ====
/- The attention by the reference: its result read at an index, over the extended reals. -/
module

public import proofs.«01_k».proof.Proof.Columns
public import proofs.«01_k».proof.Proof.Row

@[expose] public section

set_option maxRecDepth 16384

noncomputable section

namespace Cert.ReferenceIdeal.Codes

open Cert.ReferenceIdeal Cert.ReferenceIdeal.Gen Idealize.ShloMosaic

/-- The slot of the block table that a key's position lies in. -/
def SL : IVec S384 32 :=
  select (andi (cmpi .ne (signi (iotaInDim S384 32 0)) (broadcastInDim S384 ![] bcast_S_S384 (signi (id (constantI S_ 32 64#32))))) (cmpi .ne (Host.remsi (iotaInDim S384 32 0) (broadcastInDim S384 ![] bcast_S_S384 (id (constantI S_ 32 64#32)))) (broadcastInDim S384 ![] bcast_S_S384 (constantI S_ 32 0#32)))) (subi (Host.divsi (iotaInDim S384 32 0) (broadcastInDim S384 ![] bcast_S_S384 (id (constantI S_ 32 64#32)))) (broadcastInDim S384 ![] bcast_S_S384 (constantI S_ 32 1#32))) (Host.divsi (iotaInDim S384 32 0) (broadcastInDim S384 ![] bcast_S_S384 (id (constantI S_ 32 64#32))))

/-- Which scores count: the slot is in use and the key is not after the query. -/
def LV (s : IVec S384 32) (idx : IVec S3x10x8x6 32) (cnt : IVec S3x10x8 32) : IVec S3x10x8x4x64x384 1 :=
  broadcastInDim S3x10x8x4x64x384 ![0, 1, 2, 3, 4, 5] bcast_S3x10x8x1x64x384_S3x10x8x4x64x384_0_1_2_3_4_5 (andi (broadcastInDim S3x10x8x1x64x384 ![0, 1, 2, 3, 4, 5] bcast_S3x10x8x1x1x384_S3x10x8x1x64x384_0_1_2_3_4_5 (broadcastInDim S3x10x8x1x1x384 ![0, 1, 2, 5] bcast_S3x10x8x384_S3x10x8x1x1x384_0_1_2_5 (cmpi .slt (broadcastInDim S3x10x8x384 ![0, 1, 2, 3] bcast_S1x1x1x384_S3x10x8x384_0_1_2_3 (broadcastInDim S1x1x1x384 ![3] bcast_S384_S1x1x1x384_3 s)) (broadcastInDim S3x10x8x384 ![0, 1, 2, 3] bcast_S3x10x8x1_S3x10x8x384_0_1_2_3 (broadcastInDim S3x10x8x1 ![0, 1, 2] bcast_S3x10x8_S3x10x8x1_0_1_2 cnt))))) (cmpi .sle (broadcastInDim S3x10x8x1x64x384 ![0, 1, 2, 3, 4, 5] bcast_S3x10x8x1x1x384_S3x10x8x1x64x384_0_1_2_3_4_5 (broadcastInDim S3x10x8x1x1x384 ![0, 1, 2, 5] bcast_S3x10x8x384_S3x10x8x1x1x384_0_1_2_5 (shapeCast _ (addi (broadcastInDim S3x10x8x6x64 ![0, 1, 2, 3, 4] bcast_S3x10x8x6x1_S3x10x8x6x64_0_1_2_3_4 (muli (broadcastInDim S3x10x8x6x1 ![0, 1, 2, 3] bcast_S3x10x8x6_S3x10x8x6x1_0_1_2_3 idx) (broadcastInDim S3x10x8x6x1 ![] bcast_S_S3x10x8x6x1 (constantI S_ 32 64#32)))) (broadcastInDim S3x10x8x6x64 ![0, 1, 2, 3, 4] bcast_S1x1x1x1x64_S3x10x8x6x64_0_1_2_3_4 (broadcastInDim S1x1x1x1x64 ![4] bcast_S64_S1x1x1x1x64_4 (iotaInDim S64 32 0)))) shapeCasts_S3x10x8x6x64_S3x10x8x384))) (broadcastInDim S3x10x8x1x64x384 ![0, 1, 2, 3, 4, 5] bcast_S1x1x8x1x64x1_S3x10x8x1x64x384_0_1_2_3_4_5 (broadcastInDim S1x1x8x1x64x1 ![2, 4] bcast_S8x64_S1x1x8x1x64x1_2_4 (addi (broadcastInDim S8x64 ![0, 1] bcast_S8x1_S8x64_0_1 (muli (broadcastInDim S8x1 ![0] bcast_S8_S8x1_0 (iotaInDim S8 32 0)) (broadcastInDim S8x1 ![] bcast_S_S8x1 (constantI S_ 32 64#32)))) (broadcastInDim S8x64 ![0, 1] bcast_S1x64_S8x64_0_1 (broadcastInDim S1x64 ![1] bcast_S64_S1x64_1 (iotaInDim S64 32 0))))))))

/-- The queries, by batch, group, block, head and row. -/
def QT (x : FVec Ideal S3x512x5120 .bf16) : FVec Ideal S3x10x8x4x64x128 .bf16 :=
  transpose S3x10x8x4x64x128 [0, 3, 1, 4, 2, 5] (shapeCast _ x shapeCasts_S3x512x5120_S3x8x64x10x4x128) transposes_S3x8x64x10x4x128_S3x10x8x4x64x128_0_3_1_4_2_5

/-- The keys, by batch, group and block. -/
def KT (k : FVec Ideal S3x512x1280 .bf16) : FVec Ideal S3x10x8x64x128 .bf16 :=
  transpose S3x10x8x64x128 [0, 3, 1, 2, 4] (shapeCast _ k shapeCasts_S3x512x1280_S3x8x64x10x128) transposes_S3x8x64x10x128_S3x10x8x64x128_0_3_1_2_4

/-- The codes of the values, by batch, group and block. -/
def VT (w : FVec Ideal S3x512x10x128 .f32) : FVec Ideal S3x10x8x64x128 .f32 :=
  transpose S3x10x8x64x128 [0, 3, 1, 2, 4] (shapeCast _ w shapeCasts_S3x512x10x128_S3x8x64x10x128) transposes_S3x8x64x10x128_S3x10x8x64x128_0_3_1_2_4

/-- The table as start indices. -/
def IB (idx : IVec S3x10x8x6 32) : IVec S3x10x8x6x1 32 :=
  broadcastInDim S3x10x8x6x1 ![0, 1, 2, 3] bcast_S3x10x8x6_S3x10x8x6x1_0_1_2_3 idx

/-- The blocks of `T` that the table names, laid end to end. -/
def GS {α : Type} (T : S3x10x8x64x128.Idx → α) (i : IVec S3x10x8x6x1 32) : S3x10x8x384x128.Idx → α :=
  shapeCast _ (Host.gather gather_S3x10x8x64x128_S3x10x8x6x1_S3x10x8x6x64x128_45_2_01_01_2_4_11164128 T i) shapeCasts_S3x10x8x6x64x128_S3x10x8x384x128

/-- The products of the queries and the keys. -/
def DT (q : FVec Ideal S3x10x8x4x64x128 .bf16) (k : FVec Ideal S3x10x8x384x128 .bf16) : FVec Ideal S3x10x8x4x64x384 .f32 :=
  Host.dotGeneral dot_S3x10x8x4x64x128_S3x10x8x384x128_S3x10x8x4x64x384_5_4_34_3_012_012 none q k

/-- The scores: scaled where they count, minus infinity elsewhere. -/
def SC (L : IVec S3x10x8x4x64x384 1) (S : FVec Ideal S3x10x8x4x64x384 .f32) : FVec Ideal S3x10x8x4x64x384 .f32 :=
  select L (Host.divf S (broadcastInDim S3x10x8x4x64x384 ![] bcast_S_S3x10x8x4x64x384 (Host.sqrt (constant S_ .f32 0x43000000#32)))) (broadcastInDim S3x10x8x4x64x384 ![] bcast_S_S3x10x8x4x64x384 (constant S_ .f32 0xFF800000#32))

/-- The greatest of each row. -/
def MX (t : FVec Ideal S3x10x8x4x64x384 .f32) : FVec Ideal S3x10x8x4x64 .f32 :=
  Host.reduce FloatOps.maximumf t (constant S_ .f32 0xFF800000#32) reducesTo_S3x10x8x4x64x384_S3x10x8x4x64_d5 h_S_

/-- The sum of each row. -/
def SM (e : FVec Ideal S3x10x8x4x64x384 .f32) : FVec Ideal S3x10x8x4x64 .f32 :=
  Host.reduceAdd e (constant S_ .f32 0x00000000#32) reducesTo_S3x10x8x4x64x384_S3x10x8x4x64_d5 h_S_

/-- The exponentials of the scores less their row's greatest. -/
def EX (t : FVec Ideal S3x10x8x4x64x384 .f32) (m : FVec Ideal S3x10x8x4x64 .f32) : FVec Ideal S3x10x8x4x64x384 .f32 :=
  Host.exp (subf t (broadcastInDim S3x10x8x4x64x384 ![0, 1, 2, 3, 4, 5] bcast_S3x10x8x4x64x1_S3x10x8x4x64x384_0_1_2_3_4_5 (broadcastInDim S3x10x8x4x64x1 ![0, 1, 2, 3, 4] bcast_S3x10x8x4x64_S3x10x8x4x64x1_0_1_2_3_4 (maximumf (broadcastInDim S3x10x8x4x64 ![] bcast_S_S3x10x8x4x64 (constant S_ .f32 0xFF800000#32)) m))))

/-- The exponentials over their row's sum. -/
def NM (e : FVec Ideal S3x10x8x4x64x384 .f32) (s : FVec Ideal S3x10x8x4x64 .f32) : FVec Ideal S3x10x8x4x64x384 .f32 :=
  Host.divf e (broadcastInDim S3x10x8x4x64x384 ![0, 1, 2, 3, 4, 5] bcast_S3x10x8x4x64x1_S3x10x8x4x64x384_0_1_2_3_4_5 (broadcastInDim S3x10x8x4x64x1 ![0, 1, 2, 3, 4] bcast_S3x10x8x4x64_S3x10x8x4x64x1_0_1_2_3_4 s))

/-- The greatest magnitude of each row. -/
def RM (p : FVec Ideal S3x10x8x4x64x384 .f32) : FVec Ideal S3x10x8x4x64 .f32 :=
  MX (Host.absf p)

/-- The exponent of each row of greatest magnitude `a`. -/
def RE (a : FVec Ideal S3x10x8x4x64 .f32) : FVec Ideal S3x10x8x4x64 .f32 :=
  select (cmpf .oeq a (broadcastInDim S3x10x8x4x64 ![] bcast_S_S3x10x8x4x64 (constant S_ .f32 0x00000000#32))) (broadcastInDim S3x10x8x4x64 ![] bcast_S_S3x10x8x4x64 (id (constant S_ .f32 0x00000000#32))) (maximumf (addf (Host.floor (Host.divf (Host.log (mulf a (broadcastInDim S3x10x8x4x64 ![] bcast_S_S3x10x8x4x64 (constant S_ .f32 0x3B124925#32)))) (broadcastInDim S3x10x8x4x64 ![] bcast_S_S3x10x8x4x64 (Host.log (constant S_ .f32 0x40000000#32))))) (broadcastInDim S3x10x8x4x64 ![] bcast_S_S3x10x8x4x64 (constant S_ .f32 0x3F800000#32))) (broadcastInDim S3x10x8x4x64 ![] bcast_S_S3x10x8x4x64 (constant S_ .f32 0xC2FC0000#32)))

/-- The codes of the weights at the exponents `a`. -/
def CL (p : FVec Ideal S3x10x8x4x64x384 .f32) (a : FVec Ideal S3x10x8x4x64 .f32) : FVec Ideal S3x10x8x4x64x384 .f32 :=
  minimumf (maximumf (mulf p (broadcastInDim S3x10x8x4x64x384 ![0, 1, 2, 3, 4, 5] bcast_S3x10x8x4x64x1_S3x10x8x4x64x384_0_1_2_3_4_5 (Host.powf (broadcastInDim S3x10x8x4x64x1 ![] bcast_S_S3x10x8x4x64x1 (constant S_ .f32 0x40000000#32)) (Host.negf (broadcastInDim S3x10x8x4x64x1 ![0, 1, 2, 3, 4] bcast_S3x10x8x4x64_S3x10x8x4x64x1_0_1_2_3_4 a))))) (broadcastInDim S3x10x8x4x64x384 ![] bcast_S_S3x10x8x4x64x384 (constant S_ .f32 0xC3E00000#32))) (broadcastInDim S3x10x8x4x64x384 ![] bcast_S_S3x10x8x4x64x384 (constant S_ .f32 0x43E00000#32))

/-- The codes' product, at the two scales. -/
def FN (c : FVec Ideal S3x10x8x4x64x384 .f32) (W : FVec Ideal S3x10x8x384x128 .f32) (a : FVec Ideal S3x10x8x4x64 .f32) (z : FVec Ideal S3x10x128 .f32) :
    FVec Ideal S3x10x8x4x64x128 .f32 :=
  mulf (mulf (Host.dotGeneral dot_S3x10x8x4x64x384_S3x10x8x384x128_S3x10x8x4x64x128_5_3_34_4_012_012 none c W) (broadcastInDim S3x10x8x4x64x128 ![0, 1, 2, 3, 4, 5] bcast_S3x10x8x4x64x1_S3x10x8x4x64x128_0_1_2_3_4_5 (broadcastInDim S3x10x8x4x64x1 ![0, 1, 2, 3, 4] bcast_S3x10x8x4x64_S3x10x8x4x64x1_0_1_2_3_4 (Host.powf (broadcastInDim S3x10x8x4x64 ![] bcast_S_S3x10x8x4x64 (constant S_ .f32 0x40000000#32)) a)))) (broadcastInDim S3x10x8x4x64x128 ![0, 1, 2, 3, 4, 5] bcast_S3x10x1x1x1x128_S3x10x8x4x64x128_0_1_2_3_4_5 (broadcastInDim S3x10x1x1x1x128 ![0, 1, 5] bcast_S3x10x128_S3x10x1x1x1x128_0_1_5 (Host.powf (broadcastInDim S3x10x128 ![] bcast_S_S3x10x128 (constant S_ .f32 0x40000000#32)) z)))

/-- The result's layout. -/
def LY (f : FVec Ideal S3x10x8x4x64x128 .f32) : FVec Ideal S3x512x5120 .bf16 :=
  shapeCast _ (transpose S3x8x64x10x4x128 [0, 2, 4, 1, 3, 5] (truncf .bf16 f bitsLt_bf16_f32) transposes_S3x10x8x4x64x128_S3x8x64x10x4x128_0_2_4_1_3_5) shapeCasts_S3x8x64x10x4x128_S3x512x5120

end Cert.ReferenceIdeal.Codes

end
-- ==== Proof.AttentionRead.lean ====
/- The terms of the attention that are products, layouts and masks, read at an index. -/
module

public import proofs.«01_k».proof.Proof.AttentionDefs

@[expose] public section

set_option maxRecDepth 16384

noncomputable section

namespace Cert.ReferenceIdeal.Codes

open Cert.ReferenceIdeal Cert.ReferenceIdeal.Gen Idealize.ShloMosaic

theorem SL_apply (j : Fin 384) : SL (ix1 j) = BitVec.ofNat 32 (j.val / 64) := by
  revert j
  decide +kernel

theorem QT_apply (x : FVec Ideal S3x512x5120 .bf16) (b : Fin 3) (g : Fin 10) (n : Fin 8) (h : Fin 4) (r : Fin 64) (a : Fin 128) :
    QT x (ix6 b g n h r a) = x (ix3 b ⟨64 * n.val + r.val, by omega⟩ ⟨(4 * g.val + h.val) * 128 + a.val, by omega⟩) := by
  pointwise [QT]
  refine congrArg x (congrArg₂ (fun p q => ix3 b p q) (Fin.ext ?_) (Fin.ext ?_))
  · dsimp only
    omega
  · dsimp only
    omega

theorem KT_apply (k : FVec Ideal S3x512x1280 .bf16) (b : Fin 3) (g : Fin 10) (n : Fin 8) (r : Fin 64) (a : Fin 128) :
    KT k (ix5 b g n r a) = k (ix3 b ⟨n.val * 64 + r.val, by omega⟩ ⟨g.val * 128 + a.val, by omega⟩) := by
  pointwise [KT]

theorem VT_apply (w : FVec Ideal S3x512x10x128 .f32) (b : Fin 3) (g : Fin 10) (n : Fin 8) (r : Fin 64) (a : Fin 128) :
    VT w (ix5 b g n r a) = w (ix4 b ⟨n.val * 64 + r.val, by omega⟩ g a) := by
  pointwise [VT]

theorem IB_apply (idx : IVec S3x10x8x6 32) (b : Fin 3) (g : Fin 10) (n : Fin 8) (t : Fin 6) (u : Fin 1) :
    IB idx (ix5 b g n t u) = idx (ix4 b g n t) := by
  pointwise [IB]

theorem GS_raw {α : Type} (G : S3x10x8x6x64x128.Idx → α) (b : Fin 3) (g : Fin 10) (n : Fin 8) (j : Fin 384) (a : Fin 128) :
    (shapeCast S3x10x8x384x128 G shapeCasts_S3x10x8x6x64x128_S3x10x8x384x128) (ix5 b g n j a) = G (ix6 b g n ⟨j.val / 64, by omega⟩ ⟨j.val % 64, by omega⟩ a) := by
  pointwise

theorem DT_apply (q : FVec Ideal S3x10x8x4x64x128 .bf16) (k : FVec Ideal S3x10x8x384x128 .bf16) (b : Fin 3) (g : Fin 10) (n : Fin 8) (h : Fin 4) (r : Fin 64) (j : Fin 384) :
    DT q k (ix6 b g n h r j) = ∑ a : Fin 128, (show EReal from q (ix6 b g n h r a)) * (show EReal from k (ix5 b g n j a)) := by
  pointwise [DT]

theorem RE_apply (a : FVec Ideal S3x10x8x4x64 .f32) (b : Fin 3) (g : Fin 10) (n : Fin 8) (h : Fin 4) (r : Fin 64) :
    RE a (ix5 b g n h r) = if (show EReal from a (ix5 b g n h r)) = 0 then 0 else
        max (Ideal.liftRound Int.floor (Ideal.div (Ideal.log ((show EReal from a (ix5 b g n h r)) * Ideal.ofBits .f32 0x3B124925#32)) (Ideal.log (Ideal.ofBits .f32 0x40000000#32)))
          + 1) (Ideal.ofBits .f32 0xC2FC0000#32) := by
  have e : (Ideal.ofBits .f32 0x00000000#32) = 0 := by simp [Ideal.ofBits, Ideal.ieee]
  pointwise [RE]
  refine if_congr Iff.rfl e rfl

theorem CL_apply (p : FVec Ideal S3x10x8x4x64x384 .f32) (a : FVec Ideal S3x10x8x4x64 .f32) (b : Fin 3) (g : Fin 10) (n : Fin 8) (h : Fin 4) (r : Fin 64) (j : Fin 384) :
    CL p a (ix6 b g n h r j) = min (max ((show EReal from p (ix6 b g n h r j)) * Ideal.pow (Ideal.ofBits .f32 0x40000000#32) (-(show EReal from a (ix5 b g n h r))))
      (Ideal.ofBits .f32 0xC3E00000#32)) (Ideal.ofBits .f32 0x43E00000#32) := by
  pointwise [CL]

theorem FN_apply (c : FVec Ideal S3x10x8x4x64x384 .f32) (W : FVec Ideal S3x10x8x384x128 .f32) (a : FVec Ideal S3x10x8x4x64 .f32) (z : FVec Ideal S3x10x128 .f32)
    (b : Fin 3) (g : Fin 10) (n : Fin 8) (h : Fin 4) (r : Fin 64) (d : Fin 128) :
    FN c W a z (ix6 b g n h r d) = (∑ k : Fin 384, (show EReal from c (ix6 b g n h r k)) * (show EReal from W (ix5 b g n k d)))
      * Ideal.pow (Ideal.ofBits .f32 0x40000000#32) (show EReal from a (ix5 b g n h r)) * Ideal.pow (Ideal.ofBits .f32 0x40000000#32) (show EReal from z (ix3 b g d)) := by
  pointwise [FN]

theorem LV_apply (s : IVec S384 32) (idx : IVec S3x10x8x6 32) (cnt : IVec S3x10x8 32) (b : Fin 3) (g : Fin 10) (n : Fin 8) (h : Fin 4) (r : Fin 64) (j : Fin 384) :
    LV s idx cnt (ix6 b g n h r j) = IntOp.andi (IntOp.cmpi .slt (s (ix1 j)) (cnt (ix3 b g n)))
      (IntOp.cmpi .sle (IntOp.addi (IntOp.muli (idx (ix4 b g n ⟨j.val / 64, by omega⟩)) 64#32) (BitVec.ofNat 32 (j.val % 64)))
        (IntOp.addi (IntOp.muli (BitVec.ofNat 32 n.val) 64#32) (BitVec.ofNat 32 r.val))) := by
  pointwise [LV]

end Cert.ReferenceIdeal.Codes

end
-- ==== Proof.AttentionRows.lean ====
/- The terms of the attention that gather, reduce and lay out, read at an index. -/
module

public import proofs.«01_k».proof.Proof.AttentionDefs
public import Idealize.ShloMosaic.PureOps.Ideal.Laws

@[expose] public section

set_option maxRecDepth 16384

noncomputable section

namespace Cert.ReferenceIdeal.Codes

open Cert.ReferenceIdeal Cert.ReferenceIdeal.Gen Idealize.ShloMosaic

/-- The axes of the gather's record. -/
abbrev GD : GatherDims S3x10x8x64x128 S3x10x8x6x1 S3x10x8x6x64x128 := gather_S3x10x8x64x128_S3x10x8x6x1_S3x10x8x6x64x128_45_2_01_01_2_4_11164128

theorem gather_batch (i : IVec S3x10x8x6x1 32) (y : S3x10x8x6x64x128.Idx) (k : Fin 5) (hk : k = 0 ∨ k = 1) :
    GD.start y i k + GD.batchCoord y k + GD.offCoord y k = (y (Fin.castLE (by decide : 5 ≤ 6) k)).val := by
  rcases hk with rfl | rfl
  · rw [GD.start_batching _ _ _ (show (0 : Fin 5) ∈ ([0, 1] : List (Fin 5)) by decide),
      GD.offCoord_eq_zero _ _ (fun h => ((GD.mem_sKept _).mp h).2 (show (0 : Fin 5) ∈ ([0, 1] : List (Fin 5)) by decide))]
    simp only [Nat.zero_add, Nat.add_zero]
    unfold GatherDims.batchCoord
    rw [dif_pos (show (0 : Fin 5) ∈ GD.operandBatchingDims from (by decide : (0 : Fin 5) ∈ ([0, 1] : List (Fin 5))))]
    rfl
  · rw [GD.start_batching _ _ _ (show (1 : Fin 5) ∈ ([0, 1] : List (Fin 5)) by decide),
      GD.offCoord_eq_zero _ _ (fun h => ((GD.mem_sKept _).mp h).2 (show (1 : Fin 5) ∈ ([0, 1] : List (Fin 5)) by decide))]
    simp only [Nat.zero_add, Nat.add_zero]
    unfold GatherDims.batchCoord
    rw [dif_pos (show (1 : Fin 5) ∈ GD.operandBatchingDims from (by decide : (1 : Fin 5) ∈ ([0, 1] : List (Fin 5))))]
    rfl

theorem gather_rest (i : IVec S3x10x8x6x1 32) (y : S3x10x8x6x64x128.Idx) (k : Fin 5) (hk : k = 3 ∨ k = 4) :
    GD.start y i k + GD.batchCoord y k + GD.offCoord y k = (y (Fin.succ k)).val := by
  rcases hk with rfl | rfl
  · rw [GD.batchCoord_eq_zero _ _ (show (3 : Fin 5) ∉ ([0, 1] : List (Fin 5)) by decide)]
    unfold GatherDims.start GatherDims.offCoord
    rw [dif_neg (show (3 : Fin 5) ∉ GD.startIndexMap from (by decide : (3 : Fin 5) ∉ ([2] : List (Fin 5)))), dif_pos ((GD.mem_sKept (_ : Fin 5)).mpr ⟨(show (3 : Fin 5) ∉ ([2] : List (Fin 5)) by decide), (show (3 : Fin 5) ∉ ([0, 1] : List (Fin 5)) by decide)⟩)]
    simp only [Nat.zero_add, Nat.add_zero]
    rfl
  · rw [GD.batchCoord_eq_zero _ _ (show (4 : Fin 5) ∉ ([0, 1] : List (Fin 5)) by decide)]
    unfold GatherDims.start GatherDims.offCoord
    rw [dif_neg (show (4 : Fin 5) ∉ GD.startIndexMap from (by decide : (4 : Fin 5) ∉ ([2] : List (Fin 5)))), dif_pos ((GD.mem_sKept (_ : Fin 5)).mpr ⟨(show (4 : Fin 5) ∉ ([2] : List (Fin 5)) by decide), (show (4 : Fin 5) ∉ ([0, 1] : List (Fin 5)) by decide)⟩)]
    simp only [Nat.zero_add, Nat.add_zero]
    rfl

theorem gather_start (i : IVec S3x10x8x6x1 32) (b : Fin 3) (g : Fin 10) (n : Fin 8) (t : Fin 6) (r : Fin 64) (a : Fin 128) :
    GD.start (ix6 b g n t r a) i (2 : Fin 5) + GD.batchCoord (ix6 b g n t r a) (2 : Fin 5) + GD.offCoord (ix6 b g n t r a) (2 : Fin 5) = min (i (ix5 b g n t 0)).toInt.toNat 7 := by
  rw [GD.batchCoord_eq_zero _ _ (show (2 : Fin 5) ∉ ([0, 1] : List (Fin 5)) by decide),
    GD.offCoord_eq_zero _ _ (fun h => ((GD.mem_sKept _).mp h).1 (show (2 : Fin 5) ∈ ([2] : List (Fin 5)) by decide))]
  simp only [Nat.add_zero]
  unfold GatherDims.start
  rw [dif_pos (show (2 : Fin 5) ∈ GD.startIndexMap from (by decide : (2 : Fin 5) ∈ ([2] : List (Fin 5))))]
  have hsi : GD.siIdx (ix6 b g n t r a) ⟨List.idxOf (2 : Fin 5) GD.startIndexMap,
      List.idxOf_lt_length_iff.2 (show (2 : Fin 5) ∈ GD.startIndexMap from (by decide : (2 : Fin 5) ∈ ([2] : List (Fin 5))))⟩ = ix5 b g n t 0 := by
    funext c; refine Fin.ext ?_
    match c with
    | ⟨0, _⟩ => rfl
    | ⟨1, _⟩ => rfl
    | ⟨2, _⟩ => rfl
    | ⟨3, _⟩ => rfl
    | ⟨4, _⟩ => rfl
  rw [hsi]
  rfl

/-- The gather at an index: the block that the table names. -/
theorem gather_apply {α : Type} (T : S3x10x8x64x128.Idx → α) (i : IVec S3x10x8x6x1 32) (b : Fin 3) (g : Fin 10) (n : Fin 8) (t : Fin 6) (hlt : (i (ix5 b g n t 0)).toNat < 8) (r : Fin 64) (a : Fin 128) :
    Host.gather GD T i (ix6 b g n t r a) = T (ix5 b g ⟨(i (ix5 b g n t 0)).toNat, hlt⟩ r a) := by
  unfold Host.gather
  refine congrArg T (funext fun k => Fin.ext ?_)
  show GD.start (ix6 b g n t r a) i k + GD.batchCoord (ix6 b g n t r a) k + GD.offCoord (ix6 b g n t r a) k = _
  match k with
  | ⟨0, _⟩ => exact gather_batch i _ 0 (Or.inl rfl)
  | ⟨1, _⟩ => exact gather_batch i _ 1 (Or.inr rfl)
  | ⟨2, _⟩ =>
    refine (gather_start i b g n t r a).trans ?_
    show min (i (ix5 b g n t 0)).toInt.toNat 7 = (i (ix5 b g n t 0)).toNat
    rw [BitVec.toInt_eq_toNat_of_lt (by omega)]
    omega
  | ⟨3, _⟩ => exact gather_rest i _ 3 (Or.inl rfl)
  | ⟨4, _⟩ => exact gather_rest i _ 4 (Or.inr rfl)

theorem SC_apply (L : IVec S3x10x8x4x64x384 1) (S : FVec Ideal S3x10x8x4x64x384 .f32) (b : Fin 3) (g : Fin 10) (n : Fin 8) (h : Fin 4) (r : Fin 64) (j : Fin 384) :
    SC L S (ix6 b g n h r j) = Scalar.select (L (ix6 b g n h r j)) (Ideal.div (S (ix6 b g n h r j)) (Ideal.sqrt (Ideal.ofBits .f32 0x43000000#32))) (Ideal.ofBits .f32 0xFF800000#32) := by
  pointwise [SC]

theorem EX_apply (t : FVec Ideal S3x10x8x4x64x384 .f32) (m : FVec Ideal S3x10x8x4x64 .f32) (b : Fin 3) (g : Fin 10) (n : Fin 8) (h : Fin 4) (r : Fin 64) (j : Fin 384) :
    EX t m (ix6 b g n h r j) = Ideal.exp ((show EReal from t (ix6 b g n h r j)) - max (Ideal.ofBits .f32 0xFF800000#32) (m (ix5 b g n h r))) := by
  pointwise [EX]

theorem NM_apply (e : FVec Ideal S3x10x8x4x64x384 .f32) (s : FVec Ideal S3x10x8x4x64 .f32) (b : Fin 3) (g : Fin 10) (n : Fin 8) (h : Fin 4) (r : Fin 64) (j : Fin 384) :
    NM e s (ix6 b g n h r j) = Ideal.div (e (ix6 b g n h r j)) (s (ix5 b g n h r)) := by
  pointwise [NM]

theorem reduces : S3x10x8x4x64x384.Reduces [5] S3x10x8x4x64 := by decide

theorem lift_eq (b : Fin 3) (g : Fin 10) (n : Fin 8) (h : Fin 4) (r : Fin 64) (k : Fin 384) : reduces.lift (ix5 b g n h r) k = ix6 b g n h r k := by
  funext a
  match a with
  | ⟨0, _⟩ => rfl
  | ⟨1, _⟩ => rfl
  | ⟨2, _⟩ => rfl
  | ⟨3, _⟩ => rfl
  | ⟨4, _⟩ => rfl
  | ⟨5, _⟩ => rfl

theorem MX_apply (t : FVec Ideal S3x10x8x4x64x384 .f32) (b : Fin 3) (g : Fin 10) (n : Fin 8) (h : Fin 4) (r : Fin 64) :
    MX t (ix5 b g n h r) = Finset.fold max (Ideal.ofBits .f32 0xFF800000#32) (fun k : Fin 384 => (show EReal from t (ix6 b g n h r k))) Finset.univ := by
  unfold MX
  refine (Host.reduce_eq_fold_single (max : EReal → EReal → EReal) t _ _ reduces _ _).trans ?_
  refine congrArg (fun f => Finset.fold max (Ideal.ofBits .f32 0xFF800000#32) f Finset.univ) (funext fun k => ?_)
  exact congrArg t (lift_eq b g n h r k)

theorem SM_apply (e : FVec Ideal S3x10x8x4x64x384 .f32) (b : Fin 3) (g : Fin 10) (n : Fin 8) (h : Fin 4) (r : Fin 64) :
    SM e (ix5 b g n h r) = Ideal.ofBits .f32 0x00000000#32 + ∑ k : Fin 384, (show EReal from e (ix6 b g n h r k)) := by
  unfold SM
  refine (Ideal.hostReduceAdd_single _ reduces e _ _).trans ?_
  refine congrArg (fun s : EReal => Ideal.ofBits .f32 0x00000000#32 + s) (Finset.sum_congr rfl fun k _ => ?_)
  exact congrArg e (lift_eq b g n h r k)

theorem LY_apply (f : FVec Ideal S3x10x8x4x64x128 .f32) (b : Fin 3) (s : Fin 512) (l : Fin 5120) :
    LY f (ix3 b s l) = f (ix6 b ⟨l.val / 512, by omega⟩ ⟨s.val / 64, by omega⟩ ⟨l.val % 512 / 128, by omega⟩ ⟨s.val % 64, by omega⟩ ⟨l.val % 128, by omega⟩) := by
  pointwise [LY]
  refine congrArg (fun h => f (ix6 b _ _ h _ _)) (Fin.ext ?_)
  show l.val / 128 % 4 = l.val % 512 / 128
  omega

end Cert.ReferenceIdeal.Codes

end
-- ==== Proof.AttentionValue.lean ====
/- The reference's attention as one row's function of its scores and codes, and that the kernel's result is the same. -/
module

public import proofs.«01_k».proof.Proof.AttentionRead
public import proofs.«01_k».proof.Proof.AttentionRows
public import proofs.«01_k».proof.Proof.KernelIdeal.ReadOut

@[expose] public section

set_option maxRecDepth 16384

noncomputable section

namespace Cert.ReferenceIdeal.Codes

open Cert.ReferenceIdeal Cert.ReferenceIdeal.Gen Idealize.ShloMosaic

theorem zero : Ideal.ofBits .f32 0x00000000#32 = 0 := by simp [Ideal.ofBits, Ideal.ieee]

theorem width : Ideal.ofBits .f32 0x43000000#32 = ((128 : ℝ) : EReal) := by
  simp [Ideal.ofBits, Ideal.ieee, -EReal.coe_mul]
  norm_num

/-- Division by the root of the head's width is multiplication by the scale. -/
theorem div_root (s : EReal) : Ideal.div s (Ideal.sqrt (Ideal.ofBits .f32 0x43000000#32)) = s * (Row.scale : EReal) := by
  have hr : Ideal.sqrt ((128 : ℝ) : EReal) = ((Real.sqrt 128 : ℝ) : EReal) := if_neg (by norm_num)
  rw [width, hr]
  have h : Real.sqrt 128 ≠ 0 := (Real.sqrt_pos.2 (by norm_num)).ne'
  unfold Ideal.div
  rw [if_neg (by exact_mod_cast h), ← EReal.coe_inv]
  rfl

theorem toInt_place (w : BitVec 32) (hw : w.toNat < 8) (u : Nat) (hu : u < 64) :
    (IntOp.addi (IntOp.muli w 64#32) (BitVec.ofNat 32 u)).toInt = w.toNat * 64 + u := by
  have e : (IntOp.addi (IntOp.muli w 64#32) (BitVec.ofNat 32 u)).toNat = w.toNat * 64 + u := by
    show (w * 64#32 + BitVec.ofNat 32 u).toNat = _
    rw [BitVec.toNat_add, BitVec.toNat_mul, BitVec.toNat_ofNat, BitVec.toNat_ofNat]
    omega
  rw [BitVec.toInt_eq_toNat_of_lt (by omega), e]
  push_cast
  rfl

section Values

variable (x : FVec Ideal S3x512x5120 .bf16) (k : FVec Ideal S3x512x1280 .bf16) (idx : IVec S3x10x8x6 32) (cnt : IVec S3x10x8 32) (hJ : ∀ i, (Cert.KernelIdeal.Gen.keptI idx i).toNat < 8)
  (hC : ∀ b g (n : Fin 8), n.val < 5 → (cnt (ix3 b g n)).sle (BitVec.ofNat 32 (n.val + 1)) = true)

theorem keptI_of (b : Fin 3) (g : Fin 10) (n : Fin 8) (t : Fin 6) (h : t.val ≤ n.val) : Cert.KernelIdeal.Gen.keptI idx (ix4 b g n t) = idx (ix4 b g n t) := by
  show cond (Nat.ble t.val n.val) _ _ = _
  rw [Nat.ble_eq_true_of_le h]
  rfl

include hC in
/-- A slot past the query block's own number is past the count. -/
theorem past (b : Fin 3) (g : Fin 10) (n : Fin 8) (t : Nat) (ht : t < 6) (h : ¬ t ≤ n.val) : (cnt (ix3 b g n)).sle (BitVec.ofNat 32 t) = true :=
  Cert.KernelIdeal.Gen.dead_of n _ (hC b g n) t (by omega) ht

include hC in
/-- The condition under which a score counts. -/
theorem live_iff (b : Fin 3) (g : Fin 10) (n : Fin 8) (h : Fin 4) (r : Fin 64) (j : Fin 384) :
    LV SL idx cnt (ix6 b g n h r j) = 1#1 ↔ ¬ (cnt (ix3 b g n)).sle (BitVec.ofNat 32 (j.val / 64)) ∧ (Cert.KernelIdeal.Gen.slotRow (Cert.KernelIdeal.Gen.keptI idx) hJ b g n j).val ≤ 64 * n.val + r.val := by
  rw [LV_apply, SL_apply, IntOp.andi_eq_one, IntOp.cmpi_slt, IntOp.cmpi_sle]
  by_cases ht : j.val / 64 ≤ n.val
  · have ek := keptI_of idx b g n ⟨j.val / 64, by omega⟩ ht
    have e1 := toInt_place (idx (ix4 b g n ⟨j.val / 64, by omega⟩)) (by rw [← ek]; exact hJ _) (j.val % 64) (by omega)
    have e2 := toInt_place (BitVec.ofNat 32 n.val) (by rw [BitVec.toNat_ofNat]; omega) r.val r.isLt
    have e3 : (BitVec.ofNat 32 n.val).toNat = n.val := by rw [BitVec.toNat_ofNat]; omega
    have e4 : (Cert.KernelIdeal.Gen.slotRow (Cert.KernelIdeal.Gen.keptI idx) hJ b g n j).val = (Cert.KernelIdeal.Gen.keptI idx (ix4 b g n ⟨j.val / 64, by omega⟩)).toNat * 64 + j.val % 64 := rfl
    rw [ek] at e4
    rw [e1, e2, e3, e4, BitVec.sle_eq_decide, decide_eq_true_iff]
    refine and_congr ⟨fun H => not_le.2 H, fun H => not_le.1 H⟩ ⟨fun H => ?_, fun H => ?_⟩
    · omega
    · omega
  · have hd := past cnt hC b g n (j.val / 64) (by omega) ht
    refine ⟨fun H => absurd H.1 ?_, fun H => absurd hd H.1⟩
    rw [BitVec.sle_eq_decide, decide_eq_true_iff] at hd
    exact not_lt.2 hd

theorem GS_apply {α : Type} (T : S3x10x8x64x128.Idx → α) (b : Fin 3) (g : Fin 10) (n : Fin 8) (j : Fin 384) (a : Fin 128) (ht : j.val / 64 ≤ n.val) :
    GS T (IB idx) (ix5 b g n j a) = T (ix5 b g ⟨(Cert.KernelIdeal.Gen.keptI idx (ix4 b g n ⟨j.val / 64, by omega⟩)).toNat, hJ _⟩ ⟨j.val % 64, by omega⟩ a) := by
  have ek := keptI_of idx b g n ⟨j.val / 64, by omega⟩ ht
  have ei := (IB_apply idx b g n ⟨j.val / 64, by omega⟩ 0).trans ek.symm
  refine (GS_raw _ b g n j a).trans ((gather_apply T (IB idx) _ _ _ _ (by rw [ei]; exact hJ _) _ _).trans ?_)
  exact congrArg (fun m => T (ix5 b g m _ a)) (Fin.ext (congrArg BitVec.toNat ei))

/-- The reference's scores. -/
def TT : FVec Ideal S3x10x8x4x64x384 .f32 := SC (LV SL idx cnt) (DT (QT x) (GS (KT k) (IB idx)))

include hC in
theorem TT_apply (b : Fin 3) (g : Fin 10) (n : Fin 8) (h : Fin 4) (r : Fin 64) (j : Fin 384) :
    TT x k idx cnt (ix6 b g n h r j) = Cert.KernelIdeal.Gen.scoreG x k (Cert.KernelIdeal.Gen.keptI idx) cnt hJ b g n h r j * (Row.scale : EReal) := by
  unfold TT
  rw [SC_apply, div_root, bottom]
  unfold Cert.KernelIdeal.Gen.scoreG Scalar.select
  by_cases hl : LV SL idx cnt (ix6 b g n h r j) = 1#1
  · have hl' := (live_iff idx cnt hJ hC b g n h r j).1 hl
    have ht : j.val / 64 ≤ n.val := by
      by_contra ht
      exact hl'.1 (past cnt hC b g n (j.val / 64) (by omega) ht)
    have hd : DT (QT x) (GS (KT k) (IB idx)) (ix6 b g n h r j) = ∑ a : Fin 128,
        (show EReal from k (ix3 b (Cert.KernelIdeal.Gen.slotRow (Cert.KernelIdeal.Gen.keptI idx) hJ b g n j) ⟨g.val * 128 + a.val, by omega⟩))
        * (show EReal from x (ix3 b ⟨64 * n.val + r.val, by omega⟩ ⟨(4 * g.val + h.val) * 128 + a.val, by omega⟩)) := by
      rw [DT_apply]
      refine Finset.sum_congr rfl fun a _ => ?_
      rw [QT_apply, GS_apply idx hJ _ b g n j a ht, KT_apply, mul_comm]
      rfl
    rw [if_pos hl', hd]
    exact if_pos hl
  · rw [if_neg fun H => hl ((live_iff idx cnt hJ hC b g n h r j).2 H), EReal.bot_mul_coe_of_pos Row.scale_pos]
    exact if_neg hl

/-- The reference's weights of the scores `t`. -/
def PP (t : FVec Ideal S3x10x8x4x64x384 .f32) : FVec Ideal S3x10x8x4x64x384 .f32 := NM (EX t (MX t)) (SM (EX t (MX t)))

theorem EX_row (t : FVec Ideal S3x10x8x4x64x384 .f32) (b : Fin 3) (g : Fin 10) (n : Fin 8) (h : Fin 4) (r : Fin 64) (j : Fin 384) :
    EX t (MX t) (ix6 b g n h r j) = Ideal.exp ((show EReal from t (ix6 b g n h r j)) - max ⊥ (Row.top fun k : Fin 384 => (show EReal from t (ix6 b g n h r k)))) := by
  rw [EX_apply, MX_apply, bottom]
  rfl

theorem PP_apply (t : FVec Ideal S3x10x8x4x64x384 .f32) (b : Fin 3) (g : Fin 10) (n : Fin 8) (h : Fin 4) (r : Fin 64) (j : Fin 384) :
    PP t (ix6 b g n h r j) = Ideal.div (Ideal.exp ((show EReal from t (ix6 b g n h r j)) - max ⊥ (Row.top fun k : Fin 384 => (show EReal from t (ix6 b g n h r k)))))
      (0 + ∑ q : Fin 384, Ideal.exp ((show EReal from t (ix6 b g n h r q)) - max ⊥ (Row.top fun k : Fin 384 => (show EReal from t (ix6 b g n h r k))))) := by
  unfold PP
  rw [NM_apply, SM_apply, zero]
  simp only [EX_row]

theorem RE_row (p : FVec Ideal S3x10x8x4x64x384 .f32) (b : Fin 3) (g : Fin 10) (n : Fin 8) (h : Fin 4) (r : Fin 64) :
    RE (RM p) (ix5 b g n h r) = Row.expoR (Row.top fun k : Fin 384 => Scale.mag (p (ix6 b g n h r k))) := by
  have e : RM p (ix5 b g n h r) = Row.top fun k : Fin 384 => Scale.mag (p (ix6 b g n h r k)) := by
    refine (MX_apply (Host.absf p) b g n h r).trans ?_
    rw [bottom]
    rfl
  rw [RE_apply, e, two, least]
  rfl

/-- The reference's result before its layout, of the scores `t`, the codes `W` and the exponents `z`. -/
def RR (t : FVec Ideal S3x10x8x4x64x384 .f32) (W : FVec Ideal S3x10x8x384x128 .f32) (z : FVec Ideal S3x10x128 .f32) : FVec Ideal S3x10x8x4x64x128 .f32 :=
  FN (CL (PP t) (RE (RM (PP t)))) W (RE (RM (PP t))) z

theorem RR_apply (t : FVec Ideal S3x10x8x4x64x384 .f32) (W : FVec Ideal S3x10x8x384x128 .f32) (z : FVec Ideal S3x10x128 .f32)
    (b : Fin 3) (g : Fin 10) (n : Fin 8) (h : Fin 4) (r : Fin 64) (d : Fin 128) :
    RR t W z (ix6 b g n h r d) = Row.rowR (fun j : Fin 384 => (show EReal from t (ix6 b g n h r j))) (fun j => (show EReal from W (ix5 b g n j d))) (Ideal.pow 2 (show EReal from z (ix3 b g d))) := by
  unfold RR
  rw [FN_apply, RE_row, two]
  simp only [CL_apply, RE_row, two, PP_apply]
  rfl

/-- The codes of the values before their layout. -/
def WV (v : FVec Ideal S3x512x1280 .bf16) (e : FVec Ideal S3x10x128 .f32) : FVec Ideal S3x512x10x128 .f32 :=
  minimumf (maximumf (mulf (shapeCast _ (extf .f32 v bitsLt_bf16_f32) shapeCasts_S3x512x1280_S3x512x10x128) (broadcastInDim S3x512x10x128 ![0, 1, 2, 3] bcast_S3x1x10x128_S3x512x10x128_0_1_2_3 (Host.powf (broadcastInDim S3x1x10x128 ![] bcast_S_S3x1x10x128 (constant S_ .f32 0x40000000#32)) (Host.negf (broadcastInDim S3x1x10x128 ![0, 2, 3] bcast_S3x10x128_S3x1x10x128_0_2_3 e))))) (broadcastInDim S3x512x10x128 ![] bcast_S_S3x512x10x128 (constant S_ .f32 0xC3E00000#32))) (broadcastInDim S3x512x10x128 ![] bcast_S_S3x512x10x128 (constant S_ .f32 0x43E00000#32))

theorem turn (w : FVec Ideal S3x512x10x128 .f32) (b : Fin 3) (g : Fin 10) (r : Fin 512) (d : Fin 128) :
    transpose S3x10x512x128 [0, 2, 1, 3] (Host.convertf .fp8e4m3 w) transposes_S3x512x10x128_S3x10x512x128_0_2_1_3 (ix4 b g r d) = w (ix4 b r g d) := by
  pointwise

theorem WV_apply (v : FVec Ideal S3x512x1280 .bf16) (b : Fin 3) (g : Fin 10) (r : Fin 512) (d : Fin 128) :
    WV v (EV (AM v)) (ix4 b r g d) = REF v (ix4 b g r d) :=
  (turn (WV v (EV (AM v))) b g r d).symm

/-- The reference's result as a function of the arguments. -/
def OUT (v : FVec Ideal S3x512x1280 .bf16) : FVec Ideal S3x512x5120 .bf16 :=
  LY (RR (TT x k idx cnt) (GS (VT (WV v (EV (AM v)))) (IB idx)) (EV (AM v)))

theorem EV_exp (v : FVec Ideal S3x512x1280 .bf16) (b : Fin 3) (g : Fin 10) (d : Fin 128) (z : ℤ) (h0 : amax v b g d = 0 → z = 0)
    (h1 : amax v b g d ≠ 0 → Scale.expoLog (amax v b g d * Ideal.ofBits .f32 0x3B124925#32) = ((z : ℝ) : EReal)) :
    EV (AM v) (ix3 b g d) = ((z : ℝ) : EReal) := by
  rw [EV_apply, AM_apply, two, least]
  by_cases h : amax v b g d = 0
  · rw [if_pos h, h0 h]; simp
  · rw [if_neg h]
    exact h1 h

include hC in
/-- The reference's result is the kernel's. -/
theorem OUT_eq (v : FVec Ideal S3x512x1280 .bf16) (z : Fin 3 → Fin 10 → Fin 128 → ℤ) (h0 : ∀ b g d, amax v b g d = 0 → z b g d = 0)
    (h1 : ∀ b g d, amax v b g d ≠ 0 → Scale.expoLog (amax v b g d * Ideal.ofBits .f32 0x3B124925#32) = ((z b g d : ℝ) : EReal))
    (hc : REF v = Cert.KernelIdeal.Gen.codes v z) :
    OUT x k idx cnt v = Cert.KernelIdeal.Gen.outs x k v (Cert.KernelIdeal.Gen.keptI idx) cnt z hJ := by
  have key : ∀ (b : Fin 3) (g : Fin 10) (n : Fin 8) (h : Fin 4) (r : Fin 64) (d : Fin 128),
      RR (TT x k idx cnt) (GS (VT (WV v (EV (AM v)))) (IB idx)) (EV (AM v)) (ix6 b g n h r d) = Cert.KernelIdeal.Gen.outG x k v (Cert.KernelIdeal.Gen.keptI idx) cnt z hJ b g n h r d := by
    intro b g n h r d
    rw [RR_apply, EV_exp v b g d (z b g d) (h0 b g d) (h1 b g d), Scale.pow_two]
    simp only [TT_apply x k idx cnt hJ hC]
    rw [Row.rowR_eq (by decide)]
    unfold Cert.KernelIdeal.Gen.outG
    refine Row.row_congr _ _ _ (fun j hj => ?_) _
    have ht : j.val / 64 ≤ n.val := by
      by_contra ht
      exact hj (if_neg fun H => H.1 (past cnt hC b g n (j.val / 64) (by omega) ht))
    rw [GS_apply idx hJ _ b g n j d ht, VT_apply, WV_apply, hc]
    rfl
  funext y
  obtain ⟨b, s, l, rfl⟩ : ∃ (b : Fin 3) (s : Fin 512) (l : Fin 5120), y = ix3 b s l := ⟨y 0, y 1, y 2, by funext k; fin_cases k <;> rfl⟩
  unfold OUT
  rw [LY_apply, key]
  rfl

end Values

end Cert.ReferenceIdeal.Codes

end
-- ==== Proof.Sampled.lean ====
/- The precondition `sampled`: the facts it states, and what it says of the block table, of the counts and of the values. -/
module

public import proofs.«01_k».proof.Pre_sampled
public import proofs.«01_k».proof.Proof.Exponent
public import proofs.«01_k».proof.Proof.InRange
public import proofs.«01_k».proof.Proof.KernelIdeal.ReadOut
public import proofs.«01_k».proof.Proof.Gen.Pre_blocks_in_range
public import Idealize.ShloMosaic.Lib.Decide

@[expose] public section

set_option maxRecDepth 16384

namespace Cert.Pre_sampled

open Idealize.ShloMosaic

instance facts : Cert.Pre_sampled.Facts where
  bcast_S8_S8x1_0 := by decide
  bcast_S6_S1x6_1 := by decide
  bcast_S1x6_S8x6_0_1 := by decide
  bcast_S8x1_S8x6_0_1 := by decide
  bcast_S_S3x10x8x6 := by decide
  bcast_S8x6_S1x1x8x6_2_3 := by decide
  bcast_S1x1x8x6_S3x10x8x6_0_1_2_3 := by decide
  reducesTo_S3x10x8x6_S_d0_1_2_3 := by decide
  h_S_ := by decide
  bcast_S_S3x10x8 := by decide
  bcast_S_S8 := by decide
  bcast_S8_S1x1x8_2 := by decide
  bcast_S1x1x8_S3x10x8_0_1_2 := by decide
  reducesTo_S3x10x8_S_d0_1_2 := by decide
  bcast_S_S3x512x1280 := by decide
  reducesTo_S3x512x1280_S_d0_1_2 := by decide

/-- `sampled` states `blocks_in_range`, and the rest element by element. -/
theorem split {F : FTy → Type} [FloatOps F] (x : FVec F S3x512x5120 .bf16) (k v : FVec F S3x512x1280 .bf16)
    (idx : IVec S3x10x8x6 32) (cnt : IVec S3x10x8 32) (h : fn (F := F) x k v idx cnt = fun _ => 1#1) :
    Cert.Pre_blocks_in_range.fn (F := F) x k v idx cnt = (fun _ => 1#1)
      ∧ (∀ (b : Fin 3) (g : Fin 10) (n : Fin 8), IntOp.cmpi .sle (IntOp.minsi (cnt (ix3 b g n)) 6#32) (IntOp.addi (BitVec.ofNat 32 n.val) 1#32) = 1#1)
      ∧ ∀ y, FloatOps.cmpf .ole (FloatOps.hostAbsf (v y)) (FloatOps.ofBits .bf16 0x7F7F#16) = 1#1 := by
  have : Subsingleton S_.Idx := ⟨fun a b => funext fun i => i.elim0⟩
  have e : ∀ i, IntOp.andi (IntOp.andi
      (Cert.Pre_blocks_in_range.fn (F := F) x k v idx cnt i)
      (Host.reduce IntOp.andi (cmpi .sle (minsi cnt (broadcastInDim S3x10x8 ![] facts.bcast_S_S3x10x8 (constantI S_ 32 6#32))) (broadcastInDim S3x10x8 ![0, 1, 2] facts.bcast_S1x1x8_S3x10x8_0_1_2 (broadcastInDim S1x1x8 ![2] facts.bcast_S8_S1x1x8_2
        (addi (iotaInDim S8 32 0) (broadcastInDim S8 ![] facts.bcast_S_S8 (constantI S_ 32 1#32)))))) (constantI S_ 1 1#1) facts.reducesTo_S3x10x8_S_d0_1_2 facts.h_S_ i))
      (Host.reduce IntOp.andi (cmpf .ole (Host.absf v) (broadcastInDim S3x512x1280 ![] facts.bcast_S_S3x512x1280 (constant S_ .bf16 0x7F7F#16)))
        (constantI S_ 1 1#1) facts.reducesTo_S3x512x1280_S_d0_1_2 facts.h_S_ i) = 1#1 := fun i => congrFun h i
  have e' := fun i => IntOp.andi_eq_one.1 (e i)
  have e'' := fun i => IntOp.andi_eq_one.1 (e' i).1
  refine ⟨funext fun i => (e'' i).1, fun b g n => ?_, fun y => ?_⟩
  · have := Host.reduce_andi_all _ _ _ _ (fun i => i.elim0) (e'' (fun i => i.elim0)).2 (ix3 b g n)
    exact this
  · have := Host.reduce_andi_all _ _ _ _ (fun i => i.elim0) (e' (fun i => i.elim0)).2 y
    idx_vars y
    pointwise at this
    exact this

section Table

variable {F : FTy → Type} [FloatOps F] (x : FVec F S3x512x5120 .bf16) (k v : FVec F S3x512x1280 .bf16)
    (idx : IVec S3x10x8x6 32) (cnt : IVec S3x10x8 32) (h : fn (F := F) x k v idx cnt = fun _ => 1#1)

include h

/-- Every word of the table that is read names one of the eight blocks. -/
theorem word_lt (y : S3x10x8x6.Idx) : (Cert.KernelIdeal.Gen.keptI idx y).toNat < 8 := by
  unfold Cert.KernelIdeal.Gen.keptI
  by_cases hy : (y 3).val ≤ (y 2).val
  · rw [Nat.ble_eq_true_of_le hy]
    exact Cert.Pre_blocks_in_range.word_lt x k v idx cnt (split x k v idx cnt h).1 y hy
  · rw [Bool.eq_false_iff.2 fun e => hy (Nat.le_of_ble_eq_true e)]
    show (0#32).toNat < 8
    decide

/-- No count is past its block of queries, for the blocks before the sixth. -/
theorem count_le (b : Fin 3) (g : Fin 10) (n : Fin 8) (hn : n.val < 5) : (cnt (ix3 b g n)).sle (BitVec.ofNat 32 (n.val + 1)) = true := by
  have e := (split x k v idx cnt h).2.1 b g n
  have e6 : (6#32).toInt = 6 := rfl
  have en : (BitVec.ofNat 32 (n.val + 1)).toInt = n.val + 1 := by
    rw [BitVec.toInt_eq_toNat_of_lt (by rw [BitVec.toNat_ofNat]; omega), BitVec.toNat_ofNat]
    omega
  rw [show IntOp.addi (BitVec.ofNat 32 n.val) 1#32 = BitVec.ofNat 32 (n.val + 1) from by rw [BitVec.ofNat_add]; rfl, IntOp.cmpi_sle, en] at e
  rw [BitVec.sle_eq_decide, decide_eq_true_iff, en]
  unfold IntOp.minsi at e
  split_ifs at e
  · exact e
  · rw [e6] at e
    omega

end Table

theorem greatest : Ideal.ofBits .bf16 0x7F7F#16 = ((2 ^ 128 - 2 ^ 120 : ℝ) : EReal) := by
  simp [Ideal.ofBits, Ideal.ieee, -EReal.coe_mul]
  refine congrArg Real.toEReal ?_
  norm_num

/-- Under `sampled` the magnitude of each value is a real of the format's range. -/
theorem mag_real (x : FVec Ideal S3x512x5120 .bf16) (k v : FVec Ideal S3x512x1280 .bf16)
    (idx : IVec S3x10x8x6 32) (cnt : IVec S3x10x8 32) (h : fn (F := Ideal) x k v idx cnt = fun _ => 1#1) (y : S3x512x1280.Idx) :
    ∃ a : ℝ, Scale.mag (v y) = (a : EReal) ∧ 0 ≤ a ∧ a ≤ 2 ^ 128 := by
  have e : Ideal.cmp .ole (Scale.mag (v y)) (Ideal.ofBits .bf16 0x7F7F#16) = 1#1 := (split x k v idx cnt h).2.2 y
  have hle : Scale.mag (v y) ≤ ((2 ^ 128 - 2 ^ 120 : ℝ) : EReal) := by
    rw [← greatest]
    by_contra hn
    simp [Ideal.cmp, hn] at e
  have hge : 0 ≤ Scale.mag (v y) := by
    unfold Scale.mag
    rcases le_total (0 : EReal) (v y) with h0 | h0
    · exact le_max_of_le_left h0
    · exact le_max_of_le_right (EReal.neg_nonneg.2 h0)
  refine ⟨(Scale.mag (v y)).toReal, (EReal.coe_toReal ?_ ?_).symm, EReal.toReal_nonneg hge, ?_⟩
  · intro ht
    rw [ht] at hle
    exact absurd hle (not_le.2 (EReal.coe_lt_top _))
  · intro hb
    rw [hb] at hge
    exact absurd hge (by simp)
  · have := EReal.toReal_le_toReal hle (fun hb => by rw [hb] at hge; exact absurd hge (by simp)) (EReal.coe_ne_top _)
    rw [EReal.toReal_coe] at this
    exact this.trans (by norm_num)

end Cert.Pre_sampled

end
-- ==== Proof.lean ====
module

public import proofs.«01_k».proof.Defs
public import proofs.«01_k».proof.Proof.Kernel.Words
public import proofs.«01_k».proof.Proof.Kernel.Frame
public import proofs.«01_k».proof.Proof.KernelIdeal.Words
public import proofs.«01_k».proof.Proof.KernelIdeal.Frame
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_blocks_in_range
public import proofs.«01_k».proof.Proof.KernelIdeal.ReadOut
public import proofs.«01_k».proof.Proof.AttentionValue
public import proofs.«01_k».proof.Proof.Sampled
public import Idealize.ShloMosaic.Adequacy
public import Idealize.ShloMosaic.Init
public import Idealize.ShloMosaic.Lib.Bf16Pair

@[expose] public section

set_option maxRecDepth 16384

noncomputable section

namespace Cert.Proof

open Idealize.ShloMosaic Idealize.SL.Sem

/-- The kernel as printed runs under `blocks_in_range`. -/
theorem frame_p : Cert.quiescent_Kernel := fun m ρ h =>
  Cert.Kernel.Gen.frame m ρ trivial (Cert.Kernel.Gen.hyps_of_pre m h _)

/-- The kernel's ideal printing runs under `blocks_in_range`. -/
theorem frame_pi : Cert.quiescent_KernelIdeal := fun m ρ h =>
  Cert.KernelIdeal.Gen.frame m ρ trivial (Cert.KernelIdeal.Gen.hyps_of_pre m h _)

/-- The reference runs. -/
theorem frame_ri : Cert.quiescent_ReferenceIdeal := fun m ρ _ =>
  (θ_run Cert.ReferenceIdeal.defs _ _).mono (fun r h => ⟨fun c => (h c).2.2,
      Idealize.ShloMosaic.sem_eq_zero_of_no_sems (by decide) r.2⟩)
    (Cert.ReferenceIdeal.Value.run (F := Ideal) m ρ)

/-- Each rewrite of the ideal printing, by its rule's statement. -/
theorem preserves : Cert.preserves_Kernel_KernelIdeal :=
  ⟨IdealRules.named_const.statement Cert.KernelIdeal.κ "mask" .f32 0xF149F2CA#32 ⊥ rfl,
    IdealRules.bf16_pair.statement Cert.KernelIdeal.S1x16x128 Cert.KernelIdeal.S1x8x128,
    IdealRules.bf16_pair.statement Cert.KernelIdeal.S16x128 Cert.KernelIdeal.S8x128,
    IdealRules.named_const.statement Cert.KernelIdeal.κ "exp2_scale" .f32 0x3E0293EE#32
      (((Real.sqrt 128)⁻¹ * (Real.log 2)⁻¹ : ℝ) : EReal) rfl⟩

/-- `sampled` states `blocks_in_range` of the block table. -/
theorem in_range (m) (h : Cert.Pre_KernelIdeal_sampled m) : Cert.Pre_KernelIdeal m := fun c =>
  (Cert.Pre_sampled.split _ _ _ _ _ (h c)).1

theorem frame_pi_sampled : Cert.quiescent_KernelIdeal_pre_sampled := fun m ρ h =>
  Cert.KernelIdeal.Gen.frame m ρ trivial (Cert.KernelIdeal.Gen.hyps_of_pre m (in_range m h) _)

theorem frame_ri_sampled : Cert.quiescent_ReferenceIdeal_pre_sampled := fun m ρ _ => frame_ri m ρ trivial

/-- Under `sampled` each column of `v` has an exponent, which the kernel's search and the reference's logarithm both give. -/
theorem exists_exponents (m) (h : Cert.Pre_KernelIdeal_sampled m) :
    ∃ z : Dev Cert.KernelIdeal.nD → Fin 3 → Fin 10 → Fin 128 → ℤ,
      (∀ c, Cert.KernelIdeal.Gen.AllExpo (Cert.KernelIdeal.Gen.argV m c) (z c))
      ∧ (∀ c, Cert.ReferenceIdeal.Codes.REF (Cert.KernelIdeal.Gen.argV m c) = Cert.KernelIdeal.Gen.codes (Cert.KernelIdeal.Gen.argV m c) (z c))
      ∧ ∀ c, Cert.ReferenceIdeal.Codes.OUT (Cert.KernelIdeal.Gen.argX m c) (Cert.KernelIdeal.Gen.argK m c) (Cert.KernelIdeal.Gen.argI m c) (Cert.KernelIdeal.Gen.argC m c) (Cert.KernelIdeal.Gen.argV m c)
        = Cert.KernelIdeal.Gen.outs (Cert.KernelIdeal.Gen.argX m c) (Cert.KernelIdeal.Gen.argK m c) (Cert.KernelIdeal.Gen.argV m c) (Cert.KernelIdeal.Gen.argJ m c) (Cert.KernelIdeal.Gen.argC m c) (z c)
          (Cert.Pre_sampled.word_lt _ _ _ _ _ (h c)) := by
  have key := fun (c : Dev Cert.KernelIdeal.nD) (b : Fin 3) (g : Fin 10) (l : Fin 128) =>
    Cert.ReferenceIdeal.Codes.exists_expo (n := 512) (by decide)
      (fun r => (show EReal from Cert.KernelIdeal.Gen.argV m c (ix3 b r ⟨g.val * 128 + l.val, by omega⟩)))
      (fun r => Cert.Pre_sampled.mag_real _ _ _ _ _ (h c) _)
  choose z hz using key
  have codes : ∀ c, Cert.ReferenceIdeal.Codes.REF (Cert.KernelIdeal.Gen.argV m c) = Cert.KernelIdeal.Gen.codes (Cert.KernelIdeal.Gen.argV m c) (z c) := by
    refine fun c => funext fun y => ?_
    idx_vars y
    refine (Cert.ReferenceIdeal.Codes.REF_apply _ _ _ _ _ (z c y0 y1 y3) (hz c y0 y1 y3).2.2.2.1 (hz c y0 y1 y3).2.2.2.2).trans ?_
    rw [min_comm, max_comm]
    rfl
  exact ⟨z, fun c b g l => ⟨(hz c b g l).1, (hz c b g l).2.1.trans (by decide), (hz c b g l).2.2.1⟩, codes, fun c =>
    Cert.ReferenceIdeal.Codes.OUT_eq _ _ _ _ _ (Cert.Pre_sampled.count_le _ _ _ _ _ (h c)) _ (z c) (fun b g d => (hz c b g d).2.2.2.1) (fun b g d => (hz c b g d).2.2.2.2) (codes c)⟩

/-- Under `sampled` the kernel's result and its codes of `v` are the reference's. -/
theorem algebraic : Cert.algebraic_KernelIdeal_ReferenceIdeal_pre_sampled := by
  intro m g m' g' h hargs
  obtain ⟨z, hz, he, ho⟩ := exists_exponents m h
  refine ⟨_, _,
    Cert.KernelIdeal.Gen.run_out m g trivial (Cert.KernelIdeal.Gen.hyps_of_pre m (in_range m h) _) z hz
      (fun c => Cert.Pre_sampled.word_lt _ _ _ _ _ (h c)) (fun c => Cert.Pre_sampled.count_le _ _ _ _ _ (h c)), ?_⟩
  refine (θ_run Cert.ReferenceIdeal.defs _ _).mono (fun r hr c => ⟨?_, ?_, (hr c).2.2⟩) (Cert.ReferenceIdeal.Value.run (F := Ideal) m' g')
  · have e0 : m' ((c.tc : Thread Cert.ReferenceIdeal.nD Cert.ReferenceIdeal.τ).loc Cert.ReferenceIdeal.main_arg0) = Cert.KernelIdeal.Gen.argX m c := (hargs c).1
    have e1 : m' ((c.tc : Thread Cert.ReferenceIdeal.nD Cert.ReferenceIdeal.τ).loc Cert.ReferenceIdeal.main_arg1) = Cert.KernelIdeal.Gen.argK m c := (hargs c).2.1
    have e2 : m' ((c.tc : Thread Cert.ReferenceIdeal.nD Cert.ReferenceIdeal.τ).loc Cert.ReferenceIdeal.main_arg2) = Cert.KernelIdeal.Gen.argV m c := (hargs c).2.2.1
    have e3 : m' ((c.tc : Thread Cert.ReferenceIdeal.nD Cert.ReferenceIdeal.τ).loc Cert.ReferenceIdeal.main_arg3) = Cert.KernelIdeal.Gen.argI m c := (hargs c).2.2.2.1
    have e4 : m' ((c.tc : Thread Cert.ReferenceIdeal.nD Cert.ReferenceIdeal.τ).loc Cert.ReferenceIdeal.main_arg4) = Cert.KernelIdeal.Gen.argC m c := (hargs c).2.2.2.2
    refine (hr c).1.trans (Eq.trans ?_ (ho c))
    rw [← e0, ← e1, ← e2, ← e3, ← e4]
    rfl
  · have e : m' ((c.tc : Thread Cert.ReferenceIdeal.nD Cert.ReferenceIdeal.τ).loc Cert.ReferenceIdeal.main_arg2) = Cert.KernelIdeal.Gen.argV m c := (hargs c).2.2.1
    refine (hr c).2.1.trans (Eq.trans ?_ (he c))
    rw [← e]
    rfl

theorem claim : Cert.Claim :=
  ⟨Cert.Kernel.Gen.facts, Cert.KernelIdeal.Gen.facts, Cert.ReferenceIdeal.Gen.facts, Cert.Pre_blocks_in_range.Gen.facts, Cert.Pre_sampled.facts,
    frame_p, frame_pi, frame_pi_sampled, frame_ri, frame_ri_sampled, preserves, algebraic⟩

end Cert.Proof

end
